-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel50 (m : (ℓ : Loc Cert.Kernel50.nD Cert.Kernel50.τ Cert.Kernel50.sig) → Buf (Elt Bits) ℓ) : Prop :=
  True

def Pre_Kernel50Ideal (m : (ℓ : Loc Cert.Kernel50Ideal.nD Cert.Kernel50Ideal.τ Cert.Kernel50Ideal.sig) → Buf (Elt Ideal) ℓ) : Prop :=
  True

def Pre_Reference50Ideal (m : (ℓ : Loc Cert.Reference50Ideal.nD Cert.Reference50Ideal.τ Cert.Reference50Ideal.sig) → Buf (Elt Ideal) ℓ) : Prop :=
  True

def Pre_Kernel51 (m : (ℓ : Loc Cert.Kernel51.nD Cert.Kernel51.τ Cert.Kernel51.sig) → Buf (Elt Bits) ℓ) : Prop :=
  True

def Pre_Kernel51Ideal (m : (ℓ : Loc Cert.Kernel51Ideal.nD Cert.Kernel51Ideal.τ Cert.Kernel51Ideal.sig) → Buf (Elt Ideal) ℓ) : Prop :=
  True

def Pre_Reference51Ideal (m : (ℓ : Loc Cert.Reference51Ideal.nD Cert.Reference51Ideal.τ Cert.Reference51Ideal.sig) → Buf (Elt Ideal) ℓ) : Prop :=
  True

def Pre_Kernel52 (m : (ℓ : Loc Cert.Kernel52.nD Cert.Kernel52.τ Cert.Kernel52.sig) → Buf (Elt Bits) ℓ) : Prop :=
  True

def Pre_Kernel52Ideal (m : (ℓ : Loc Cert.Kernel52Ideal.nD Cert.Kernel52Ideal.τ Cert.Kernel52Ideal.sig) → Buf (Elt Ideal) ℓ) : Prop :=
  True

def Pre_Reference52Ideal (m : (ℓ : Loc Cert.Reference52Ideal.nD Cert.Reference52Ideal.τ Cert.Reference52Ideal.sig) → Buf (Elt Ideal) ℓ) : Prop :=
  True

def Pre_Kernel53 (m : (ℓ : Loc Cert.Kernel53.nD Cert.Kernel53.τ Cert.Kernel53.sig) → Buf (Elt Bits) ℓ) : Prop :=
  True

def Pre_Kernel53Ideal (m : (ℓ : Loc Cert.Kernel53Ideal.nD Cert.Kernel53Ideal.τ Cert.Kernel53Ideal.sig) → Buf (Elt Ideal) ℓ) : Prop :=
  True

def Pre_Reference53Ideal (m : (ℓ : Loc Cert.Reference53Ideal.nD Cert.Reference53Ideal.τ Cert.Reference53Ideal.sig) → Buf (Elt Ideal) ℓ) : Prop :=
  True

def Pre_Kernel54 (m : (ℓ : Loc Cert.Kernel54.nD Cert.Kernel54.τ Cert.Kernel54.sig) → Buf (Elt Bits) ℓ) : Prop :=
  True

def Pre_Kernel54Ideal (m : (ℓ : Loc Cert.Kernel54Ideal.nD Cert.Kernel54Ideal.τ Cert.Kernel54Ideal.sig) → Buf (Elt Ideal) ℓ) : Prop :=
  True

def Pre_Reference54Ideal (m : (ℓ : Loc Cert.Reference54Ideal.nD Cert.Reference54Ideal.τ Cert.Reference54Ideal.sig) → Buf (Elt Ideal) ℓ) : Prop :=
  True

def Pre_Kernel55 (m : (ℓ : Loc Cert.Kernel55.nD Cert.Kernel55.τ Cert.Kernel55.sig) → Buf (Elt Bits) ℓ) : Prop :=
  True

def Pre_Kernel55Ideal (m : (ℓ : Loc Cert.Kernel55Ideal.nD Cert.Kernel55Ideal.τ Cert.Kernel55Ideal.sig) → Buf (Elt Ideal) ℓ) : Prop :=
  True

def Pre_Reference55Ideal (m : (ℓ : Loc Cert.Reference55Ideal.nD Cert.Reference55Ideal.τ Cert.Reference55Ideal.sig) → Buf (Elt Ideal) ℓ) : Prop :=
  True

def Pre_Kernel56 (m : (ℓ : Loc Cert.Kernel56.nD Cert.Kernel56.τ Cert.Kernel56.sig) → Buf (Elt Bits) ℓ) : Prop :=
  True

def Pre_Kernel56Ideal (m : (ℓ : Loc Cert.Kernel56Ideal.nD Cert.Kernel56Ideal.τ Cert.Kernel56Ideal.sig) → Buf (Elt Ideal) ℓ) : Prop :=
  True

def Pre_Reference56Ideal (m : (ℓ : Loc Cert.Reference56Ideal.nD Cert.Reference56Ideal.τ Cert.Reference56Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0))
      ∧ r.2.sem = fun _ => 0)

def quiescent_Kernel50 [hKernel50 : Cert.Kernel50.Facts] : Prop :=
  ∀ (m : (ℓ : Loc Cert.Kernel50.nD Cert.Kernel50.τ Cert.Kernel50.sig) → Buf (Elt Bits) ℓ) (g : Dev Cert.Kernel50.nD → PrngReg), Pre_Kernel50 m →
    θ_run (Cert.Kernel50.defs (F := Bits)) (onTc (τ := Cert.Kernel50.τ) (Cert.Kernel50.main (F := Bits))) ⟨m, fun _ => 0, g⟩ (fun r => (∀ c : Dev Cert.Kernel50.nD,
      r.2.mem ((c.tc : Thread Cert.Kernel50.nD Cert.Kernel50.τ).loc Cert.Kernel50.main_arg0) = m ((c.tc : Thread Cert.Kernel50.nD Cert.Kernel50.τ).loc Cert.Kernel50.main_arg0)
      ∧ r.2.mem ((c.tc : Thread Cert.Kernel50.nD Cert.Kernel50.τ).loc Cert.Kernel50.main_arg1) = m ((c.tc : Thread Cert.Kernel50.nD Cert.Kernel50.τ).loc Cert.Kernel50.main_arg1))
      ∧ r.2.sem = fun _ => 0)

def quiescent_Kernel50Ideal [hKernel50Ideal : Cert.Kernel50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg), Pre_Kernel50Ideal m →
    θ_run (Cert.Kernel50Ideal.defs (F := Ideal)) (onTc (τ := Cert.Kernel50Ideal.τ) (Cert.Kernel50Ideal.main (F := Ideal))) ⟨m, fun _ => 0, g⟩ (fun r => (∀ c : Dev Cert.Kernel50Ideal.nD,
      r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
      ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1))
      ∧ r.2.sem = fun _ => 0)

def quiescent_Reference50Ideal [hReference50Ideal : Cert.Reference50Ideal.Facts] : Prop :=
  ∀ (m : (ℓ : Loc Cert.Reference50Ideal.nD Cert.Reference50Ideal.τ Cert.Reference50Ideal.sig) → Buf (Elt Ideal) ℓ) (g : Dev Cert.Reference50Ideal.nD → PrngReg), Pre_Reference50Ideal m →
    θ_run (Cert.Reference50Ideal.defs (F := Ideal)) (onTc (τ := Cert.Reference50Ideal.τ) (Cert.Reference50Ideal.main (F := Ideal))) ⟨m, fun _ => 0, g⟩ (fun r => (∀ c : Dev Cert.Reference50Ideal.nD,
      r.2.mem ((c.tc : Thread Cert.Reference50Ideal.nD Cert.Reference50Ideal.τ).loc Cert.Reference50Ideal.main_arg0) = m ((c.tc : Thread Cert.Reference50Ideal.nD Cert.Reference50Ideal.τ).loc Cert.Reference50Ideal.main_arg0)
      ∧ r.2.mem ((c.tc : Thread Cert.Reference50Ideal.nD Cert.Reference50Ideal.τ).loc Cert.Reference50Ideal.main_arg1) = m ((c.tc : Thread Cert.Reference50Ideal.nD Cert.Reference50Ideal.τ).loc Cert.Reference50Ideal.main_arg1))
      ∧ r.2.sem = fun _ => 0)

def quiescent_Kernel51 [hKernel51 : Cert.Kernel51.Facts] : Prop :=
  ∀ (m : (ℓ : Loc Cert.Kernel51.nD Cert.Kernel51.τ Cert.Kernel51.sig) → Buf (Elt Bits) ℓ) (g : Dev Cert.Kernel51.nD → PrngReg), Pre_Kernel51 m →
    θ_run (Cert.Kernel51.defs (F := Bits)) (onTc (τ := Cert.Kernel51.τ) (Cert.Kernel51.main (F := Bits))) ⟨m, fun _ => 0, g⟩ (fun r => (∀ c : Dev Cert.Kernel51.nD,
      r.2.mem ((c.tc : Thread Cert.Kernel51.nD Cert.Kernel51.τ).loc Cert.Kernel51.main_arg0) = m ((c.tc : Thread Cert.Kernel51.nD Cert.Kernel51.τ).loc Cert.Kernel51.main_arg0)
      ∧ r.2.mem ((c.tc : Thread Cert.Kernel51.nD Cert.Kernel51.τ).loc Cert.Kernel51.main_arg1) = m ((c.tc : Thread Cert.Kernel51.nD Cert.Kernel51.τ).loc Cert.Kernel51.main_arg1))
      ∧ r.2.sem = fun _ => 0)

def quiescent_Kernel51Ideal [hKernel51Ideal : Cert.Kernel51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg), Pre_Kernel51Ideal m →
    θ_run (Cert.Kernel51Ideal.defs (F := Ideal)) (onTc (τ := Cert.Kernel51Ideal.τ) (Cert.Kernel51Ideal.main (F := Ideal))) ⟨m, fun _ => 0, g⟩ (fun r => (∀ c : Dev Cert.Kernel51Ideal.nD,
      r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
      ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1))
      ∧ r.2.sem = fun _ => 0)

def quiescent_Reference51Ideal [hReference51Ideal : Cert.Reference51Ideal.Facts] : Prop :=
  ∀ (m : (ℓ : Loc Cert.Reference51Ideal.nD Cert.Reference51Ideal.τ Cert.Reference51Ideal.sig) → Buf (Elt Ideal) ℓ) (g : Dev Cert.Reference51Ideal.nD → PrngReg), Pre_Reference51Ideal m →
    θ_run (Cert.Reference51Ideal.defs (F := Ideal)) (onTc (τ := Cert.Reference51Ideal.τ) (Cert.Reference51Ideal.main (F := Ideal))) ⟨m, fun _ => 0, g⟩ (fun r => (∀ c : Dev Cert.Reference51Ideal.nD,
      r.2.mem ((c.tc : Thread Cert.Reference51Ideal.nD Cert.Reference51Ideal.τ).loc Cert.Reference51Ideal.main_arg0) = m ((c.tc : Thread Cert.Reference51Ideal.nD Cert.Reference51Ideal.τ).loc Cert.Reference51Ideal.main_arg0)
      ∧ r.2.mem ((c.tc : Thread Cert.Reference51Ideal.nD Cert.Reference51Ideal.τ).loc Cert.Reference51Ideal.main_arg1) = m ((c.tc : Thread Cert.Reference51Ideal.nD Cert.Reference51Ideal.τ).loc Cert.Reference51Ideal.main_arg1))
      ∧ r.2.sem = fun _ => 0)

def quiescent_Kernel52 [hKernel52 : Cert.Kernel52.Facts] : Prop :=
  ∀ (m : (ℓ : Loc Cert.Kernel52.nD Cert.Kernel52.τ Cert.Kernel52.sig) → Buf (Elt Bits) ℓ) (g : Dev Cert.Kernel52.nD → PrngReg), Pre_Kernel52 m →
    θ_run (Cert.Kernel52.defs (F := Bits)) (onTc (τ := Cert.Kernel52.τ) (Cert.Kernel52.main (F := Bits))) ⟨m, fun _ => 0, g⟩ (fun r => (∀ c : Dev Cert.Kernel52.nD,
      r.2.mem ((c.tc : Thread Cert.Kernel52.nD Cert.Kernel52.τ).loc Cert.Kernel52.main_arg0) = m ((c.tc : Thread Cert.Kernel52.nD Cert.Kernel52.τ).loc Cert.Kernel52.main_arg0)
      ∧ r.2.mem ((c.tc : Thread Cert.Kernel52.nD Cert.Kernel52.τ).loc Cert.Kernel52.main_arg1) = m ((c.tc : Thread Cert.Kernel52.nD Cert.Kernel52.τ).loc Cert.Kernel52.main_arg1))
      ∧ r.2.sem = fun _ => 0)

def quiescent_Kernel52Ideal [hKernel52Ideal : Cert.Kernel52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg), Pre_Kernel52Ideal m →
    θ_run (Cert.Kernel52Ideal.defs (F := Ideal)) (onTc (τ := Cert.Kernel52Ideal.τ) (Cert.Kernel52Ideal.main (F := Ideal))) ⟨m, fun _ => 0, g⟩ (fun r => (∀ c : Dev Cert.Kernel52Ideal.nD,
      r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
      ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1))
      ∧ r.2.sem = fun _ => 0)

def quiescent_Reference52Ideal [hReference52Ideal : Cert.Reference52Ideal.Facts] : Prop :=
  ∀ (m : (ℓ : Loc Cert.Reference52Ideal.nD Cert.Reference52Ideal.τ Cert.Reference52Ideal.sig) → Buf (Elt Ideal) ℓ) (g : Dev Cert.Reference52Ideal.nD → PrngReg), Pre_Reference52Ideal m →
    θ_run (Cert.Reference52Ideal.defs (F := Ideal)) (onTc (τ := Cert.Reference52Ideal.τ) (Cert.Reference52Ideal.main (F := Ideal))) ⟨m, fun _ => 0, g⟩ (fun r => (∀ c : Dev Cert.Reference52Ideal.nD,
      r.2.mem ((c.tc : Thread Cert.Reference52Ideal.nD Cert.Reference52Ideal.τ).loc Cert.Reference52Ideal.main_arg0) = m ((c.tc : Thread Cert.Reference52Ideal.nD Cert.Reference52Ideal.τ).loc Cert.Reference52Ideal.main_arg0)
      ∧ r.2.mem ((c.tc : Thread Cert.Reference52Ideal.nD Cert.Reference52Ideal.τ).loc Cert.Reference52Ideal.main_arg1) = m ((c.tc : Thread Cert.Reference52Ideal.nD Cert.Reference52Ideal.τ).loc Cert.Reference52Ideal.main_arg1))
      ∧ r.2.sem = fun _ => 0)

def quiescent_Kernel53 [hKernel53 : Cert.Kernel53.Facts] : Prop :=
  ∀ (m : (ℓ : Loc Cert.Kernel53.nD Cert.Kernel53.τ Cert.Kernel53.sig) → Buf (Elt Bits) ℓ) (g : Dev Cert.Kernel53.nD → PrngReg), Pre_Kernel53 m →
    θ_run (Cert.Kernel53.defs (F := Bits)) (onTc (τ := Cert.Kernel53.τ) (Cert.Kernel53.main (F := Bits))) ⟨m, fun _ => 0, g⟩ (fun r => (∀ c : Dev Cert.Kernel53.nD,
      r.2.mem ((c.tc : Thread Cert.Kernel53.nD Cert.Kernel53.τ).loc Cert.Kernel53.main_arg0) = m ((c.tc : Thread Cert.Kernel53.nD Cert.Kernel53.τ).loc Cert.Kernel53.main_arg0)
      ∧ r.2.mem ((c.tc : Thread Cert.Kernel53.nD Cert.Kernel53.τ).loc Cert.Kernel53.main_arg1) = m ((c.tc : Thread Cert.Kernel53.nD Cert.Kernel53.τ).loc Cert.Kernel53.main_arg1))
      ∧ r.2.sem = fun _ => 0)

def quiescent_Kernel53Ideal [hKernel53Ideal : Cert.Kernel53Ideal.Facts] : Prop :=
  ∀ (m : (ℓ : Loc Cert.Kernel53Ideal.nD Cert.Kernel53Ideal.τ Cert.Kernel53Ideal.sig) → Buf (Elt Ideal) ℓ) (g : Dev Cert.Kernel53Ideal.nD → PrngReg), Pre_Kernel53Ideal m →
    θ_run (Cert.Kernel53Ideal.defs (F := Ideal)) (onTc (τ := Cert.Kernel53Ideal.τ) (Cert.Kernel53Ideal.main (F := Ideal))) ⟨m, fun _ => 0, g⟩ (fun r => (∀ c : Dev Cert.Kernel53Ideal.nD,
      r.2.mem ((c.tc : Thread Cert.Kernel53Ideal.nD Cert.Kernel53Ideal.τ).loc Cert.Kernel53Ideal.main_arg0) = m ((c.tc : Thread Cert.Kernel53Ideal.nD Cert.Kernel53Ideal.τ).loc Cert.Kernel53Ideal.main_arg0)
      ∧ r.2.mem ((c.tc : Thread Cert.Kernel53Ideal.nD Cert.Kernel53Ideal.τ).loc Cert.Kernel53Ideal.main_arg1) = m ((c.tc : Thread Cert.Kernel53Ideal.nD Cert.Kernel53Ideal.τ).loc Cert.Kernel53Ideal.main_arg1))
      ∧ r.2.sem = fun _ => 0)

def quiescent_Reference53Ideal [hReference53Ideal : Cert.Reference53Ideal.Facts] : Prop :=
  ∀ (m : (ℓ : Loc Cert.Reference53Ideal.nD Cert.Reference53Ideal.τ Cert.Reference53Ideal.sig) → Buf (Elt Ideal) ℓ) (g : Dev Cert.Reference53Ideal.nD → PrngReg), Pre_Reference53Ideal m →
    θ_run (Cert.Reference53Ideal.defs (F := Ideal)) (onTc (τ := Cert.Reference53Ideal.τ) (Cert.Reference53Ideal.main (F := Ideal))) ⟨m, fun _ => 0, g⟩ (fun r => (∀ c : Dev Cert.Reference53Ideal.nD,
      r.2.mem ((c.tc : Thread Cert.Reference53Ideal.nD Cert.Reference53Ideal.τ).loc Cert.Reference53Ideal.main_arg0) = m ((c.tc : Thread Cert.Reference53Ideal.nD Cert.Reference53Ideal.τ).loc Cert.Reference53Ideal.main_arg0)
      ∧ r.2.mem ((c.tc : Thread Cert.Reference53Ideal.nD Cert.Reference53Ideal.τ).loc Cert.Reference53Ideal.main_arg1) = m ((c.tc : Thread Cert.Reference53Ideal.nD Cert.Reference53Ideal.τ).loc Cert.Reference53Ideal.main_arg1))
      ∧ r.2.sem = fun _ => 0)

def quiescent_Kernel54 [hKernel54 : Cert.Kernel54.Facts] : Prop :=
  ∀ (m : (ℓ : Loc Cert.Kernel54.nD Cert.Kernel54.τ Cert.Kernel54.sig) → Buf (Elt Bits) ℓ) (g : Dev Cert.Kernel54.nD → PrngReg), Pre_Kernel54 m →
    θ_run (Cert.Kernel54.defs (F := Bits)) (onTc (τ := Cert.Kernel54.τ) (Cert.Kernel54.main (F := Bits))) ⟨m, fun _ => 0, g⟩ (fun r => (∀ c : Dev Cert.Kernel54.nD,
      r.2.mem ((c.tc : Thread Cert.Kernel54.nD Cert.Kernel54.τ).loc Cert.Kernel54.main_arg0) = m ((c.tc : Thread Cert.Kernel54.nD Cert.Kernel54.τ).loc Cert.Kernel54.main_arg0)
      ∧ r.2.mem ((c.tc : Thread Cert.Kernel54.nD Cert.Kernel54.τ).loc Cert.Kernel54.main_arg1) = m ((c.tc : Thread Cert.Kernel54.nD Cert.Kernel54.τ).loc Cert.Kernel54.main_arg1))
      ∧ r.2.sem = fun _ => 0)

def quiescent_Kernel54Ideal [hKernel54Ideal : Cert.Kernel54Ideal.Facts] : Prop :=
  ∀ (m : (ℓ : Loc Cert.Kernel54Ideal.nD Cert.Kernel54Ideal.τ Cert.Kernel54Ideal.sig) → Buf (Elt Ideal) ℓ) (g : Dev Cert.Kernel54Ideal.nD → PrngReg), Pre_Kernel54Ideal m →
    θ_run (Cert.Kernel54Ideal.defs (F := Ideal)) (onTc (τ := Cert.Kernel54Ideal.τ) (Cert.Kernel54Ideal.main (F := Ideal))) ⟨m, fun _ => 0, g⟩ (fun r => (∀ c : Dev Cert.Kernel54Ideal.nD,
      r.2.mem ((c.tc : Thread Cert.Kernel54Ideal.nD Cert.Kernel54Ideal.τ).loc Cert.Kernel54Ideal.main_arg0) = m ((c.tc : Thread Cert.Kernel54Ideal.nD Cert.Kernel54Ideal.τ).loc Cert.Kernel54Ideal.main_arg0)
      ∧ r.2.mem ((c.tc : Thread Cert.Kernel54Ideal.nD Cert.Kernel54Ideal.τ).loc Cert.Kernel54Ideal.main_arg1) = m ((c.tc : Thread Cert.Kernel54Ideal.nD Cert.Kernel54Ideal.τ).loc Cert.Kernel54Ideal.main_arg1))
      ∧ r.2.sem = fun _ => 0)

def quiescent_Reference54Ideal [hReference54Ideal : Cert.Reference54Ideal.Facts] : Prop :=
  ∀ (m : (ℓ : Loc Cert.Reference54Ideal.nD Cert.Reference54Ideal.τ Cert.Reference54Ideal.sig) → Buf (Elt Ideal) ℓ) (g : Dev Cert.Reference54Ideal.nD → PrngReg), Pre_Reference54Ideal m →
    θ_run (Cert.Reference54Ideal.defs (F := Ideal)) (onTc (τ := Cert.Reference54Ideal.τ) (Cert.Reference54Ideal.main (F := Ideal))) ⟨m, fun _ => 0, g⟩ (fun r => (∀ c : Dev Cert.Reference54Ideal.nD,
      r.2.mem ((c.tc : Thread Cert.Reference54Ideal.nD Cert.Reference54Ideal.τ).loc Cert.Reference54Ideal.main_arg0) = m ((c.tc : Thread Cert.Reference54Ideal.nD Cert.Reference54Ideal.τ).loc Cert.Reference54Ideal.main_arg0)
      ∧ r.2.mem ((c.tc : Thread Cert.Reference54Ideal.nD Cert.Reference54Ideal.τ).loc Cert.Reference54Ideal.main_arg1) = m ((c.tc : Thread Cert.Reference54Ideal.nD Cert.Reference54Ideal.τ).loc Cert.Reference54Ideal.main_arg1))
      ∧ r.2.sem = fun _ => 0)

def quiescent_Kernel55 [hKernel55 : Cert.Kernel55.Facts] : Prop :=
  ∀ (m : (ℓ : Loc Cert.Kernel55.nD Cert.Kernel55.τ Cert.Kernel55.sig) → Buf (Elt Bits) ℓ) (g : Dev Cert.Kernel55.nD → PrngReg), Pre_Kernel55 m →
    θ_run (Cert.Kernel55.defs (F := Bits)) (onTc (τ := Cert.Kernel55.τ) (Cert.Kernel55.main (F := Bits))) ⟨m, fun _ => 0, g⟩ (fun r => (∀ c : Dev Cert.Kernel55.nD,
      r.2.mem ((c.tc : Thread Cert.Kernel55.nD Cert.Kernel55.τ).loc Cert.Kernel55.main_arg0) = m ((c.tc : Thread Cert.Kernel55.nD Cert.Kernel55.τ).loc Cert.Kernel55.main_arg0)
      ∧ r.2.mem ((c.tc : Thread Cert.Kernel55.nD Cert.Kernel55.τ).loc Cert.Kernel55.main_arg1) = m ((c.tc : Thread Cert.Kernel55.nD Cert.Kernel55.τ).loc Cert.Kernel55.main_arg1)
      ∧ r.2.mem ((c.tc : Thread Cert.Kernel55.nD Cert.Kernel55.τ).loc Cert.Kernel55.main_arg2) = m ((c.tc : Thread Cert.Kernel55.nD Cert.Kernel55.τ).loc Cert.Kernel55.main_arg2)
      ∧ r.2.mem ((c.tc : Thread Cert.Kernel55.nD Cert.Kernel55.τ).loc Cert.Kernel55.main_arg3) = m ((c.tc : Thread Cert.Kernel55.nD Cert.Kernel55.τ).loc Cert.Kernel55.main_arg3))
      ∧ r.2.sem = fun _ => 0)

def quiescent_Kernel55Ideal [hKernel55Ideal : Cert.Kernel55Ideal.Facts] : Prop :=
  ∀ (m : (ℓ : Loc Cert.Kernel55Ideal.nD Cert.Kernel55Ideal.τ Cert.Kernel55Ideal.sig) → Buf (Elt Ideal) ℓ) (g : Dev Cert.Kernel55Ideal.nD → PrngReg), Pre_Kernel55Ideal m →
    θ_run (Cert.Kernel55Ideal.defs (F := Ideal)) (onTc (τ := Cert.Kernel55Ideal.τ) (Cert.Kernel55Ideal.main (F := Ideal))) ⟨m, fun _ => 0, g⟩ (fun r => (∀ c : Dev Cert.Kernel55Ideal.nD,
      r.2.mem ((c.tc : Thread Cert.Kernel55Ideal.nD Cert.Kernel55Ideal.τ).loc Cert.Kernel55Ideal.main_arg0) = m ((c.tc : Thread Cert.Kernel55Ideal.nD Cert.Kernel55Ideal.τ).loc Cert.Kernel55Ideal.main_arg0)
      ∧ r.2.mem ((c.tc : Thread Cert.Kernel55Ideal.nD Cert.Kernel55Ideal.τ).loc Cert.Kernel55Ideal.main_arg1) = m ((c.tc : Thread Cert.Kernel55Ideal.nD Cert.Kernel55Ideal.τ).loc Cert.Kernel55Ideal.main_arg1)
      ∧ r.2.mem ((c.tc : Thread Cert.Kernel55Ideal.nD Cert.Kernel55Ideal.τ).loc Cert.Kernel55Ideal.main_arg2) = m ((c.tc : Thread Cert.Kernel55Ideal.nD Cert.Kernel55Ideal.τ).loc Cert.Kernel55Ideal.main_arg2)
      ∧ r.2.mem ((c.tc : Thread Cert.Kernel55Ideal.nD Cert.Kernel55Ideal.τ).loc Cert.Kernel55Ideal.main_arg3) = m ((c.tc : Thread Cert.Kernel55Ideal.nD Cert.Kernel55Ideal.τ).loc Cert.Kernel55Ideal.main_arg3))
      ∧ r.2.sem = fun _ => 0)

def quiescent_Reference55Ideal [hReference55Ideal : Cert.Reference55Ideal.Facts] : Prop :=
  ∀ (m : (ℓ : Loc Cert.Reference55Ideal.nD Cert.Reference55Ideal.τ Cert.Reference55Ideal.sig) → Buf (Elt Ideal) ℓ) (g : Dev Cert.Reference55Ideal.nD → PrngReg), Pre_Reference55Ideal m →
    θ_run (Cert.Reference55Ideal.defs (F := Ideal)) (onTc (τ := Cert.Reference55Ideal.τ) (Cert.Reference55Ideal.main (F := Ideal))) ⟨m, fun _ => 0, g⟩ (fun r => (∀ c : Dev Cert.Reference55Ideal.nD,
      r.2.mem ((c.tc : Thread Cert.Reference55Ideal.nD Cert.Reference55Ideal.τ).loc Cert.Reference55Ideal.main_arg0) = m ((c.tc : Thread Cert.Reference55Ideal.nD Cert.Reference55Ideal.τ).loc Cert.Reference55Ideal.main_arg0)
      ∧ r.2.mem ((c.tc : Thread Cert.Reference55Ideal.nD Cert.Reference55Ideal.τ).loc Cert.Reference55Ideal.main_arg1) = m ((c.tc : Thread Cert.Reference55Ideal.nD Cert.Reference55Ideal.τ).loc Cert.Reference55Ideal.main_arg1)
      ∧ r.2.mem ((c.tc : Thread Cert.Reference55Ideal.nD Cert.Reference55Ideal.τ).loc Cert.Reference55Ideal.main_arg2) = m ((c.tc : Thread Cert.Reference55Ideal.nD Cert.Reference55Ideal.τ).loc Cert.Reference55Ideal.main_arg2)
      ∧ r.2.mem ((c.tc : Thread Cert.Reference55Ideal.nD Cert.Reference55Ideal.τ).loc Cert.Reference55Ideal.main_arg3) = m ((c.tc : Thread Cert.Reference55Ideal.nD Cert.Reference55Ideal.τ).loc Cert.Reference55Ideal.main_arg3))
      ∧ r.2.sem = fun _ => 0)

def quiescent_Kernel56 [hKernel56 : Cert.Kernel56.Facts] : Prop :=
  ∀ (m : (ℓ : Loc Cert.Kernel56.nD Cert.Kernel56.τ Cert.Kernel56.sig) → Buf (Elt Bits) ℓ) (g : Dev Cert.Kernel56.nD → PrngReg), Pre_Kernel56 m →
    θ_run (Cert.Kernel56.defs (F := Bits)) (onTc (τ := Cert.Kernel56.τ) (Cert.Kernel56.main (F := Bits))) ⟨m, fun _ => 0, g⟩ (fun r => (∀ c : Dev Cert.Kernel56.nD,
      r.2.mem ((c.tc : Thread Cert.Kernel56.nD Cert.Kernel56.τ).loc Cert.Kernel56.main_arg0) = m ((c.tc : Thread Cert.Kernel56.nD Cert.Kernel56.τ).loc Cert.Kernel56.main_arg0)
      ∧ r.2.mem ((c.tc : Thread Cert.Kernel56.nD Cert.Kernel56.τ).loc Cert.Kernel56.main_arg1) = m ((c.tc : Thread Cert.Kernel56.nD Cert.Kernel56.τ).loc Cert.Kernel56.main_arg1)
      ∧ r.2.mem ((c.tc : Thread Cert.Kernel56.nD Cert.Kernel56.τ).loc Cert.Kernel56.main_arg2) = m ((c.tc : Thread Cert.Kernel56.nD Cert.Kernel56.τ).loc Cert.Kernel56.main_arg2)
      ∧ r.2.mem ((c.tc : Thread Cert.Kernel56.nD Cert.Kernel56.τ).loc Cert.Kernel56.main_arg3) = m ((c.tc : Thread Cert.Kernel56.nD Cert.Kernel56.τ).loc Cert.Kernel56.main_arg3)
      ∧ r.2.mem ((c.tc : Thread Cert.Kernel56.nD Cert.Kernel56.τ).loc Cert.Kernel56.main_arg4) = m ((c.tc : Thread Cert.Kernel56.nD Cert.Kernel56.τ).loc Cert.Kernel56.main_arg4))
      ∧ r.2.sem = fun _ => 0)

def quiescent_Kernel56Ideal [hKernel56Ideal : Cert.Kernel56Ideal.Facts] : Prop :=
  ∀ (m : (ℓ : Loc Cert.Kernel56Ideal.nD Cert.Kernel56Ideal.τ Cert.Kernel56Ideal.sig) → Buf (Elt Ideal) ℓ) (g : Dev Cert.Kernel56Ideal.nD → PrngReg), Pre_Kernel56Ideal m →
    θ_run (Cert.Kernel56Ideal.defs (F := Ideal)) (onTc (τ := Cert.Kernel56Ideal.τ) (Cert.Kernel56Ideal.main (F := Ideal))) ⟨m, fun _ => 0, g⟩ (fun r => (∀ c : Dev Cert.Kernel56Ideal.nD,
      r.2.mem ((c.tc : Thread Cert.Kernel56Ideal.nD Cert.Kernel56Ideal.τ).loc Cert.Kernel56Ideal.main_arg0) = m ((c.tc : Thread Cert.Kernel56Ideal.nD Cert.Kernel56Ideal.τ).loc Cert.Kernel56Ideal.main_arg0)
      ∧ r.2.mem ((c.tc : Thread Cert.Kernel56Ideal.nD Cert.Kernel56Ideal.τ).loc Cert.Kernel56Ideal.main_arg1) = m ((c.tc : Thread Cert.Kernel56Ideal.nD Cert.Kernel56Ideal.τ).loc Cert.Kernel56Ideal.main_arg1)
      ∧ r.2.mem ((c.tc : Thread Cert.Kernel56Ideal.nD Cert.Kernel56Ideal.τ).loc Cert.Kernel56Ideal.main_arg2) = m ((c.tc : Thread Cert.Kernel56Ideal.nD Cert.Kernel56Ideal.τ).loc Cert.Kernel56Ideal.main_arg2)
      ∧ r.2.mem ((c.tc : Thread Cert.Kernel56Ideal.nD Cert.Kernel56Ideal.τ).loc Cert.Kernel56Ideal.main_arg3) = m ((c.tc : Thread Cert.Kernel56Ideal.nD Cert.Kernel56Ideal.τ).loc Cert.Kernel56Ideal.main_arg3)
      ∧ r.2.mem ((c.tc : Thread Cert.Kernel56Ideal.nD Cert.Kernel56Ideal.τ).loc Cert.Kernel56Ideal.main_arg4) = m ((c.tc : Thread Cert.Kernel56Ideal.nD Cert.Kernel56Ideal.τ).loc Cert.Kernel56Ideal.main_arg4))
      ∧ r.2.sem = fun _ => 0)

def quiescent_Reference56Ideal [hReference56Ideal : Cert.Reference56Ideal.Facts] : Prop :=
  ∀ (m : (ℓ : Loc Cert.Reference56Ideal.nD Cert.Reference56Ideal.τ Cert.Reference56Ideal.sig) → Buf (Elt Ideal) ℓ) (g : Dev Cert.Reference56Ideal.nD → PrngReg), Pre_Reference56Ideal m →
    θ_run (Cert.Reference56Ideal.defs (F := Ideal)) (onTc (τ := Cert.Reference56Ideal.τ) (Cert.Reference56Ideal.main (F := Ideal))) ⟨m, fun _ => 0, g⟩ (fun r => (∀ c : Dev Cert.Reference56Ideal.nD,
      r.2.mem ((c.tc : Thread Cert.Reference56Ideal.nD Cert.Reference56Ideal.τ).loc Cert.Reference56Ideal.main_arg0) = m ((c.tc : Thread Cert.Reference56Ideal.nD Cert.Reference56Ideal.τ).loc Cert.Reference56Ideal.main_arg0)
      ∧ r.2.mem ((c.tc : Thread Cert.Reference56Ideal.nD Cert.Reference56Ideal.τ).loc Cert.Reference56Ideal.main_arg1) = m ((c.tc : Thread Cert.Reference56Ideal.nD Cert.Reference56Ideal.τ).loc Cert.Reference56Ideal.main_arg1)
      ∧ r.2.mem ((c.tc : Thread Cert.Reference56Ideal.nD Cert.Reference56Ideal.τ).loc Cert.Reference56Ideal.main_arg2) = m ((c.tc : Thread Cert.Reference56Ideal.nD Cert.Reference56Ideal.τ).loc Cert.Reference56Ideal.main_arg2)
      ∧ r.2.mem ((c.tc : Thread Cert.Reference56Ideal.nD Cert.Reference56Ideal.τ).loc Cert.Reference56Ideal.main_arg3) = m ((c.tc : Thread Cert.Reference56Ideal.nD Cert.Reference56Ideal.τ).loc Cert.Reference56Ideal.main_arg3)
      ∧ r.2.mem ((c.tc : Thread Cert.Reference56Ideal.nD Cert.Reference56Ideal.τ).loc Cert.Reference56Ideal.main_arg4) = m ((c.tc : Thread Cert.Reference56Ideal.nD Cert.Reference56Ideal.τ).loc Cert.Reference56Ideal.main_arg4))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_v64) = v1 c
          ∧ r.2.mem ((c.tc : Thread Cert.Reference2Ideal.nD Cert.Reference2Ideal.τ).loc Cert.Reference2Ideal.main_v71) = v2 c
          ∧ r.2.mem ((c.tc : Thread Cert.Reference2Ideal.nD Cert.Reference2Ideal.τ).loc Cert.Reference2Ideal.main_v62) = v3 c
          ∧ r.2.mem ((c.tc : Thread Cert.Reference2Ideal.nD Cert.Reference2Ideal.τ).loc Cert.Reference2Ideal.main_v35) = v4 c
          ∧ r.2.mem ((c.tc : Thread Cert.Reference2Ideal.nD Cert.Reference2Ideal.τ).loc Cert.Reference2Ideal.main_v32) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v13) = v1 c
          ∧ r.2.mem ((c.tc : Thread Cert.Reference3Ideal.nD Cert.Reference3Ideal.τ).loc Cert.Reference3Ideal.main_v16) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v28) = v0 c
          ∧ r.2.mem ((c.tc : Thread Cert.Reference7Ideal.nD Cert.Reference7Ideal.τ).loc Cert.Reference7Ideal.main_v3) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_v44) = v1 c
          ∧ r.2.mem ((c.tc : Thread Cert.Reference9Ideal.nD Cert.Reference9Ideal.τ).loc Cert.Reference9Ideal.main_v3) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v19) = v0 c
          ∧ r.2.mem ((c.tc : Thread Cert.Reference10Ideal.nD Cert.Reference10Ideal.τ).loc Cert.Reference10Ideal.main_v13) = v1 c
          ∧ r.2.mem ((c.tc : Thread Cert.Reference10Ideal.nD Cert.Reference10Ideal.τ).loc Cert.Reference10Ideal.main_v16) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_v10) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v17) = v0 c
          ∧ r.2.mem ((c.tc : Thread Cert.Reference13Ideal.nD Cert.Reference13Ideal.τ).loc Cert.Reference13Ideal.main_v11) = v1 c
          ∧ r.2.mem ((c.tc : Thread Cert.Reference13Ideal.nD Cert.Reference13Ideal.τ).loc Cert.Reference13Ideal.main_v14) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_v8) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v23) = v0 c
          ∧ r.2.mem ((c.tc : Thread Cert.Reference35Ideal.nD Cert.Reference35Ideal.τ).loc Cert.Reference35Ideal.main_v4) = v1 c
          ∧ r.2.mem ((c.tc : Thread Cert.Reference35Ideal.nD Cert.Reference35Ideal.τ).loc Cert.Reference35Ideal.main_v10) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v23) = v0 c
          ∧ r.2.mem ((c.tc : Thread Cert.Reference36Ideal.nD Cert.Reference36Ideal.τ).loc Cert.Reference36Ideal.main_v4) = v1 c
          ∧ r.2.mem ((c.tc : Thread Cert.Reference36Ideal.nD Cert.Reference36Ideal.τ).loc Cert.Reference36Ideal.main_v10) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v23) = v0 c
          ∧ r.2.mem ((c.tc : Thread Cert.Reference37Ideal.nD Cert.Reference37Ideal.τ).loc Cert.Reference37Ideal.main_v4) = v1 c
          ∧ r.2.mem ((c.tc : Thread Cert.Reference37Ideal.nD Cert.Reference37Ideal.τ).loc Cert.Reference37Ideal.main_v10) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v20) = v0 c
          ∧ r.2.mem ((c.tc : Thread Cert.Reference40Ideal.nD Cert.Reference40Ideal.τ).loc Cert.Reference40Ideal.main_v23) = v1 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v2) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v1) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)) →
    ∃ (v0 : (c : Dev Cert.Kernel43Ideal.nD) → Buf (Elt Ideal) ((c.tc : Thread Cert.Kernel43Ideal.nD Cert.Kernel43Ideal.τ).loc Cert.Kernel43Ideal.main_v0)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v1) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v1) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)) →
    ∃ (v0 : (c : Dev Cert.Kernel45Ideal.nD) → Buf (Elt Ideal) ((c.tc : Thread Cert.Kernel45Ideal.nD Cert.Kernel45Ideal.τ).loc Cert.Kernel45Ideal.main_v0)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v1) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)) →
    ∃ (v0 : (c : Dev Cert.Kernel46Ideal.nD) → Buf (Elt Ideal) ((c.tc : Thread Cert.Kernel46Ideal.nD Cert.Kernel46Ideal.τ).loc Cert.Kernel46Ideal.main_v0)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0) = v0 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v1) = v0 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)) →
    ∃ (v0 : (c : Dev Cert.Kernel47Ideal.nD) → Buf (Elt Ideal) ((c.tc : Thread Cert.Kernel47Ideal.nD Cert.Kernel47Ideal.τ).loc Cert.Kernel47Ideal.main_v0)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0) = v0 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v0) = v0 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0))

def preserves_Kernel50_Kernel50Ideal : Prop :=
  True

def algebraic_Kernel50Ideal_Reference50Ideal [hKernel50Ideal : Cert.Kernel50Ideal.Facts] [hReference50Ideal : Cert.Reference50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg)
    (m' : (ℓ : Loc Cert.Reference50Ideal.nD Cert.Reference50Ideal.τ Cert.Reference50Ideal.sig) → Buf (Elt Ideal) ℓ) (g' : Dev Cert.Reference50Ideal.nD → PrngReg), Pre_Kernel50Ideal m →
    (∀ c : Dev Cert.Kernel50Ideal.nD,
      m' ((c.tc : Thread Cert.Reference50Ideal.nD Cert.Reference50Ideal.τ).loc Cert.Reference50Ideal.main_arg0) = m ((c.tc : Thread Cert.Kernel50Ideal.nD Cert.Kernel50Ideal.τ).loc Cert.Kernel50Ideal.main_arg0)
      ∧ m' ((c.tc : Thread Cert.Reference50Ideal.nD Cert.Reference50Ideal.τ).loc Cert.Reference50Ideal.main_arg1) = m ((c.tc : Thread Cert.Kernel50Ideal.nD Cert.Kernel50Ideal.τ).loc Cert.Kernel50Ideal.main_arg1)) →
    ∃ (v0 : (c : Dev Cert.Kernel50Ideal.nD) → Buf (Elt Ideal) ((c.tc : Thread Cert.Kernel50Ideal.nD Cert.Kernel50Ideal.τ).loc Cert.Kernel50Ideal.main_v0)),
      θ_run (Cert.Kernel50Ideal.defs (F := Ideal)) (onTc (τ := Cert.Kernel50Ideal.τ) (Cert.Kernel50Ideal.main (F := Ideal))) ⟨m, fun _ => 0, g⟩ (fun r => ∀ c : Dev Cert.Kernel50Ideal.nD,
          r.2.mem ((c.tc : Thread Cert.Kernel50Ideal.nD Cert.Kernel50Ideal.τ).loc Cert.Kernel50Ideal.main_v0) = v0 c
          ∧ r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
          ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1))
      ∧ θ_run (Cert.Reference50Ideal.defs (F := Ideal)) (onTc (τ := Cert.Reference50Ideal.τ) (Cert.Reference50Ideal.main (F := Ideal))) ⟨m', fun _ => 0, g'⟩ (fun r => ∀ c : Dev Cert.Reference50Ideal.nD,
          r.2.mem ((c.tc : Thread Cert.Reference50Ideal.nD Cert.Reference50Ideal.τ).loc Cert.Reference50Ideal.main_v3) = v0 c
          ∧ r.2.mem ((c.tc : Thread Cert.Reference50Ideal.nD Cert.Reference50Ideal.τ).loc Cert.Reference50Ideal.main_arg0) = m' ((c.tc : Thread Cert.Reference50Ideal.nD Cert.Reference50Ideal.τ).loc Cert.Reference50Ideal.main_arg0)
          ∧ r.2.mem ((c.tc : Thread Cert.Reference50Ideal.nD Cert.Reference50Ideal.τ).loc Cert.Reference50Ideal.main_arg1) = m' ((c.tc : Thread Cert.Reference50Ideal.nD Cert.Reference50Ideal.τ).loc Cert.Reference50Ideal.main_arg1))

def preserves_Kernel51_Kernel51Ideal : Prop :=
  True

def algebraic_Kernel51Ideal_Reference51Ideal [hKernel51Ideal : Cert.Kernel51Ideal.Facts] [hReference51Ideal : Cert.Reference51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg)
    (m' : (ℓ : Loc Cert.Reference51Ideal.nD Cert.Reference51Ideal.τ Cert.Reference51Ideal.sig) → Buf (Elt Ideal) ℓ) (g' : Dev Cert.Reference51Ideal.nD → PrngReg), Pre_Kernel51Ideal m →
    (∀ c : Dev Cert.Kernel51Ideal.nD,
      m' ((c.tc : Thread Cert.Reference51Ideal.nD Cert.Reference51Ideal.τ).loc Cert.Reference51Ideal.main_arg0) = m ((c.tc : Thread Cert.Kernel51Ideal.nD Cert.Kernel51Ideal.τ).loc Cert.Kernel51Ideal.main_arg0)
      ∧ m' ((c.tc : Thread Cert.Reference51Ideal.nD Cert.Reference51Ideal.τ).loc Cert.Reference51Ideal.main_arg1) = m ((c.tc : Thread Cert.Kernel51Ideal.nD Cert.Kernel51Ideal.τ).loc Cert.Kernel51Ideal.main_arg1)) →
    ∃ (v0 : (c : Dev Cert.Kernel51Ideal.nD) → Buf (Elt Ideal) ((c.tc : Thread Cert.Kernel51Ideal.nD Cert.Kernel51Ideal.τ).loc Cert.Kernel51Ideal.main_v0)),
      θ_run (Cert.Kernel51Ideal.defs (F := Ideal)) (onTc (τ := Cert.Kernel51Ideal.τ) (Cert.Kernel51Ideal.main (F := Ideal))) ⟨m, fun _ => 0, g⟩ (fun r => ∀ c : Dev Cert.Kernel51Ideal.nD,
          r.2.mem ((c.tc : Thread Cert.Kernel51Ideal.nD Cert.Kernel51Ideal.τ).loc Cert.Kernel51Ideal.main_v0) = v0 c
          ∧ r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
          ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1))
      ∧ θ_run (Cert.Reference51Ideal.defs (F := Ideal)) (onTc (τ := Cert.Reference51Ideal.τ) (Cert.Reference51Ideal.main (F := Ideal))) ⟨m', fun _ => 0, g'⟩ (fun r => ∀ c : Dev Cert.Reference51Ideal.nD,
          r.2.mem ((c.tc : Thread Cert.Reference51Ideal.nD Cert.Reference51Ideal.τ).loc Cert.Reference51Ideal.main_v3) = v0 c
          ∧ r.2.mem ((c.tc : Thread Cert.Reference51Ideal.nD Cert.Reference51Ideal.τ).loc Cert.Reference51Ideal.main_arg0) = m' ((c.tc : Thread Cert.Reference51Ideal.nD Cert.Reference51Ideal.τ).loc Cert.Reference51Ideal.main_arg0)
          ∧ r.2.mem ((c.tc : Thread Cert.Reference51Ideal.nD Cert.Reference51Ideal.τ).loc Cert.Reference51Ideal.main_arg1) = m' ((c.tc : Thread Cert.Reference51Ideal.nD Cert.Reference51Ideal.τ).loc Cert.Reference51Ideal.main_arg1))

def preserves_Kernel52_Kernel52Ideal : Prop :=
  True

def algebraic_Kernel52Ideal_Reference52Ideal [hKernel52Ideal : Cert.Kernel52Ideal.Facts] [hReference52Ideal : Cert.Reference52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg)
    (m' : (ℓ : Loc Cert.Reference52Ideal.nD Cert.Reference52Ideal.τ Cert.Reference52Ideal.sig) → Buf (Elt Ideal) ℓ) (g' : Dev Cert.Reference52Ideal.nD → PrngReg), Pre_Kernel52Ideal m →
    (∀ c : Dev Cert.Kernel52Ideal.nD,
      m' ((c.tc : Thread Cert.Reference52Ideal.nD Cert.Reference52Ideal.τ).loc Cert.Reference52Ideal.main_arg0) = m ((c.tc : Thread Cert.Kernel52Ideal.nD Cert.Kernel52Ideal.τ).loc Cert.Kernel52Ideal.main_arg0)
      ∧ m' ((c.tc : Thread Cert.Reference52Ideal.nD Cert.Reference52Ideal.τ).loc Cert.Reference52Ideal.main_arg1) = m ((c.tc : Thread Cert.Kernel52Ideal.nD Cert.Kernel52Ideal.τ).loc Cert.Kernel52Ideal.main_arg1)) →
    ∃ (v0 : (c : Dev Cert.Kernel52Ideal.nD) → Buf (Elt Ideal) ((c.tc : Thread Cert.Kernel52Ideal.nD Cert.Kernel52Ideal.τ).loc Cert.Kernel52Ideal.main_v0)),
      θ_run (Cert.Kernel52Ideal.defs (F := Ideal)) (onTc (τ := Cert.Kernel52Ideal.τ) (Cert.Kernel52Ideal.main (F := Ideal))) ⟨m, fun _ => 0, g⟩ (fun r => ∀ c : Dev Cert.Kernel52Ideal.nD,
          r.2.mem ((c.tc : Thread Cert.Kernel52Ideal.nD Cert.Kernel52Ideal.τ).loc Cert.Kernel52Ideal.main_v0) = v0 c
          ∧ r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
          ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1))
      ∧ θ_run (Cert.Reference52Ideal.defs (F := Ideal)) (onTc (τ := Cert.Reference52Ideal.τ) (Cert.Reference52Ideal.main (F := Ideal))) ⟨m', fun _ => 0, g'⟩ (fun r => ∀ c : Dev Cert.Reference52Ideal.nD,
          r.2.mem ((c.tc : Thread Cert.Reference52Ideal.nD Cert.Reference52Ideal.τ).loc Cert.Reference52Ideal.main_v3) = v0 c
          ∧ r.2.mem ((c.tc : Thread Cert.Reference52Ideal.nD Cert.Reference52Ideal.τ).loc Cert.Reference52Ideal.main_arg0) = m' ((c.tc : Thread Cert.Reference52Ideal.nD Cert.Reference52Ideal.τ).loc Cert.Reference52Ideal.main_arg0)
          ∧ r.2.mem ((c.tc : Thread Cert.Reference52Ideal.nD Cert.Reference52Ideal.τ).loc Cert.Reference52Ideal.main_arg1) = m' ((c.tc : Thread Cert.Reference52Ideal.nD Cert.Reference52Ideal.τ).loc Cert.Reference52Ideal.main_arg1))

def preserves_Kernel53_Kernel53Ideal : Prop :=
  True

def algebraic_Kernel53Ideal_Reference53Ideal [hKernel53Ideal : Cert.Kernel53Ideal.Facts] [hReference53Ideal : Cert.Reference53Ideal.Facts] : Prop :=
  ∀ (m : (ℓ : Loc Cert.Kernel53Ideal.nD Cert.Kernel53Ideal.τ Cert.Kernel53Ideal.sig) → Buf (Elt Ideal) ℓ) (g : Dev Cert.Kernel53Ideal.nD → PrngReg)
    (m' : (ℓ : Loc Cert.Reference53Ideal.nD Cert.Reference53Ideal.τ Cert.Reference53Ideal.sig) → Buf (Elt Ideal) ℓ) (g' : Dev Cert.Reference53Ideal.nD → PrngReg), Pre_Kernel53Ideal m →
    (∀ c : Dev Cert.Kernel53Ideal.nD,
      m' ((c.tc : Thread Cert.Reference53Ideal.nD Cert.Reference53Ideal.τ).loc Cert.Reference53Ideal.main_arg0) = m ((c.tc : Thread Cert.Kernel53Ideal.nD Cert.Kernel53Ideal.τ).loc Cert.Kernel53Ideal.main_arg0)
      ∧ m' ((c.tc : Thread Cert.Reference53Ideal.nD Cert.Reference53Ideal.τ).loc Cert.Reference53Ideal.main_arg1) = m ((c.tc : Thread Cert.Kernel53Ideal.nD Cert.Kernel53Ideal.τ).loc Cert.Kernel53Ideal.main_arg1)) →
    ∃ (v0 : (c : Dev Cert.Kernel53Ideal.nD) → Buf (Elt Ideal) ((c.tc : Thread Cert.Kernel53Ideal.nD Cert.Kernel53Ideal.τ).loc Cert.Kernel53Ideal.main_v0)),
      θ_run (Cert.Kernel53Ideal.defs (F := Ideal)) (onTc (τ := Cert.Kernel53Ideal.τ) (Cert.Kernel53Ideal.main (F := Ideal))) ⟨m, fun _ => 0, g⟩ (fun r => ∀ c : Dev Cert.Kernel53Ideal.nD,
          r.2.mem ((c.tc : Thread Cert.Kernel53Ideal.nD Cert.Kernel53Ideal.τ).loc Cert.Kernel53Ideal.main_v0) = v0 c
          ∧ r.2.mem ((c.tc : Thread Cert.Kernel53Ideal.nD Cert.Kernel53Ideal.τ).loc Cert.Kernel53Ideal.main_arg0) = m ((c.tc : Thread Cert.Kernel53Ideal.nD Cert.Kernel53Ideal.τ).loc Cert.Kernel53Ideal.main_arg0)
          ∧ r.2.mem ((c.tc : Thread Cert.Kernel53Ideal.nD Cert.Kernel53Ideal.τ).loc Cert.Kernel53Ideal.main_arg1) = m ((c.tc : Thread Cert.Kernel53Ideal.nD Cert.Kernel53Ideal.τ).loc Cert.Kernel53Ideal.main_arg1))
      ∧ θ_run (Cert.Reference53Ideal.defs (F := Ideal)) (onTc (τ := Cert.Reference53Ideal.τ) (Cert.Reference53Ideal.main (F := Ideal))) ⟨m', fun _ => 0, g'⟩ (fun r => ∀ c : Dev Cert.Reference53Ideal.nD,
          r.2.mem ((c.tc : Thread Cert.Reference53Ideal.nD Cert.Reference53Ideal.τ).loc Cert.Reference53Ideal.main_v3) = v0 c
          ∧ r.2.mem ((c.tc : Thread Cert.Reference53Ideal.nD Cert.Reference53Ideal.τ).loc Cert.Reference53Ideal.main_arg0) = m' ((c.tc : Thread Cert.Reference53Ideal.nD Cert.Reference53Ideal.τ).loc Cert.Reference53Ideal.main_arg0)
          ∧ r.2.mem ((c.tc : Thread Cert.Reference53Ideal.nD Cert.Reference53Ideal.τ).loc Cert.Reference53Ideal.main_arg1) = m' ((c.tc : Thread Cert.Reference53Ideal.nD Cert.Reference53Ideal.τ).loc Cert.Reference53Ideal.main_arg1))

def preserves_Kernel54_Kernel54Ideal : Prop :=
  True

def algebraic_Kernel54Ideal_Reference54Ideal [hKernel54Ideal : Cert.Kernel54Ideal.Facts] [hReference54Ideal : Cert.Reference54Ideal.Facts] : Prop :=
  ∀ (m : (ℓ : Loc Cert.Kernel54Ideal.nD Cert.Kernel54Ideal.τ Cert.Kernel54Ideal.sig) → Buf (Elt Ideal) ℓ) (g : Dev Cert.Kernel54Ideal.nD → PrngReg)
    (m' : (ℓ : Loc Cert.Reference54Ideal.nD Cert.Reference54Ideal.τ Cert.Reference54Ideal.sig) → Buf (Elt Ideal) ℓ) (g' : Dev Cert.Reference54Ideal.nD → PrngReg), Pre_Kernel54Ideal m →
    (∀ c : Dev Cert.Kernel54Ideal.nD,
      m' ((c.tc : Thread Cert.Reference54Ideal.nD Cert.Reference54Ideal.τ).loc Cert.Reference54Ideal.main_arg0) = m ((c.tc : Thread Cert.Kernel54Ideal.nD Cert.Kernel54Ideal.τ).loc Cert.Kernel54Ideal.main_arg0)
      ∧ m' ((c.tc : Thread Cert.Reference54Ideal.nD Cert.Reference54Ideal.τ).loc Cert.Reference54Ideal.main_arg1) = m ((c.tc : Thread Cert.Kernel54Ideal.nD Cert.Kernel54Ideal.τ).loc Cert.Kernel54Ideal.main_arg1)) →
    ∃ (v0 : (c : Dev Cert.Kernel54Ideal.nD) → Buf (Elt Ideal) ((c.tc : Thread Cert.Kernel54Ideal.nD Cert.Kernel54Ideal.τ).loc Cert.Kernel54Ideal.main_v0)),
      θ_run (Cert.Kernel54Ideal.defs (F := Ideal)) (onTc (τ := Cert.Kernel54Ideal.τ) (Cert.Kernel54Ideal.main (F := Ideal))) ⟨m, fun _ => 0, g⟩ (fun r => ∀ c : Dev Cert.Kernel54Ideal.nD,
          r.2.mem ((c.tc : Thread Cert.Kernel54Ideal.nD Cert.Kernel54Ideal.τ).loc Cert.Kernel54Ideal.main_v0) = v0 c
          ∧ r.2.mem ((c.tc : Thread Cert.Kernel54Ideal.nD Cert.Kernel54Ideal.τ).loc Cert.Kernel54Ideal.main_arg0) = m ((c.tc : Thread Cert.Kernel54Ideal.nD Cert.Kernel54Ideal.τ).loc Cert.Kernel54Ideal.main_arg0)
          ∧ r.2.mem ((c.tc : Thread Cert.Kernel54Ideal.nD Cert.Kernel54Ideal.τ).loc Cert.Kernel54Ideal.main_arg1) = m ((c.tc : Thread Cert.Kernel54Ideal.nD Cert.Kernel54Ideal.τ).loc Cert.Kernel54Ideal.main_arg1))
      ∧ θ_run (Cert.Reference54Ideal.defs (F := Ideal)) (onTc (τ := Cert.Reference54Ideal.τ) (Cert.Reference54Ideal.main (F := Ideal))) ⟨m', fun _ => 0, g'⟩ (fun r => ∀ c : Dev Cert.Reference54Ideal.nD,
          r.2.mem ((c.tc : Thread Cert.Reference54Ideal.nD Cert.Reference54Ideal.τ).loc Cert.Reference54Ideal.main_v3) = v0 c
          ∧ r.2.mem ((c.tc : Thread Cert.Reference54Ideal.nD Cert.Reference54Ideal.τ).loc Cert.Reference54Ideal.main_arg0) = m' ((c.tc : Thread Cert.Reference54Ideal.nD Cert.Reference54Ideal.τ).loc Cert.Reference54Ideal.main_arg0)
          ∧ r.2.mem ((c.tc : Thread Cert.Reference54Ideal.nD Cert.Reference54Ideal.τ).loc Cert.Reference54Ideal.main_arg1) = m' ((c.tc : Thread Cert.Reference54Ideal.nD Cert.Reference54Ideal.τ).loc Cert.Reference54Ideal.main_arg1))

def preserves_Kernel55_Kernel55Ideal : Prop :=
  True

def algebraic_Kernel55Ideal_Reference55Ideal [hKernel55Ideal : Cert.Kernel55Ideal.Facts] [hReference55Ideal : Cert.Reference55Ideal.Facts] : Prop :=
  ∀ (m : (ℓ : Loc Cert.Kernel55Ideal.nD Cert.Kernel55Ideal.τ Cert.Kernel55Ideal.sig) → Buf (Elt Ideal) ℓ) (g : Dev Cert.Kernel55Ideal.nD → PrngReg)
    (m' : (ℓ : Loc Cert.Reference55Ideal.nD Cert.Reference55Ideal.τ Cert.Reference55Ideal.sig) → Buf (Elt Ideal) ℓ) (g' : Dev Cert.Reference55Ideal.nD → PrngReg), Pre_Kernel55Ideal m →
    (∀ c : Dev Cert.Kernel55Ideal.nD,
      m' ((c.tc : Thread Cert.Reference55Ideal.nD Cert.Reference55Ideal.τ).loc Cert.Reference55Ideal.main_arg0) = m ((c.tc : Thread Cert.Kernel55Ideal.nD Cert.Kernel55Ideal.τ).loc Cert.Kernel55Ideal.main_arg0)
      ∧ m' ((c.tc : Thread Cert.Reference55Ideal.nD Cert.Reference55Ideal.τ).loc Cert.Reference55Ideal.main_arg1) = m ((c.tc : Thread Cert.Kernel55Ideal.nD Cert.Kernel55Ideal.τ).loc Cert.Kernel55Ideal.main_arg1)
      ∧ m' ((c.tc : Thread Cert.Reference55Ideal.nD Cert.Reference55Ideal.τ).loc Cert.Reference55Ideal.main_arg2) = m ((c.tc : Thread Cert.Kernel55Ideal.nD Cert.Kernel55Ideal.τ).loc Cert.Kernel55Ideal.main_arg2)
      ∧ m' ((c.tc : Thread Cert.Reference55Ideal.nD Cert.Reference55Ideal.τ).loc Cert.Reference55Ideal.main_arg3) = m ((c.tc : Thread Cert.Kernel55Ideal.nD Cert.Kernel55Ideal.τ).loc Cert.Kernel55Ideal.main_arg3)) →
    ∃ (v0 : (c : Dev Cert.Kernel55Ideal.nD) → Buf (Elt Ideal) ((c.tc : Thread Cert.Kernel55Ideal.nD Cert.Kernel55Ideal.τ).loc Cert.Kernel55Ideal.main_v0_0)) (v1 : (c : Dev Cert.Kernel55Ideal.nD) → Buf (Elt Ideal) ((c.tc : Thread Cert.Kernel55Ideal.nD Cert.Kernel55Ideal.τ).loc Cert.Kernel55Ideal.main_v0_1)),
      θ_run (Cert.Kernel55Ideal.defs (F := Ideal)) (onTc (τ := Cert.Kernel55Ideal.τ) (Cert.Kernel55Ideal.main (F := Ideal))) ⟨m, fun _ => 0, g⟩ (fun r => ∀ c : Dev Cert.Kernel55Ideal.nD,
          r.2.mem ((c.tc : Thread Cert.Kernel55Ideal.nD Cert.Kernel55Ideal.τ).loc Cert.Kernel55Ideal.main_v0_0) = v0 c
          ∧ r.2.mem ((c.tc : Thread Cert.Kernel55Ideal.nD Cert.Kernel55Ideal.τ).loc Cert.Kernel55Ideal.main_v0_1) = v1 c
          ∧ r.2.mem ((c.tc : Thread Cert.Kernel55Ideal.nD Cert.Kernel55Ideal.τ).loc Cert.Kernel55Ideal.main_arg0) = m ((c.tc : Thread Cert.Kernel55Ideal.nD Cert.Kernel55Ideal.τ).loc Cert.Kernel55Ideal.main_arg0)
          ∧ r.2.mem ((c.tc : Thread Cert.Kernel55Ideal.nD Cert.Kernel55Ideal.τ).loc Cert.Kernel55Ideal.main_arg1) = m ((c.tc : Thread Cert.Kernel55Ideal.nD Cert.Kernel55Ideal.τ).loc Cert.Kernel55Ideal.main_arg1)
          ∧ r.2.mem ((c.tc : Thread Cert.Kernel55Ideal.nD Cert.Kernel55Ideal.τ).loc Cert.Kernel55Ideal.main_arg2) = m ((c.tc : Thread Cert.Kernel55Ideal.nD Cert.Kernel55Ideal.τ).loc Cert.Kernel55Ideal.main_arg2)
          ∧ r.2.mem ((c.tc : Thread Cert.Kernel55Ideal.nD Cert.Kernel55Ideal.τ).loc Cert.Kernel55Ideal.main_arg3) = m ((c.tc : Thread Cert.Kernel55Ideal.nD Cert.Kernel55Ideal.τ).loc Cert.Kernel55Ideal.main_arg3))
      ∧ θ_run (Cert.Reference55Ideal.defs (F := Ideal)) (onTc (τ := Cert.Reference55Ideal.τ) (Cert.Reference55Ideal.main (F := Ideal))) ⟨m', fun _ => 0, g'⟩ (fun r => ∀ c : Dev Cert.Reference55Ideal.nD,
          r.2.mem ((c.tc : Thread Cert.Reference55Ideal.nD Cert.Reference55Ideal.τ).loc Cert.Reference55Ideal.main_v7) = v0 c
          ∧ r.2.mem ((c.tc : Thread Cert.Reference55Ideal.nD Cert.Reference55Ideal.τ).loc Cert.Reference55Ideal.main_v8) = v1 c
          ∧ r.2.mem ((c.tc : Thread Cert.Reference55Ideal.nD Cert.Reference55Ideal.τ).loc Cert.Reference55Ideal.main_arg0) = m' ((c.tc : Thread Cert.Reference55Ideal.nD Cert.Reference55Ideal.τ).loc Cert.Reference55Ideal.main_arg0)
          ∧ r.2.mem ((c.tc : Thread Cert.Reference55Ideal.nD Cert.Reference55Ideal.τ).loc Cert.Reference55Ideal.main_arg1) = m' ((c.tc : Thread Cert.Reference55Ideal.nD Cert.Reference55Ideal.τ).loc Cert.Reference55Ideal.main_arg1)
          ∧ r.2.mem ((c.tc : Thread Cert.Reference55Ideal.nD Cert.Reference55Ideal.τ).loc Cert.Reference55Ideal.main_arg2) = m' ((c.tc : Thread Cert.Reference55Ideal.nD Cert.Reference55Ideal.τ).loc Cert.Reference55Ideal.main_arg2)
          ∧ r.2.mem ((c.tc : Thread Cert.Reference55Ideal.nD Cert.Reference55Ideal.τ).loc Cert.Reference55Ideal.main_arg3) = m' ((c.tc : Thread Cert.Reference55Ideal.nD Cert.Reference55Ideal.τ).loc Cert.Reference55Ideal.main_arg3))

def preserves_Kernel56_Kernel56Ideal : Prop :=
  True

def algebraic_Kernel56Ideal_Reference56Ideal [hKernel56Ideal : Cert.Kernel56Ideal.Facts] [hReference56Ideal : Cert.Reference56Ideal.Facts] : Prop :=
  ∀ (m : (ℓ : Loc Cert.Kernel56Ideal.nD Cert.Kernel56Ideal.τ Cert.Kernel56Ideal.sig) → Buf (Elt Ideal) ℓ) (g : Dev Cert.Kernel56Ideal.nD → PrngReg)
    (m' : (ℓ : Loc Cert.Reference56Ideal.nD Cert.Reference56Ideal.τ Cert.Reference56Ideal.sig) → Buf (Elt Ideal) ℓ) (g' : Dev Cert.Reference56Ideal.nD → PrngReg), Pre_Kernel56Ideal m →
    (∀ c : Dev Cert.Kernel56Ideal.nD,
      m' ((c.tc : Thread Cert.Reference56Ideal.nD Cert.Reference56Ideal.τ).loc Cert.Reference56Ideal.main_arg0) = m ((c.tc : Thread Cert.Kernel56Ideal.nD Cert.Kernel56Ideal.τ).loc Cert.Kernel56Ideal.main_arg0)
      ∧ m' ((c.tc : Thread Cert.Reference56Ideal.nD Cert.Reference56Ideal.τ).loc Cert.Reference56Ideal.main_arg1) = m ((c.tc : Thread Cert.Kernel56Ideal.nD Cert.Kernel56Ideal.τ).loc Cert.Kernel56Ideal.main_arg1)
      ∧ m' ((c.tc : Thread Cert.Reference56Ideal.nD Cert.Reference56Ideal.τ).loc Cert.Reference56Ideal.main_arg2) = m ((c.tc : Thread Cert.Kernel56Ideal.nD Cert.Kernel56Ideal.τ).loc Cert.Kernel56Ideal.main_arg2)
      ∧ m' ((c.tc : Thread Cert.Reference56Ideal.nD Cert.Reference56Ideal.τ).loc Cert.Reference56Ideal.main_arg3) = m ((c.tc : Thread Cert.Kernel56Ideal.nD Cert.Kernel56Ideal.τ).loc Cert.Kernel56Ideal.main_arg3)
      ∧ m' ((c.tc : Thread Cert.Reference56Ideal.nD Cert.Reference56Ideal.τ).loc Cert.Reference56Ideal.main_arg4) = m ((c.tc : Thread Cert.Kernel56Ideal.nD Cert.Kernel56Ideal.τ).loc Cert.Kernel56Ideal.main_arg4)) →
    ∃ (v0 : (c : Dev Cert.Kernel56Ideal.nD) → Buf (Elt Ideal) ((c.tc : Thread Cert.Kernel56Ideal.nD Cert.Kernel56Ideal.τ).loc Cert.Kernel56Ideal.main_v0_0)) (v1 : (c : Dev Cert.Kernel56Ideal.nD) → Buf (Elt Ideal) ((c.tc : Thread Cert.Kernel56Ideal.nD Cert.Kernel56Ideal.τ).loc Cert.Kernel56Ideal.main_v0_1)) (v2 : (c : Dev Cert.Kernel56Ideal.nD) → Buf (Elt Ideal) ((c.tc : Thread Cert.Kernel56Ideal.nD Cert.Kernel56Ideal.τ).loc Cert.Kernel56Ideal.main_v0_2)),
      θ_run (Cert.Kernel56Ideal.defs (F := Ideal)) (onTc (τ := Cert.Kernel56Ideal.τ) (Cert.Kernel56Ideal.main (F := Ideal))) ⟨m, fun _ => 0, g⟩ (fun r => ∀ c : Dev Cert.Kernel56Ideal.nD,
          r.2.mem ((c.tc : Thread Cert.Kernel56Ideal.nD Cert.Kernel56Ideal.τ).loc Cert.Kernel56Ideal.main_v0_0) = v0 c
          ∧ r.2.mem ((c.tc : Thread Cert.Kernel56Ideal.nD Cert.Kernel56Ideal.τ).loc Cert.Kernel56Ideal.main_v0_1) = v1 c
          ∧ r.2.mem ((c.tc : Thread Cert.Kernel56Ideal.nD Cert.Kernel56Ideal.τ).loc Cert.Kernel56Ideal.main_v0_2) = v2 c
          ∧ r.2.mem ((c.tc : Thread Cert.Kernel56Ideal.nD Cert.Kernel56Ideal.τ).loc Cert.Kernel56Ideal.main_arg0) = m ((c.tc : Thread Cert.Kernel56Ideal.nD Cert.Kernel56Ideal.τ).loc Cert.Kernel56Ideal.main_arg0)
          ∧ r.2.mem ((c.tc : Thread Cert.Kernel56Ideal.nD Cert.Kernel56Ideal.τ).loc Cert.Kernel56Ideal.main_arg1) = m ((c.tc : Thread Cert.Kernel56Ideal.nD Cert.Kernel56Ideal.τ).loc Cert.Kernel56Ideal.main_arg1)
          ∧ r.2.mem ((c.tc : Thread Cert.Kernel56Ideal.nD Cert.Kernel56Ideal.τ).loc Cert.Kernel56Ideal.main_arg2) = m ((c.tc : Thread Cert.Kernel56Ideal.nD Cert.Kernel56Ideal.τ).loc Cert.Kernel56Ideal.main_arg2)
          ∧ r.2.mem ((c.tc : Thread Cert.Kernel56Ideal.nD Cert.Kernel56Ideal.τ).loc Cert.Kernel56Ideal.main_arg3) = m ((c.tc : Thread Cert.Kernel56Ideal.nD Cert.Kernel56Ideal.τ).loc Cert.Kernel56Ideal.main_arg3)
          ∧ r.2.mem ((c.tc : Thread Cert.Kernel56Ideal.nD Cert.Kernel56Ideal.τ).loc Cert.Kernel56Ideal.main_arg4) = m ((c.tc : Thread Cert.Kernel56Ideal.nD Cert.Kernel56Ideal.τ).loc Cert.Kernel56Ideal.main_arg4))
      ∧ θ_run (Cert.Reference56Ideal.defs (F := Ideal)) (onTc (τ := Cert.Reference56Ideal.τ) (Cert.Reference56Ideal.main (F := Ideal))) ⟨m', fun _ => 0, g'⟩ (fun r => ∀ c : Dev Cert.Reference56Ideal.nD,
          r.2.mem ((c.tc : Thread Cert.Reference56Ideal.nD Cert.Reference56Ideal.τ).loc Cert.Reference56Ideal.main_v16) = v0 c
          ∧ r.2.mem ((c.tc : Thread Cert.Reference56Ideal.nD Cert.Reference56Ideal.τ).loc Cert.Reference56Ideal.main_v11) = v1 c
          ∧ r.2.mem ((c.tc : Thread Cert.Reference56Ideal.nD Cert.Reference56Ideal.τ).loc Cert.Reference56Ideal.main_v14) = v2 c
          ∧ r.2.mem ((c.tc : Thread Cert.Reference56Ideal.nD Cert.Reference56Ideal.τ).loc Cert.Reference56Ideal.main_arg0) = m' ((c.tc : Thread Cert.Reference56Ideal.nD Cert.Reference56Ideal.τ).loc Cert.Reference56Ideal.main_arg0)
          ∧ r.2.mem ((c.tc : Thread Cert.Reference56Ideal.nD Cert.Reference56Ideal.τ).loc Cert.Reference56Ideal.main_arg1) = m' ((c.tc : Thread Cert.Reference56Ideal.nD Cert.Reference56Ideal.τ).loc Cert.Reference56Ideal.main_arg1)
          ∧ r.2.mem ((c.tc : Thread Cert.Reference56Ideal.nD Cert.Reference56Ideal.τ).loc Cert.Reference56Ideal.main_arg2) = m' ((c.tc : Thread Cert.Reference56Ideal.nD Cert.Reference56Ideal.τ).loc Cert.Reference56Ideal.main_arg2)
          ∧ r.2.mem ((c.tc : Thread Cert.Reference56Ideal.nD Cert.Reference56Ideal.τ).loc Cert.Reference56Ideal.main_arg3) = m' ((c.tc : Thread Cert.Reference56Ideal.nD Cert.Reference56Ideal.τ).loc Cert.Reference56Ideal.main_arg3)
          ∧ r.2.mem ((c.tc : Thread Cert.Reference56Ideal.nD Cert.Reference56Ideal.τ).loc Cert.Reference56Ideal.main_arg4) = m' ((c.tc : Thread Cert.Reference56Ideal.nD Cert.Reference56Ideal.τ).loc Cert.Reference56Ideal.main_arg4))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel50 : Cert.Kernel50.Facts) (hKernel50Ideal : Cert.Kernel50Ideal.Facts) (hReference50Ideal : Cert.Reference50Ideal.Facts) (hKernel51 : Cert.Kernel51.Facts) (hKernel51Ideal : Cert.Kernel51Ideal.Facts) (hReference51Ideal : Cert.Reference51Ideal.Facts) (hKernel52 : Cert.Kernel52.Facts) (hKernel52Ideal : Cert.Kernel52Ideal.Facts) (hReference52Ideal : Cert.Reference52Ideal.Facts) (hKernel53 : Cert.Kernel53.Facts) (hKernel53Ideal : Cert.Kernel53Ideal.Facts) (hReference53Ideal : Cert.Reference53Ideal.Facts) (hKernel54 : Cert.Kernel54.Facts) (hKernel54Ideal : Cert.Kernel54Ideal.Facts) (hReference54Ideal : Cert.Reference54Ideal.Facts) (hKernel55 : Cert.Kernel55.Facts) (hKernel55Ideal : Cert.Kernel55Ideal.Facts) (hReference55Ideal : Cert.Reference55Ideal.Facts) (hKernel56 : Cert.Kernel56.Facts) (hKernel56Ideal : Cert.Kernel56Ideal.Facts) (hReference56Ideal : Cert.Reference56Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel50 (hKernel50 := hKernel50)
    ∧ quiescent_Kernel50Ideal (hKernel50Ideal := hKernel50Ideal)
    ∧ quiescent_Reference50Ideal (hReference50Ideal := hReference50Ideal)
    ∧ quiescent_Kernel51 (hKernel51 := hKernel51)
    ∧ quiescent_Kernel51Ideal (hKernel51Ideal := hKernel51Ideal)
    ∧ quiescent_Reference51Ideal (hReference51Ideal := hReference51Ideal)
    ∧ quiescent_Kernel52 (hKernel52 := hKernel52)
    ∧ quiescent_Kernel52Ideal (hKernel52Ideal := hKernel52Ideal)
    ∧ quiescent_Reference52Ideal (hReference52Ideal := hReference52Ideal)
    ∧ quiescent_Kernel53 (hKernel53 := hKernel53)
    ∧ quiescent_Kernel53Ideal (hKernel53Ideal := hKernel53Ideal)
    ∧ quiescent_Reference53Ideal (hReference53Ideal := hReference53Ideal)
    ∧ quiescent_Kernel54 (hKernel54 := hKernel54)
    ∧ quiescent_Kernel54Ideal (hKernel54Ideal := hKernel54Ideal)
    ∧ quiescent_Reference54Ideal (hReference54Ideal := hReference54Ideal)
    ∧ quiescent_Kernel55 (hKernel55 := hKernel55)
    ∧ quiescent_Kernel55Ideal (hKernel55Ideal := hKernel55Ideal)
    ∧ quiescent_Reference55Ideal (hReference55Ideal := hReference55Ideal)
    ∧ quiescent_Kernel56 (hKernel56 := hKernel56)
    ∧ quiescent_Kernel56Ideal (hKernel56Ideal := hKernel56Ideal)
    ∧ quiescent_Reference56Ideal (hReference56Ideal := hReference56Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel50_Kernel50Ideal
    ∧ algebraic_Kernel50Ideal_Reference50Ideal (hKernel50Ideal := hKernel50Ideal) (hReference50Ideal := hReference50Ideal)
    ∧ preserves_Kernel51_Kernel51Ideal
    ∧ algebraic_Kernel51Ideal_Reference51Ideal (hKernel51Ideal := hKernel51Ideal) (hReference51Ideal := hReference51Ideal)
    ∧ preserves_Kernel52_Kernel52Ideal
    ∧ algebraic_Kernel52Ideal_Reference52Ideal (hKernel52Ideal := hKernel52Ideal) (hReference52Ideal := hReference52Ideal)
    ∧ preserves_Kernel53_Kernel53Ideal
    ∧ algebraic_Kernel53Ideal_Reference53Ideal (hKernel53Ideal := hKernel53Ideal) (hReference53Ideal := hReference53Ideal)
    ∧ preserves_Kernel54_Kernel54Ideal
    ∧ algebraic_Kernel54Ideal_Reference54Ideal (hKernel54Ideal := hKernel54Ideal) (hReference54Ideal := hReference54Ideal)
    ∧ preserves_Kernel55_Kernel55Ideal
    ∧ algebraic_Kernel55Ideal_Reference55Ideal (hKernel55Ideal := hKernel55Ideal) (hReference55Ideal := hReference55Ideal)
    ∧ preserves_Kernel56_Kernel56Ideal
    ∧ algebraic_Kernel56Ideal_Reference56Ideal (hKernel56Ideal := hKernel56Ideal) (hReference56Ideal := hReference56Ideal)
-- ==== Kernel.lean ====
abbrev S4096x512 : Shape := ⟨2, ![4096, 512]⟩
abbrev S4096x1536 : Shape := ⟨2, ![4096, 1536]⟩
abbrev S8x64x64x1 : Shape := ⟨4, ![8, 64, 64, 1]⟩
abbrev S8x64x1x64 : Shape := ⟨4, ![8, 64, 1, 64]⟩
abbrev S8x64x128x128 : Shape := ⟨4, ![8, 64, 128, 128]⟩
abbrev S8x64x64x64 : Shape := ⟨4, ![8, 64, 64, 64]⟩
abbrev S8x128x128 : Shape := ⟨3, ![8, 128, 128]⟩
abbrev S64x512 : Shape := ⟨2, ![64, 512]⟩
abbrev S64x1536 : Shape := ⟨2, ![64, 1536]⟩
abbrev S8x1x64x1 : Shape := ⟨4, ![8, 1, 64, 1]⟩
abbrev S8x1x1x64 : Shape := ⟨4, ![8, 1, 1, 64]⟩
abbrev S8x1x128x128 : Shape := ⟨4, ![8, 1, 128, 128]⟩
abbrev S8x1x64x64 : Shape := ⟨4, ![8, 1, 64, 64]⟩
abbrev S8x64x64 : Shape := ⟨3, ![8, 64, 64]⟩
abbrev S64x128 : Shape := ⟨2, ![64, 128]⟩
abbrev S1x64x128 : Shape := ⟨3, ![1, 64, 128]⟩
abbrev S8x64x128 : Shape := ⟨3, ![8, 64, 128]⟩
abbrev S8x64x1 : Shape := ⟨3, ![8, 64, 1]⟩
abbrev S8x1x64 : Shape := ⟨3, ![8, 1, 64]⟩
abbrev S8x64 : Shape := ⟨2, ![8, 64]⟩
abbrev S8x1 : Shape := ⟨2, ![8, 1]⟩
abbrev S8x1x1 : Shape := ⟨3, ![8, 1, 1]⟩
abbrev S8 : Shape := ⟨1, ![8]⟩

abbrev nBuf : Space → Nat
  | .hbm => 14
  | .vmem => 31
  | .smem => 0
  | _ => 0

abbrev bufTy : (tb : Table) → Fin (tcTables nBuf tb) → BufTy
  | .hbm, ⟨0, _⟩ => ⟨S4096x512, .f32⟩
  | .hbm, ⟨1, _⟩ => ⟨S4096x1536, .f32⟩
  | .hbm, ⟨2, _⟩ => ⟨S8x64x64x1, .f32⟩
  | .hbm, ⟨3, _⟩ => ⟨S8x64x64x1, .f32⟩
  | .hbm, ⟨4, _⟩ => ⟨S8x64x1x64, .f32⟩
  | .hbm, ⟨5, _⟩ => ⟨S8x64x128x128, .f32⟩
  | .hbm, ⟨6, _⟩ => ⟨S8x64x64x64, .f32⟩
  | .hbm, ⟨7, _⟩ => ⟨S8x128x128, .f32⟩
  | .hbm, ⟨8, _⟩ => ⟨S4096x1536, .f32⟩
  | .hbm, ⟨9, _⟩ => ⟨S4096x1536, .f32⟩
  | .hbm, ⟨10, _⟩ => ⟨S8x64x64x1, .f32⟩
  | .hbm, ⟨11, _⟩ => ⟨S8x64x64x1, .f32⟩
  | .hbm, ⟨12, _⟩ => ⟨S8x64x1x64, .f32⟩
  | .hbm, ⟨13, _⟩ => ⟨S8x128x128, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x1536, .f32⟩
  | .local _ .vmem, ⟨5, _⟩ => ⟨S64x1536, .f32⟩
  | .local _ .vmem, ⟨6, _⟩ => ⟨S64x1536, .f32⟩
  | .local _ .vmem, ⟨7, _⟩ => ⟨S64x1536, .f32⟩
  | .local _ .vmem, ⟨8, _⟩ => ⟨S8x1x64x1, .f32⟩
  | .local _ .vmem, ⟨9, _⟩ => ⟨S8x1x64x1, .f32⟩
  | .local _ .vmem, ⟨10, _⟩ => ⟨S8x1x64x1, .f32⟩
  | .local _ .vmem, ⟨11, _⟩ => ⟨S8x1x64x1, .f32⟩
  | .local _ .vmem, ⟨12, _⟩ => ⟨S8x1x1x64, .f32⟩
  | .local _ .vmem, ⟨13, _⟩ => ⟨S8x1x1x64, .f32⟩
  | .local _ .vmem, ⟨14, _⟩ => ⟨S8x1x128x128, .f32⟩
  | .local _ .vmem, ⟨15, _⟩ => ⟨S8x1x128x128, .f32⟩
  | .local _ .vmem, ⟨16, _⟩ => ⟨S8x1x64x64, .f32⟩
  | .local _ .vmem, ⟨17, _⟩ => ⟨S8x1x64x64, .f32⟩
  | .local _ .vmem, ⟨18, _⟩ => ⟨S8x128x128, .f32⟩
  | .local _ .vmem, ⟨19, _⟩ => ⟨S64x1536, .f32⟩
  | .local _ .vmem, ⟨20, _⟩ => ⟨S64x1536, .f32⟩
  | .local _ .vmem, ⟨21, _⟩ => ⟨S64x1536, .f32⟩
  | .local _ .vmem, ⟨22, _⟩ => ⟨S64x1536, .f32⟩
  | .local _ .vmem, ⟨23, _⟩ => ⟨S8x1x64x1, .f32⟩
  | .local _ .vmem, ⟨24, _⟩ => ⟨S8x1x64x1, .f32⟩
  | .local _ .vmem, ⟨25, _⟩ => ⟨S8x1x64x1, .f32⟩
  | .local _ .vmem, ⟨26, _⟩ => ⟨S8x1x64x1, .f32⟩
  | .local _ .vmem, ⟨27, _⟩ => ⟨S8x1x1x64, .f32⟩
  | .local _ .vmem, ⟨28, _⟩ => ⟨S8x1x1x64, .f32⟩
  | .local _ .vmem, ⟨29, _⟩ => ⟨S8x128x128, .f32⟩
  | .local _ .vmem, ⟨30, _⟩ => ⟨S8x128x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c63_i32_0 : BitVec 32 := 63#32
  let v1 : BitVec 32 := Scalar.subi c63_i32_0 v0
  let c0_i32 : BitVec 32 := 0#32
  let c0_i32_1 : BitVec 32 := 0#32
  ![v1.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c63_i32_0 : BitVec 32 := 63#32
  let v1 : BitVec 32 := Scalar.subi c63_i32_0 v0
  let c0_i32 : BitVec 32 := 0#32
  let c0_i32_1 : BitVec 32 := 0#32
  ![v1.toNat, c0_i32.toNat]

def cc0_transform_4 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_5 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_6 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_7 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_8 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c63_i32 : BitVec 32 := 63#32
  let v0 : BitVec 32 := Scalar.subi c63_i32 arg0
  let c63_i32_0 : BitVec 32 := 63#32
  let v1 : BitVec 32 := Scalar.subi c63_i32_0 v0
  let c0_i32 : BitVec 32 := 0#32
  let c0_i32_1 : BitVec 32 := 0#32
  ![v1.toNat, c0_i32.toNat]

def cc0_transform_12 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_13 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_14 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1x64x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1x64x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x1x1x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel2.lean ====
abbrev S4096x1024 : Shape := ⟨2, ![4096, 1024]⟩
abbrev S1x1024 : Shape := ⟨2, ![1, 1024]⟩
abbrev S4x704x1024 : Shape := ⟨3, ![4, 704, 1024]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩
abbrev S2816x1024 : Shape := ⟨2, ![2816, 1024]⟩

abbrev nBuf : Space → Nat
  | .hbm => 13
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4x704x1024, .bf16⟩
  | .hbm, ⟨7, _⟩ => ⟨S4096x2816, .bf16⟩
  | .hbm, ⟨8, _⟩ => ⟨S4096x1024, .f32⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S4x704x1024, .bf16⟩
  | .local _ .vmem, ⟨10, _⟩ => ⟨S512x2816, .bf16⟩
  | .local _ .vmem, ⟨11, _⟩ => ⟨S512x2816, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v77 : BitVec 1 := Scalar.cmpi .eq arg0 c0_i32
  let v78 : BitVec 32 := Scalar.extui v77
  let c0_i32_36 : BitVec 32 := 0#32
  let v79 : BitVec 1 := Scalar.cmpi .ne v78 c0_i32_36
  v79

def k0_cond2 (i : grid0.Coords) : BitVec 1 :=
  let arg0 : BitVec 32 := BitVec.ofNat 32 (i 0).val
  let c0_i32 : BitVec 32 := 0#32
  let v77 : BitVec 1 := Scalar.cmpi .eq arg0 c0_i32
  let v_true : BitVec 1 := 1#1
  let v80 : BitVec 1 := Scalar.xori v77 v_true
  let v81 : BitVec 32 := Scalar.extui v80
  let c0_i32_37 : BitVec 32 := 0#32
  let v82 : BitVec 1 := Scalar.cmpi .ne v81 c0_i32_37
  v82

def k0_cond3 (i : grid0.Coords) : BitVec 1 :=
  let arg0 : BitVec 32 := BitVec.ofNat 32 (i 0).val
  let c0_i32_38 : BitVec 32 := 0#32
  let v83 : BitVec 1 := Scalar.cmpi .eq arg0 c0_i32_38
  let v84 : BitVec 32 := Scalar.extui v83
  let c0_i32_39 : BitVec 32 := 0#32
  let v85 : BitVec 1 := Scalar.cmpi .ne v84 c0_i32_39
  v85

def k0_cond4 (i : grid0.Coords) : BitVec 1 :=
  let arg0 : BitVec 32 := BitVec.ofNat 32 (i 0).val
  let c0_i32_38 : BitVec 32 := 0#32
  let v83 : BitVec 1 := Scalar.cmpi .eq arg0 c0_i32_38
  let true_40 : BitVec 1 := 1#1
  let v86 : BitVec 1 := Scalar.xori v83 true_40
  let v87 : BitVec 32 := Scalar.extui v86
  let c0_i32_41 : BitVec 32 := 0#32
  let v88 : BitVec 1 := Scalar.cmpi .ne v87 c0_i32_41
  v88

def k0_cond5 (i : grid0.Coords) : BitVec 1 :=
  let arg0 : BitVec 32 := BitVec.ofNat 32 (i 0).val
  let c0_i32_42 : BitVec 32 := 0#32
  let v89 : BitVec 1 := Scalar.cmpi .eq arg0 c0_i32_42
  let v90 : BitVec 32 := Scalar.extui v89
  let c0_i32_43 : BitVec 32 := 0#32
  let v91 : BitVec 1 := Scalar.cmpi .ne v90 c0_i32_43
  v91

def k0_cond6 (i : grid0.Coords) : BitVec 1 :=
  let arg0 : BitVec 32 := BitVec.ofNat 32 (i 0).val
  let c0_i32_42 : BitVec 32 := 0#32
  let v89 : BitVec 1 := Scalar.cmpi .eq arg0 c0_i32_42
  let true_44 : BitVec 1 := 1#1
  let v92 : BitVec 1 := Scalar.xori v89 true_44
  let v93 : BitVec 32 := Scalar.extui v92
  let c0_i32_45 : BitVec 32 := 0#32
  let v94 : BitVec 1 := Scalar.cmpi .ne v93 c0_i32_45
  v94

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S4096x1024 : Shape := ⟨2, ![4096, 1024]⟩
abbrev S1x1024 : Shape := ⟨2, ![1, 1024]⟩
abbrev S4x704x1024 : Shape := ⟨3, ![4, 704, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S2816x1024 : Shape := ⟨2, ![2816, 1024]⟩
abbrev S4096x2816 : Shape := ⟨2, ![4096, 2816]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4x704x1024, .bf16⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S_, .f32⟩
  | .hbm, ⟨88, _⟩ => ⟨S4096x1024, .f32⟩
  | .hbm, ⟨89, _⟩ => ⟨S4096x1024, .f32⟩
  | .hbm, ⟨90, _⟩ => ⟨S2816x1024, .bf16⟩
  | .hbm, ⟨91, _⟩ => ⟨S2816x1024, .f32⟩
  | .hbm, ⟨92, _⟩ => ⟨S_, .f32⟩
  | .hbm, ⟨93, _⟩ => ⟨S4096x2816, .f32⟩
  | .hbm, ⟨94, _⟩ => ⟨S4096x1024, .f32⟩
  | .hbm, ⟨95, _⟩ => ⟨S4096x2816, .f32⟩
  | .hbm, ⟨96, _⟩ => ⟨S4096x2816, .bf16⟩
  | .hbm, ⟨97, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_v54 : Ref sig .tc := ⟨.hbm, 76, rfl⟩
abbrev main_cst_14 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_15 : Ref sig .tc := ⟨.hbm, 84, rfl⟩
abbrev main_v61 : Ref sig .tc := ⟨.hbm, 85, rfl⟩
abbrev main_v62 : Ref sig .tc := ⟨.hbm, 86, rfl⟩
abbrev main_cst_16 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_17 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Kernel3.lean ====
abbrev S4096x5632 : Shape := ⟨2, ![4096, 5632]⟩
abbrev S4096x1024 : Shape := ⟨2, ![4096, 1024]⟩
abbrev S1x1024 : Shape := ⟨2, ![1, 1024]⟩
abbrev S4x1024x1408 : Shape := ⟨3, ![4, 1024, 1408]⟩
abbrev S256x5632 : Shape := ⟨2, ![256, 5632]⟩
abbrev S256x1024 : Shape := ⟨2, ![256, 1024]⟩
abbrev S256x1408 : Shape := ⟨2, ![256, 1408]⟩
abbrev S1x1024x1408 : Shape := ⟨3, ![1, 1024, 1408]⟩
abbrev S1024x1408 : Shape := ⟨2, ![1024, 1408]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4x1024x1408, .bf16⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S4x1024x1408, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_18 : BitVec 32 := 0#32
  let v37 : BitVec 1 := Scalar.cmpi .ne v36 c0_i32_18
  v37

def k0_cond2 (i : grid0.Coords) : BitVec 1 :=
  let arg0 : BitVec 32 := BitVec.ofNat 32 (i 0).val
  let c0_i32 : BitVec 32 := 0#32
  let v35 : BitVec 1 := Scalar.cmpi .eq arg0 c0_i32
  let v_true : BitVec 1 := 1#1
  let v38 : BitVec 1 := Scalar.xori v35 v_true
  let v39 : BitVec 32 := Scalar.extui v38
  let c0_i32_19 : BitVec 32 := 0#32
  let v40 : BitVec 1 := Scalar.cmpi .ne v39 c0_i32_19
  v40

def k0_cond3 (i : grid0.Coords) : BitVec 1 :=
  let arg0 : BitVec 32 := BitVec.ofNat 32 (i 0).val
  let c0_i32_20 : BitVec 32 := 0#32
  let v41 : BitVec 1 := Scalar.cmpi .eq arg0 c0_i32_20
  let v42 : BitVec 32 := Scalar.extui v41
  let c0_i32_21 : BitVec 32 := 0#32
  let v43 : BitVec 1 := Scalar.cmpi .ne v42 c0_i32_21
  v43

def k0_cond4 (i : grid0.Coords) : BitVec 1 :=
  let arg0 : BitVec 32 := BitVec.ofNat 32 (i 0).val
  let c0_i32_20 : BitVec 32 := 0#32
  let v41 : BitVec 1 := Scalar.cmpi .eq arg0 c0_i32_20
  let true_22 : BitVec 1 := 1#1
  let v44 : BitVec 1 := Scalar.xori v41 true_22
  let v45 : BitVec 32 := Scalar.extui v44
  let c0_i32_23 : BitVec 32 := 0#32
  let v46 : BitVec 1 := Scalar.cmpi .ne v45 c0_i32_23
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S4096x5632 : Shape := ⟨2, ![4096, 5632]⟩
abbrev S4096x1024 : Shape := ⟨2, ![4096, 1024]⟩
abbrev S1x1024 : Shape := ⟨2, ![1, 1024]⟩
abbrev S4x1024x1408 : Shape := ⟨3, ![4, 1024, 1408]⟩
abbrev S_ : Shape := ⟨0, ![]⟩
abbrev S1024x4x1408 : Shape := ⟨3, ![1024, 4, 1408]⟩
abbrev S1024x5632 : Shape := ⟨2, ![1024, 5632]⟩
abbrev S1024 : Shape := ⟨1, ![1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4x1024x1408, .bf16⟩
  | .hbm, ⟨5, _⟩ => ⟨S4096x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1024x4x1408, .bf16⟩
  | .hbm, ⟨14, _⟩ => ⟨S1024x5632, .bf16⟩
  | .hbm, ⟨15, _⟩ => ⟨S1024x5632, .f32⟩
  | .hbm, ⟨16, _⟩ => ⟨S4096x5632, .f32⟩
  | .hbm, ⟨17, _⟩ => ⟨S4096x5632, .f32⟩
  | .hbm, ⟨18, _⟩ => ⟨S4096x1024, .f32⟩
  | .hbm, ⟨19, _⟩ => ⟨S_, .f32⟩
  | .hbm, ⟨20, _⟩ => ⟨S1024, .f32⟩
  | .hbm, ⟨21, _⟩ => ⟨S1x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel4.lean ====
abbrev S4096x1024 : Shape := ⟨2, ![4096, 1024]⟩
abbrev S4096x5632 : Shape := ⟨2, ![4096, 5632]⟩
abbrev S4x1024x1408 : Shape := ⟨3, ![4, 1024, 1408]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S4096x5632 : Shape := ⟨2, ![4096, 5632]⟩
abbrev S_ : Shape := ⟨0, ![]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S5632x1024 : Shape := ⟨2, ![5632, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S4x1024x1408, .f32⟩
  | .hbm, ⟨4, _⟩ => ⟨S4096x1024, .f32⟩
  | .hbm, ⟨5, _⟩ => ⟨S1024x4x1408, .f32⟩
  | .hbm, ⟨6, _⟩ => ⟨S1024x5632, .f32⟩
  | .hbm, ⟨7, _⟩ => ⟨S4096x5632, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | .hbm, ⟨13, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S4x1024x1408 : Shape := ⟨3, ![4, 1024, 1408]⟩
abbrev S4096x5632 : Shape := ⟨2, ![4096, 5632]⟩
abbrev S256x1024 : Shape := ⟨2, ![256, 1024]⟩
abbrev S256x5632 : Shape := ⟨2, ![256, 5632]⟩
abbrev S1x1024x1408 : Shape := ⟨3, ![1, 1024, 1408]⟩
abbrev S1024x1408 : Shape := ⟨2, ![1024, 1408]⟩
abbrev S256x1408 : Shape := ⟨2, ![256, 1408]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4x1024x1408, .bf16⟩
  | .hbm, ⟨4, _⟩ => ⟨S4096x5632, .f32⟩
  | .hbm, ⟨5, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S4x1024x1408, .bf16⟩
  | .local _ .vmem, ⟨5, _⟩ => ⟨S256x5632, .f32⟩
  | .local _ .vmem, ⟨6, _⟩ => ⟨S256x5632, .f32⟩
  | .local _ .vmem, ⟨7, _⟩ => ⟨S256x1024, .bf16⟩
  | .local _ .vmem, ⟨8, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S4096x1024 : Shape := ⟨2, ![4096, 1024]⟩
abbrev S1x1024 : Shape := ⟨2, ![1, 1024]⟩
abbrev S4x1024x1408 : Shape := ⟨3, ![4, 1024, 1408]⟩
abbrev S_ : Shape := ⟨0, ![]⟩
abbrev S1024x4x1408 : Shape := ⟨3, ![1024, 4, 1408]⟩
abbrev S1024x5632 : Shape := ⟨2, ![1024, 5632]⟩
abbrev S4096x5632 : Shape := ⟨2, ![4096, 5632]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4x1024x1408, .bf16⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1024x4x1408, .bf16⟩
  | .hbm, ⟨12, _⟩ => ⟨S1024x5632, .bf16⟩
  | .hbm, ⟨13, _⟩ => ⟨S1024x5632, .f32⟩
  | .hbm, ⟨14, _⟩ => ⟨S4096x5632, .f32⟩
  | .hbm, ⟨15, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel7.lean ====
abbrev S4096x2816 : Shape := ⟨2, ![4096, 2816]⟩
abbrev S4096x1024 : Shape := ⟨2, ![4096, 1024]⟩
abbrev S1x1024 : Shape := ⟨2, ![1, 1024]⟩
abbrev S4x704x1024 : Shape := ⟨3, ![4, 704, 1024]⟩
abbrev S512x2816 : Shape := ⟨2, ![512, 2816]⟩
abbrev S512x1024 : Shape := ⟨2, ![512, 1024]⟩
abbrev S2816x1024 : Shape := ⟨2, ![2816, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S4x704x1024, .bf16⟩
  | .hbm, ⟨6, _⟩ => ⟨S4096x1024, .f32⟩
  | .hbm, ⟨7, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S4x704x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S4096x2816 : Shape := ⟨2, ![4096, 2816]⟩
abbrev S4096x1024 : Shape := ⟨2, ![4096, 1024]⟩
abbrev S1x1024 : Shape := ⟨2, ![1, 1024]⟩
abbrev S4x704x1024 : Shape := ⟨3, ![4, 704, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S4x704x1024, .bf16⟩
  | .hbm, ⟨6, _⟩ => ⟨S4096x2816, .f32⟩
  | .hbm, ⟨7, _⟩ => ⟨S2816x1024, .bf16⟩
  | .hbm, ⟨8, _⟩ => ⟨S2816x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel9.lean ====
abbrev S4096x2816 : Shape := ⟨2, ![4096, 2816]⟩
abbrev S4096x1024 : Shape := ⟨2, ![4096, 1024]⟩
abbrev S1x1024 : Shape := ⟨2, ![1, 1024]⟩
abbrev S4x704x1024 : Shape := ⟨3, ![4, 704, 1024]⟩
abbrev S1x128 : Shape := ⟨2, ![1, 128]⟩
abbrev S512x2816 : Shape := ⟨2, ![512, 2816]⟩
abbrev S512x1024 : Shape := ⟨2, ![512, 1024]⟩
abbrev S2816x1024 : Shape := ⟨2, ![2816, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 10
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S4x704x1024, .bf16⟩
  | .hbm, ⟨6, _⟩ => ⟨S4096x1024, .f32⟩
  | .hbm, ⟨7, _⟩ => ⟨S1x128, .f32⟩
  | .hbm, ⟨8, _⟩ => ⟨S4096x1024, .f32⟩
  | .hbm, ⟨9, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S4x704x1024, .bf16⟩
  | .local _ .vmem, ⟨8, _⟩ => ⟨S512x1024, .f32⟩
  | .local _ .vmem, ⟨9, _⟩ => ⟨S512x1024, .f32⟩
  | .local _ .vmem, ⟨10, _⟩ => ⟨S1x128, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_25 : BitVec 32 := 0#32
  let v50 : BitVec 1 := Scalar.cmpi .ne v49 c0_i32_25
  v50

def k0_cond2 (i : grid0.Coords) : BitVec 1 :=
  let arg0 : BitVec 32 := BitVec.ofNat 32 (i 0).val
  let c0_i32 : BitVec 32 := 0#32
  let v48 : BitVec 1 := Scalar.cmpi .eq arg0 c0_i32
  let v_true : BitVec 1 := 1#1
  let v51 : BitVec 1 := Scalar.xori v48 v_true
  let v52 : BitVec 32 := Scalar.extui v51
  let c0_i32_26 : BitVec 32 := 0#32
  let v53 : BitVec 1 := Scalar.cmpi .ne v52 c0_i32_26
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S4096x2816 : Shape := ⟨2, ![4096, 2816]⟩
abbrev S4096x1024 : Shape := ⟨2, ![4096, 1024]⟩
abbrev S1x1024 : Shape := ⟨2, ![1, 1024]⟩
abbrev S4x704x1024 : Shape := ⟨3, ![4, 704, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 66
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S4x704x1024, .bf16⟩
  | .hbm, ⟨6, _⟩ => ⟨S4096x1024, .f32⟩
  | .hbm, ⟨7, _⟩ => ⟨S4096x2816, .f32⟩
  | .hbm, ⟨8, _⟩ => ⟨S2816x1024, .bf16⟩
  | .hbm, ⟨9, _⟩ => ⟨S2816x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1x128, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S4096x1024, .f32⟩
  | .hbm, ⟨65, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_cst_12 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Kernel10.lean ====
abbrev S4096x2560 : Shape := ⟨2, ![4096, 2560]⟩
abbrev S4096x1024 : Shape := ⟨2, ![4096, 1024]⟩
abbrev S1x1024 : Shape := ⟨2, ![1, 1024]⟩
abbrev S4x1024x640 : Shape := ⟨3, ![4, 1024, 640]⟩
abbrev S512x2560 : Shape := ⟨2, ![512, 2560]⟩
abbrev S512x1024 : Shape := ⟨2, ![512, 1024]⟩
abbrev S512x640 : Shape := ⟨2, ![512, 640]⟩
abbrev S1x1024x640 : Shape := ⟨3, ![1, 1024, 640]⟩
abbrev S1024x640 : Shape := ⟨2, ![1024, 640]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x2560, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4x1024x640, .bf16⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S4x1024x640, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_18 : BitVec 32 := 0#32
  let v37 : BitVec 1 := Scalar.cmpi .ne v36 c0_i32_18
  v37

def k0_cond2 (i : grid0.Coords) : BitVec 1 :=
  let arg0 : BitVec 32 := BitVec.ofNat 32 (i 0).val
  let c0_i32 : BitVec 32 := 0#32
  let v35 : BitVec 1 := Scalar.cmpi .eq arg0 c0_i32
  let v_true : BitVec 1 := 1#1
  let v38 : BitVec 1 := Scalar.xori v35 v_true
  let v39 : BitVec 32 := Scalar.extui v38
  let c0_i32_19 : BitVec 32 := 0#32
  let v40 : BitVec 1 := Scalar.cmpi .ne v39 c0_i32_19
  v40

def k0_cond3 (i : grid0.Coords) : BitVec 1 :=
  let arg0 : BitVec 32 := BitVec.ofNat 32 (i 0).val
  let c0_i32_20 : BitVec 32 := 0#32
  let v41 : BitVec 1 := Scalar.cmpi .eq arg0 c0_i32_20
  let v42 : BitVec 32 := Scalar.extui v41
  let c0_i32_21 : BitVec 32 := 0#32
  let v43 : BitVec 1 := Scalar.cmpi .ne v42 c0_i32_21
  v43

def k0_cond4 (i : grid0.Coords) : BitVec 1 :=
  let arg0 : BitVec 32 := BitVec.ofNat 32 (i 0).val
  let c0_i32_20 : BitVec 32 := 0#32
  let v41 : BitVec 1 := Scalar.cmpi .eq arg0 c0_i32_20
  let true_22 : BitVec 1 := 1#1
  let v44 : BitVec 1 := Scalar.xori v41 true_22
  let v45 : BitVec 32 := Scalar.extui v44
  let c0_i32_23 : BitVec 32 := 0#32
  let v46 : BitVec 1 := Scalar.cmpi .ne v45 c0_i32_23
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference10Ideal.lean ====
abbrev S4096x2560 : Shape := ⟨2, ![4096, 2560]⟩
abbrev S4096x1024 : Shape := ⟨2, ![4096, 1024]⟩
abbrev S1x1024 : Shape := ⟨2, ![1, 1024]⟩
abbrev S4x1024x640 : Shape := ⟨3, ![4, 1024, 640]⟩
abbrev S_ : Shape := ⟨0, ![]⟩
abbrev S1024x4x640 : Shape := ⟨3, ![1024, 4, 640]⟩
abbrev S1024x2560 : Shape := ⟨2, ![1024, 2560]⟩
abbrev S1024 : Shape := ⟨1, ![1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4x1024x640, .bf16⟩
  | .hbm, ⟨5, _⟩ => ⟨S4096x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1024x4x640, .bf16⟩
  | .hbm, ⟨14, _⟩ => ⟨S1024x2560, .bf16⟩
  | .hbm, ⟨15, _⟩ => ⟨S1024x2560, .f32⟩
  | .hbm, ⟨16, _⟩ => ⟨S4096x2560, .f32⟩
  | .hbm, ⟨17, _⟩ => ⟨S4096x2560, .f32⟩
  | .hbm, ⟨18, _⟩ => ⟨S4096x1024, .f32⟩
  | .hbm, ⟨19, _⟩ => ⟨S_, .f32⟩
  | .hbm, ⟨20, _⟩ => ⟨S1024, .f32⟩
  | .hbm, ⟨21, _⟩ => ⟨S1x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel11.lean ====
abbrev S4096x1024 : Shape := ⟨2, ![4096, 1024]⟩
abbrev S4096x2560 : Shape := ⟨2, ![4096, 2560]⟩
abbrev S4x1024x640 : Shape := ⟨3, ![4, 1024, 640]⟩
abbrev S4096x640 : Shape := ⟨2, ![4096, 640]⟩
abbrev S1x1024x640 : Shape := ⟨3, ![1, 1024, 640]⟩
abbrev S1024x640 : Shape := ⟨2, ![1024, 640]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S4x1024x640, .bf16⟩
  | .local _ .vmem, ⟨0, _⟩ => ⟨S4096x1024, .bf16⟩
  | .local _ .vmem, ⟨1, _⟩ => ⟨S4096x640, .bf16⟩
  | .local _ .vmem, ⟨2, _⟩ => ⟨S4096x640, .bf16⟩
  | .local _ .vmem, ⟨3, _⟩ => ⟨S1x1024x640, .bf16⟩
  | .local _ .vmem, ⟨4, _⟩ => ⟨S1x1024x640, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4096x1024 : Shape := ⟨2, ![4096, 1024]⟩
abbrev S4096x2560 : Shape := ⟨2, ![4096, 2560]⟩
abbrev S_ : Shape := ⟨0, ![]⟩
abbrev S4x1024x640 : Shape := ⟨3, ![4, 1024, 640]⟩
abbrev S1024x4x640 : Shape := ⟨3, ![1024, 4, 640]⟩
abbrev S1024x2560 : Shape := ⟨2, ![1024, 2560]⟩
abbrev S2560x1024 : Shape := ⟨2, ![2560, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S_, .f32⟩
  | .hbm, ⟨3, _⟩ => ⟨S4x1024x640, .f32⟩
  | .hbm, ⟨4, _⟩ => ⟨S4096x1024, .f32⟩
  | .hbm, ⟨5, _⟩ => ⟨S1024x4x640, .f32⟩
  | .hbm, ⟨6, _⟩ => ⟨S1024x2560, .f32⟩
  | .hbm, ⟨7, _⟩ => ⟨S4096x2560, .f32⟩
  | .hbm, ⟨8, _⟩ => ⟨S4096x2560, .f32⟩
  | .hbm, ⟨9, _⟩ => ⟨S2560x1024, .f32⟩
  | .hbm, ⟨10, _⟩ => ⟨S1024x2560, .f32⟩
  | .hbm, ⟨11, _⟩ => ⟨S1024x4x640, .f32⟩
  | .hbm, ⟨12, _⟩ => ⟨S4x1024x640, .f32⟩
  | .hbm, ⟨13, _⟩ => ⟨S4x1024x640, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel12.lean ====
abbrev S4096x1024 : Shape := ⟨2, ![4096, 1024]⟩
abbrev S1x1024 : Shape := ⟨2, ![1, 1024]⟩
abbrev S4x1024x640 : Shape := ⟨3, ![4, 1024, 640]⟩
abbrev S4096x2560 : Shape := ⟨2, ![4096, 2560]⟩
abbrev S512x1024 : Shape := ⟨2, ![512, 1024]⟩
abbrev S512x2560 : Shape := ⟨2, ![512, 2560]⟩
abbrev S1x1024x640 : Shape := ⟨3, ![1, 1024, 640]⟩
abbrev S1024x640 : Shape := ⟨2, ![1024, 640]⟩
abbrev S512x640 : Shape := ⟨2, ![512, 640]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4x1024x640, .bf16⟩
  | .hbm, ⟨4, _⟩ => ⟨S4096x2560, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S4x1024x640, .bf16⟩
  | .local _ .vmem, ⟨5, _⟩ => ⟨S512x2560, .f32⟩
  | .local _ .vmem, ⟨6, _⟩ => ⟨S512x2560, .f32⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S4096x1024 : Shape := ⟨2, ![4096, 1024]⟩
abbrev S1x1024 : Shape := ⟨2, ![1, 1024]⟩
abbrev S4x1024x640 : Shape := ⟨3, ![4, 1024, 640]⟩
abbrev S_ : Shape := ⟨0, ![]⟩
abbrev S1024x4x640 : Shape := ⟨3, ![1024, 4, 640]⟩
abbrev S1024x2560 : Shape := ⟨2, ![1024, 2560]⟩
abbrev S4096x2560 : Shape := ⟨2, ![4096, 2560]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4x1024x640, .bf16⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1024x4x640, .bf16⟩
  | .hbm, ⟨12, _⟩ => ⟨S1024x2560, .bf16⟩
  | .hbm, ⟨13, _⟩ => ⟨S1024x2560, .f32⟩
  | .hbm, ⟨14, _⟩ => ⟨S4096x2560, .f32⟩
  | .hbm, ⟨15, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel13.lean ====
abbrev S4096x2688 : Shape := ⟨2, ![4096, 2688]⟩
abbrev S4096x1024 : Shape := ⟨2, ![4096, 1024]⟩
abbrev S1x1024 : Shape := ⟨2, ![1, 1024]⟩
abbrev S1024x2688 : Shape := ⟨2, ![1024, 2688]⟩
abbrev S512x2688 : Shape := ⟨2, ![512, 2688]⟩
abbrev S512x1024 : Shape := ⟨2, ![512, 1024]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x2688, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x2688, .bf16⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .local _ .vmem, ⟨0, _⟩ => ⟨S512x2688, .bf16⟩
  | .local _ .vmem, ⟨1, _⟩ => ⟨S512x2688, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x2688, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | _, _ => ⟨S4096x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_14 : BitVec 32 := 0#32
  let v19 : BitVec 1 := Scalar.cmpi .ne v18 c0_i32_14
  v19

def k0_cond2 (i : grid0.Coords) : BitVec 1 :=
  let arg0 : BitVec 32 := BitVec.ofNat 32 (i 0).val
  let c0_i32 : BitVec 32 := 0#32
  let v17 : BitVec 1 := Scalar.cmpi .eq arg0 c0_i32
  let v_true : BitVec 1 := 1#1
  let v20 : BitVec 1 := Scalar.xori v17 v_true
  let v21 : BitVec 32 := Scalar.extui v20
  let c0_i32_15 : BitVec 32 := 0#32
  let v22 : BitVec 1 := Scalar.cmpi .ne v21 c0_i32_15
  v22

def k0_cond3 (i : grid0.Coords) : BitVec 1 :=
  let arg0 : BitVec 32 := BitVec.ofNat 32 (i 0).val
  let c0_i32_16 : BitVec 32 := 0#32
  let v23 : BitVec 1 := Scalar.cmpi .eq arg0 c0_i32_16
  let v24 : BitVec 32 := Scalar.extui v23
  let c0_i32_17 : BitVec 32 := 0#32
  let v25 : BitVec 1 := Scalar.cmpi .ne v24 c0_i32_17
  v25

def k0_cond4 (i : grid0.Coords) : BitVec 1 :=
  let arg0 : BitVec 32 := BitVec.ofNat 32 (i 0).val
  let c0_i32_16 : BitVec 32 := 0#32
  let v23 : BitVec 1 := Scalar.cmpi .eq arg0 c0_i32_16
  let true_18 : BitVec 1 := 1#1
  let v26 : BitVec 1 := Scalar.xori v23 true_18
  let v27 : BitVec 32 := Scalar.extui v26
  let c0_i32_19 : BitVec 32 := 0#32
  let v28 : BitVec 1 := Scalar.cmpi .ne v27 c0_i32_19
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2688 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference13Ideal.lean ====
abbrev S4096x2688 : Shape := ⟨2, ![4096, 2688]⟩
abbrev S4096x1024 : Shape := ⟨2, ![4096, 1024]⟩
abbrev S1x1024 : Shape := ⟨2, ![1, 1024]⟩
abbrev S1024x2688 : Shape := ⟨2, ![1024, 2688]⟩
abbrev S_ : Shape := ⟨0, ![]⟩
abbrev S1024 : Shape := ⟨1, ![1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x2688, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x2688, .bf16⟩
  | .hbm, ⟨5, _⟩ => ⟨S4096x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1024x2688, .f32⟩
  | .hbm, ⟨14, _⟩ => ⟨S4096x2688, .f32⟩
  | .hbm, ⟨15, _⟩ => ⟨S4096x2688, .f32⟩
  | .hbm, ⟨16, _⟩ => ⟨S4096x1024, .f32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S4096x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | _, _ => ⟨S4096x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel14.lean ====
abbrev S4096x1024 : Shape := ⟨2, ![4096, 1024]⟩
abbrev S1x1024 : Shape := ⟨2, ![1, 1024]⟩
abbrev S1024x2688 : Shape := ⟨2, ![1024, 2688]⟩
abbrev S4096x2688 : Shape := ⟨2, ![4096, 2688]⟩
abbrev S512x1024 : Shape := ⟨2, ![512, 1024]⟩
abbrev S512x2688 : Shape := ⟨2, ![512, 2688]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x2688, .bf16⟩
  | .hbm, ⟨4, _⟩ => ⟨S4096x2688, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2688, .bf16⟩
  | .local _ .vmem, ⟨5, _⟩ => ⟨S512x2688, .f32⟩
  | .local _ .vmem, ⟨6, _⟩ => ⟨S512x2688, .f32⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference14Ideal.lean ====
abbrev S4096x1024 : Shape := ⟨2, ![4096, 1024]⟩
abbrev S1x1024 : Shape := ⟨2, ![1, 1024]⟩
abbrev S1024x2688 : Shape := ⟨2, ![1024, 2688]⟩
abbrev S_ : Shape := ⟨0, ![]⟩
abbrev S4096x2688 : Shape := ⟨2, ![4096, 2688]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x2688, .bf16⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1024x2688, .f32⟩
  | .hbm, ⟨12, _⟩ => ⟨S4096x2688, .f32⟩
  | .hbm, ⟨13, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel15.lean ====
abbrev S4096x1024 : Shape := ⟨2, ![4096, 1024]⟩
abbrev S4096x2688 : Shape := ⟨2, ![4096, 2688]⟩
abbrev S256x1024 : Shape := ⟨2, ![256, 1024]⟩
abbrev S256x2688 : Shape := ⟨2, ![256, 2688]⟩
abbrev S1024x2688 : Shape := ⟨2, ![1024, 2688]⟩
abbrev S4096x384 : Shape := ⟨2, ![4096, 384]⟩
abbrev S256x384 : Shape := ⟨2, ![256, 384]⟩
abbrev S1024x384 : Shape := ⟨2, ![1024, 384]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x2688, .bf16⟩
  | .hbm, ⟨2, _⟩ => ⟨S256x1024, .bf16⟩
  | .hbm, ⟨3, _⟩ => ⟨S256x2688, .bf16⟩
  | .hbm, ⟨4, _⟩ => ⟨S1024x2688, .bf16⟩
  | .local _ .vmem, ⟨0, _⟩ => ⟨S4096x1024, .bf16⟩
  | .local _ .vmem, ⟨1, _⟩ => ⟨S4096x384, .bf16⟩
  | .local _ .vmem, ⟨2, _⟩ => ⟨S4096x384, .bf16⟩
  | .local _ .vmem, ⟨3, _⟩ => ⟨S256x1024, .bf16⟩
  | .local _ .vmem, ⟨4, _⟩ => ⟨S256x384, .bf16⟩
  | .local _ .vmem, ⟨5, _⟩ => ⟨S256x384, .bf16⟩
  | .local _ .vmem, ⟨6, _⟩ => ⟨S1024x384, .bf16⟩
  | .local _ .vmem, ⟨7, _⟩ => ⟨S1024x384, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference15Ideal.lean ====
abbrev S4096x1024 : Shape := ⟨2, ![4096, 1024]⟩
abbrev S4096x2688 : Shape := ⟨2, ![4096, 2688]⟩
abbrev S256x1024 : Shape := ⟨2, ![256, 1024]⟩
abbrev S256x2688 : Shape := ⟨2, ![256, 2688]⟩
abbrev S_ : Shape := ⟨0, ![]⟩
abbrev S1024x2688 : Shape := ⟨2, ![1024, 2688]⟩
abbrev S2688x1024 : Shape := ⟨2, ![2688, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2688, .bf16⟩
  | .hbm, ⟨2, _⟩ => ⟨S256x1024, .bf16⟩
  | .hbm, ⟨3, _⟩ => ⟨S256x2688, .bf16⟩
  | .hbm, ⟨4, _⟩ => ⟨S4096x2688, .f32⟩
  | .hbm, ⟨5, _⟩ => ⟨S256x2688, .f32⟩
  | .hbm, ⟨6, _⟩ => ⟨S_, .f32⟩
  | .hbm, ⟨7, _⟩ => ⟨S1024x2688, .f32⟩
  | .hbm, ⟨8, _⟩ => ⟨S4096x1024, .f32⟩
  | .hbm, ⟨9, _⟩ => ⟨S4096x2688, .f32⟩
  | .hbm, ⟨10, _⟩ => ⟨S256x1024, .f32⟩
  | .hbm, ⟨11, _⟩ => ⟨S256x2688, .f32⟩
  | .hbm, ⟨12, _⟩ => ⟨S2688x1024, .f32⟩
  | .hbm, ⟨13, _⟩ => ⟨S1024x2688, .f32⟩
  | .hbm, ⟨14, _⟩ => ⟨S2688x1024, .f32⟩
  | .hbm, ⟨15, _⟩ => ⟨S1024x2688, .f32⟩
  | .hbm, ⟨16, _⟩ => ⟨S1024x2688, .f32⟩
  | .hbm, ⟨17, _⟩ => ⟨S1024x2688, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel16.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel21.lean ====
abbrev S1024x644 : Shape := ⟨2, ![1024, 644]⟩
abbrev S512x644 : Shape := ⟨2, ![512, 644]⟩

abbrev nBuf : Space → Nat
  | .hbm => 7
  | .vmem => 14
  | .smem => 0
  | _ => 0

abbrev bufTy : (tb : Table) → Fin (tcTables nBuf tb) → BufTy
  | .hbm, ⟨0, _⟩ => ⟨S1024x644, .f32⟩
  | .hbm, ⟨1, _⟩ => ⟨S1024x644, .f32⟩
  | .hbm, ⟨2, _⟩ => ⟨S1024x644, .f32⟩
  | .hbm, ⟨3, _⟩ => ⟨S1024x644, .f32⟩
  | .hbm, ⟨4, _⟩ => ⟨S1024x644, .f32⟩
  | .hbm, ⟨5, _⟩ => ⟨S1024x644, .f32⟩
  | .hbm, ⟨6, _⟩ => ⟨S1024x644, .f32⟩
  | .local _ .vmem, ⟨0, _⟩ => ⟨S512x644, .f32⟩
  | .local _ .vmem, ⟨1, _⟩ => ⟨S512x644, .f32⟩
  | .local _ .vmem, ⟨2, _⟩ => ⟨S512x644, .f32⟩
  | .local _ .vmem, ⟨3, _⟩ => ⟨S512x644, .f32⟩
  | .local _ .vmem, ⟨4, _⟩ => ⟨S512x644, .f32⟩
  | .local _ .vmem, ⟨5, _⟩ => ⟨S512x644, .f32⟩
  | .local _ .vmem, ⟨6, _⟩ => ⟨S512x644, .f32⟩
  | .local _ .vmem, ⟨7, _⟩ => ⟨S512x644, .f32⟩
  | .local _ .vmem, ⟨8, _⟩ => ⟨S512x644, .f32⟩
  | .local _ .vmem, ⟨9, _⟩ => ⟨S512x644, .f32⟩
  | .local _ .vmem, ⟨10, _⟩ => ⟨S512x644, .f32⟩
  | .local _ .vmem, ⟨11, _⟩ => ⟨S512x644, .f32⟩
  | .local _ .vmem, ⟨12, _⟩ => ⟨S512x644, .f32⟩
  | .local _ .vmem, ⟨13, _⟩ => ⟨S512x644, .f32⟩
  | _, _ => ⟨S1024x644, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x644 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x644 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x644 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x644 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x644 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x644 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x644 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S1024x644 : Shape := ⟨2, ![1024, 644]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x644, .f32⟩
  | .hbm, ⟨1, _⟩ => ⟨S1024x644, .f32⟩
  | .hbm, ⟨2, _⟩ => ⟨S1024x644, .f32⟩
  | .hbm, ⟨3, _⟩ => ⟨S1024x644, .f32⟩
  | .hbm, ⟨4, _⟩ => ⟨S_, .f32⟩
  | .hbm, ⟨5, _⟩ => ⟨S1024x644, .f32⟩
  | .hbm, ⟨6, _⟩ => ⟨S1024x644, .f32⟩
  | .hbm, ⟨7, _⟩ => ⟨S_, .f32⟩
  | .hbm, ⟨8, _⟩ => ⟨S1024x644, .f32⟩
  | .hbm, ⟨9, _⟩ => ⟨S1024x644, .f32⟩
  | .hbm, ⟨10, _⟩ => ⟨S1024x644, .f32⟩
  | .hbm, ⟨11, _⟩ => ⟨S_, .f32⟩
  | .hbm, ⟨12, _⟩ => ⟨S1024x644, .f32⟩
  | .hbm, ⟨13, _⟩ => ⟨S1024x644, .f32⟩
  | .hbm, ⟨14, _⟩ => ⟨S1024x644, .f32⟩
  | .hbm, ⟨15, _⟩ => ⟨S_, .f32⟩
  | .hbm, ⟨16, _⟩ => ⟨S1024x644, .f32⟩
  | .hbm, ⟨17, _⟩ => ⟨S1024x644, .f32⟩
  | .hbm, ⟨18, _⟩ => ⟨S1024x644, .f32⟩
  | .hbm, ⟨19, _⟩ => ⟨S_, .f32⟩
  | .hbm, ⟨20, _⟩ => ⟨S1024x644, .f32⟩
  | .hbm, ⟨21, _⟩ => ⟨S1024x644, .f32⟩
  | .hbm, ⟨22, _⟩ => ⟨S_, .f32⟩
  | .hbm, ⟨23, _⟩ => ⟨S1024x644, .f32⟩
  | .hbm, ⟨24, _⟩ => ⟨S1024x644, .f32⟩
  | .hbm, ⟨25, _⟩ => ⟨S1024x644, .f32⟩
  | .hbm, ⟨26, _⟩ => ⟨S_, .f32⟩
  | .hbm, ⟨27, _⟩ => ⟨S1024x644, .f32⟩
  | .hbm, ⟨28, _⟩ => ⟨S1024x644, .f32⟩
  | .hbm, ⟨29, _⟩ => ⟨S1024x644, .f32⟩
  | .hbm, ⟨30, _⟩ => ⟨S_, .f32⟩
  | .hbm, ⟨31, _⟩ => ⟨S1024x644, .f32⟩
  | .hbm, ⟨32, _⟩ => ⟨S1024x644, .f32⟩
  | .hbm, ⟨33, _⟩ => ⟨S1024x644, .f32⟩
  | .hbm, ⟨34, _⟩ => ⟨S_, .f32⟩
  | .hbm, ⟨35, _⟩ => ⟨S1024x644, .f32⟩
  | .hbm, ⟨36, _⟩ => ⟨S1024x644, .f32⟩
  | _, _ => ⟨S1024x644, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S1024x640 : Shape := ⟨2, ![1024, 640]⟩
abbrev S512x640 : Shape := ⟨2, ![512, 640]⟩

abbrev nBuf : Space → Nat
  | .hbm => 7
  | .vmem => 14
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .local _ .vmem, ⟨0, _⟩ => ⟨S512x640, .f32⟩
  | .local _ .vmem, ⟨1, _⟩ => ⟨S512x640, .f32⟩
  | .local _ .vmem, ⟨2, _⟩ => ⟨S512x640, .f32⟩
  | .local _ .vmem, ⟨3, _⟩ => ⟨S512x640, .f32⟩
  | .local _ .vmem, ⟨4, _⟩ => ⟨S512x640, .f32⟩
  | .local _ .vmem, ⟨5, _⟩ => ⟨S512x640, .f32⟩
  | .local _ .vmem, ⟨6, _⟩ => ⟨S512x640, .f32⟩
  | .local _ .vmem, ⟨7, _⟩ => ⟨S512x640, .f32⟩
  | .local _ .vmem, ⟨8, _⟩ => ⟨S512x640, .f32⟩
  | .local _ .vmem, ⟨9, _⟩ => ⟨S512x640, .f32⟩
  | .local _ .vmem, ⟨10, _⟩ => ⟨S512x640, .f32⟩
  | .local _ .vmem, ⟨11, _⟩ => ⟨S512x640, .f32⟩
  | .local _ .vmem, ⟨12, _⟩ => ⟨S512x640, .f32⟩
  | .local _ .vmem, ⟨13, _⟩ => ⟨S512x640, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S1024x640 : Shape := ⟨2, ![1024, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S_, .f32⟩
  | .hbm, ⟨5, _⟩ => ⟨S1024x640, .f32⟩
  | .hbm, ⟨6, _⟩ => ⟨S1024x640, .f32⟩
  | .hbm, ⟨7, _⟩ => ⟨S_, .f32⟩
  | .hbm, ⟨8, _⟩ => ⟨S1024x640, .f32⟩
  | .hbm, ⟨9, _⟩ => ⟨S1024x640, .f32⟩
  | .hbm, ⟨10, _⟩ => ⟨S1024x640, .f32⟩
  | .hbm, ⟨11, _⟩ => ⟨S_, .f32⟩
  | .hbm, ⟨12, _⟩ => ⟨S1024x640, .f32⟩
  | .hbm, ⟨13, _⟩ => ⟨S1024x640, .f32⟩
  | .hbm, ⟨14, _⟩ => ⟨S1024x640, .f32⟩
  | .hbm, ⟨15, _⟩ => ⟨S_, .f32⟩
  | .hbm, ⟨16, _⟩ => ⟨S1024x640, .f32⟩
  | .hbm, ⟨17, _⟩ => ⟨S1024x640, .f32⟩
  | .hbm, ⟨18, _⟩ => ⟨S1024x640, .f32⟩
  | .hbm, ⟨19, _⟩ => ⟨S_, .f32⟩
  | .hbm, ⟨20, _⟩ => ⟨S1024x640, .f32⟩
  | .hbm, ⟨21, _⟩ => ⟨S1024x640, .f32⟩
  | .hbm, ⟨22, _⟩ => ⟨S_, .f32⟩
  | .hbm, ⟨23, _⟩ => ⟨S1024x640, .f32⟩
  | .hbm, ⟨24, _⟩ => ⟨S1024x640, .f32⟩
  | .hbm, ⟨25, _⟩ => ⟨S1024x640, .f32⟩
  | .hbm, ⟨26, _⟩ => ⟨S_, .f32⟩
  | .hbm, ⟨27, _⟩ => ⟨S1024x640, .f32⟩
  | .hbm, ⟨28, _⟩ => ⟨S1024x640, .f32⟩
  | .hbm, ⟨29, _⟩ => ⟨S1024x640, .f32⟩
  | .hbm, ⟨30, _⟩ => ⟨S_, .f32⟩
  | .hbm, ⟨31, _⟩ => ⟨S1024x640, .f32⟩
  | .hbm, ⟨32, _⟩ => ⟨S1024x640, .f32⟩
  | .hbm, ⟨33, _⟩ => ⟨S1024x640, .f32⟩
  | .hbm, ⟨34, _⟩ => ⟨S_, .f32⟩
  | .hbm, ⟨35, _⟩ => ⟨S1024x640, .f32⟩
  | .hbm, ⟨36, _⟩ => ⟨S1024x640, .f32⟩
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S2048x1408 : Shape := ⟨2, ![2048, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S1408x1024 : Shape := ⟨2, ![1408, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S2048x1536 : Shape := ⟨2, ![2048, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference27Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S2x6144 : Shape := ⟨2, ![2, 6144]⟩

abbrev nBuf : Space → Nat
  | .hbm => 7
  | .vmem => 7
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S2x6144 : Shape := ⟨2, ![2, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S_, .f32⟩
  | .hbm, ⟨5, _⟩ => ⟨S2x6144, .f32⟩
  | .hbm, ⟨6, _⟩ => ⟨S2x6144, .f32⟩
  | .hbm, ⟨7, _⟩ => ⟨S_, .f32⟩
  | .hbm, ⟨8, _⟩ => ⟨S2x6144, .f32⟩
  | .hbm, ⟨9, _⟩ => ⟨S2x6144, .f32⟩
  | .hbm, ⟨10, _⟩ => ⟨S2x6144, .f32⟩
  | .hbm, ⟨11, _⟩ => ⟨S_, .f32⟩
  | .hbm, ⟨12, _⟩ => ⟨S2x6144, .f32⟩
  | .hbm, ⟨13, _⟩ => ⟨S2x6144, .f32⟩
  | .hbm, ⟨14, _⟩ => ⟨S2x6144, .f32⟩
  | .hbm, ⟨15, _⟩ => ⟨S_, .f32⟩
  | .hbm, ⟨16, _⟩ => ⟨S2x6144, .f32⟩
  | .hbm, ⟨17, _⟩ => ⟨S2x6144, .f32⟩
  | .hbm, ⟨18, _⟩ => ⟨S2x6144, .f32⟩
  | .hbm, ⟨19, _⟩ => ⟨S_, .f32⟩
  | .hbm, ⟨20, _⟩ => ⟨S2x6144, .f32⟩
  | .hbm, ⟨21, _⟩ => ⟨S2x6144, .f32⟩
  | .hbm, ⟨22, _⟩ => ⟨S_, .f32⟩
  | .hbm, ⟨23, _⟩ => ⟨S2x6144, .f32⟩
  | .hbm, ⟨24, _⟩ => ⟨S2x6144, .f32⟩
  | .hbm, ⟨25, _⟩ => ⟨S2x6144, .f32⟩
  | .hbm, ⟨26, _⟩ => ⟨S_, .f32⟩
  | .hbm, ⟨27, _⟩ => ⟨S2x6144, .f32⟩
  | .hbm, ⟨28, _⟩ => ⟨S2x6144, .f32⟩
  | .hbm, ⟨29, _⟩ => ⟨S2x6144, .f32⟩
  | .hbm, ⟨30, _⟩ => ⟨S_, .f32⟩
  | .hbm, ⟨31, _⟩ => ⟨S2x6144, .f32⟩
  | .hbm, ⟨32, _⟩ => ⟨S2x6144, .f32⟩
  | .hbm, ⟨33, _⟩ => ⟨S2x6144, .f32⟩
  | .hbm, ⟨34, _⟩ => ⟨S_, .f32⟩
  | .hbm, ⟨35, _⟩ => ⟨S2x6144, .f32⟩
  | .hbm, ⟨36, _⟩ => ⟨S2x6144, .f32⟩
  | _, _ => ⟨S2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S2x2x256 : Shape := ⟨3, ![2, 2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x2x256, .f32⟩
  | .hbm, ⟨1, _⟩ => ⟨S2x2x256, .f32⟩
  | .hbm, ⟨2, _⟩ => ⟨S2x2x256, .f32⟩
  | .hbm, ⟨3, _⟩ => ⟨S2x2x256, .f32⟩
  | .hbm, ⟨4, _⟩ => ⟨S2x2x256, .f32⟩
  | .hbm, ⟨5, _⟩ => ⟨S2x2x256, .f32⟩
  | .hbm, ⟨6, _⟩ => ⟨S2x2x256, .f32⟩
  | .local _ .vmem, ⟨0, _⟩ => ⟨S2x2x256, .f32⟩
  | .local _ .vmem, ⟨1, _⟩ => ⟨S2x2x256, .f32⟩
  | .local _ .vmem, ⟨2, _⟩ => ⟨S2x2x256, .f32⟩
  | .local _ .vmem, ⟨3, _⟩ => ⟨S2x2x256, .f32⟩
  | .local _ .vmem, ⟨4, _⟩ => ⟨S2x2x256, .f32⟩
  | .local _ .vmem, ⟨5, _⟩ => ⟨S2x2x256, .f32⟩
  | .local _ .vmem, ⟨6, _⟩ => ⟨S2x2x256, .f32⟩
  | _, _ => ⟨S2x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference29Ideal.lean ====
abbrev S2x2x256 : Shape := ⟨3, ![2, 2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2x256, .f32⟩
  | .hbm, ⟨1, _⟩ => ⟨S2x2x256, .f32⟩
  | .hbm, ⟨2, _⟩ => ⟨S2x2x256, .f32⟩
  | .hbm, ⟨3, _⟩ => ⟨S2x2x256, .f32⟩
  | .hbm, ⟨4, _⟩ => ⟨S_, .f32⟩
  | .hbm, ⟨5, _⟩ => ⟨S2x2x256, .f32⟩
  | .hbm, ⟨6, _⟩ => ⟨S2x2x256, .f32⟩
  | .hbm, ⟨7, _⟩ => ⟨S_, .f32⟩
  | .hbm, ⟨8, _⟩ => ⟨S2x2x256, .f32⟩
  | .hbm, ⟨9, _⟩ => ⟨S2x2x256, .f32⟩
  | .hbm, ⟨10, _⟩ => ⟨S2x2x256, .f32⟩
  | .hbm, ⟨11, _⟩ => ⟨S_, .f32⟩
  | .hbm, ⟨12, _⟩ => ⟨S2x2x256, .f32⟩
  | .hbm, ⟨13, _⟩ => ⟨S2x2x256, .f32⟩
  | .hbm, ⟨14, _⟩ => ⟨S2x2x256, .f32⟩
  | .hbm, ⟨15, _⟩ => ⟨S_, .f32⟩
  | .hbm, ⟨16, _⟩ => ⟨S2x2x256, .f32⟩
  | .hbm, ⟨17, _⟩ => ⟨S2x2x256, .f32⟩
  | .hbm, ⟨18, _⟩ => ⟨S2x2x256, .f32⟩
  | .hbm, ⟨19, _⟩ => ⟨S_, .f32⟩
  | .hbm, ⟨20, _⟩ => ⟨S2x2x256, .f32⟩
  | .hbm, ⟨21, _⟩ => ⟨S2x2x256, .f32⟩
  | .hbm, ⟨22, _⟩ => ⟨S_, .f32⟩
  | .hbm, ⟨23, _⟩ => ⟨S2x2x256, .f32⟩
  | .hbm, ⟨24, _⟩ => ⟨S2x2x256, .f32⟩
  | .hbm, ⟨25, _⟩ => ⟨S2x2x256, .f32⟩
  | .hbm, ⟨26, _⟩ => ⟨S_, .f32⟩
  | .hbm, ⟨27, _⟩ => ⟨S2x2x256, .f32⟩
  | .hbm, ⟨28, _⟩ => ⟨S2x2x256, .f32⟩
  | .hbm, ⟨29, _⟩ => ⟨S2x2x256, .f32⟩
  | .hbm, ⟨30, _⟩ => ⟨S_, .f32⟩
  | .hbm, ⟨31, _⟩ => ⟨S2x2x256, .f32⟩
  | .hbm, ⟨32, _⟩ => ⟨S2x2x256, .f32⟩
  | .hbm, ⟨33, _⟩ => ⟨S2x2x256, .f32⟩
  | .hbm, ⟨34, _⟩ => ⟨S_, .f32⟩
  | .hbm, ⟨35, _⟩ => ⟨S2x2x256, .f32⟩
  | .hbm, ⟨36, _⟩ => ⟨S2x2x256, .f32⟩
  | _, _ => ⟨S2x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S5x384 : Shape := ⟨2, ![5, 384]⟩

abbrev nBuf : Space → Nat
  | .hbm => 7
  | .vmem => 7
  | .smem => 0
  | _ => 0

abbrev bufTy : (tb : Table) → Fin (tcTables nBuf tb) → BufTy
  | .hbm, ⟨0, _⟩ => ⟨S5x384, .f32⟩
  | .hbm, ⟨1, _⟩ => ⟨S5x384, .f32⟩
  | .hbm, ⟨2, _⟩ => ⟨S5x384, .f32⟩
  | .hbm, ⟨3, _⟩ => ⟨S5x384, .f32⟩
  | .hbm, ⟨4, _⟩ => ⟨S5x384, .f32⟩
  | .hbm, ⟨5, _⟩ => ⟨S5x384, .f32⟩
  | .hbm, ⟨6, _⟩ => ⟨S5x384, .f32⟩
  | .local _ .vmem, ⟨0, _⟩ => ⟨S5x384, .f32⟩
  | .local _ .vmem, ⟨1, _⟩ => ⟨S5x384, .f32⟩
  | .local _ .vmem, ⟨2, _⟩ => ⟨S5x384, .f32⟩
  | .local _ .vmem, ⟨3, _⟩ => ⟨S5x384, .f32⟩
  | .local _ .vmem, ⟨4, _⟩ => ⟨S5x384, .f32⟩
  | .local _ .vmem, ⟨5, _⟩ => ⟨S5x384, .f32⟩
  | .local _ .vmem, ⟨6, _⟩ => ⟨S5x384, .f32⟩
  | _, _ => ⟨S5x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S5x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S5x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S5x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S5x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S5x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S5x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S5x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference30Ideal.lean ====
abbrev S5x384 : Shape := ⟨2, ![5, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S5x384, .f32⟩
  | .hbm, ⟨1, _⟩ => ⟨S5x384, .f32⟩
  | .hbm, ⟨2, _⟩ => ⟨S5x384, .f32⟩
  | .hbm, ⟨3, _⟩ => ⟨S5x384, .f32⟩
  | .hbm, ⟨4, _⟩ => ⟨S_, .f32⟩
  | .hbm, ⟨5, _⟩ => ⟨S5x384, .f32⟩
  | .hbm, ⟨6, _⟩ => ⟨S5x384, .f32⟩
  | .hbm, ⟨7, _⟩ => ⟨S_, .f32⟩
  | .hbm, ⟨8, _⟩ => ⟨S5x384, .f32⟩
  | .hbm, ⟨9, _⟩ => ⟨S5x384, .f32⟩
  | .hbm, ⟨10, _⟩ => ⟨S5x384, .f32⟩
  | .hbm, ⟨11, _⟩ => ⟨S_, .f32⟩
  | .hbm, ⟨12, _⟩ => ⟨S5x384, .f32⟩
  | .hbm, ⟨13, _⟩ => ⟨S5x384, .f32⟩
  | .hbm, ⟨14, _⟩ => ⟨S5x384, .f32⟩
  | .hbm, ⟨15, _⟩ => ⟨S_, .f32⟩
  | .hbm, ⟨16, _⟩ => ⟨S5x384, .f32⟩
  | .hbm, ⟨17, _⟩ => ⟨S5x384, .f32⟩
  | .hbm, ⟨18, _⟩ => ⟨S5x384, .f32⟩
  | .hbm, ⟨19, _⟩ => ⟨S_, .f32⟩
  | .hbm, ⟨20, _⟩ => ⟨S5x384, .f32⟩
  | .hbm, ⟨21, _⟩ => ⟨S5x384, .f32⟩
  | .hbm, ⟨22, _⟩ => ⟨S_, .f32⟩
  | .hbm, ⟨23, _⟩ => ⟨S5x384, .f32⟩
  | .hbm, ⟨24, _⟩ => ⟨S5x384, .f32⟩
  | .hbm, ⟨25, _⟩ => ⟨S5x384, .f32⟩
  | .hbm, ⟨26, _⟩ => ⟨S_, .f32⟩
  | .hbm, ⟨27, _⟩ => ⟨S5x384, .f32⟩
  | .hbm, ⟨28, _⟩ => ⟨S5x384, .f32⟩
  | .hbm, ⟨29, _⟩ => ⟨S5x384, .f32⟩
  | .hbm, ⟨30, _⟩ => ⟨S_, .f32⟩
  | .hbm, ⟨31, _⟩ => ⟨S5x384, .f32⟩
  | .hbm, ⟨32, _⟩ => ⟨S5x384, .f32⟩
  | .hbm, ⟨33, _⟩ => ⟨S5x384, .f32⟩
  | .hbm, ⟨34, _⟩ => ⟨S_, .f32⟩
  | .hbm, ⟨35, _⟩ => ⟨S5x384, .f32⟩
  | .hbm, ⟨36, _⟩ => ⟨S5x384, .f32⟩
  | _, _ => ⟨S5x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S2x4 : Shape := ⟨2, ![2, 4]⟩

abbrev nBuf : Space → Nat
  | .hbm => 7
  | .vmem => 7
  | .smem => 0
  | _ => 0

abbrev bufTy : (tb : Table) → Fin (tcTables nBuf tb) → BufTy
  | .hbm, ⟨0, _⟩ => ⟨S2x4, .f32⟩
  | .hbm, ⟨1, _⟩ => ⟨S2x4, .f32⟩
  | .hbm, ⟨2, _⟩ => ⟨S2x4, .f32⟩
  | .hbm, ⟨3, _⟩ => ⟨S2x4, .f32⟩
  | .hbm, ⟨4, _⟩ => ⟨S2x4, .f32⟩
  | .hbm, ⟨5, _⟩ => ⟨S2x4, .f32⟩
  | .hbm, ⟨6, _⟩ => ⟨S2x4, .f32⟩
  | .local _ .vmem, ⟨0, _⟩ => ⟨S2x4, .f32⟩
  | .local _ .vmem, ⟨1, _⟩ => ⟨S2x4, .f32⟩
  | .local _ .vmem, ⟨2, _⟩ => ⟨S2x4, .f32⟩
  | .local _ .vmem, ⟨3, _⟩ => ⟨S2x4, .f32⟩
  | .local _ .vmem, ⟨4, _⟩ => ⟨S2x4, .f32⟩
  | .local _ .vmem, ⟨5, _⟩ => ⟨S2x4, .f32⟩
  | .local _ .vmem, ⟨6, _⟩ => ⟨S2x4, .f32⟩
  | _, _ => ⟨S2x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference31Ideal.lean ====
abbrev S2x4 : Shape := ⟨2, ![2, 4]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x4, .f32⟩
  | .hbm, ⟨1, _⟩ => ⟨S2x4, .f32⟩
  | .hbm, ⟨2, _⟩ => ⟨S2x4, .f32⟩
  | .hbm, ⟨3, _⟩ => ⟨S2x4, .f32⟩
  | .hbm, ⟨4, _⟩ => ⟨S_, .f32⟩
  | .hbm, ⟨5, _⟩ => ⟨S2x4, .f32⟩
  | .hbm, ⟨6, _⟩ => ⟨S2x4, .f32⟩
  | .hbm, ⟨7, _⟩ => ⟨S_, .f32⟩
  | .hbm, ⟨8, _⟩ => ⟨S2x4, .f32⟩
  | .hbm, ⟨9, _⟩ => ⟨S2x4, .f32⟩
  | .hbm, ⟨10, _⟩ => ⟨S2x4, .f32⟩
  | .hbm, ⟨11, _⟩ => ⟨S_, .f32⟩
  | .hbm, ⟨12, _⟩ => ⟨S2x4, .f32⟩
  | .hbm, ⟨13, _⟩ => ⟨S2x4, .f32⟩
  | .hbm, ⟨14, _⟩ => ⟨S2x4, .f32⟩
  | .hbm, ⟨15, _⟩ => ⟨S_, .f32⟩
  | .hbm, ⟨16, _⟩ => ⟨S2x4, .f32⟩
  | .hbm, ⟨17, _⟩ => ⟨S2x4, .f32⟩
  | .hbm, ⟨18, _⟩ => ⟨S2x4, .f32⟩
  | .hbm, ⟨19, _⟩ => ⟨S_, .f32⟩
  | .hbm, ⟨20, _⟩ => ⟨S2x4, .f32⟩
  | .hbm, ⟨21, _⟩ => ⟨S2x4, .f32⟩
  | .hbm, ⟨22, _⟩ => ⟨S_, .f32⟩
  | .hbm, ⟨23, _⟩ => ⟨S2x4, .f32⟩
  | .hbm, ⟨24, _⟩ => ⟨S2x4, .f32⟩
  | .hbm, ⟨25, _⟩ => ⟨S2x4, .f32⟩
  | .hbm, ⟨26, _⟩ => ⟨S_, .f32⟩
  | .hbm, ⟨27, _⟩ => ⟨S2x4, .f32⟩
  | .hbm, ⟨28, _⟩ => ⟨S2x4, .f32⟩
  | .hbm, ⟨29, _⟩ => ⟨S2x4, .f32⟩
  | .hbm, ⟨30, _⟩ => ⟨S_, .f32⟩
  | .hbm, ⟨31, _⟩ => ⟨S2x4, .f32⟩
  | .hbm, ⟨32, _⟩ => ⟨S2x4, .f32⟩
  | .hbm, ⟨33, _⟩ => ⟨S2x4, .f32⟩
  | .hbm, ⟨34, _⟩ => ⟨S_, .f32⟩
  | .hbm, ⟨35, _⟩ => ⟨S2x4, .f32⟩
  | .hbm, ⟨36, _⟩ => ⟨S2x4, .f32⟩
  | _, _ => ⟨S2x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference32Ideal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S4x128x128 : Shape := ⟨3, ![4, 128, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128x128, .f32⟩
  | .hbm, ⟨1, _⟩ => ⟨S4x128x128, .f32⟩
  | .hbm, ⟨2, _⟩ => ⟨S4x128x128, .f32⟩
  | .hbm, ⟨3, _⟩ => ⟨S4x128x128, .f32⟩
  | .hbm, ⟨4, _⟩ => ⟨S4x128x128, .f32⟩
  | .hbm, ⟨5, _⟩ => ⟨S4x128x128, .f32⟩
  | .hbm, ⟨6, _⟩ => ⟨S4x128x128, .f32⟩
  | .local _ .vmem, ⟨0, _⟩ => ⟨S4x128x128, .f32⟩
  | .local _ .vmem, ⟨1, _⟩ => ⟨S4x128x128, .f32⟩
  | .local _ .vmem, ⟨2, _⟩ => ⟨S4x128x128, .f32⟩
  | .local _ .vmem, ⟨3, _⟩ => ⟨S4x128x128, .f32⟩
  | .local _ .vmem, ⟨4, _⟩ => ⟨S4x128x128, .f32⟩
  | .local _ .vmem, ⟨5, _⟩ => ⟨S4x128x128, .f32⟩
  | .local _ .vmem, ⟨6, _⟩ => ⟨S4x128x128, .f32⟩
  | _, _ => ⟨S4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference33Ideal.lean ====
abbrev S4x128x128 : Shape := ⟨3, ![4, 128, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128x128, .f32⟩
  | .hbm, ⟨1, _⟩ => ⟨S4x128x128, .f32⟩
  | .hbm, ⟨2, _⟩ => ⟨S4x128x128, .f32⟩
  | .hbm, ⟨3, _⟩ => ⟨S4x128x128, .f32⟩
  | .hbm, ⟨4, _⟩ => ⟨S_, .f32⟩
  | .hbm, ⟨5, _⟩ => ⟨S4x128x128, .f32⟩
  | .hbm, ⟨6, _⟩ => ⟨S4x128x128, .f32⟩
  | .hbm, ⟨7, _⟩ => ⟨S_, .f32⟩
  | .hbm, ⟨8, _⟩ => ⟨S4x128x128, .f32⟩
  | .hbm, ⟨9, _⟩ => ⟨S4x128x128, .f32⟩
  | .hbm, ⟨10, _⟩ => ⟨S4x128x128, .f32⟩
  | .hbm, ⟨11, _⟩ => ⟨S_, .f32⟩
  | .hbm, ⟨12, _⟩ => ⟨S4x128x128, .f32⟩
  | .hbm, ⟨13, _⟩ => ⟨S4x128x128, .f32⟩
  | .hbm, ⟨14, _⟩ => ⟨S4x128x128, .f32⟩
  | .hbm, ⟨15, _⟩ => ⟨S_, .f32⟩
  | .hbm, ⟨16, _⟩ => ⟨S4x128x128, .f32⟩
  | .hbm, ⟨17, _⟩ => ⟨S4x128x128, .f32⟩
  | .hbm, ⟨18, _⟩ => ⟨S4x128x128, .f32⟩
  | .hbm, ⟨19, _⟩ => ⟨S_, .f32⟩
  | .hbm, ⟨20, _⟩ => ⟨S4x128x128, .f32⟩
  | .hbm, ⟨21, _⟩ => ⟨S4x128x128, .f32⟩
  | .hbm, ⟨22, _⟩ => ⟨S_, .f32⟩
  | .hbm, ⟨23, _⟩ => ⟨S4x128x128, .f32⟩
  | .hbm, ⟨24, _⟩ => ⟨S4x128x128, .f32⟩
  | .hbm, ⟨25, _⟩ => ⟨S4x128x128, .f32⟩
  | .hbm, ⟨26, _⟩ => ⟨S_, .f32⟩
  | .hbm, ⟨27, _⟩ => ⟨S4x128x128, .f32⟩
  | .hbm, ⟨28, _⟩ => ⟨S4x128x128, .f32⟩
  | .hbm, ⟨29, _⟩ => ⟨S4x128x128, .f32⟩
  | .hbm, ⟨30, _⟩ => ⟨S_, .f32⟩
  | .hbm, ⟨31, _⟩ => ⟨S4x128x128, .f32⟩
  | .hbm, ⟨32, _⟩ => ⟨S4x128x128, .f32⟩
  | .hbm, ⟨33, _⟩ => ⟨S4x128x128, .f32⟩
  | .hbm, ⟨34, _⟩ => ⟨S_, .f32⟩
  | .hbm, ⟨35, _⟩ => ⟨S4x128x128, .f32⟩
  | .hbm, ⟨36, _⟩ => ⟨S4x128x128, .f32⟩
  | _, _ => ⟨S4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference34Ideal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S3x128 : Shape := ⟨2, ![3, 128]⟩

abbrev nBuf : Space → Nat
  | .hbm => 7
  | .vmem => 7
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | _, _ => ⟨S3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference35Ideal.lean ====
abbrev S3x128 : Shape := ⟨2, ![3, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S_, .f32⟩
  | .hbm, ⟨5, _⟩ => ⟨S3x128, .f32⟩
  | .hbm, ⟨6, _⟩ => ⟨S3x128, .f32⟩
  | .hbm, ⟨7, _⟩ => ⟨S_, .f32⟩
  | .hbm, ⟨8, _⟩ => ⟨S3x128, .f32⟩
  | .hbm, ⟨9, _⟩ => ⟨S3x128, .f32⟩
  | .hbm, ⟨10, _⟩ => ⟨S3x128, .f32⟩
  | .hbm, ⟨11, _⟩ => ⟨S_, .f32⟩
  | .hbm, ⟨12, _⟩ => ⟨S3x128, .f32⟩
  | .hbm, ⟨13, _⟩ => ⟨S3x128, .f32⟩
  | .hbm, ⟨14, _⟩ => ⟨S3x128, .f32⟩
  | .hbm, ⟨15, _⟩ => ⟨S_, .f32⟩
  | .hbm, ⟨16, _⟩ => ⟨S3x128, .f32⟩
  | .hbm, ⟨17, _⟩ => ⟨S3x128, .f32⟩
  | .hbm, ⟨18, _⟩ => ⟨S3x128, .f32⟩
  | .hbm, ⟨19, _⟩ => ⟨S_, .f32⟩
  | .hbm, ⟨20, _⟩ => ⟨S3x128, .f32⟩
  | .hbm, ⟨21, _⟩ => ⟨S3x128, .f32⟩
  | .hbm, ⟨22, _⟩ => ⟨S_, .f32⟩
  | .hbm, ⟨23, _⟩ => ⟨S3x128, .f32⟩
  | .hbm, ⟨24, _⟩ => ⟨S3x128, .f32⟩
  | .hbm, ⟨25, _⟩ => ⟨S3x128, .f32⟩
  | .hbm, ⟨26, _⟩ => ⟨S_, .f32⟩
  | .hbm, ⟨27, _⟩ => ⟨S3x128, .f32⟩
  | .hbm, ⟨28, _⟩ => ⟨S3x128, .f32⟩
  | .hbm, ⟨29, _⟩ => ⟨S3x128, .f32⟩
  | .hbm, ⟨30, _⟩ => ⟨S_, .f32⟩
  | .hbm, ⟨31, _⟩ => ⟨S3x128, .f32⟩
  | .hbm, ⟨32, _⟩ => ⟨S3x128, .f32⟩
  | .hbm, ⟨33, _⟩ => ⟨S3x128, .f32⟩
  | .hbm, ⟨34, _⟩ => ⟨S_, .f32⟩
  | .hbm, ⟨35, _⟩ => ⟨S3x128, .f32⟩
  | .hbm, ⟨36, _⟩ => ⟨S3x128, .f32⟩
  | _, _ => ⟨S3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S31x128 : Shape := ⟨2, ![31, 128]⟩

abbrev nBuf : Space → Nat
  | .hbm => 7
  | .vmem => 7
  | .smem => 0
  | _ => 0

abbrev bufTy : (tb : Table) → Fin (tcTables nBuf tb) → BufTy
  | .hbm, ⟨0, _⟩ => ⟨S31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S31x128, .f32⟩
  | .hbm, ⟨5, _⟩ => ⟨S31x128, .f32⟩
  | .hbm, ⟨6, _⟩ => ⟨S31x128, .f32⟩
  | .local _ .vmem, ⟨0, _⟩ => ⟨S31x128, .f32⟩
  | .local _ .vmem, ⟨1, _⟩ => ⟨S31x128, .f32⟩
  | .local _ .vmem, ⟨2, _⟩ => ⟨S31x128, .f32⟩
  | .local _ .vmem, ⟨3, _⟩ => ⟨S31x128, .f32⟩
  | .local _ .vmem, ⟨4, _⟩ => ⟨S31x128, .f32⟩
  | .local _ .vmem, ⟨5, _⟩ => ⟨S31x128, .f32⟩
  | .local _ .vmem, ⟨6, _⟩ => ⟨S31x128, .f32⟩
  | _, _ => ⟨S31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference36Ideal.lean ====
abbrev S31x128 : Shape := ⟨2, ![31, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S_, .f32⟩
  | .hbm, ⟨5, _⟩ => ⟨S31x128, .f32⟩
  | .hbm, ⟨6, _⟩ => ⟨S31x128, .f32⟩
  | .hbm, ⟨7, _⟩ => ⟨S_, .f32⟩
  | .hbm, ⟨8, _⟩ => ⟨S31x128, .f32⟩
  | .hbm, ⟨9, _⟩ => ⟨S31x128, .f32⟩
  | .hbm, ⟨10, _⟩ => ⟨S31x128, .f32⟩
  | .hbm, ⟨11, _⟩ => ⟨S_, .f32⟩
  | .hbm, ⟨12, _⟩ => ⟨S31x128, .f32⟩
  | .hbm, ⟨13, _⟩ => ⟨S31x128, .f32⟩
  | .hbm, ⟨14, _⟩ => ⟨S31x128, .f32⟩
  | .hbm, ⟨15, _⟩ => ⟨S_, .f32⟩
  | .hbm, ⟨16, _⟩ => ⟨S31x128, .f32⟩
  | .hbm, ⟨17, _⟩ => ⟨S31x128, .f32⟩
  | .hbm, ⟨18, _⟩ => ⟨S31x128, .f32⟩
  | .hbm, ⟨19, _⟩ => ⟨S_, .f32⟩
  | .hbm, ⟨20, _⟩ => ⟨S31x128, .f32⟩
  | .hbm, ⟨21, _⟩ => ⟨S31x128, .f32⟩
  | .hbm, ⟨22, _⟩ => ⟨S_, .f32⟩
  | .hbm, ⟨23, _⟩ => ⟨S31x128, .f32⟩
  | .hbm, ⟨24, _⟩ => ⟨S31x128, .f32⟩
  | .hbm, ⟨25, _⟩ => ⟨S31x128, .f32⟩
  | .hbm, ⟨26, _⟩ => ⟨S_, .f32⟩
  | .hbm, ⟨27, _⟩ => ⟨S31x128, .f32⟩
  | .hbm, ⟨28, _⟩ => ⟨S31x128, .f32⟩
  | .hbm, ⟨29, _⟩ => ⟨S31x128, .f32⟩
  | .hbm, ⟨30, _⟩ => ⟨S_, .f32⟩
  | .hbm, ⟨31, _⟩ => ⟨S31x128, .f32⟩
  | .hbm, ⟨32, _⟩ => ⟨S31x128, .f32⟩
  | .hbm, ⟨33, _⟩ => ⟨S31x128, .f32⟩
  | .hbm, ⟨34, _⟩ => ⟨S_, .f32⟩
  | .hbm, ⟨35, _⟩ => ⟨S31x128, .f32⟩
  | .hbm, ⟨36, _⟩ => ⟨S31x128, .f32⟩
  | _, _ => ⟨S31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel37.lean ====
abbrev S2x3x3x704 : Shape := ⟨4, ![2, 3, 3, 704]⟩

abbrev nBuf : Space → Nat
  | .hbm => 7
  | .vmem => 7
  | .smem => 0
  | _ => 0

abbrev bufTy : (tb : Table) → Fin (tcTables nBuf tb) → BufTy
  | .hbm, ⟨0, _⟩ => ⟨S2x3x3x704, .f32⟩
  | .hbm, ⟨1, _⟩ => ⟨S2x3x3x704, .f32⟩
  | .hbm, ⟨2, _⟩ => ⟨S2x3x3x704, .f32⟩
  | .hbm, ⟨3, _⟩ => ⟨S2x3x3x704, .f32⟩
  | .hbm, ⟨4, _⟩ => ⟨S2x3x3x704, .f32⟩
  | .hbm, ⟨5, _⟩ => ⟨S2x3x3x704, .f32⟩
  | .hbm, ⟨6, _⟩ => ⟨S2x3x3x704, .f32⟩
  | .local _ .vmem, ⟨0, _⟩ => ⟨S2x3x3x704, .f32⟩
  | .local _ .vmem, ⟨1, _⟩ => ⟨S2x3x3x704, .f32⟩
  | .local _ .vmem, ⟨2, _⟩ => ⟨S2x3x3x704, .f32⟩
  | .local _ .vmem, ⟨3, _⟩ => ⟨S2x3x3x704, .f32⟩
  | .local _ .vmem, ⟨4, _⟩ => ⟨S2x3x3x704, .f32⟩
  | .local _ .vmem, ⟨5, _⟩ => ⟨S2x3x3x704, .f32⟩
  | .local _ .vmem, ⟨6, _⟩ => ⟨S2x3x3x704, .f32⟩
  | _, _ => ⟨S2x3x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S2x3x3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x3x3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x3x3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x3x3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x3x3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x3x3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x3x3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference37Ideal.lean ====
abbrev S2x3x3x704 : Shape := ⟨4, ![2, 3, 3, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x3x3x704, .f32⟩
  | .hbm, ⟨1, _⟩ => ⟨S2x3x3x704, .f32⟩
  | .hbm, ⟨2, _⟩ => ⟨S2x3x3x704, .f32⟩
  | .hbm, ⟨3, _⟩ => ⟨S2x3x3x704, .f32⟩
  | .hbm, ⟨4, _⟩ => ⟨S_, .f32⟩
  | .hbm, ⟨5, _⟩ => ⟨S2x3x3x704, .f32⟩
  | .hbm, ⟨6, _⟩ => ⟨S2x3x3x704, .f32⟩
  | .hbm, ⟨7, _⟩ => ⟨S_, .f32⟩
  | .hbm, ⟨8, _⟩ => ⟨S2x3x3x704, .f32⟩
  | .hbm, ⟨9, _⟩ => ⟨S2x3x3x704, .f32⟩
  | .hbm, ⟨10, _⟩ => ⟨S2x3x3x704, .f32⟩
  | .hbm, ⟨11, _⟩ => ⟨S_, .f32⟩
  | .hbm, ⟨12, _⟩ => ⟨S2x3x3x704, .f32⟩
  | .hbm, ⟨13, _⟩ => ⟨S2x3x3x704, .f32⟩
  | .hbm, ⟨14, _⟩ => ⟨S2x3x3x704, .f32⟩
  | .hbm, ⟨15, _⟩ => ⟨S_, .f32⟩
  | .hbm, ⟨16, _⟩ => ⟨S2x3x3x704, .f32⟩
  | .hbm, ⟨17, _⟩ => ⟨S2x3x3x704, .f32⟩
  | .hbm, ⟨18, _⟩ => ⟨S2x3x3x704, .f32⟩
  | .hbm, ⟨19, _⟩ => ⟨S_, .f32⟩
  | .hbm, ⟨20, _⟩ => ⟨S2x3x3x704, .f32⟩
  | .hbm, ⟨21, _⟩ => ⟨S2x3x3x704, .f32⟩
  | .hbm, ⟨22, _⟩ => ⟨S_, .f32⟩
  | .hbm, ⟨23, _⟩ => ⟨S2x3x3x704, .f32⟩
  | .hbm, ⟨24, _⟩ => ⟨S2x3x3x704, .f32⟩
  | .hbm, ⟨25, _⟩ => ⟨S2x3x3x704, .f32⟩
  | .hbm, ⟨26, _⟩ => ⟨S_, .f32⟩
  | .hbm, ⟨27, _⟩ => ⟨S2x3x3x704, .f32⟩
  | .hbm, ⟨28, _⟩ => ⟨S2x3x3x704, .f32⟩
  | .hbm, ⟨29, _⟩ => ⟨S2x3x3x704, .f32⟩
  | .hbm, ⟨30, _⟩ => ⟨S_, .f32⟩
  | .hbm, ⟨31, _⟩ => ⟨S2x3x3x704, .f32⟩
  | .hbm, ⟨32, _⟩ => ⟨S2x3x3x704, .f32⟩
  | .hbm, ⟨33, _⟩ => ⟨S2x3x3x704, .f32⟩
  | .hbm, ⟨34, _⟩ => ⟨S_, .f32⟩
  | .hbm, ⟨35, _⟩ => ⟨S2x3x3x704, .f32⟩
  | .hbm, ⟨36, _⟩ => ⟨S2x3x3x704, .f32⟩
  | _, _ => ⟨S2x3x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel40.lean ====
abbrev S16x1024 : Shape := ⟨2, ![16, 1024]⟩
abbrev S2x16x1536 : Shape := ⟨3, ![2, 16, 1536]⟩
abbrev S2x1024x1536 : Shape := ⟨3, ![2, 1024, 1536]⟩
abbrev S2x16x1024 : Shape := ⟨3, ![2, 16, 1024]⟩
abbrev S1x16x1536 : Shape := ⟨3, ![1, 16, 1536]⟩
abbrev S1x1024x1536 : Shape := ⟨3, ![1, 1024, 1536]⟩
abbrev S1x16x1024 : Shape := ⟨3, ![1, 16, 1024]⟩
abbrev S16x1536 : Shape := ⟨2, ![16, 1536]⟩
abbrev S1024x1536 : Shape := ⟨2, ![1024, 1536]⟩

abbrev nBuf : Space → Nat
  | .hbm => 5
  | .vmem => 9
  | .smem => 0
  | _ => 0

abbrev bufTy : (tb : Table) → Fin (tcTables nBuf tb) → BufTy
  | .hbm, ⟨0, _⟩ => ⟨S16x1024, .f32⟩
  | .hbm, ⟨1, _⟩ => ⟨S2x16x1536, .f32⟩
  | .hbm, ⟨2, _⟩ => ⟨S2x1024x1536, .f32⟩
  | .hbm, ⟨3, _⟩ => ⟨S2x1024x1536, .f32⟩
  | .hbm, ⟨4, _⟩ => ⟨S2x16x1024, .f32⟩
  | .local _ .vmem, ⟨0, _⟩ => ⟨S16x1024, .f32⟩
  | .local _ .vmem, ⟨1, _⟩ => ⟨S1x16x1536, .f32⟩
  | .local _ .vmem, ⟨2, _⟩ => ⟨S1x16x1536, .f32⟩
  | .local _ .vmem, ⟨3, _⟩ => ⟨S1x1024x1536, .f32⟩
  | .local _ .vmem, ⟨4, _⟩ => ⟨S1x1024x1536, .f32⟩
  | .local _ .vmem, ⟨5, _⟩ => ⟨S1x1024x1536, .f32⟩
  | .local _ .vmem, ⟨6, _⟩ => ⟨S1x1024x1536, .f32⟩
  | .local _ .vmem, ⟨7, _⟩ => ⟨S1x16x1024, .f32⟩
  | .local _ .vmem, ⟨8, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference40Ideal.lean ====
abbrev S16x1024 : Shape := ⟨2, ![16, 1024]⟩
abbrev S2x16x1536 : Shape := ⟨3, ![2, 16, 1536]⟩
abbrev S2x1024x1536 : Shape := ⟨3, ![2, 1024, 1536]⟩
abbrev S_ : Shape := ⟨0, ![]⟩
abbrev S1x1024x1536 : Shape := ⟨3, ![1, 1024, 1536]⟩
abbrev S1024x1536 : Shape := ⟨2, ![1024, 1536]⟩
abbrev S16x1536 : Shape := ⟨2, ![16, 1536]⟩
abbrev S1x16x1536 : Shape := ⟨3, ![1, 16, 1536]⟩
abbrev S1536x1024 : Shape := ⟨2, ![1536, 1024]⟩
abbrev S1x16x1024 : Shape := ⟨3, ![1, 16, 1024]⟩
abbrev S2x16x1024 : Shape := ⟨3, ![2, 16, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x16x1536, .f32⟩
  | .hbm, ⟨2, _⟩ => ⟨S2x1024x1536, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x1536, .f32⟩
  | .hbm, ⟨13, _⟩ => ⟨S1024x1536, .f32⟩
  | .hbm, ⟨14, _⟩ => ⟨S16x1536, .f32⟩
  | .hbm, ⟨15, _⟩ => ⟨S1x16x1536, .f32⟩
  | .hbm, ⟨16, _⟩ => ⟨S16x1536, .f32⟩
  | .hbm, ⟨17, _⟩ => ⟨S1536x1024, .f32⟩
  | .hbm, ⟨18, _⟩ => ⟨S1024x1536, .f32⟩
  | .hbm, ⟨19, _⟩ => ⟨S16x1024, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S1x1024x1536, .f32⟩
  | .hbm, ⟨30, _⟩ => ⟨S1024x1536, .f32⟩
  | .hbm, ⟨31, _⟩ => ⟨S16x1536, .f32⟩
  | .hbm, ⟨32, _⟩ => ⟨S1x16x1536, .f32⟩
  | .hbm, ⟨33, _⟩ => ⟨S16x1536, .f32⟩
  | .hbm, ⟨34, _⟩ => ⟨S1536x1024, .f32⟩
  | .hbm, ⟨35, _⟩ => ⟨S1024x1536, .f32⟩
  | .hbm, ⟨36, _⟩ => ⟨S16x1024, .f32⟩
  | .hbm, ⟨37, _⟩ => ⟨S1x1024x1536, .f32⟩
  | .hbm, ⟨38, _⟩ => ⟨S1x1024x1536, .f32⟩
  | .hbm, ⟨39, _⟩ => ⟨S2x1024x1536, .f32⟩
  | .hbm, ⟨40, _⟩ => ⟨S1x16x1024, .f32⟩
  | .hbm, ⟨41, _⟩ => ⟨S1x16x1024, .f32⟩
  | .hbm, ⟨42, _⟩ => ⟨S2x16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Kernel41.lean ====
abbrev S4x1x1024 : Shape := ⟨3, ![4, 1, 1024]⟩
abbrev S1x1024 : Shape := ⟨2, ![1, 1024]⟩
abbrev S1x1x1024 : Shape := ⟨3, ![1, 1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4x1x1024, .f32⟩
  | .hbm, ⟨1, _⟩ => ⟨S1x1024, .f32⟩
  | .hbm, ⟨2, _⟩ => ⟨S1x1024, .f32⟩
  | .local _ .vmem, ⟨0, _⟩ => ⟨S4x1x1024, .f32⟩
  | .local _ .vmem, ⟨1, _⟩ => ⟨S1x1024, .f32⟩
  | .local _ .vmem, ⟨2, _⟩ => ⟨S1x1024, .f32⟩
  | _, _ => ⟨S4x1x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference41Ideal.lean ====
abbrev S4x1x1024 : Shape := ⟨3, ![4, 1, 1024]⟩
abbrev S1x1024 : Shape := ⟨2, ![1, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | _, _ => ⟨S4x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_cst : Ref sig .tc := ⟨.hbm, 15, rfl⟩
abbrev main_v1 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v2 : Ref sig .tc := ⟨.hbm, 20, rfl⟩

abbrev nD : Nat := 1
abbrev τ : Topo := Topo.v7x

variable {F : FTy → Type} [FloatOps F]
-- ==== Kernel42.lean ====
abbrev S1x4x512x640 : Shape := ⟨4, ![1, 4, 512, 640]⟩
abbrev S1x512x640 : Shape := ⟨3, ![1, 512, 640]⟩
abbrev S1x4x256x640 : Shape := ⟨4, ![1, 4, 256, 640]⟩
abbrev S1x256x640 : Shape := ⟨3, ![1, 256, 640]⟩
abbrev S4x256x640 : Shape := ⟨3, ![4, 256, 640]⟩
abbrev S256x640 : Shape := ⟨2, ![256, 640]⟩

abbrev nBuf : Space → Nat
  | .hbm => 2
  | .vmem => 4
  | .smem => 0
  | _ => 0

abbrev bufTy : (tb : Table) → Fin (tcTables nBuf tb) → BufTy
  | .hbm, ⟨0, _⟩ => ⟨S1x4x512x640, .bf16⟩
  | .hbm, ⟨1, _⟩ => ⟨S1x512x640, .f32⟩
  | .local _ .vmem, ⟨0, _⟩ => ⟨S1x4x256x640, .bf16⟩
  | .local _ .vmem, ⟨1, _⟩ => ⟨S1x4x256x640, .bf16⟩
  | .local _ .vmem, ⟨2, _⟩ => ⟨S1x256x640, .f32⟩
  | .local _ .vmem, ⟨3, _⟩ => ⟨S1x256x640, .f32⟩
  | _, _ => ⟨S1x4x512x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference42Ideal.lean ====
abbrev S1x4x512x640 : Shape := ⟨4, ![1, 4, 512, 640]⟩
abbrev S_ : Shape := ⟨0, ![]⟩
abbrev S1x512x640 : Shape := ⟨3, ![1, 512, 640]⟩

abbrev nBuf : Space → Nat
  | .hbm => 4
  | .vmem => 0
  | .smem => 0
  | _ => 0

abbrev bufTy : (tb : Table) → Fin (tcTables nBuf tb) → BufTy
  | .hbm, ⟨0, _⟩ => ⟨S1x4x512x640, .bf16⟩
  | .hbm, ⟨1, _⟩ => ⟨S1x4x512x640, .f32⟩
  | .hbm, ⟨2, _⟩ => ⟨S_, .f32⟩
  | .hbm, ⟨3, _⟩ => ⟨S1x512x640, .f32⟩
  | _, _ => ⟨S1x4x512x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel43.lean ====
abbrev S1x4x128x1024 : Shape := ⟨4, ![1, 4, 128, 1024]⟩
abbrev S1x128x1024 : Shape := ⟨3, ![1, 128, 1024]⟩
abbrev S4x128x1024 : Shape := ⟨3, ![4, 128, 1024]⟩
abbrev S128x1024 : Shape := ⟨2, ![128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S1x4x128x1024, .bf16⟩
  | .hbm, ⟨1, _⟩ => ⟨S1x128x1024, .f32⟩
  | .local _ .vmem, ⟨0, _⟩ => ⟨S1x4x128x1024, .bf16⟩
  | .local _ .vmem, ⟨1, _⟩ => ⟨S1x128x1024, .f32⟩
  | _, _ => ⟨S1x4x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]
-- ==== Reference43Ideal.lean ====
abbrev S1x4x128x1024 : Shape := ⟨4, ![1, 4, 128, 1024]⟩
abbrev S_ : Shape := ⟨0, ![]⟩
abbrev S1x128x1024 : Shape := ⟨3, ![1, 128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1x4x128x1024, .bf16⟩
  | .hbm, ⟨1, _⟩ => ⟨S1x4x128x1024, .f32⟩
  | .hbm, ⟨2, _⟩ => ⟨S_, .f32⟩
  | .hbm, ⟨3, _⟩ => ⟨S1x128x1024, .f32⟩
  | _, _ => ⟨S1x4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel44.lean ====
abbrev S1x4x1024x1408 : Shape := ⟨4, ![1, 4, 1024, 1408]⟩
abbrev S1x1024x1408 : Shape := ⟨3, ![1, 1024, 1408]⟩
abbrev S1x4x128x1408 : Shape := ⟨4, ![1, 4, 128, 1408]⟩
abbrev S1x128x1408 : Shape := ⟨3, ![1, 128, 1408]⟩
abbrev S4x128x1408 : Shape := ⟨3, ![4, 128, 1408]⟩
abbrev S128x1408 : Shape := ⟨2, ![128, 1408]⟩

abbrev nBuf : Space → Nat
  | .hbm => 2
  | .vmem => 4
  | .smem => 0
  | _ => 0

abbrev bufTy : (tb : Table) → Fin (tcTables nBuf tb) → BufTy
  | .hbm, ⟨0, _⟩ => ⟨S1x4x1024x1408, .bf16⟩
  | .hbm, ⟨1, _⟩ => ⟨S1x1024x1408, .f32⟩
  | .local _ .vmem, ⟨0, _⟩ => ⟨S1x4x128x1408, .bf16⟩
  | .local _ .vmem, ⟨1, _⟩ => ⟨S1x4x128x1408, .bf16⟩
  | .local _ .vmem, ⟨2, _⟩ => ⟨S1x128x1408, .f32⟩
  | .local _ .vmem, ⟨3, _⟩ => ⟨S1x128x1408, .f32⟩
  | _, _ => ⟨S1x4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference44Ideal.lean ====
abbrev S1x4x1024x1408 : Shape := ⟨4, ![1, 4, 1024, 1408]⟩
abbrev S_ : Shape := ⟨0, ![]⟩
abbrev S1x1024x1408 : Shape := ⟨3, ![1, 1024, 1408]⟩

abbrev nBuf : Space → Nat
  | .hbm => 4
  | .vmem => 0
  | .smem => 0
  | _ => 0

abbrev bufTy : (tb : Table) → Fin (tcTables nBuf tb) → BufTy
  | .hbm, ⟨0, _⟩ => ⟨S1x4x1024x1408, .bf16⟩
  | .hbm, ⟨1, _⟩ => ⟨S1x4x1024x1408, .f32⟩
  | .hbm, ⟨2, _⟩ => ⟨S_, .f32⟩
  | .hbm, ⟨3, _⟩ => ⟨S1x1024x1408, .f32⟩
  | _, _ => ⟨S1x4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel45.lean ====
abbrev S1x4x704x1024 : Shape := ⟨4, ![1, 4, 704, 1024]⟩
abbrev S1x704x1024 : Shape := ⟨3, ![1, 704, 1024]⟩
abbrev S1x4x176x1024 : Shape := ⟨4, ![1, 4, 176, 1024]⟩
abbrev S1x176x1024 : Shape := ⟨3, ![1, 176, 1024]⟩
abbrev S4x176x1024 : Shape := ⟨3, ![4, 176, 1024]⟩
abbrev S176x1024 : Shape := ⟨2, ![176, 1024]⟩

abbrev nBuf : Space → Nat
  | .hbm => 2
  | .vmem => 4
  | .smem => 0
  | _ => 0

abbrev bufTy : (tb : Table) → Fin (tcTables nBuf tb) → BufTy
  | .hbm, ⟨0, _⟩ => ⟨S1x4x704x1024, .bf16⟩
  | .hbm, ⟨1, _⟩ => ⟨S1x704x1024, .f32⟩
  | .local _ .vmem, ⟨0, _⟩ => ⟨S1x4x176x1024, .bf16⟩
  | .local _ .vmem, ⟨1, _⟩ => ⟨S1x4x176x1024, .bf16⟩
  | .local _ .vmem, ⟨2, _⟩ => ⟨S1x176x1024, .f32⟩
  | .local _ .vmem, ⟨3, _⟩ => ⟨S1x176x1024, .f32⟩
  | _, _ => ⟨S1x4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference45Ideal.lean ====
abbrev S1x4x704x1024 : Shape := ⟨4, ![1, 4, 704, 1024]⟩
abbrev S_ : Shape := ⟨0, ![]⟩
abbrev S1x704x1024 : Shape := ⟨3, ![1, 704, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1x4x704x1024, .bf16⟩
  | .hbm, ⟨1, _⟩ => ⟨S1x4x704x1024, .f32⟩
  | .hbm, ⟨2, _⟩ => ⟨S_, .f32⟩
  | .hbm, ⟨3, _⟩ => ⟨S1x704x1024, .f32⟩
  | _, _ => ⟨S1x4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel46.lean ====
abbrev S2x4x3600x128 : Shape := ⟨4, ![2, 4, 3600, 128]⟩
abbrev S2x3600x128 : Shape := ⟨3, ![2, 3600, 128]⟩
abbrev S1x4x1200x128 : Shape := ⟨4, ![1, 4, 1200, 128]⟩
abbrev S1x1200x128 : Shape := ⟨3, ![1, 1200, 128]⟩
abbrev S4x1200x128 : Shape := ⟨3, ![4, 1200, 128]⟩
abbrev S1200x128 : Shape := ⟨2, ![1200, 128]⟩

abbrev nBuf : Space → Nat
  | .hbm => 2
  | .vmem => 4
  | .smem => 0
  | _ => 0

abbrev bufTy : (tb : Table) → Fin (tcTables nBuf tb) → BufTy
  | .hbm, ⟨0, _⟩ => ⟨S2x4x3600x128, .bf16⟩
  | .hbm, ⟨1, _⟩ => ⟨S2x3600x128, .f32⟩
  | .local _ .vmem, ⟨0, _⟩ => ⟨S1x4x1200x128, .bf16⟩
  | .local _ .vmem, ⟨1, _⟩ => ⟨S1x4x1200x128, .bf16⟩
  | .local _ .vmem, ⟨2, _⟩ => ⟨S1x1200x128, .f32⟩
  | .local _ .vmem, ⟨3, _⟩ => ⟨S1x1200x128, .f32⟩
  | _, _ => ⟨S2x4x3600x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 3], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x1200x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference46Ideal.lean ====
abbrev S2x4x3600x128 : Shape := ⟨4, ![2, 4, 3600, 128]⟩
abbrev S_ : Shape := ⟨0, ![]⟩
abbrev S2x3600x128 : Shape := ⟨3, ![2, 3600, 128]⟩

abbrev nBuf : Space → Nat
  | .hbm => 4
  | .vmem => 0
  | .smem => 0
  | _ => 0

abbrev bufTy : (tb : Table) → Fin (tcTables nBuf tb) → BufTy
  | .hbm, ⟨0, _⟩ => ⟨S2x4x3600x128, .bf16⟩
  | .hbm, ⟨1, _⟩ => ⟨S2x4x3600x128, .f32⟩
  | .hbm, ⟨2, _⟩ => ⟨S_, .f32⟩
  | .hbm, ⟨3, _⟩ => ⟨S2x3600x128, .f32⟩
  | _, _ => ⟨S2x4x3600x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel47.lean ====
abbrev S1x8x1424x128 : Shape := ⟨4, ![1, 8, 1424, 128]⟩
abbrev S1x1424x128 : Shape := ⟨3, ![1, 1424, 128]⟩
abbrev S1x8x712x128 : Shape := ⟨4, ![1, 8, 712, 128]⟩
abbrev S1x712x128 : Shape := ⟨3, ![1, 712, 128]⟩
abbrev S8x712x128 : Shape := ⟨3, ![8, 712, 128]⟩
abbrev S712x128 : Shape := ⟨2, ![712, 128]⟩

abbrev nBuf : Space → Nat
  | .hbm => 2
  | .vmem => 4
  | .smem => 0
  | _ => 0

abbrev bufTy : (tb : Table) → Fin (tcTables nBuf tb) → BufTy
  | .hbm, ⟨0, _⟩ => ⟨S1x8x1424x128, .f32⟩
  | .hbm, ⟨1, _⟩ => ⟨S1x1424x128, .f32⟩
  | .local _ .vmem, ⟨0, _⟩ => ⟨S1x8x712x128, .f32⟩
  | .local _ .vmem, ⟨1, _⟩ => ⟨S1x8x712x128, .f32⟩
  | .local _ .vmem, ⟨2, _⟩ => ⟨S1x712x128, .f32⟩
  | .local _ .vmem, ⟨3, _⟩ => ⟨S1x712x128, .f32⟩
  | _, _ => ⟨S1x8x1424x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x712x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x712x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference47Ideal.lean ====
abbrev S1x8x1424x128 : Shape := ⟨4, ![1, 8, 1424, 128]⟩
abbrev S_ : Shape := ⟨0, ![]⟩
abbrev S1x1424x128 : Shape := ⟨3, ![1, 1424, 128]⟩

abbrev nBuf : Space → Nat
  | .hbm => 3
  | .vmem => 0
  | .smem => 0
  | _ => 0

abbrev bufTy : (tb : Table) → Fin (tcTables nBuf tb) → BufTy
  | .hbm, ⟨0, _⟩ => ⟨S1x8x1424x128, .f32⟩
  | .hbm, ⟨1, _⟩ => ⟨S_, .f32⟩
  | .hbm, ⟨2, _⟩ => ⟨S1x1424x128, .f32⟩
  | _, _ => ⟨S1x8x1424x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel50.lean ====
abbrev S4x512x640 : Shape := ⟨3, ![4, 512, 640]⟩
abbrev S1x512x640 : Shape := ⟨3, ![1, 512, 640]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S4x512x640, .bf16⟩
  | .hbm, ⟨1, _⟩ => ⟨S4x512x640, .bf16⟩
  | .hbm, ⟨2, _⟩ => ⟨S4x512x640, .bf16⟩
  | .local _ .vmem, ⟨0, _⟩ => ⟨S1x512x640, .bf16⟩
  | .local _ .vmem, ⟨1, _⟩ => ⟨S1x512x640, .bf16⟩
  | .local _ .vmem, ⟨2, _⟩ => ⟨S1x512x640, .bf16⟩
  | .local _ .vmem, ⟨3, _⟩ => ⟨S1x512x640, .bf16⟩
  | .local _ .vmem, ⟨4, _⟩ => ⟨S1x512x640, .bf16⟩
  | .local _ .vmem, ⟨5, _⟩ => ⟨S1x512x640, .bf16⟩
  | _, _ => ⟨S4x512x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference50Ideal.lean ====
abbrev S4x512x640 : Shape := ⟨3, ![4, 512, 640]⟩

abbrev nBuf : Space → Nat
  | .hbm => 6
  | .vmem => 0
  | .smem => 0
  | _ => 0

abbrev bufTy : (tb : Table) → Fin (tcTables nBuf tb) → BufTy
  | .hbm, ⟨0, _⟩ => ⟨S4x512x640, .bf16⟩
  | .hbm, ⟨1, _⟩ => ⟨S4x512x640, .bf16⟩
  | .hbm, ⟨2, _⟩ => ⟨S4x512x640, .f32⟩
  | .hbm, ⟨3, _⟩ => ⟨S4x512x640, .f32⟩
  | .hbm, ⟨4, _⟩ => ⟨S4x512x640, .f32⟩
  | .hbm, ⟨5, _⟩ => ⟨S4x512x640, .bf16⟩
  | _, _ => ⟨S4x512x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel51.lean ====
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S4x128x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference51Ideal.lean ====
abbrev S4x128x1024 : Shape := ⟨3, ![4, 128, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .bf16⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel52.lean ====
abbrev S4x1024x1408 : Shape := ⟨3, ![4, 1024, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4x1024x1408, .bf16⟩
  | .hbm, ⟨1, _⟩ => ⟨S4x1024x1408, .bf16⟩
  | .hbm, ⟨2, _⟩ => ⟨S4x1024x1408, .bf16⟩
  | .local _ .vmem, ⟨0, _⟩ => ⟨S1x512x1408, .bf16⟩
  | .local _ .vmem, ⟨1, _⟩ => ⟨S1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x512x1408, .bf16⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference52Ideal.lean ====
abbrev S4x1024x1408 : Shape := ⟨3, ![4, 1024, 1408]⟩

abbrev nBuf : Space → Nat
  | .hbm => 6
  | .vmem => 0
  | .smem => 0
  | _ => 0

abbrev bufTy : (tb : Table) → Fin (tcTables nBuf tb) → BufTy
  | .hbm, ⟨0, _⟩ => ⟨S4x1024x1408, .bf16⟩
  | .hbm, ⟨1, _⟩ => ⟨S4x1024x1408, .bf16⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4x1024x1408, .bf16⟩
  | _, _ => ⟨S4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel53.lean ====
abbrev S4x704x1024 : Shape := ⟨3, ![4, 704, 1024]⟩
abbrev S1x704x1024 : Shape := ⟨3, ![1, 704, 1024]⟩
abbrev S704x1024 : Shape := ⟨2, ![704, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | .hbm, ⟨2, _⟩ => ⟨S4x704x1024, .bf16⟩
  | .local _ .vmem, ⟨0, _⟩ => ⟨S1x704x1024, .bf16⟩
  | .local _ .vmem, ⟨1, _⟩ => ⟨S1x704x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference53Ideal.lean ====
abbrev S4x704x1024 : Shape := ⟨3, ![4, 704, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .bf16⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel54.lean ====
abbrev S4x3600x128 : Shape := ⟨3, ![4, 3600, 128]⟩
abbrev S1x3600x128 : Shape := ⟨3, ![1, 3600, 128]⟩
abbrev S3600x128 : Shape := ⟨2, ![3600, 128]⟩

abbrev nBuf : Space → Nat
  | .hbm => 3
  | .vmem => 6
  | .smem => 0
  | _ => 0

abbrev bufTy : (tb : Table) → Fin (tcTables nBuf tb) → BufTy
  | .hbm, ⟨0, _⟩ => ⟨S4x3600x128, .bf16⟩
  | .hbm, ⟨1, _⟩ => ⟨S4x3600x128, .bf16⟩
  | .hbm, ⟨2, _⟩ => ⟨S4x3600x128, .bf16⟩
  | .local _ .vmem, ⟨0, _⟩ => ⟨S1x3600x128, .bf16⟩
  | .local _ .vmem, ⟨1, _⟩ => ⟨S1x3600x128, .bf16⟩
  | .local _ .vmem, ⟨2, _⟩ => ⟨S1x3600x128, .bf16⟩
  | .local _ .vmem, ⟨3, _⟩ => ⟨S1x3600x128, .bf16⟩
  | .local _ .vmem, ⟨4, _⟩ => ⟨S1x3600x128, .bf16⟩
  | .local _ .vmem, ⟨5, _⟩ => ⟨S1x3600x128, .bf16⟩
  | _, _ => ⟨S4x3600x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3600x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3600x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3600x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference54Ideal.lean ====
abbrev S4x3600x128 : Shape := ⟨3, ![4, 3600, 128]⟩

abbrev nBuf : Space → Nat
  | .hbm => 6
  | .vmem => 0
  | .smem => 0
  | _ => 0

abbrev bufTy : (tb : Table) → Fin (tcTables nBuf tb) → BufTy
  | .hbm, ⟨0, _⟩ => ⟨S4x3600x128, .bf16⟩
  | .hbm, ⟨1, _⟩ => ⟨S4x3600x128, .bf16⟩
  | .hbm, ⟨2, _⟩ => ⟨S4x3600x128, .f32⟩
  | .hbm, ⟨3, _⟩ => ⟨S4x3600x128, .f32⟩
  | .hbm, ⟨4, _⟩ => ⟨S4x3600x128, .f32⟩
  | .hbm, ⟨5, _⟩ => ⟨S4x3600x128, .bf16⟩
  | _, _ => ⟨S4x3600x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel55.lean ====
abbrev S256x1024 : Shape := ⟨2, ![256, 1024]⟩
abbrev S1x1024 : Shape := ⟨2, ![1, 1024]⟩
abbrev S1024x2688 : Shape := ⟨2, ![1024, 2688]⟩
abbrev S256x2688 : Shape := ⟨2, ![256, 2688]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S1024x2688, .bf16⟩
  | .hbm, ⟨4, _⟩ => ⟨S256x2688, .f32⟩
  | .hbm, ⟨5, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1x1024, .f32⟩
  | .local _ .vmem, ⟨3, _⟩ => ⟨S1024x2688, .bf16⟩
  | .local _ .vmem, ⟨4, _⟩ => ⟨S256x2688, .f32⟩
  | .local _ .vmem, ⟨5, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2688 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference55Ideal.lean ====
abbrev S256x1024 : Shape := ⟨2, ![256, 1024]⟩
abbrev S1x1024 : Shape := ⟨2, ![1, 1024]⟩
abbrev S1024x2688 : Shape := ⟨2, ![1024, 2688]⟩
abbrev S_ : Shape := ⟨0, ![]⟩
abbrev S256x2688 : Shape := ⟨2, ![256, 2688]⟩

abbrev nBuf : Space → Nat
  | .hbm => 14
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S1024x2688, .bf16⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S1024x2688, .f32⟩
  | .hbm, ⟨12, _⟩ => ⟨S256x2688, .f32⟩
  | .hbm, ⟨13, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel56.lean ====
abbrev S256x2688 : Shape := ⟨2, ![256, 2688]⟩
abbrev S256x1024 : Shape := ⟨2, ![256, 1024]⟩
abbrev S1x1024 : Shape := ⟨2, ![1, 1024]⟩
abbrev S1024x2688 : Shape := ⟨2, ![1024, 2688]⟩
abbrev S1024 : Shape := ⟨1, ![1024]⟩

abbrev nBuf : Space → Nat
  | .hbm => 8
  | .vmem => 8
  | .smem => 0
  | _ => 0

abbrev bufTy : (tb : Table) → Fin (tcTables nBuf tb) → BufTy
  | .hbm, ⟨0, _⟩ => ⟨S256x2688, .bf16⟩
  | .hbm, ⟨1, _⟩ => ⟨S256x1024, .f32⟩
  | .hbm, ⟨2, _⟩ => ⟨S1x1024, .f32⟩
  | .hbm, ⟨3, _⟩ => ⟨S1x1024, .f32⟩
  | .hbm, ⟨4, _⟩ => ⟨S1024x2688, .bf16⟩
  | .hbm, ⟨5, _⟩ => ⟨S256x1024, .f32⟩
  | .hbm, ⟨6, _⟩ => ⟨S1x1024, .f32⟩
  | .hbm, ⟨7, _⟩ => ⟨S1x1024, .f32⟩
  | .local _ .vmem, ⟨0, _⟩ => ⟨S256x2688, .bf16⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x2688, .bf16⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | _, _ => ⟨S256x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_12 : BitVec 32 := 0#32
  let v17 : BitVec 1 := Scalar.cmpi .ne v16 c0_i32_12
  v17

def k0_cond2 (i : grid0.Coords) : BitVec 1 :=
  let arg0 : BitVec 32 := BitVec.ofNat 32 (i 0).val
  let c0_i32 : BitVec 32 := 0#32
  let v15 : BitVec 1 := Scalar.cmpi .eq arg0 c0_i32
  let v_true : BitVec 1 := 1#1
  let v18 : BitVec 1 := Scalar.xori v15 v_true
  let v19 : BitVec 32 := Scalar.extui v18
  let c0_i32_13 : BitVec 32 := 0#32
  let v20 : BitVec 1 := Scalar.cmpi .ne v19 c0_i32_13
  v20

def k0_cond3 (i : grid0.Coords) : BitVec 1 :=
  let arg0 : BitVec 32 := BitVec.ofNat 32 (i 0).val
  let c0_i32_14 : BitVec 32 := 0#32
  let v21 : BitVec 1 := Scalar.cmpi .eq arg0 c0_i32_14
  let v22 : BitVec 32 := Scalar.extui v21
  let c0_i32_15 : BitVec 32 := 0#32
  let v23 : BitVec 1 := Scalar.cmpi .ne v22 c0_i32_15
  v23

def k0_cond4 (i : grid0.Coords) : BitVec 1 :=
  let arg0 : BitVec 32 := BitVec.ofNat 32 (i 0).val
  let c0_i32_14 : BitVec 32 := 0#32
  let v21 : BitVec 1 := Scalar.cmpi .eq arg0 c0_i32_14
  let true_16 : BitVec 1 := 1#1
  let v24 : BitVec 1 := Scalar.xori v21 true_16
  let v25 : BitVec 32 := Scalar.extui v24
  let c0_i32_17 : BitVec 32 := 0#32
  let v26 : BitVec 1 := Scalar.cmpi .ne v25 c0_i32_17
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2688 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2688 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference56Ideal.lean ====
abbrev S256x2688 : Shape := ⟨2, ![256, 2688]⟩
abbrev S256x1024 : Shape := ⟨2, ![256, 1024]⟩
abbrev S1x1024 : Shape := ⟨2, ![1, 1024]⟩
abbrev S1024x2688 : Shape := ⟨2, ![1024, 2688]⟩
abbrev S_ : Shape := ⟨0, ![]⟩
abbrev S1024 : Shape := ⟨1, ![1024]⟩

abbrev nBuf : Space → Nat
  | .hbm => 25
  | .vmem => 0
  | .smem => 0
  | _ => 0

abbrev bufTy : (tb : Table) → Fin (tcTables nBuf tb) → BufTy
  | .hbm, ⟨0, _⟩ => ⟨S256x2688, .bf16⟩
  | .hbm, ⟨1, _⟩ => ⟨S256x1024, .f32⟩
  | .hbm, ⟨2, _⟩ => ⟨S1x1024, .f32⟩
  | .hbm, ⟨3, _⟩ => ⟨S1x1024, .f32⟩
  | .hbm, ⟨4, _⟩ => ⟨S1024x2688, .bf16⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S1024x2688, .f32⟩
  | .hbm, ⟨13, _⟩ => ⟨S256x2688, .f32⟩
  | .hbm, ⟨14, _⟩ => ⟨S256x2688, .f32⟩
  | .hbm, ⟨15, _⟩ => ⟨S256x1024, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S256x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S256x1024, .f32⟩
  | .hbm, ⟨24, _⟩ => ⟨S256x1024, .f32⟩
  | _, _ => ⟨S256x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Proof.Rows.lean ====
/-
  A sum over the rows of an array, gathered block of rows by block of rows.
-/
module

public import Idealize.ShloMosaic.Lib.Pointwise

@[expose] public section

namespace Cert.Rows

open Idealize.ShloMosaic

/-- The position of row `r` of block `n` is below the number of rows. -/
theorem row_lt {B N M : ℕ} (h : N * B = M) {n : ℕ} (hn : n < N) (r : Fin B) : n * B + r.val < M := by
  have : (n + 1) * B ≤ N * B := Nat.mul_le_mul_right B hn
  rw [Nat.add_mul, Nat.one_mul] at this
  have := r.isLt
  omega

/-- A quantity that starts at the first block's sum and adds one block's sum at each later point is, at the last point,
    the sum over all rows. -/
theorem sum_rows {α : Type*} [AddCommMonoid α] {B N M : ℕ} (hM : N * B = M) (f : (n : ℕ) → n < N → α) (term : Fin M → α)
    (h0 : ∀ h : 0 < N, f 0 h = ∑ r : Fin B, term ⟨0 * B + r.val, row_lt hM h r⟩)
    (hs : ∀ (n : ℕ) (h : n + 1 < N), f (n + 1) h
      = f n (Nat.lt_of_succ_lt h) + ∑ r : Fin B, term ⟨(n + 1) * B + r.val, row_lt hM h r⟩)
    (e : ℕ) (he : e < N) (hN : N = e + 1) : f e he = ∑ k : Fin M, term k := by
  have key : ∀ (n : ℕ) (h : n < N), f n h
      = ∑ j : Fin (n + 1), ∑ r : Fin B, term ⟨j.val * B + r.val, row_lt hM (lt_of_lt_of_le j.isLt h) r⟩ := by
    intro n
    induction n with
    | zero => intro h; rw [h0]; simp
    | succ n ih =>
      intro h
      rw [hs n h, ih]
      exact (Fin.sum_univ_castSucc fun j : Fin (n + 2) =>
        ∑ r : Fin B, term ⟨j.val * B + r.val, row_lt hM (lt_of_lt_of_le j.isLt h) r⟩).symm
  subst hN
  rw [key e he, Fin.sum_univ_tiles (e + 1) B hM]

end Cert.Rows
-- ==== Proof.FfnDownBwdBlocks.lean ====
/-
  The blocks of the arrays at a grid point, and the arrays after the last point.
-/
module

public import proofs.«01_k».proof.Proof.Gen.Kernel2Ideal.Value
public import proofs.«01_k».proof.Proof.Rows
public import Idealize.ShloMosaic.Lib.Pipeline.Value
public import Idealize.ShloMosaic.Lib.Pointwise

@[expose] public section

noncomputable section

namespace Cert.Kernel2Ideal.Blocks

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

theorem points : cfg0.N = 8 := N_0

theorem lt_points (t : Fin cfg0.N) : t.val < 8 := lt_of_lt_of_eq t.isLt N_0

theorem index0 : ∀ t : Fin cfg0.N, win0_0.index t 0 = t.val ∧ win0_0.index t 1 = 0 :=
  (by decide +kernel : ∀ t : Fin grid0.N, win0_0.index t 0 = t.val ∧ win0_0.index t 1 = 0)

abbrev arg0 (c : Dev nD) : FVec Ideal S4096x1024 .f32 := m ((c : Thread nD τ).loc main_arg0)

theorem block0 (c : Dev nD) (t : Fin cfg0.N) (p : Fin 512) (q : Fin 1024) :
    iblk m c 0 t (ix2 p q) = arg0 m c (ix2 ⟨t.val * 512 + p.val, by have := lt_points t; omega⟩ q) := by
  refine congrArg (arg0 m c) (funext fun a => Fin.ext ((win0_0.rect_emb_val t (ix2 p q) a).trans ?_))
  match a with
  | ⟨0, _⟩ => show win0_0.index t 0 * 512 + p.val = t.val * 512 + p.val; rw [(index0 t).1]
  | ⟨1, _⟩ => show win0_0.index t 1 * 1024 + q.val = q.val; rw [(index0 t).2]; omega

theorem index1 : ∀ t : Fin cfg0.N, win0_1.index t 0 = t.val ∧ win0_1.index t 1 = 0 :=
  (by decide +kernel : ∀ t : Fin grid0.N, win0_1.index t 0 = t.val ∧ win0_1.index t 1 = 0)

abbrev arg1 (c : Dev nD) : FVec Ideal S4096x1024 .f32 := m ((c : Thread nD τ).loc main_arg1)

theorem block1 (c : Dev nD) (t : Fin cfg0.N) (p : Fin 512) (q : Fin 1024) :
    iblk m c 1 t (ix2 p q) = arg1 m c (ix2 ⟨t.val * 512 + p.val, by have := lt_points t; omega⟩ q) := by
  refine congrArg (arg1 m c) (funext fun a => Fin.ext ((win0_1.rect_emb_val t (ix2 p q) a).trans ?_))
  match a with
  | ⟨0, _⟩ => show win0_1.index t 0 * 512 + p.val = t.val * 512 + p.val; rw [(index1 t).1]
  | ⟨1, _⟩ => show win0_1.index t 1 * 1024 + q.val = q.val; rw [(index1 t).2]; omega

theorem index2 : ∀ t : Fin cfg0.N, win0_2.index t 0 = t.val ∧ win0_2.index t 1 = 0 :=
  (by decide +kernel : ∀ t : Fin grid0.N, win0_2.index t 0 = t.val ∧ win0_2.index t 1 = 0)

abbrev arg2 (c : Dev nD) : FVec Ideal S4096x1024 .f32 := m ((c : Thread nD τ).loc main_arg2)

theorem block2 (c : Dev nD) (t : Fin cfg0.N) (p : Fin 512) (q : Fin 1024) :
    iblk m c 2 t (ix2 p q) = arg2 m c (ix2 ⟨t.val * 512 + p.val, by have := lt_points t; omega⟩ q) := by
  refine congrArg (arg2 m c) (funext fun a => Fin.ext ((win0_2.rect_emb_val t (ix2 p q) a).trans ?_))
  match a with
  | ⟨0, _⟩ => show win0_2.index t 0 * 512 + p.val = t.val * 512 + p.val; rw [(index2 t).1]
  | ⟨1, _⟩ => show win0_2.index t 1 * 1024 + q.val = q.val; rw [(index2 t).2]; omega

theorem index3 : ∀ t : Fin cfg0.N, win0_3.index t 0 = 0 ∧ win0_3.index t 1 = 0 :=
  (by decide +kernel : ∀ t : Fin grid0.N, win0_3.index t 0 = 0 ∧ win0_3.index t 1 = 0)

abbrev arg3 (c : Dev nD) : FVec Ideal S1x1024 .f32 := m ((c : Thread nD τ).loc main_arg3)

theorem block3 (c : Dev nD) (t : Fin cfg0.N) : iblk m c 3 t = arg3 m c := by
  refine funext fun (y : S1x1024.Idx) => congrArg (arg3 m c) (funext fun a => Fin.ext ((win0_3.rect_emb_val t y a).trans ?_))
  match a with
  | ⟨0, _⟩ => show win0_3.index t 0 * 1 + (y 0).val = (y 0).val; rw [(index3 t).1]; omega
  | ⟨1, _⟩ => show win0_3.index t 1 * 1024 + (y 1).val = (y 1).val; rw [(index3 t).2]; omega

theorem index4 : ∀ t : Fin cfg0.N, win0_4.index t 0 = 0 ∧ win0_4.index t 1 = 0 :=
  (by decide +kernel : ∀ t : Fin grid0.N, win0_4.index t 0 = 0 ∧ win0_4.index t 1 = 0)

abbrev arg4 (c : Dev nD) : FVec Ideal S1x1024 .f32 := m ((c : Thread nD τ).loc main_arg4)

theorem block4 (c : Dev nD) (t : Fin cfg0.N) : iblk m c 4 t = arg4 m c := by
  refine funext fun (y : S1x1024.Idx) => congrArg (arg4 m c) (funext fun a => Fin.ext ((win0_4.rect_emb_val t y a).trans ?_))
  match a with
  | ⟨0, _⟩ => show win0_4.index t 0 * 1 + (y 0).val = (y 0).val; rw [(index4 t).1]; omega
  | ⟨1, _⟩ => show win0_4.index t 1 * 1024 + (y 1).val = (y 1).val; rw [(index4 t).2]; omega

theorem index5 : ∀ t : Fin cfg0.N, win0_5.index t 0 = 0 ∧ win0_5.index t 1 = 0 :=
  (by decide +kernel : ∀ t : Fin grid0.N, win0_5.index t 0 = 0 ∧ win0_5.index t 1 = 0)

abbrev arg5 (c : Dev nD) : FVec Ideal S1x1024 .f32 := m ((c : Thread nD τ).loc main_arg5)

theorem block5 (c : Dev nD) (t : Fin cfg0.N) : iblk m c 5 t = arg5 m c := by
  refine funext fun (y : S1x1024.Idx) => congrArg (arg5 m c) (funext fun a => Fin.ext ((win0_5.rect_emb_val t y a).trans ?_))
  match a with
  | ⟨0, _⟩ => show win0_5.index t 0 * 1 + (y 0).val = (y 0).val; rw [(index5 t).1]; omega
  | ⟨1, _⟩ => show win0_5.index t 1 * 1024 + (y 1).val = (y 1).val; rw [(index5 t).2]; omega

theorem index6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)

abbrev arg6 (c : Dev nD) : FVec Ideal S4x704x1024 .bf16 := m ((c : Thread nD τ).loc main_arg6)

theorem block6 (c : Dev nD) (t : Fin cfg0.N) : iblk m c 6 t = arg6 m c := by
  refine funext fun (y : S4x704x1024.Idx) => congrArg (arg6 m c) (funext fun a => Fin.ext ((win0_6.rect_emb_val t y a).trans ?_))
  match a with
  | ⟨0, _⟩ => show win0_6.index t 0 * 4 + (y 0).val = (y 0).val; rw [(index6 t).1]; omega
  | ⟨1, _⟩ => show win0_6.index t 1 * 704 + (y 1).val = (y 1).val; rw [(index6 t).2.1]; omega
  | ⟨2, _⟩ => show win0_6.index t 2 * 1024 + (y 2).val = (y 2).val; rw [(index6 t).2.2]; omega

theorem index7 : ∀ t : Fin cfg0.N, win0_7.index t 0 = t.val ∧ win0_7.index t 1 = 0 :=
  (by decide +kernel : ∀ t : Fin grid0.N, win0_7.index t 0 = t.val ∧ win0_7.index t 1 = 0)

theorem emb7 (t : Fin cfg0.N) (p : Fin 512) (q : Fin 2816) :
    (win0_7.rect t).emb (ix2 p q) = (ix2 ⟨t.val * 512 + p.val, by have := lt_points t; omega⟩ q : S4096x2816.Idx) := by
  refine funext fun a => Fin.ext ((win0_7.rect_emb_val t (ix2 p q) a).trans ?_)
  match a with
  | ⟨0, _⟩ => show win0_7.index t 0 * 512 + p.val = t.val * 512 + p.val; rw [(index7 t).1]
  | ⟨1, _⟩ => show win0_7.index t 1 * 2816 + q.val = q.val; rw [(index7 t).2]; omega

theorem final7 (c : Dev nD) (G : FVec Ideal S4096x2816 .bf16)
    (h : ∀ (t : Fin cfg0.N) (p : Fin 512) (q : Fin 2816), ((outsAt0 m c t.val t.isLt).1) (ix2 p q) = G (ix2 ⟨t.val * 512 + p.val, by have := lt_points t; omega⟩ q)) :
    (dats m 0 c).arrAt 7 cfg0.N = G := by
  refine (dats m 0 c).arrAt_eq_of_cover 7 G (fun t _ => ?_) fun (i : S4096x2816.Idx) => ?_
  · rw [Value.flushed7]
    refine funext fun (y : S512x2816.Idx) => ?_
    obtain ⟨p, q, rfl⟩ : ∃ p q, y = ix2 p q := ⟨y 0, y 1, funext fun a => by fin_cases a <;> rfl⟩
    refine (h t p q).trans ?_
    show _ = G ((win0_7.rect t).emb (ix2 p q))
    rw [emb7]
  · have hN : cfg0.N = 8 := N_0
    have h0 : (i 0 : Nat) < 4096 := (i 0).isLt
    have h1 : (i 1 : Nat) < 2816 := (i 1).isLt
    have ht : (i 0 : Nat) / 512 < cfg0.N := by omega
    refine ⟨⟨_, ht⟩, flush0_7 _, ?_⟩
    show i ∈ ((View.whole main_v0_0).slice (win0_7.rect ⟨_, ht⟩)).set
    rw [View.set_slice_whole, Rect.mem_set_unit]
    have e := index7 ⟨_, ht⟩
    intro a
    match a with
    | ⟨0, _⟩ =>
      show win0_7.index ⟨_, ht⟩ 0 * 512 ≤ (i 0 : Nat) ∧ (i 0 : Nat) < win0_7.index ⟨_, ht⟩ 0 * 512 + 512
      rw [e.1]; try dsimp only
      omega
    | ⟨1, _⟩ =>
      show win0_7.index ⟨_, ht⟩ 1 * 2816 ≤ (i 1 : Nat) ∧ (i 1 : Nat) < win0_7.index ⟨_, ht⟩ 1 * 2816 + 2816
      rw [e.2]; try dsimp only
      omega

theorem index8 : ∀ t : Fin cfg0.N, win0_8.index t 0 = t.val ∧ win0_8.index t 1 = 0 :=
  (by decide +kernel : ∀ t : Fin grid0.N, win0_8.index t 0 = t.val ∧ win0_8.index t 1 = 0)

theorem emb8 (t : Fin cfg0.N) (p : Fin 512) (q : Fin 1024) :
    (win0_8.rect t).emb (ix2 p q) = (ix2 ⟨t.val * 512 + p.val, by have := lt_points t; omega⟩ q : S4096x1024.Idx) := by
  refine funext fun a => Fin.ext ((win0_8.rect_emb_val t (ix2 p q) a).trans ?_)
  match a with
  | ⟨0, _⟩ => show win0_8.index t 0 * 512 + p.val = t.val * 512 + p.val; rw [(index8 t).1]
  | ⟨1, _⟩ => show win0_8.index t 1 * 1024 + q.val = q.val; rw [(index8 t).2]; omega

theorem final8 (c : Dev nD) (G : FVec Ideal S4096x1024 .f32)
    (h : ∀ (t : Fin cfg0.N) (p : Fin 512) (q : Fin 1024), ((outsAt0 m c t.val t.isLt).2.1) (ix2 p q) = G (ix2 ⟨t.val * 512 + p.val, by have := lt_points t; omega⟩ q)) :
    (dats m 0 c).arrAt 8 cfg0.N = G := by
  refine (dats m 0 c).arrAt_eq_of_cover 8 G (fun t _ => ?_) fun (i : S4096x1024.Idx) => ?_
  · rw [Value.flushed8]
    refine funext fun (y : S512x1024.Idx) => ?_
    obtain ⟨p, q, rfl⟩ : ∃ p q, y = ix2 p q := ⟨y 0, y 1, funext fun a => by fin_cases a <;> rfl⟩
    refine (h t p q).trans ?_
    show _ = G ((win0_8.rect t).emb (ix2 p q))
    rw [emb8]
  · have hN : cfg0.N = 8 := N_0
    have h0 : (i 0 : Nat) < 4096 := (i 0).isLt
    have h1 : (i 1 : Nat) < 1024 := (i 1).isLt
    have ht : (i 0 : Nat) / 512 < cfg0.N := by omega
    refine ⟨⟨_, ht⟩, flush0_8 _, ?_⟩
    show i ∈ ((View.whole main_v0_1).slice (win0_8.rect ⟨_, ht⟩)).set
    rw [View.set_slice_whole, Rect.mem_set_unit]
    have e := index8 ⟨_, ht⟩
    intro a
    match a with
    | ⟨0, _⟩ =>
      show win0_8.index ⟨_, ht⟩ 0 * 512 ≤ (i 0 : Nat) ∧ (i 0 : Nat) < win0_8.index ⟨_, ht⟩ 0 * 512 + 512
      rw [e.1]; try dsimp only
      omega
    | ⟨1, _⟩ =>
      show win0_8.index ⟨_, ht⟩ 1 * 1024 ≤ (i 1 : Nat) ∧ (i 1 : Nat) < win0_8.index ⟨_, ht⟩ 1 * 1024 + 1024
      rw [e.2]; try dsimp only
      omega

theorem index9 : ∀ t : Fin cfg0.N, win0_9.index t 0 = t.val ∧ win0_9.index t 1 = 0 :=
  (by decide +kernel : ∀ t : Fin grid0.N, win0_9.index t 0 = t.val ∧ win0_9.index t 1 = 0)

theorem emb9 (t : Fin cfg0.N) (p : Fin 512) (q : Fin 1024) :
    (win0_9.rect t).emb (ix2 p q) = (ix2 ⟨t.val * 512 + p.val, by have := lt_points t; omega⟩ q : S4096x1024.Idx) := by
  refine funext fun a => Fin.ext ((win0_9.rect_emb_val t (ix2 p q) a).trans ?_)
  match a with
  | ⟨0, _⟩ => show win0_9.index t 0 * 512 + p.val = t.val * 512 + p.val; rw [(index9 t).1]
  | ⟨1, _⟩ => show win0_9.index t 1 * 1024 + q.val = q.val; rw [(index9 t).2]; omega

theorem final9 (c : Dev nD) (G : FVec Ideal S4096x1024 .bf16)
    (h : ∀ (t : Fin cfg0.N) (p : Fin 512) (q : Fin 1024), ((outsAt0 m c t.val t.isLt).2.2.1) (ix2 p q) = G (ix2 ⟨t.val * 512 + p.val, by have := lt_points t; omega⟩ q)) :
    (dats m 0 c).arrAt 9 cfg0.N = G := by
  refine (dats m 0 c).arrAt_eq_of_cover 9 G (fun t _ => ?_) fun (i : S4096x1024.Idx) => ?_
  · rw [Value.flushed9]
    refine funext fun (y : S512x1024.Idx) => ?_
    obtain ⟨p, q, rfl⟩ : ∃ p q, y = ix2 p q := ⟨y 0, y 1, funext fun a => by fin_cases a <;> rfl⟩
    refine (h t p q).trans ?_
    show _ = G ((win0_9.rect t).emb (ix2 p q))
    rw [emb9]
  · have hN : cfg0.N = 8 := N_0
    have h0 : (i 0 : Nat) < 4096 := (i 0).isLt
    have h1 : (i 1 : Nat) < 1024 := (i 1).isLt
    have ht : (i 0 : Nat) / 512 < cfg0.N := by omega
    refine ⟨⟨_, ht⟩, flush0_9 _, ?_⟩
    show i ∈ ((View.whole main_v0_2).slice (win0_9.rect ⟨_, ht⟩)).set
    rw [View.set_slice_whole, Rect.mem_set_unit]
    have e := index9 ⟨_, ht⟩
    intro a
    match a with
    | ⟨0, _⟩ =>
      show win0_9.index ⟨_, ht⟩ 0 * 512 ≤ (i 0 : Nat) ∧ (i 0 : Nat) < win0_9.index ⟨_, ht⟩ 0 * 512 + 512
      rw [e.1]; try dsimp only
      omega
    | ⟨1, _⟩ =>
      show win0_9.index ⟨_, ht⟩ 1 * 1024 ≤ (i 1 : Nat) ∧ (i 1 : Nat) < win0_9.index ⟨_, ht⟩ 1 * 1024 + 1024
      rw [e.2]; try dsimp only
      omega

theorem index10 : ∀ t : Fin cfg0.N, win0_10.index t 0 = 0 ∧ win0_10.index t 1 = 0 :=
  (by decide +kernel : ∀ t : Fin grid0.N, win0_10.index t 0 = 0 ∧ win0_10.index t 1 = 0)

theorem final10 (c : Dev nD) (G : FVec Ideal S1x1024 .f32)
    (h : ∀ t : Fin cfg0.N, t.val = 7 → (outsAt0 m c t.val t.isLt).2.2.2.1 = G) :
    (dats m 0 c).arrAt 10 cfg0.N = G := by
  refine (dats m 0 c).arrAt_eq_of_cover 10 G (fun t hf => ?_) fun (i : S1x1024.Idx) => ?_
  · rw [Value.flushed10]
    have hN := lt_points t
    have ht : t.val = 7 := by have := (flush0_10 t).mp hf; omega
    refine funext fun (y : S1x1024.Idx) => ?_
    have e : (win0_10.rect t).emb y = y := by
      refine funext fun a => Fin.ext ((win0_10.rect_emb_val t y a).trans ?_)
      match a with
      | ⟨0, _⟩ => show win0_10.index t 0 * 1 + (y 0).val = (y 0).val; rw [(index10 t).1]; omega
      | ⟨1, _⟩ => show win0_10.index t 1 * 1024 + (y 1).val = (y 1).val; rw [(index10 t).2]; omega
    show ((outsAt0 m c t.val t.isLt).2.2.2.1) y = G ((win0_10.rect t).emb y)
    rw [e]
    exact congrFun (h t ht) y
  · have ht : 7 < cfg0.N := lt_of_lt_of_eq (by omega) N_0.symm
    have h0 : (i 0 : Nat) < 1 := (i 0).isLt
    have h1 : (i 1 : Nat) < 1024 := (i 1).isLt
    refine ⟨⟨7, ht⟩, (flush0_10 _).mpr rfl, ?_⟩
    show i ∈ ((View.whole main_v0_3).slice (win0_10.rect ⟨7, ht⟩)).set
    rw [View.set_slice_whole, Rect.mem_set_unit]
    have e := index10 ⟨7, ht⟩
    intro a
    match a with
    | ⟨0, _⟩ =>
      show win0_10.index ⟨7, ht⟩ 0 * 1 ≤ (i 0 : Nat) ∧ (i 0 : Nat) < win0_10.index ⟨7, ht⟩ 0 * 1 + 1
      rw [e.1]
      omega
    | ⟨1, _⟩ =>
      show win0_10.index ⟨7, ht⟩ 1 * 1024 ≤ (i 1 : Nat) ∧ (i 1 : Nat) < win0_10.index ⟨7, ht⟩ 1 * 1024 + 1024
      rw [e.2]
      omega

theorem index11 : ∀ t : Fin cfg0.N, win0_11.index t 0 = 0 ∧ win0_11.index t 1 = 0 :=
  (by decide +kernel : ∀ t : Fin grid0.N, win0_11.index t 0 = 0 ∧ win0_11.index t 1 = 0)

theorem final11 (c : Dev nD) (G : FVec Ideal S1x1024 .f32)
    (h : ∀ t : Fin cfg0.N, t.val = 7 → (outsAt0 m c t.val t.isLt).2.2.2.2.1 = G) :
    (dats m 0 c).arrAt 11 cfg0.N = G := by
  refine (dats m 0 c).arrAt_eq_of_cover 11 G (fun t hf => ?_) fun (i : S1x1024.Idx) => ?_
  · rw [Value.flushed11]
    have hN := lt_points t
    have ht : t.val = 7 := by have := (flush0_11 t).mp hf; omega
    refine funext fun (y : S1x1024.Idx) => ?_
    have e : (win0_11.rect t).emb y = y := by
      refine funext fun a => Fin.ext ((win0_11.rect_emb_val t y a).trans ?_)
      match a with
      | ⟨0, _⟩ => show win0_11.index t 0 * 1 + (y 0).val = (y 0).val; rw [(index11 t).1]; omega
      | ⟨1, _⟩ => show win0_11.index t 1 * 1024 + (y 1).val = (y 1).val; rw [(index11 t).2]; omega
    show ((outsAt0 m c t.val t.isLt).2.2.2.2.1) y = G ((win0_11.rect t).emb y)
    rw [e]
    exact congrFun (h t ht) y
  · have ht : 7 < cfg0.N := lt_of_lt_of_eq (by omega) N_0.symm
    have h0 : (i 0 : Nat) < 1 := (i 0).isLt
    have h1 : (i 1 : Nat) < 1024 := (i 1).isLt
    refine ⟨⟨7, ht⟩, (flush0_11 _).mpr rfl, ?_⟩
    show i ∈ ((View.whole main_v0_4).slice (win0_11.rect ⟨7, ht⟩)).set
    rw [View.set_slice_whole, Rect.mem_set_unit]
    have e := index11 ⟨7, ht⟩
    intro a
    match a with
    | ⟨0, _⟩ =>
      show win0_11.index ⟨7, ht⟩ 0 * 1 ≤ (i 0 : Nat) ∧ (i 0 : Nat) < win0_11.index ⟨7, ht⟩ 0 * 1 + 1
      rw [e.1]
      omega
    | ⟨1, _⟩ =>
      show win0_11.index ⟨7, ht⟩ 1 * 1024 ≤ (i 1 : Nat) ∧ (i 1 : Nat) < win0_11.index ⟨7, ht⟩ 1 * 1024 + 1024
      rw [e.2]
      omega

theorem index12 : ∀ t : Fin cfg0.N, win0_12.index t 0 = 0 ∧ win0_12.index t 1 = 0 :=
  (by decide +kernel : ∀ t : Fin grid0.N, win0_12.index t 0 = 0 ∧ win0_12.index t 1 = 0)

theorem final12 (c : Dev nD) (G : FVec Ideal S1x1024 .f32)
    (h : ∀ t : Fin cfg0.N, t.val = 7 → (outsAt0 m c t.val t.isLt).2.2.2.2.2 = G) :
    (dats m 0 c).arrAt 12 cfg0.N = G := by
  refine (dats m 0 c).arrAt_eq_of_cover 12 G (fun t hf => ?_) fun (i : S1x1024.Idx) => ?_
  · rw [Value.flushed12]
    have hN := lt_points t
    have ht : t.val = 7 := by have := (flush0_12 t).mp hf; omega
    refine funext fun (y : S1x1024.Idx) => ?_
    have e : (win0_12.rect t).emb y = y := by
      refine funext fun a => Fin.ext ((win0_12.rect_emb_val t y a).trans ?_)
      match a with
      | ⟨0, _⟩ => show win0_12.index t 0 * 1 + (y 0).val = (y 0).val; rw [(index12 t).1]; omega
      | ⟨1, _⟩ => show win0_12.index t 1 * 1024 + (y 1).val = (y 1).val; rw [(index12 t).2]; omega
    show ((outsAt0 m c t.val t.isLt).2.2.2.2.2) y = G ((win0_12.rect t).emb y)
    rw [e]
    exact congrFun (h t ht) y
  · have ht : 7 < cfg0.N := lt_of_lt_of_eq (by omega) N_0.symm
    have h0 : (i 0 : Nat) < 1 := (i 0).isLt
    have h1 : (i 1 : Nat) < 1024 := (i 1).isLt
    refine ⟨⟨7, ht⟩, (flush0_12 _).mpr rfl, ?_⟩
    show i ∈ ((View.whole main_v0_5).slice (win0_12.rect ⟨7, ht⟩)).set
    rw [View.set_slice_whole, Rect.mem_set_unit]
    have e := index12 ⟨7, ht⟩
    intro a
    match a with
    | ⟨0, _⟩ =>
      show win0_12.index ⟨7, ht⟩ 0 * 1 ≤ (i 0 : Nat) ∧ (i 0 : Nat) < win0_12.index ⟨7, ht⟩ 0 * 1 + 1
      rw [e.1]
      omega
    | ⟨1, _⟩ =>
      show win0_12.index ⟨7, ht⟩ 1 * 1024 ≤ (i 1 : Nat) ∧ (i 1 : Nat) < win0_12.index ⟨7, ht⟩ 1 * 1024 + 1024
      rw [e.2]
      omega

end Cert.Kernel2Ideal.Blocks

end
-- ==== Proof.LayerNorm.lean ====
/-
  Layer normalisation of one row of 1024 numbers and its gradient, in extended reals.
-/
module

public import Idealize.ShloMosaic.Lib.Pointwise

@[expose] public section

noncomputable section

namespace Cert.LayerNorm

open Idealize.ShloMosaic

abbrev Row := Fin 1024 → EReal

/-- The normalised row's argument: the residual times √2 plus the gated branch. -/
def res (x y g : Row) : Row := fun l => Ideal.ofBits .f32 0x3FB504F3#32 * x l + g l * y l

/-- The deviation from the mean. -/
def dev (r : Row) : Row := fun l => r l - Ideal.div (∑ k, r k) (Ideal.ofBits .f32 0x44800000#32)

/-- The variance, with the small constant added. -/
def var (r : Row) : EReal :=
  Ideal.div (∑ k, dev r k * dev r k) (Ideal.ofBits .f32 0x44800000#32) + Ideal.ofBits .f32 0x3727C5AC#32

def rstd (r : Row) : EReal := Ideal.rsqrt (var r)

def norm (r gain bias : Row) : Row := fun l => dev r l * rstd r * gain l + bias l

/-! ## The gradient

`h` is the gradient with respect to the normalised row, already multiplied by the gain. -/

/-- The gradient with respect to the variance, per entry of the row. -/
def slope (r h : Row) : EReal :=
  Ideal.div ((∑ k, dev r k * h k) * (Ideal.ofBits .f32 0xBF000000#32 * Ideal.div (rstd r) (var r))) (Ideal.ofBits .f32 0x44800000#32)

/-- The gradient with respect to the deviation. -/
def devGrad (r h : Row) : Row := fun l => h l * rstd r + slope r h * (Ideal.ofBits .f32 0x40000000#32 * dev r l)

/-- The gradient with respect to the row. -/
def grad (r h : Row) : Row := fun l => devGrad r h l + Ideal.div (∑ k, -devGrad r h k) (Ideal.ofBits .f32 0x44800000#32)

theorem two_f32 : Ideal.ofBits .f32 0x40000000#32 = 2 := by
  simp [Ideal.ofBits, Ideal.ieee, -EReal.coe_mul]; norm_num; rfl

/-- The square's gradient by the product rule is twice the deviation. -/
theorem devGrad_eq (r h : Row) (l : Fin 1024) :
    h l * rstd r + dev r l * slope r h + slope r h * dev r l = devGrad r h l := by
  unfold devGrad
  rw [two_f32, add_assoc, mul_comm (dev r l), mul_left_comm, ← one_add_one_eq_two,
    EReal.right_distrib_of_nonneg zero_le_one zero_le_one, one_mul]

end Cert.LayerNorm

end
-- ==== Proof.FfnDownBwd.lean ====
/-
  The gradient of the down product with residual and layer normalisation: what each grid point leaves, and the six arrays after
  the last point.
-/
module

public import proofs.«01_k».proof.Proof.FfnDownBwdBlocks
public import proofs.«01_k».proof.Proof.LayerNorm
public import Idealize.ShloMosaic.Lib.Tactic

@[expose] public section

noncomputable section

namespace Cert.Kernel2Ideal.FfnDownBwd

open Cert.Kernel2Ideal Cert.Kernel2Ideal.Gen Cert.Kernel2Ideal.Blocks Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

open Cert.LayerNorm

/-! ## The values of one block -/

theorem pay4_apply (v1 v2 : Vec Ideal S512x1024 .f32) (v3 : Vec Ideal S1x1024 .f32) (r : Fin 512) (l : Fin 1024) :
    k0_pay4 v1 v2 v3 (ix2 r l) = dev (res (fun n => v1 (ix2 r n)) (fun n => v2 (ix2 r n)) (fun n => v3 (ix2 0 n))) l := by
  pointwise [k0_pay4]
  rfl

theorem pay5_apply (v1 v2 : Vec Ideal S512x1024 .f32) (v3 : Vec Ideal S1x1024 .f32) (r : Fin 512) :
    k0_pay5 v1 v2 v3 (ix2 r 0) = var (res (fun n => v1 (ix2 r n)) (fun n => v2 (ix2 r n)) (fun n => v3 (ix2 0 n))) := by
  pointwise [k0_pay5]
  simp only [pay4_apply]
  rfl

theorem pay6_apply (v1 v2 : Vec Ideal S512x1024 .f32) (v3 : Vec Ideal S1x1024 .f32) (r : Fin 512) :
    k0_pay6 v1 v2 v3 (ix2 r 0) = rstd (res (fun n => v1 (ix2 r n)) (fun n => v2 (ix2 r n)) (fun n => v3 (ix2 0 n))) := by
  pointwise [k0_pay6]
  rw [pay5_apply]
  rfl

theorem pay7_apply (v1 v2 : Vec Ideal S512x1024 .f32) (v3 : Vec Ideal S1x1024 .f32) (r : Fin 512) :
    k0_pay7 v1 v2 v3 (ix2 r 0)
      = Ideal.ofBits .f32 0xBF000000#32 * Ideal.div (rstd (res (fun n => v1 (ix2 r n)) (fun n => v2 (ix2 r n)) (fun n => v3 (ix2 0 n)))) (var (res (fun n => v1 (ix2 r n)) (fun n => v2 (ix2 r n)) (fun n => v3 (ix2 0 n)))) := by
  pointwise [k0_pay7]
  rw [pay5_apply, pay6_apply]

theorem pay8_apply (v0 : Vec Ideal S512x1024 .f32) (r : Fin 512) (l : Fin 1024) : k0_pay8 v0 (ix2 r l) = v0 (ix2 r l) := by
  pointwise [k0_pay8]

theorem pay11_apply (v4 : Vec Ideal S1x1024 .f32) (r : Fin 512) (l : Fin 1024) : k0_pay11 v4 (ix2 r l) = v4 (ix2 0 l) := by
  pointwise [k0_pay11]

/-- The gradient of the rows that were normalised. -/
theorem pay12_apply (v0 v1 v2 : Vec Ideal S512x1024 .f32) (v3 v4 : Vec Ideal S1x1024 .f32) (r : Fin 512) (l : Fin 1024) :
    k0_pay12 (k0_pay4 v1 v2 v3) (k0_pay6 v1 v2 v3) (k0_pay7 v1 v2 v3) (k0_pay8 v0) (k0_pay11 v4) (ix2 r l)
      = grad (res (fun n => v1 (ix2 r n)) (fun n => v2 (ix2 r n)) (fun n => v3 (ix2 0 n))) (fun n => v0 (ix2 r n) * v4 (ix2 0 n)) l := by
  pointwise [k0_pay12]
  simp only [Fin.sum_univ_one, pay4_apply, pay6_apply, pay7_apply, pay8_apply, pay11_apply, zero_sub]
  refine Eq.trans ?_ (congrArg₂ (fun a b => a + Ideal.div (∑ k, -b k) (Ideal.ofBits .f32 0x44800000#32))
    (devGrad_eq (res (fun n => v1 (ix2 r n)) (fun n => v2 (ix2 r n)) (fun n => v3 (ix2 0 n))) (fun n => v0 (ix2 r n) * v4 (ix2 0 n)) l)
    (funext fun k => devGrad_eq (res (fun n => v1 (ix2 r n)) (fun n => v2 (ix2 r n)) (fun n => v3 (ix2 0 n))) (fun n => v0 (ix2 r n) * v4 (ix2 0 n)) k))
  rfl

theorem pay9_apply (v0 : Vec Ideal S512x1024 .f32) (l : Fin 1024) :
    k0_pay9 v0 (ix2 0 l) = ∑ r : Fin 512, v0 (ix2 r l) := by
  pointwise [k0_pay9]

theorem pay10_apply (v0 v1 v2 : Vec Ideal S512x1024 .f32) (v3 : Vec Ideal S1x1024 .f32) (l : Fin 1024) :
    k0_pay10 v0 v1 v2 v3 (ix2 0 l)
      = ∑ r : Fin 512, dev (res (fun n => v1 (ix2 r n)) (fun n => v2 (ix2 r n)) (fun n => v3 (ix2 0 n))) l * rstd (res (fun n => v1 (ix2 r n)) (fun n => v2 (ix2 r n)) (fun n => v3 (ix2 0 n))) * v0 (ix2 r l) := by
  pointwise [k0_pay10]
  simp only [pay4_apply, pay6_apply, pay8_apply]

theorem pay13_apply (v0 v1 v2 : Vec Ideal S512x1024 .f32) (v3 v4 : Vec Ideal S1x1024 .f32) (l : Fin 1024) :
    k0_pay13 v2 (k0_pay4 v1 v2 v3) (k0_pay6 v1 v2 v3) (k0_pay7 v1 v2 v3) (k0_pay8 v0) (k0_pay11 v4) (ix2 0 l)
      = ∑ r : Fin 512, grad (res (fun n => v1 (ix2 r n)) (fun n => v2 (ix2 r n)) (fun n => v3 (ix2 0 n))) (fun n => v0 (ix2 r n) * v4 (ix2 0 n)) l * v2 (ix2 r l) := by
  pointwise [k0_pay13]
  simp only [pay12_apply]

theorem pay14_apply (v0 v1 v2 : Vec Ideal S512x1024 .f32) (v3 v4 : Vec Ideal S1x1024 .f32) (r : Fin 512) (l : Fin 1024) :
    k0_pay14 (k0_pay4 v1 v2 v3) (k0_pay6 v1 v2 v3) (k0_pay7 v1 v2 v3) (k0_pay8 v0) (k0_pay11 v4) (ix2 r l)
      = Ideal.ofBits .f32 0x3FB504F3#32 * grad (res (fun n => v1 (ix2 r n)) (fun n => v2 (ix2 r n)) (fun n => v3 (ix2 0 n))) (fun n => v0 (ix2 r n) * v4 (ix2 0 n)) l := by
  pointwise [k0_pay14]
  rw [pay12_apply]

theorem pay15_apply (v0 v1 v2 : Vec Ideal S512x1024 .f32) (v3 v4 : Vec Ideal S1x1024 .f32) (r : Fin 512) (l : Fin 1024) :
    k0_pay15 v3 (k0_pay4 v1 v2 v3) (k0_pay6 v1 v2 v3) (k0_pay7 v1 v2 v3) (k0_pay8 v0) (k0_pay11 v4) (ix2 r l)
      = v3 (ix2 0 l) * grad (res (fun n => v1 (ix2 r n)) (fun n => v2 (ix2 r n)) (fun n => v3 (ix2 0 n))) (fun n => v0 (ix2 r n) * v4 (ix2 0 n)) l := by
  pointwise [k0_pay15]
  rw [pay12_apply]

theorem pay16_apply (v0 v1 v2 : Vec Ideal S512x1024 .f32) (v3 v4 : Vec Ideal S1x1024 .f32) (v5 : Vec Ideal S4x704x1024 .bf16) (r : Fin 512) (n : Fin 2816) :
    k0_pay16 v3 v5 (k0_pay4 v1 v2 v3) (k0_pay6 v1 v2 v3) (k0_pay7 v1 v2 v3) (k0_pay8 v0) (k0_pay11 v4) (ix2 r n)
      = ∑ l : Fin 1024, (v3 (ix2 0 l) * grad (res (fun n => v1 (ix2 r n)) (fun n => v2 (ix2 r n)) (fun n => v3 (ix2 0 n))) (fun n => v0 (ix2 r n) * v4 (ix2 0 n)) l)
          * v5 (ix3 ⟨n.val / 704, by omega⟩ ⟨n.val % 704, by omega⟩ l) := by
  pointwise [k0_pay16]
  simp only [pay15_apply]

theorem pay1_apply (v a : FVec Ideal S1x1024 .f32) (l : Fin 1024) : k0_pay1 v a (ix2 0 l) = a (ix2 0 l) + v (ix2 0 l) := by
  pointwise [k0_pay1]

theorem pay2_apply (v a : FVec Ideal S1x1024 .f32) (l : Fin 1024) : k0_pay2 v a (ix2 0 l) = a (ix2 0 l) + v (ix2 0 l) := by
  pointwise [k0_pay2]

theorem pay3_apply (v a : FVec Ideal S1x1024 .f32) (l : Fin 1024) : k0_pay3 v a (ix2 0 l) = a (ix2 0 l) + v (ix2 0 l) := by
  pointwise [k0_pay3]

/-! ## What point `t` leaves in each output's block -/

theorem ds_at (c : Dev nD) (t : Fin cfg0.N) : (outsAt0 m c t.val t.isLt).1
    = k0_pay16 (iblk m c 3 t) (iblk m c 6 t) (k0_pay4 (iblk m c 1 t) (iblk m c 2 t) (iblk m c 3 t)) (k0_pay6 (iblk m c 1 t) (iblk m c 2 t) (iblk m c 3 t)) (k0_pay7 (iblk m c 1 t) (iblk m c 2 t) (iblk m c 3 t)) (k0_pay8 (iblk m c 0 t)) (k0_pay11 (iblk m c 4 t)) := by
  have hN := lt_points t
  by_cases h : t.val = 0
  · skip
    rw [outsAt0_A m c t (by omega) (by omega) (by omega) (by omega) (by omega) (by omega)]
    dsimp only
    unfold out0_A_7
    rw [View.read_writes_eq_canon _ _ _ (fun y => cover0_A_7 ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_6 t).read_unread, View.ld_unit_zero (S := S1x1024) hz2, View.ld_unit_zero (S := S4x704x1024) hz3, View.ld_unit_zero (S := S512x1024) hz2]
  · skip
    rw [outsAt0_B m c t (by omega) (by omega) (by omega) (by omega) (by omega) (by omega)]
    dsimp only
    unfold out0_B_7
    rw [View.read_writes_eq_canon _ _ _ (fun y => cover0_B_7 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_6 t).read_unread, View.ld_unit_zero (S := S1x1024) hz2, View.ld_unit_zero (S := S4x704x1024) hz3, View.ld_unit_zero (S := S512x1024) hz2]

theorem dx_at (c : Dev nD) (t : Fin cfg0.N) : (outsAt0 m c t.val t.isLt).2.1
    = k0_pay14 (k0_pay4 (iblk m c 1 t) (iblk m c 2 t) (iblk m c 3 t)) (k0_pay6 (iblk m c 1 t) (iblk m c 2 t) (iblk m c 3 t)) (k0_pay7 (iblk m c 1 t) (iblk m c 2 t) (iblk m c 3 t)) (k0_pay8 (iblk m c 0 t)) (k0_pay11 (iblk m c 4 t)) := by
  have hN := lt_points t
  by_cases h : t.val = 0
  · skip
    rw [outsAt0_A m c t (by omega) (by omega) (by omega) (by omega) (by omega) (by omega)]
    dsimp only
    unfold out0_A_8
    rw [View.read_writes_eq_canon _ _ _ (fun y => cover0_A_8 ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S1x1024) hz2, View.ld_unit_zero (S := S512x1024) hz2]
  · skip
    rw [outsAt0_B m c t (by omega) (by omega) (by omega) (by omega) (by omega) (by omega)]
    dsimp only
    unfold out0_B_8
    rw [View.read_writes_eq_canon _ _ _ (fun y => cover0_B_8 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S1x1024) hz2, View.ld_unit_zero (S := S512x1024) hz2]

theorem dyb_at (c : Dev nD) (t : Fin cfg0.N) : (outsAt0 m c t.val t.isLt).2.2.1
    = k0_pay15 (iblk m c 3 t) (k0_pay4 (iblk m c 1 t) (iblk m c 2 t) (iblk m c 3 t)) (k0_pay6 (iblk m c 1 t) (iblk m c 2 t) (iblk m c 3 t)) (k0_pay7 (iblk m c 1 t) (iblk m c 2 t) (iblk m c 3 t)) (k0_pay8 (iblk m c 0 t)) (k0_pay11 (iblk m c 4 t)) := by
  have hN := lt_points t
  by_cases h : t.val = 0
  · skip
    rw [outsAt0_A m c t (by omega) (by omega) (by omega) (by omega) (by omega) (by omega)]
    dsimp only
    unfold out0_A_9
    rw [View.read_writes_eq_canon _ _ _ (fun y => cover0_A_9 ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S1x1024) hz2, View.ld_unit_zero (S := S512x1024) hz2]
  · skip
    rw [outsAt0_B m c t (by omega) (by omega) (by omega) (by omega) (by omega) (by omega)]
    dsimp only
    unfold out0_B_9
    rw [View.read_writes_eq_canon _ _ _ (fun y => cover0_B_9 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S1x1024) hz2, View.ld_unit_zero (S := S512x1024) hz2]

theorem dgt_first (c : Dev nD) (t : Fin cfg0.N) (h : t.val = 0) : (outsAt0 m c t.val t.isLt).2.2.2.1
    = k0_pay13 (iblk m c 2 t) (k0_pay4 (iblk m c 1 t) (iblk m c 2 t) (iblk m c 3 t)) (k0_pay6 (iblk m c 1 t) (iblk m c 2 t) (iblk m c 3 t)) (k0_pay7 (iblk m c 1 t) (iblk m c 2 t) (iblk m c 3 t)) (k0_pay8 (iblk m c 0 t)) (k0_pay11 (iblk m c 4 t)) := by
  rw [outsAt0_A m c t (by omega) (by omega) (by omega) (by omega) (by omega) (by omega)]
  dsimp only
  unfold out0_A_10
  rw [View.read_writes_eq_canon _ _ _ (fun y => cover0_A_10 ..)]
  unfold kernelRun0_A
  dsimp only
  sl_unfold_words
  rw [View.canon_unit_zero hz2]
  simp only [View.readAt_eq_ld, (hs0_0 t).read_unread, (hs0_1 t).read_unread, (hs0_2 t).read_unread, (hs0_3 t).read_unread, (hs0_4 t).read_unread, View.ld_unit_zero (S := S1x1024) hz2, View.ld_unit_zero (S := S512x1024) hz2]

theorem dgt_next (c : Dev nD) (t : Fin cfg0.N) (h : t.val ≠ 0) : (outsAt0 m c t.val t.isLt).2.2.2.1
    = k0_pay1 (k0_pay13 (iblk m c 2 t) (k0_pay4 (iblk m c 1 t) (iblk m c 2 t) (iblk m c 3 t)) (k0_pay6 (iblk m c 1 t) (iblk m c 2 t) (iblk m c 3 t)) (k0_pay7 (iblk m c 1 t) (iblk m c 2 t) (iblk m c 3 t)) (k0_pay8 (iblk m c 0 t)) (k0_pay11 (iblk m c 4 t))) (outsAt0 m c (t.val - 1) (by have := t.isLt; omega)).2.2.2.1 := by
  have hN := lt_points t
  rw [outsAt0_B m c t (by omega) (by omega) (by omega) (by omega) (by omega) (by omega)]
  dsimp only
  unfold out0_B_10
  rw [View.read_writes_eq_canon _ _ _ (fun y => cover0_B_10 ..)]
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, View.ld_unit_zero (S := S1x1024) hz2, View.ld_unit_zero (S := S512x1024) hz2, (hs0_10 t).read_unread, shapeCast_self]

theorem dlng_first (c : Dev nD) (t : Fin cfg0.N) (h : t.val = 0) : (outsAt0 m c t.val t.isLt).2.2.2.2.1
    = k0_pay10 (iblk m c 0 t) (iblk m c 1 t) (iblk m c 2 t) (iblk m c 3 t) := by
  rw [outsAt0_A m c t (by omega) (by omega) (by omega) (by omega) (by omega) (by omega)]
  dsimp only
  unfold out0_A_11
  rw [View.read_writes_eq_canon _ _ _ (fun y => cover0_A_11 ..)]
  unfold kernelRun0_A
  dsimp only
  sl_unfold_words
  rw [View.canon_unit_zero hz2]
  simp only [View.readAt_eq_ld, (hs0_0 t).read_unread, (hs0_1 t).read_unread, (hs0_2 t).read_unread, (hs0_3 t).read_unread, View.ld_unit_zero (S := S1x1024) hz2, View.ld_unit_zero (S := S512x1024) hz2]

theorem dlng_next (c : Dev nD) (t : Fin cfg0.N) (h : t.val ≠ 0) : (outsAt0 m c t.val t.isLt).2.2.2.2.1
    = k0_pay2 (k0_pay10 (iblk m c 0 t) (iblk m c 1 t) (iblk m c 2 t) (iblk m c 3 t)) (outsAt0 m c (t.val - 1) (by have := t.isLt; omega)).2.2.2.2.1 := by
  have hN := lt_points t
  rw [outsAt0_B m c t (by omega) (by omega) (by omega) (by omega) (by omega) (by omega)]
  dsimp only
  unfold out0_B_11
  rw [View.read_writes_eq_canon _ _ _ (fun y => cover0_B_11 ..)]
  unfold kernelRun0_B
  dsimp only
  sl_unfold_words
  rw [View.canon_unit_zero hz2]
  simp only [View.readAt_eq_ld, (hs0_0 t).read_unread, (hs0_1 t).read_unread, (hs0_2 t).read_unread, (hs0_3 t).read_unread, View.ld_unit_zero (S := S1x1024) hz2, View.ld_unit_zero (S := S512x1024) hz2, (hs0_11 t).read_unread, shapeCast_self]

theorem dlnb_first (c : Dev nD) (t : Fin cfg0.N) (h : t.val = 0) : (outsAt0 m c t.val t.isLt).2.2.2.2.2
    = k0_pay9 (iblk m c 0 t) := by
  rw [outsAt0_A m c t (by omega) (by omega) (by omega) (by omega) (by omega) (by omega)]
  dsimp only
  unfold out0_A_12
  rw [View.read_writes_eq_canon _ _ _ (fun y => cover0_A_12 ..)]
  unfold kernelRun0_A
  dsimp only
  sl_unfold_words
  rw [View.canon_unit_zero hz2]
  simp only [View.readAt_eq_ld, (hs0_0 t).read_unread, View.ld_unit_zero (S := S512x1024) hz2]

theorem dlnb_next (c : Dev nD) (t : Fin cfg0.N) (h : t.val ≠ 0) : (outsAt0 m c t.val t.isLt).2.2.2.2.2
    = k0_pay3 (k0_pay9 (iblk m c 0 t)) (outsAt0 m c (t.val - 1) (by have := t.isLt; omega)).2.2.2.2.2 := by
  have hN := lt_points t
  rw [outsAt0_B m c t (by omega) (by omega) (by omega) (by omega) (by omega) (by omega)]
  dsimp only
  unfold out0_B_12
  rw [View.read_writes_eq_canon _ _ _ (fun y => cover0_B_12 ..)]
  unfold kernelRun0_B
  dsimp only
  sl_unfold_words
  rw [View.canon_unit_zero hz2]
  simp only [View.readAt_eq_ld, (hs0_0 t).read_unread, View.ld_unit_zero (S := S1x1024) hz2, View.ld_unit_zero (S := S512x1024) hz2, (hs0_12 t).read_unread, shapeCast_self]

/-! ## The six gradients over the whole arrays -/

/-- Row `k` of what was normalised. -/
def row (c : Dev nD) (k : Fin 4096) : Row :=
  res (fun n => arg1 m c (ix2 k n)) (fun n => arg2 m c (ix2 k n)) (fun n => arg3 m c (ix2 0 n))

/-- Its gradient. -/
def dr (c : Dev nD) (k : Fin 4096) : Row := grad (row m c k) (fun n => arg0 m c (ix2 k n) * arg4 m c (ix2 0 n))

def ds (c : Dev nD) : FVec Ideal S4096x2816 .bf16 := fun i =>
  ∑ l : Fin 1024, (arg3 m c (ix2 0 l) * dr m c (i 0) l) * arg6 m c (ix3 ⟨(i 1).val / 704, by
      have h1 : (i 1).val < 2816 := (i 1).isLt
      omega⟩ ⟨(i 1).val % 704, by omega⟩ l)

def dx (c : Dev nD) : FVec Ideal S4096x1024 .f32 := fun i => Ideal.ofBits .f32 0x3FB504F3#32 * dr m c (i 0) (i 1)

def dyb (c : Dev nD) : FVec Ideal S4096x1024 .bf16 := fun i => arg3 m c (ix2 0 (i 1)) * dr m c (i 0) (i 1)

def dgt (c : Dev nD) : FVec Ideal S1x1024 .f32 := fun i => ∑ k : Fin 4096, dr m c k (i 1) * arg2 m c (ix2 k (i 1))

def dlng (c : Dev nD) : FVec Ideal S1x1024 .f32 := fun i =>
  ∑ k : Fin 4096, dev (row m c k) (i 1) * rstd (row m c k) * arg0 m c (ix2 k (i 1))

def dlnb (c : Dev nD) : FVec Ideal S1x1024 .f32 := fun i => ∑ k : Fin 4096, arg0 m c (ix2 k (i 1))

theorem ds_final (c : Dev nD) : (dats m 0 c).arrAt 7 cfg0.N = ds m c :=
  final7 m c (ds m c) fun t r l => by
    rw [ds_at, pay16_apply]
    simp only [block0, block1, block2, block3, block4, block6]
    rfl

theorem dx_final (c : Dev nD) : (dats m 0 c).arrAt 8 cfg0.N = dx m c :=
  final8 m c (dx m c) fun t r l => by
    rw [dx_at, pay14_apply]
    simp only [block0, block1, block2, block3, block4]
    rfl

theorem dyb_final (c : Dev nD) : (dats m 0 c).arrAt 9 cfg0.N = dyb m c :=
  final9 m c (dyb m c) fun t r l => by
    rw [dyb_at, pay15_apply]
    simp only [block0, block1, block2, block3, block4]
    rfl

theorem dgt_block (c : Dev nD) (t : Fin cfg0.N) (l : Fin 1024) :
    k0_pay13 (iblk m c 2 t) (k0_pay4 (iblk m c 1 t) (iblk m c 2 t) (iblk m c 3 t)) (k0_pay6 (iblk m c 1 t) (iblk m c 2 t) (iblk m c 3 t)) (k0_pay7 (iblk m c 1 t) (iblk m c 2 t) (iblk m c 3 t)) (k0_pay8 (iblk m c 0 t)) (k0_pay11 (iblk m c 4 t)) (ix2 0 l)
      = ∑ r : Fin 512, (fun k : Fin 4096 => dr m c k l * arg2 m c (ix2 k l)) ⟨t.val * 512 + r.val, by have := lt_points t; omega⟩ := by
  rw [pay13_apply]
  simp only [block0, block1, block2, block3, block4]
  rfl

theorem dgt_final (c : Dev nD) : (dats m 0 c).arrAt 10 cfg0.N = dgt m c := by
  refine final10 m c (dgt m c) fun t ht => funext fun (i : S1x1024.Idx) => ?_
  obtain ⟨p, l, rfl⟩ : ∃ p l, i = ix2 p l := ⟨i 0, i 1, funext fun a => by fin_cases a <;> rfl⟩
  obtain rfl : p = 0 := Subsingleton.elim _ _
  exact Rows.sum_rows (B := 512) (M := 4096) (by rw [points]) (fun n h => (outsAt0 m c n h).2.2.2.1 (ix2 0 l)) (fun k => dr m c k l * arg2 m c (ix2 k l))
    (fun h => (congrFun (dgt_first m c ⟨0, h⟩ rfl) _).trans (dgt_block m c _ l))
    (fun n h => by
      refine (congrFun (dgt_next m c ⟨n + 1, h⟩ (by simp)) _).trans ?_
      rw [pay1_apply]
      exact congrArg _ (dgt_block m c _ l))
    t.val t.isLt (by have := points; omega)

theorem dlng_block (c : Dev nD) (t : Fin cfg0.N) (l : Fin 1024) :
    k0_pay10 (iblk m c 0 t) (iblk m c 1 t) (iblk m c 2 t) (iblk m c 3 t) (ix2 0 l)
      = ∑ r : Fin 512, (fun k : Fin 4096 => dev (row m c k) l * rstd (row m c k) * arg0 m c (ix2 k l)) ⟨t.val * 512 + r.val, by have := lt_points t; omega⟩ := by
  rw [pay10_apply]
  simp only [block0, block1, block2, block3, block4]
  rfl

theorem dlng_final (c : Dev nD) : (dats m 0 c).arrAt 11 cfg0.N = dlng m c := by
  refine final11 m c (dlng m c) fun t ht => funext fun (i : S1x1024.Idx) => ?_
  obtain ⟨p, l, rfl⟩ : ∃ p l, i = ix2 p l := ⟨i 0, i 1, funext fun a => by fin_cases a <;> rfl⟩
  obtain rfl : p = 0 := Subsingleton.elim _ _
  exact Rows.sum_rows (B := 512) (M := 4096) (by rw [points]) (fun n h => (outsAt0 m c n h).2.2.2.2.1 (ix2 0 l)) (fun k => dev (row m c k) l * rstd (row m c k) * arg0 m c (ix2 k l))
    (fun h => (congrFun (dlng_first m c ⟨0, h⟩ rfl) _).trans (dlng_block m c _ l))
    (fun n h => by
      refine (congrFun (dlng_next m c ⟨n + 1, h⟩ (by simp)) _).trans ?_
      rw [pay2_apply]
      exact congrArg _ (dlng_block m c _ l))
    t.val t.isLt (by have := points; omega)

theorem dlnb_block (c : Dev nD) (t : Fin cfg0.N) (l : Fin 1024) :
    k0_pay9 (iblk m c 0 t) (ix2 0 l)
      = ∑ r : Fin 512, (fun k : Fin 4096 => arg0 m c (ix2 k l)) ⟨t.val * 512 + r.val, by have := lt_points t; omega⟩ := by
  rw [pay9_apply]
  simp only [block0]

theorem dlnb_final (c : Dev nD) : (dats m 0 c).arrAt 12 cfg0.N = dlnb m c := by
  refine final12 m c (dlnb m c) fun t ht => funext fun (i : S1x1024.Idx) => ?_
  obtain ⟨p, l, rfl⟩ : ∃ p l, i = ix2 p l := ⟨i 0, i 1, funext fun a => by fin_cases a <;> rfl⟩
  obtain rfl : p = 0 := Subsingleton.elim _ _
  exact Rows.sum_rows (B := 512) (M := 4096) (by rw [points]) (fun n h => (outsAt0 m c n h).2.2.2.2.2 (ix2 0 l)) (fun k => arg0 m c (ix2 k l))
    (fun h => (congrFun (dlnb_first m c ⟨0, h⟩ rfl) _).trans (dlnb_block m c _ l))
    (fun n h => by
      refine (congrFun (dlnb_next m c ⟨n + 1, h⟩ (by simp)) _).trans ?_
      rw [pay3_apply]
      exact congrArg _ (dlnb_block m c _ l))
    t.val t.isLt (by have := points; omega)

end Cert.Kernel2Ideal.FfnDownBwd

end
-- ==== Proof.FfnDownBwdRef.lean ====
/-
  The reference's gradient of the down product with residual and layer normalisation, read at an index.
-/
module

public import proofs.«01_k».proof.Proof.Gen.Reference2Ideal.Run
public import Idealize.ShloMosaic.Lib.Pointwise
public import proofs.«01_k».proof.Proof.LayerNorm

@[expose] public section

noncomputable section

namespace Cert.Reference2Ideal.FfnDownBwd

open Cert.Reference2Ideal Cert.Reference2Ideal.Gen Idealize.ShloMosaic Idealize.ShloMosaic.TcCoe Idealize.SL.Sem

open Cert.LayerNorm

/-! The reference's steps as functions of arrays, each read at an index. -/

def resid (a1 a2 : FVec Ideal S4096x1024 .f32) (a3 : FVec Ideal S1x1024 .f32) : FVec Ideal S4096x1024 .f32 :=
  addf (mulf (broadcastInDim S4096x1024 ![] bcast_S_S4096x1024 (constant S_ .f32 0x3FB504F3#32)) a1) (mulf (broadcastInDim S4096x1024 ![0, 1] bcast_S1x1024_S4096x1024_0_1 a3) a2)

theorem resid_apply (a1 a2 : FVec Ideal S4096x1024 .f32) (a3 : FVec Ideal S1x1024 .f32) (k : Fin 4096) (l : Fin 1024) :
    resid a1 a2 a3 (ix2 k l) = (res (fun n => a1 (ix2 k n)) (fun n => a2 (ix2 k n)) (fun n => a3 (ix2 0 n))) l := by
  unfold resid
  pointwise
  rfl

def devs (r : FVec Ideal S4096x1024 .f32) : FVec Ideal S4096x1024 .f32 :=
  subf r (broadcastInDim S4096x1024 ![0, 1] bcast_S4096x1_S4096x1024_0_1 (Host.divf (broadcastInDim S4096x1 ![0] bcast_S4096_S4096x1_0 (Host.reduceAdd r (constant S_ .f32 0x00000000#32) reducesTo_S4096x1024_S4096_d1 h_S_)) (broadcastInDim S4096x1 ![] bcast_S_S4096x1 (constant S_ .f32 0x44800000#32))))

theorem devs_apply (r : FVec Ideal S4096x1024 .f32) (k : Fin 4096) (l : Fin 1024) :
    devs r (ix2 k l) = dev (fun n => r (ix2 k n)) l := by
  unfold devs
  pointwise
  rfl

def vars (d : FVec Ideal S4096x1024 .f32) : FVec Ideal S4096x1 .f32 :=
  addf (Host.divf (broadcastInDim S4096x1 ![0] bcast_S4096_S4096x1_0 (Host.reduceAdd (mulf d d) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32))

theorem vars_apply (r : FVec Ideal S4096x1024 .f32) (k : Fin 4096) : vars (devs r) (ix2 k 0) = var (fun n => r (ix2 k n)) := by
  unfold vars
  pointwise
  simp only [devs_apply]
  rfl

def scaled (a0 : FVec Ideal S4096x1024 .f32) (a4 : FVec Ideal S1x1024 .f32) : FVec Ideal S4096x1024 .f32 :=
  mulf (shapeCast S4096x1024 a0 shapeCasts_S4096x1024_S4096x1024) (broadcastInDim S4096x1024 ![0, 1] bcast_S1x1024_S4096x1024_0_1 a4)

theorem scaled_apply (a0 : FVec Ideal S4096x1024 .f32) (a4 : FVec Ideal S1x1024 .f32) (k : Fin 4096) (l : Fin 1024) :
    scaled a0 a4 (ix2 k l) = a0 (ix2 k l) * a4 (ix2 0 l) := by
  unfold scaled
  pointwise

def slopes (d h : FVec Ideal S4096x1024 .f32) (v : FVec Ideal S4096x1 .f32) : FVec Ideal S4096 .f32 :=
  Host.reduceAdd (Host.divf (mulf (shapeCast S4096x1 (Host.reduceAdd (mulf d h) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt v) v))) (broadcastInDim S4096x1 ![] bcast_S_S4096x1 (constant S_ .f32 0x44800000#32))) (constant S_ .f32 0x00000000#32) reducesTo_S4096x1_S4096_d1 h_S_

theorem slopes_apply (r h : FVec Ideal S4096x1024 .f32) (k : Fin 4096) :
    slopes (devs r) h (vars (devs r)) (ix1 k) = slope (fun n => r (ix2 k n)) (fun n => h (ix2 k n)) := by
  unfold slopes
  pointwise
  simp only [devs_apply, vars_apply, Fin.sum_univ_one]
  rfl

def devGrads (d h : FVec Ideal S4096x1024 .f32) (v : FVec Ideal S4096x1 .f32) (s : FVec Ideal S4096 .f32) : FVec Ideal S4096x1024 .f32 :=
  addf (mulf h (broadcastInDim S4096x1024 ![0, 1] bcast_S4096x1_S4096x1024_0_1 (Host.rsqrt v))) (mulf (broadcastInDim S4096x1024 ![0] bcast_S4096_S4096x1024_0 s) (mulf (broadcastInDim S4096x1024 ![] bcast_S_S4096x1024 (constant S_ .f32 0x40000000#32)) d))

theorem devGrads_apply (r h : FVec Ideal S4096x1024 .f32) (k : Fin 4096) (l : Fin 1024) :
    devGrads (devs r) h (vars (devs r)) (slopes (devs r) h (vars (devs r))) (ix2 k l)
      = devGrad (fun n => r (ix2 k n)) (fun n => h (ix2 k n)) l := by
  unfold devGrads
  pointwise
  simp only [devs_apply, vars_apply, slopes_apply]
  rfl

def grads (p : FVec Ideal S4096x1024 .f32) : FVec Ideal S4096x1024 .f32 :=
  addf p (broadcastInDim S4096x1024 ![0] bcast_S4096_S4096x1024_0 (Host.reduceAdd (Host.divf (shapeCast S4096x1 (Host.reduceAdd (Host.negf p) (constant S_ .f32 0x00000000#32) reducesTo_S4096x1024_S4096_d1 h_S_) shapeCasts_S4096_S4096x1) (broadcastInDim S4096x1 ![] bcast_S_S4096x1 (constant S_ .f32 0x44800000#32))) (constant S_ .f32 0x00000000#32) reducesTo_S4096x1_S4096_d1 h_S_))

theorem grads_apply (p : FVec Ideal S4096x1024 .f32) (k : Fin 4096) (l : Fin 1024) :
    grads p (ix2 k l) = p (ix2 k l) + Ideal.div (∑ n : Fin 1024, -p (ix2 k n)) (Ideal.ofBits .f32 0x44800000#32) := by
  unfold grads
  pointwise
  simp only [Fin.sum_univ_one]

/-- The gradient of the rows that were normalised. -/
def drs (a0 a1 a2 : FVec Ideal S4096x1024 .f32) (a3 a4 : FVec Ideal S1x1024 .f32) : FVec Ideal S4096x1024 .f32 :=
  grads (devGrads (devs (resid a1 a2 a3)) (scaled a0 a4) (vars (devs (resid a1 a2 a3)))
    (slopes (devs (resid a1 a2 a3)) (scaled a0 a4) (vars (devs (resid a1 a2 a3)))))

theorem drs_apply (a0 a1 a2 : FVec Ideal S4096x1024 .f32) (a3 a4 : FVec Ideal S1x1024 .f32) (k : Fin 4096) (l : Fin 1024) :
    drs a0 a1 a2 a3 a4 (ix2 k l) = grad (res (fun n => a1 (ix2 k n)) (fun n => a2 (ix2 k n)) (fun n => a3 (ix2 0 n))) (fun n => a0 (ix2 k n) * a4 (ix2 0 n)) l := by
  unfold drs
  rw [grads_apply]
  simp only [devGrads_apply, resid_apply, scaled_apply]
  rfl

/-! The six results, from the gradient `g` of the rows. -/

theorem ds_apply (g : FVec Ideal S4096x1024 .f32) (a3 : FVec Ideal S1x1024 .f32) (a6 : FVec Ideal S4x704x1024 .bf16) (k : Fin 4096) (n : Fin 2816) :
    (truncf .bf16 (Host.dotGeneral dot_S4096x1024_S2816x1024_S4096x2816_1_1_0_0_n_n none (mulf (broadcastInDim S4096x1024 ![0, 1] bcast_S1x1024_S4096x1024_0_1 a3) g) (extf .f32 (shapeCast S2816x1024 a6 shapeCasts_S4x704x1024_S2816x1024) bitsLt_bf16_f32)) bitsLt_bf16_f32 : FVec Ideal S4096x2816 .bf16) (ix2 k n)
      = ∑ l : Fin 1024, (a3 (ix2 0 l) * g (ix2 k l)) * a6 (ix3 ⟨n.val / 704, by omega⟩ ⟨n.val % 704, by omega⟩ l) := by
  pointwise

theorem dx_apply (g : FVec Ideal S4096x1024 .f32) (k : Fin 4096) (l : Fin 1024) :
    (mulf (broadcastInDim S4096x1024 ![] bcast_S_S4096x1024 (constant S_ .f32 0x3FB504F3#32)) g : FVec Ideal S4096x1024 .f32) (ix2 k l)
      = Ideal.ofBits .f32 0x3FB504F3#32 * g (ix2 k l) := by
  pointwise

theorem dyb_apply (g : FVec Ideal S4096x1024 .f32) (a3 : FVec Ideal S1x1024 .f32) (k : Fin 4096) (l : Fin 1024) :
    (truncf .bf16 (mulf (broadcastInDim S4096x1024 ![0, 1] bcast_S1x1024_S4096x1024_0_1 a3) g) bitsLt_bf16_f32 : FVec Ideal S4096x1024 .bf16) (ix2 k l)
      = a3 (ix2 0 l) * g (ix2 k l) := by
  pointwise

theorem dgt_apply (g a2 : FVec Ideal S4096x1024 .f32) (l : Fin 1024) :
    (shapeCast S1x1024 (Host.reduceAdd (mulf g a2) (constant S_ .f32 0x00000000#32) reducesTo_S4096x1024_S1024_d0 h_S_) shapeCasts_S1024_S1x1024 : FVec Ideal S1x1024 .f32) (ix2 0 l)
      = ∑ k : Fin 4096, g (ix2 k l) * a2 (ix2 k l) := by
  pointwise

theorem dlng_apply (a0 d : FVec Ideal S4096x1024 .f32) (v : FVec Ideal S4096x1 .f32) (l : Fin 1024) :
    (shapeCast S1x1024 (Host.reduceAdd (mulf (mulf d (broadcastInDim S4096x1024 ![0, 1] bcast_S4096x1_S4096x1024_0_1 (Host.rsqrt v))) (shapeCast S4096x1024 a0 shapeCasts_S4096x1024_S4096x1024)) (constant S_ .f32 0x00000000#32) reducesTo_S4096x1024_S1024_d0 h_S_) shapeCasts_S1024_S1x1024 : FVec Ideal S1x1024 .f32) (ix2 0 l)
      = ∑ k : Fin 4096, d (ix2 k l) * Ideal.rsqrt (v (ix2 k 0)) * a0 (ix2 k l) := by
  pointwise

theorem dlnb_apply (a0 : FVec Ideal S4096x1024 .f32) (l : Fin 1024) :
    (shapeCast S1x1024 (Host.reduceAdd a0 (constant S_ .f32 0x00000000#32) reducesTo_S4096x1024_S1024_d0 h_S_) shapeCasts_S1024_S1x1024 : FVec Ideal S1x1024 .f32) (ix2 0 l)
      = ∑ k : Fin 4096, a0 (ix2 k l) := by
  pointwise

end Cert.Reference2Ideal.FfnDownBwd

end
-- ==== Proof.FfnDownBwdClaim.lean ====
/-
  The gradient of the down product with residual and layer normalisation: kernel and reference compute the same six arrays.
-/
module

public import proofs.«01_k».proof.Defs
public import proofs.«01_k».proof.Proof.FfnDownBwd
public import proofs.«01_k».proof.Proof.FfnDownBwdRef

@[expose] public section

noncomputable section

open Idealize.ShloMosaic Idealize.ShloMosaic.TcCoe Idealize.SL.Sem

theorem Cert.FfnDownBwd.claim : Cert.algebraic_Kernel2Ideal_Reference2Ideal := by
  intro m g m' g' _ args
  refine ⟨Cert.Kernel2Ideal.FfnDownBwd.ds m, Cert.Kernel2Ideal.FfnDownBwd.dx m, Cert.Kernel2Ideal.FfnDownBwd.dyb m, Cert.Kernel2Ideal.FfnDownBwd.dgt m, Cert.Kernel2Ideal.FfnDownBwd.dlng m, Cert.Kernel2Ideal.FfnDownBwd.dlnb m,
    (θ_run _ _ _).mono (fun r h c => ?_) (Cert.Kernel2Ideal.Value.run_blocks m g),
    (θ_run _ _ _).mono (fun r h c => ?_) (Cert.Reference2Ideal.Value.run m' g')⟩
  · obtain ⟨h0, h1, h2, h3, h4, h5, hrest⟩ := h c
    exact ⟨h0.trans (Cert.Kernel2Ideal.FfnDownBwd.ds_final m c),
      h1.trans (Cert.Kernel2Ideal.FfnDownBwd.dx_final m c),
      h2.trans (Cert.Kernel2Ideal.FfnDownBwd.dyb_final m c),
      h3.trans (Cert.Kernel2Ideal.FfnDownBwd.dgt_final m c),
      h4.trans (Cert.Kernel2Ideal.FfnDownBwd.dlng_final m c),
      h5.trans (Cert.Kernel2Ideal.FfnDownBwd.dlnb_final m c), hrest⟩
  · obtain ⟨h0, h1, h2, h3, h4, h5, hrest⟩ := h c
    obtain ⟨e0, e1, e2, e3, e4, e5, e6⟩ := args c
    refine ⟨h0.trans ?_, h1.trans ?_, h2.trans ?_, h3.trans ?_, h4.trans ?_, h5.trans ?_, hrest⟩
    · skip
      refine funext fun (i : Cert.Reference2Ideal.S4096x2816.Idx) => ?_
      obtain ⟨p, q, rfl⟩ : ∃ p q, i = ix2 p q := ⟨i 0, i 1, funext fun a => by fin_cases a <;> rfl⟩
      unfold Cert.Reference2Ideal.Value.res_main_v70
      rw [e0, e1, e2, e3, e4, e6]
      refine (Cert.Reference2Ideal.FfnDownBwd.ds_apply (Cert.Reference2Ideal.FfnDownBwd.drs _ _ _ _ _) _ _ p q).trans ?_
      simp only [Cert.Reference2Ideal.FfnDownBwd.drs_apply]
      rfl
    · skip
      refine funext fun (i : Cert.Reference2Ideal.S4096x1024.Idx) => ?_
      obtain ⟨p, q, rfl⟩ : ∃ p q, i = ix2 p q := ⟨i 0, i 1, funext fun a => by fin_cases a <;> rfl⟩
      unfold Cert.Reference2Ideal.Value.res_main_v64
      rw [e0, e1, e2, e3, e4]
      refine (Cert.Reference2Ideal.FfnDownBwd.dx_apply (Cert.Reference2Ideal.FfnDownBwd.drs _ _ _ _ _) p q).trans ?_
      simp only [Cert.Reference2Ideal.FfnDownBwd.drs_apply]
      rfl
    · skip
      refine funext fun (i : Cert.Reference2Ideal.S4096x1024.Idx) => ?_
      obtain ⟨p, q, rfl⟩ : ∃ p q, i = ix2 p q := ⟨i 0, i 1, funext fun a => by fin_cases a <;> rfl⟩
      unfold Cert.Reference2Ideal.Value.res_main_v71
      rw [e0, e1, e2, e3, e4]
      refine (Cert.Reference2Ideal.FfnDownBwd.dyb_apply (Cert.Reference2Ideal.FfnDownBwd.drs _ _ _ _ _) _ p q).trans ?_
      simp only [Cert.Reference2Ideal.FfnDownBwd.drs_apply]
      rfl
    · skip
      refine funext fun (i : Cert.Reference2Ideal.S1x1024.Idx) => ?_
      obtain ⟨p, q, rfl⟩ : ∃ p q, i = ix2 p q := ⟨i 0, i 1, funext fun a => by fin_cases a <;> rfl⟩
      obtain rfl : p = 0 := Subsingleton.elim _ _
      unfold Cert.Reference2Ideal.Value.res_main_v62
      rw [e0, e1, e2, e3, e4]
      refine (Cert.Reference2Ideal.FfnDownBwd.dgt_apply (Cert.Reference2Ideal.FfnDownBwd.drs _ _ _ _ _) _ q).trans ?_
      simp only [Cert.Reference2Ideal.FfnDownBwd.drs_apply]
      rfl
    · skip
      refine funext fun (i : Cert.Reference2Ideal.S1x1024.Idx) => ?_
      obtain ⟨p, q, rfl⟩ : ∃ p q, i = ix2 p q := ⟨i 0, i 1, funext fun a => by fin_cases a <;> rfl⟩
      obtain rfl : p = 0 := Subsingleton.elim _ _
      rw [e0, e1, e2, e3]
      refine (Cert.Reference2Ideal.FfnDownBwd.dlng_apply _ (Cert.Reference2Ideal.FfnDownBwd.devs (Cert.Reference2Ideal.FfnDownBwd.resid _ _ _)) (Cert.Reference2Ideal.FfnDownBwd.vars (Cert.Reference2Ideal.FfnDownBwd.devs (Cert.Reference2Ideal.FfnDownBwd.resid _ _ _))) q).trans ?_
      simp only [Cert.Reference2Ideal.FfnDownBwd.devs_apply, Cert.Reference2Ideal.FfnDownBwd.vars_apply, Cert.Reference2Ideal.FfnDownBwd.resid_apply]
      rfl
    · skip
      refine funext fun (i : Cert.Reference2Ideal.S1x1024.Idx) => ?_
      obtain ⟨p, q, rfl⟩ : ∃ p q, i = ix2 p q := ⟨i 0, i 1, funext fun a => by fin_cases a <;> rfl⟩
      obtain rfl : p = 0 := Subsingleton.elim _ _
      rw [e0]
      refine (Cert.Reference2Ideal.FfnDownBwd.dlnb_apply _ q).trans ?_
      rfl

end
-- ==== Proof.FfnUpBwdBlocks.lean ====
/-
  The blocks of the gradient of the feed-forward block's up product.
-/
module

public import proofs.«01_k».proof.Proof.Gen.Kernel3Ideal.Value
public import proofs.«01_k».proof.Proof.Rows
public import Idealize.ShloMosaic.Lib.Pipeline.Value
public import Idealize.ShloMosaic.Lib.Pointwise

@[expose] public section

noncomputable section

namespace Cert.Kernel3Ideal.Blocks

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

theorem points : cfg0.N = 16 := N_0

theorem lt_points (t : Fin cfg0.N) : t.val < 16 := lt_of_lt_of_eq t.isLt N_0

theorem index0 : ∀ t : Fin cfg0.N, win0_0.index t 0 = t.val ∧ win0_0.index t 1 = 0 :=
  (by decide +kernel : ∀ t : Fin grid0.N, win0_0.index t 0 = t.val ∧ win0_0.index t 1 = 0)

abbrev arg0 (c : Dev nD) : FVec Ideal S4096x5632 .bf16 := m ((c : Thread nD τ).loc main_arg0)

theorem block0 (c : Dev nD) (t : Fin cfg0.N) (p : Fin 256) (q : Fin 5632) :
    iblk m c 0 t (ix2 p q) = arg0 m c (ix2 ⟨t.val * 256 + p.val, by have := lt_points t; omega⟩ q) := by
  refine congrArg (arg0 m c) (funext fun a => Fin.ext ((win0_0.rect_emb_val t (ix2 p q) a).trans ?_))
  match a with
  | ⟨0, _⟩ => show win0_0.index t 0 * 256 + p.val = t.val * 256 + p.val; rw [(index0 t).1]
  | ⟨1, _⟩ => show win0_0.index t 1 * 5632 + q.val = q.val; rw [(index0 t).2]; omega

theorem index1 : ∀ t : Fin cfg0.N, win0_1.index t 0 = t.val ∧ win0_1.index t 1 = 0 :=
  (by decide +kernel : ∀ t : Fin grid0.N, win0_1.index t 0 = t.val ∧ win0_1.index t 1 = 0)

abbrev arg1 (c : Dev nD) : FVec Ideal S4096x1024 .f32 := m ((c : Thread nD τ).loc main_arg1)

theorem block1 (c : Dev nD) (t : Fin cfg0.N) (p : Fin 256) (q : Fin 1024) :
    iblk m c 1 t (ix2 p q) = arg1 m c (ix2 ⟨t.val * 256 + p.val, by have := lt_points t; omega⟩ q) := by
  refine congrArg (arg1 m c) (funext fun a => Fin.ext ((win0_1.rect_emb_val t (ix2 p q) a).trans ?_))
  match a with
  | ⟨0, _⟩ => show win0_1.index t 0 * 256 + p.val = t.val * 256 + p.val; rw [(index1 t).1]
  | ⟨1, _⟩ => show win0_1.index t 1 * 1024 + q.val = q.val; rw [(index1 t).2]; omega

theorem index2 : ∀ t : Fin cfg0.N, win0_2.index t 0 = 0 ∧ win0_2.index t 1 = 0 :=
  (by decide +kernel : ∀ t : Fin grid0.N, win0_2.index t 0 = 0 ∧ win0_2.index t 1 = 0)

abbrev arg2 (c : Dev nD) : FVec Ideal S1x1024 .f32 := m ((c : Thread nD τ).loc main_arg2)

theorem block2 (c : Dev nD) (t : Fin cfg0.N) : iblk m c 2 t = arg2 m c := by
  refine funext fun (y : S1x1024.Idx) => congrArg (arg2 m c) (funext fun a => Fin.ext ((win0_2.rect_emb_val t y a).trans ?_))
  match a with
  | ⟨0, _⟩ => show win0_2.index t 0 * 1 + (y 0).val = (y 0).val; rw [(index2 t).1]; omega
  | ⟨1, _⟩ => show win0_2.index t 1 * 1024 + (y 1).val = (y 1).val; rw [(index2 t).2]; omega

theorem index3 : ∀ t : Fin cfg0.N, win0_3.index t 0 = 0 ∧ win0_3.index t 1 = 0 :=
  (by decide +kernel : ∀ t : Fin grid0.N, win0_3.index t 0 = 0 ∧ win0_3.index t 1 = 0)

abbrev arg3 (c : Dev nD) : FVec Ideal S1x1024 .f32 := m ((c : Thread nD τ).loc main_arg3)

theorem block3 (c : Dev nD) (t : Fin cfg0.N) : iblk m c 3 t = arg3 m c := by
  refine funext fun (y : S1x1024.Idx) => congrArg (arg3 m c) (funext fun a => Fin.ext ((win0_3.rect_emb_val t y a).trans ?_))
  match a with
  | ⟨0, _⟩ => show win0_3.index t 0 * 1 + (y 0).val = (y 0).val; rw [(index3 t).1]; omega
  | ⟨1, _⟩ => show win0_3.index t 1 * 1024 + (y 1).val = (y 1).val; rw [(index3 t).2]; omega

theorem index4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)

abbrev arg4 (c : Dev nD) : FVec Ideal S4x1024x1408 .bf16 := m ((c : Thread nD τ).loc main_arg4)

theorem block4 (c : Dev nD) (t : Fin cfg0.N) : iblk m c 4 t = arg4 m c := by
  refine funext fun (y : S4x1024x1408.Idx) => congrArg (arg4 m c) (funext fun a => Fin.ext ((win0_4.rect_emb_val t y a).trans ?_))
  match a with
  | ⟨0, _⟩ => show win0_4.index t 0 * 4 + (y 0).val = (y 0).val; rw [(index4 t).1]; omega
  | ⟨1, _⟩ => show win0_4.index t 1 * 1024 + (y 1).val = (y 1).val; rw [(index4 t).2.1]; omega
  | ⟨2, _⟩ => show win0_4.index t 2 * 1408 + (y 2).val = (y 2).val; rw [(index4 t).2.2]; omega

theorem index5 : ∀ t : Fin cfg0.N, win0_5.index t 0 = t.val ∧ win0_5.index t 1 = 0 :=
  (by decide +kernel : ∀ t : Fin grid0.N, win0_5.index t 0 = t.val ∧ win0_5.index t 1 = 0)

abbrev arg5 (c : Dev nD) : FVec Ideal S4096x1024 .f32 := m ((c : Thread nD τ).loc main_arg5)

theorem block5 (c : Dev nD) (t : Fin cfg0.N) (p : Fin 256) (q : Fin 1024) :
    iblk m c 5 t (ix2 p q) = arg5 m c (ix2 ⟨t.val * 256 + p.val, by have := lt_points t; omega⟩ q) := by
  refine congrArg (arg5 m c) (funext fun a => Fin.ext ((win0_5.rect_emb_val t (ix2 p q) a).trans ?_))
  match a with
  | ⟨0, _⟩ => show win0_5.index t 0 * 256 + p.val = t.val * 256 + p.val; rw [(index5 t).1]
  | ⟨1, _⟩ => show win0_5.index t 1 * 1024 + q.val = q.val; rw [(index5 t).2]; omega

theorem index6 : ∀ t : Fin cfg0.N, win0_6.index t 0 = t.val ∧ win0_6.index t 1 = 0 :=
  (by decide +kernel : ∀ t : Fin grid0.N, win0_6.index t 0 = t.val ∧ win0_6.index t 1 = 0)

theorem emb6 (t : Fin cfg0.N) (p : Fin 256) (q : Fin 1024) :
    (win0_6.rect t).emb (ix2 p q) = (ix2 ⟨t.val * 256 + p.val, by have := lt_points t; omega⟩ q : S4096x1024.Idx) := by
  refine funext fun a => Fin.ext ((win0_6.rect_emb_val t (ix2 p q) a).trans ?_)
  match a with
  | ⟨0, _⟩ => show win0_6.index t 0 * 256 + p.val = t.val * 256 + p.val; rw [(index6 t).1]
  | ⟨1, _⟩ => show win0_6.index t 1 * 1024 + q.val = q.val; rw [(index6 t).2]; omega

theorem final6 (c : Dev nD) (G : FVec Ideal S4096x1024 .f32)
    (h : ∀ (t : Fin cfg0.N) (p : Fin 256) (q : Fin 1024), ((outsAt0 m c t.val t.isLt).1) (ix2 p q) = G (ix2 ⟨t.val * 256 + p.val, by have := lt_points t; omega⟩ q)) :
    (dats m 0 c).arrAt 6 cfg0.N = G := by
  refine (dats m 0 c).arrAt_eq_of_cover 6 G (fun t _ => ?_) fun (i : S4096x1024.Idx) => ?_
  · rw [Value.flushed6]
    refine funext fun (y : S256x1024.Idx) => ?_
    obtain ⟨p, q, rfl⟩ : ∃ p q, y = ix2 p q := ⟨y 0, y 1, funext fun a => by fin_cases a <;> rfl⟩
    refine (h t p q).trans ?_
    show _ = G ((win0_6.rect t).emb (ix2 p q))
    rw [emb6]
  · have hN : cfg0.N = 16 := N_0
    have h0 : (i 0 : Nat) < 4096 := (i 0).isLt
    have h1 : (i 1 : Nat) < 1024 := (i 1).isLt
    have ht : (i 0 : Nat) / 256 < cfg0.N := by omega
    refine ⟨⟨_, ht⟩, flush0_6 _, ?_⟩
    show i ∈ ((View.whole main_v0_0).slice (win0_6.rect ⟨_, ht⟩)).set
    rw [View.set_slice_whole, Rect.mem_set_unit]
    have e := index6 ⟨_, ht⟩
    intro a
    match a with
    | ⟨0, _⟩ =>
      show win0_6.index ⟨_, ht⟩ 0 * 256 ≤ (i 0 : Nat) ∧ (i 0 : Nat) < win0_6.index ⟨_, ht⟩ 0 * 256 + 256
      rw [e.1]; try dsimp only
      omega
    | ⟨1, _⟩ =>
      show win0_6.index ⟨_, ht⟩ 1 * 1024 ≤ (i 1 : Nat) ∧ (i 1 : Nat) < win0_6.index ⟨_, ht⟩ 1 * 1024 + 1024
      rw [e.2]; try dsimp only
      omega

theorem index7 : ∀ t : Fin cfg0.N, win0_7.index t 0 = 0 ∧ win0_7.index t 1 = 0 :=
  (by decide +kernel : ∀ t : Fin grid0.N, win0_7.index t 0 = 0 ∧ win0_7.index t 1 = 0)

theorem final7 (c : Dev nD) (G : FVec Ideal S1x1024 .f32)
    (h : ∀ t : Fin cfg0.N, t.val = 15 → (outsAt0 m c t.val t.isLt).2.1 = G) :
    (dats m 0 c).arrAt 7 cfg0.N = G := by
  refine (dats m 0 c).arrAt_eq_of_cover 7 G (fun t hf => ?_) fun (i : S1x1024.Idx) => ?_
  · rw [Value.flushed7]
    have hN := lt_points t
    have ht : t.val = 15 := by have := (flush0_7 t).mp hf; omega
    refine funext fun (y : S1x1024.Idx) => ?_
    have e : (win0_7.rect t).emb y = y := by
      refine funext fun a => Fin.ext ((win0_7.rect_emb_val t y a).trans ?_)
      match a with
      | ⟨0, _⟩ => show win0_7.index t 0 * 1 + (y 0).val = (y 0).val; rw [(index7 t).1]; omega
      | ⟨1, _⟩ => show win0_7.index t 1 * 1024 + (y 1).val = (y 1).val; rw [(index7 t).2]; omega
    show ((outsAt0 m c t.val t.isLt).2.1) y = G ((win0_7.rect t).emb y)
    rw [e]
    exact congrFun (h t ht) y
  · have ht : 15 < cfg0.N := lt_of_lt_of_eq (by omega) N_0.symm
    have h0 : (i 0 : Nat) < 1 := (i 0).isLt
    have h1 : (i 1 : Nat) < 1024 := (i 1).isLt
    refine ⟨⟨15, ht⟩, (flush0_7 _).mpr rfl, ?_⟩
    show i ∈ ((View.whole main_v0_1).slice (win0_7.rect ⟨15, ht⟩)).set
    rw [View.set_slice_whole, Rect.mem_set_unit]
    have e := index7 ⟨15, ht⟩
    intro a
    match a with
    | ⟨0, _⟩ =>
      show win0_7.index ⟨15, ht⟩ 0 * 1 ≤ (i 0 : Nat) ∧ (i 0 : Nat) < win0_7.index ⟨15, ht⟩ 0 * 1 + 1
      rw [e.1]
      omega
    | ⟨1, _⟩ =>
      show win0_7.index ⟨15, ht⟩ 1 * 1024 ≤ (i 1 : Nat) ∧ (i 1 : Nat) < win0_7.index ⟨15, ht⟩ 1 * 1024 + 1024
      rw [e.2]
      omega

theorem index8 : ∀ t : Fin cfg0.N, win0_8.index t 0 = 0 ∧ win0_8.index t 1 = 0 :=
  (by decide +kernel : ∀ t : Fin grid0.N, win0_8.index t 0 = 0 ∧ win0_8.index t 1 = 0)

theorem final8 (c : Dev nD) (G : FVec Ideal S1x1024 .f32)
    (h : ∀ t : Fin cfg0.N, t.val = 15 → (outsAt0 m c t.val t.isLt).2.2 = G) :
    (dats m 0 c).arrAt 8 cfg0.N = G := by
  refine (dats m 0 c).arrAt_eq_of_cover 8 G (fun t hf => ?_) fun (i : S1x1024.Idx) => ?_
  · rw [Value.flushed8]
    have hN := lt_points t
    have ht : t.val = 15 := by have := (flush0_8 t).mp hf; omega
    refine funext fun (y : S1x1024.Idx) => ?_
    have e : (win0_8.rect t).emb y = y := by
      refine funext fun a => Fin.ext ((win0_8.rect_emb_val t y a).trans ?_)
      match a with
      | ⟨0, _⟩ => show win0_8.index t 0 * 1 + (y 0).val = (y 0).val; rw [(index8 t).1]; omega
      | ⟨1, _⟩ => show win0_8.index t 1 * 1024 + (y 1).val = (y 1).val; rw [(index8 t).2]; omega
    show ((outsAt0 m c t.val t.isLt).2.2) y = G ((win0_8.rect t).emb y)
    rw [e]
    exact congrFun (h t ht) y
  · have ht : 15 < cfg0.N := lt_of_lt_of_eq (by omega) N_0.symm
    have h0 : (i 0 : Nat) < 1 := (i 0).isLt
    have h1 : (i 1 : Nat) < 1024 := (i 1).isLt
    refine ⟨⟨15, ht⟩, (flush0_8 _).mpr rfl, ?_⟩
    show i ∈ ((View.whole main_v0_2).slice (win0_8.rect ⟨15, ht⟩)).set
    rw [View.set_slice_whole, Rect.mem_set_unit]
    have e := index8 ⟨15, ht⟩
    intro a
    match a with
    | ⟨0, _⟩ =>
      show win0_8.index ⟨15, ht⟩ 0 * 1 ≤ (i 0 : Nat) ∧ (i 0 : Nat) < win0_8.index ⟨15, ht⟩ 0 * 1 + 1
      rw [e.1]
      omega
    | ⟨1, _⟩ =>
      show win0_8.index ⟨15, ht⟩ 1 * 1024 ≤ (i 1 : Nat) ∧ (i 1 : Nat) < win0_8.index ⟨15, ht⟩ 1 * 1024 + 1024
      rw [e.2]
      omega

end Cert.Kernel3Ideal.Blocks

end
-- ==== Proof.FfnUpBwd.lean ====
/-
  The gradient of the feed-forward block's modulated up product: what each grid point leaves, and the three arrays after the
  last point.
-/
module

public import proofs.«01_k».proof.Proof.FfnUpBwdBlocks
public import Idealize.ShloMosaic.Lib.Tactic

@[expose] public section

noncomputable section

namespace Cert.Kernel3Ideal.FfnUpBwd

open Cert.Kernel3Ideal Cert.Kernel3Ideal.Gen Cert.Kernel3Ideal.Blocks Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The values of one block -/

/-- The four quarters of the product, as one sum over the quarters. -/
theorem pay3_apply (v0 : Vec Ideal S256x5632 .bf16) (v3 : Vec Ideal S4x1024x1408 .bf16) (r : Fin 256) (l : Fin 1024) :
    k0_pay3 v0 v3 (ix2 r l)
      = ∑ q : Fin 4, ∑ n : Fin 1408, v0 (ix2 r ⟨q.val * 1408 + n.val, by omega⟩) * v3 (ix3 q l n) := by
  rw [Fin.sum_univ_four]
  pointwise [k0_pay3]

theorem pay4_apply (v0 : Vec Ideal S256x5632 .bf16) (v3 : Vec Ideal S4x1024x1408 .bf16) (l : Fin 1024) :
    k0_pay4 v0 v3 (ix2 0 l) = ∑ r : Fin 256, k0_pay3 v0 v3 (ix2 r l) := by
  pointwise [k0_pay4]

theorem pay5_apply (v0 : Vec Ideal S256x5632 .bf16) (v1 : Vec Ideal S256x1024 .f32) (v3 : Vec Ideal S4x1024x1408 .bf16)
    (l : Fin 1024) :
    k0_pay5 v0 v1 v3 (ix2 0 l) = ∑ r : Fin 256, v1 (ix2 r l) * k0_pay3 v0 v3 (ix2 r l) := by
  pointwise [k0_pay5]

theorem pay6_apply (v0 : Vec Ideal S256x5632 .bf16) (v2 : Vec Ideal S1x1024 .f32) (v3 : Vec Ideal S4x1024x1408 .bf16)
    (v4 : Vec Ideal S256x1024 .f32) (r : Fin 256) (l : Fin 1024) :
    k0_pay6 v0 v2 v3 v4 (ix2 r l)
      = k0_pay3 v0 v3 (ix2 r l) * (Ideal.ofBits .f32 0x3F800000#32 + v2 (ix2 0 l)) + v4 (ix2 r l) := by
  pointwise [k0_pay6]

theorem pay1_apply (v a : FVec Ideal S1x1024 .f32) (l : Fin 1024) :
    k0_pay1 v a (ix2 0 l) = a (ix2 0 l) + v (ix2 0 l) := by
  pointwise [k0_pay1]

theorem pay2_apply (v a : FVec Ideal S1x1024 .f32) (l : Fin 1024) :
    k0_pay2 v a (ix2 0 l) = a (ix2 0 l) + v (ix2 0 l) := by
  pointwise [k0_pay2]

variable (m : (ℓ : Loc nD τ sig) → Buf (Elt Ideal) ℓ)

/-! ## What point `t` leaves in each output's block -/

theorem dx_at (c : Dev nD) (t : Fin cfg0.N) : (outsAt0 m c t.val t.isLt).1
    = k0_pay6 (iblk m c 0 t) (iblk m c 3 t) (iblk m c 4 t) (iblk m c 5 t) := by
  have hN := lt_points t
  by_cases h : t.val = 0
  · skip
    rw [outsAt0_A m c t (by omega) (by omega) (by omega) (by omega)]
    dsimp only
    unfold out0_A_6
    rw [View.read_writes_eq_canon _ _ _ (fun y => cover0_A_6 ..)]
    unfold kernelRun0_A
    dsimp only
    sl_unfold_words
    rw [View.canon_unit_zero hz2]
    simp only [View.readAt_eq_ld, (hs0_0 t).read_unread, (hs0_3 t).read_unread, (hs0_4 t).read_unread, (hs0_5 t).read_unread, View.ld_unit_zero (S := S1x1024) hz2, View.ld_unit_zero (S := S256x1024) hz2, View.ld_unit_zero (S := S256x5632) hz2, View.ld_unit_zero (S := S4x1024x1408) hz3]
  · skip
    rw [outsAt0_B m c t (by omega) (by omega) (by omega) (by omega)]
    dsimp only
    unfold out0_B_6
    rw [View.read_writes_eq_canon _ _ _ (fun y => cover0_B_6 ..)]
    unfold kernelRun0_B
    dsimp only
    sl_unfold_words
    rw [View.canon_unit_zero hz2]
    simp only [View.readAt_eq_ld, (hs0_0 t).read_unread, (hs0_3 t).read_unread, (hs0_4 t).read_unread, (hs0_5 t).read_unread, View.ld_unit_zero (S := S1x1024) hz2, View.ld_unit_zero (S := S256x1024) hz2, View.ld_unit_zero (S := S256x5632) hz2, View.ld_unit_zero (S := S4x1024x1408) hz3]

theorem dsh_first (c : Dev nD) (t : Fin cfg0.N) (h : t.val = 0) : (outsAt0 m c t.val t.isLt).2.1
    = k0_pay4 (iblk m c 0 t) (iblk m c 4 t) := by
  rw [outsAt0_A m c t (by omega) (by omega) (by omega) (by omega)]
  dsimp only
  unfold out0_A_7
  rw [View.read_writes_eq_canon _ _ _ (fun y => cover0_A_7 ..)]
  unfold kernelRun0_A
  dsimp only
  sl_unfold_words
  rw [View.canon_unit_zero hz2]
  simp only [View.readAt_eq_ld, (hs0_0 t).read_unread, (hs0_4 t).read_unread, View.ld_unit_zero (S := S256x5632) hz2, View.ld_unit_zero (S := S4x1024x1408) hz3]

theorem dsh_next (c : Dev nD) (t : Fin cfg0.N) (h : t.val ≠ 0) : (outsAt0 m c t.val t.isLt).2.1
    = k0_pay1 (k0_pay4 (iblk m c 0 t) (iblk m c 4 t)) (outsAt0 m c (t.val - 1) (by have := t.isLt; omega)).2.1 := by
  have hN := lt_points t
  rw [outsAt0_B m c t (by omega) (by omega) (by omega) (by omega)]
  dsimp only
  unfold out0_B_7
  rw [View.read_writes_eq_canon _ _ _ (fun y => cover0_B_7 ..)]
  unfold kernelRun0_B
  dsimp only
  sl_unfold_words
  rw [View.canon_unit_zero hz2]
  simp only [View.readAt_eq_ld, (hs0_0 t).read_unread, (hs0_3 t).read_unread, (hs0_4 t).read_unread, View.ld_unit_zero (S := S1x1024) hz2, View.ld_unit_zero (S := S256x5632) hz2, View.ld_unit_zero (S := S4x1024x1408) hz3, (hs0_7 t).read_unread, shapeCast_self]

theorem dsc_first (c : Dev nD) (t : Fin cfg0.N) (h : t.val = 0) : (outsAt0 m c t.val t.isLt).2.2
    = k0_pay5 (iblk m c 0 t) (iblk m c 1 t) (iblk m c 4 t) := by
  rw [outsAt0_A m c t (by omega) (by omega) (by omega) (by omega)]
  dsimp only
  unfold out0_A_8
  rw [View.read_writes_eq_canon _ _ _ (fun y => cover0_A_8 ..)]
  unfold kernelRun0_A
  dsimp only
  sl_unfold_words
  rw [View.canon_unit_zero hz2]
  simp only [View.readAt_eq_ld, (hs0_0 t).read_unread, (hs0_1 t).read_unread, (hs0_4 t).read_unread, View.ld_unit_zero (S := S256x1024) hz2, View.ld_unit_zero (S := S256x5632) hz2, View.ld_unit_zero (S := S4x1024x1408) hz3]

theorem dsc_next (c : Dev nD) (t : Fin cfg0.N) (h : t.val ≠ 0) : (outsAt0 m c t.val t.isLt).2.2
    = k0_pay2 (k0_pay5 (iblk m c 0 t) (iblk m c 1 t) (iblk m c 4 t)) (outsAt0 m c (t.val - 1) (by have := t.isLt; omega)).2.2 := by
  have hN := lt_points t
  rw [outsAt0_B m c t (by omega) (by omega) (by omega) (by omega)]
  dsimp only
  unfold out0_B_8
  rw [View.read_writes_eq_canon _ _ _ (fun y => cover0_B_8 ..)]
  unfold kernelRun0_B
  dsimp only
  sl_unfold_words
  rw [View.canon_unit_zero hz2]
  simp only [View.readAt_eq_ld, (hs0_0 t).read_unread, (hs0_1 t).read_unread, (hs0_3 t).read_unread, (hs0_4 t).read_unread, View.ld_unit_zero (S := S1x1024) hz2, View.ld_unit_zero (S := S256x1024) hz2, View.ld_unit_zero (S := S256x5632) hz2, View.ld_unit_zero (S := S4x1024x1408) hz3, (hs0_8 t).read_unread, shapeCast_self]

/-! ## The three gradients over the whole arrays -/

/-- The gradient of the modulated input, at row `k` and column `l`. -/
def du (c : Dev nD) (k : Fin 4096) (l : Fin 1024) : EReal :=
  ∑ q : Fin 4, ∑ n : Fin 1408, arg0 m c (ix2 k ⟨q.val * 1408 + n.val, by omega⟩) * arg4 m c (ix3 q l n)

theorem pay3_block (c : Dev nD) (t : Fin cfg0.N) (r : Fin 256) (l : Fin 1024) :
    k0_pay3 (iblk m c 0 t) (iblk m c 4 t) (ix2 r l)
      = du m c ⟨t.val * 256 + r.val, by have := lt_points t; omega⟩ l := by
  rw [pay3_apply, block4]
  exact Finset.sum_congr rfl fun q _ => Finset.sum_congr rfl fun n _ => by rw [block0]

def dx (c : Dev nD) : FVec Ideal S4096x1024 .f32 := fun i =>
  du m c (i 0) (i 1) * (Ideal.ofBits .f32 0x3F800000#32 + arg3 m c (ix2 0 (i 1))) + arg5 m c i

def dsh (c : Dev nD) : FVec Ideal S1x1024 .f32 := fun i => ∑ k : Fin 4096, du m c k (i 1)

def dsc (c : Dev nD) : FVec Ideal S1x1024 .f32 := fun i => ∑ k : Fin 4096, arg1 m c (ix2 k (i 1)) * du m c k (i 1)

theorem dx_final (c : Dev nD) : (dats m 0 c).arrAt 6 cfg0.N = dx m c :=
  final6 m c (dx m c) fun t r l => by
    rw [dx_at, pay6_apply, pay3_block, block3, block5]
    rfl

theorem dsh_final (c : Dev nD) : (dats m 0 c).arrAt 7 cfg0.N = dsh m c := by
  refine final7 m c (dsh m c) fun t ht => funext fun (i : S1x1024.Idx) => ?_
  obtain ⟨p, l, rfl⟩ : ∃ p l, i = ix2 p l := ⟨i 0, i 1, funext fun a => by fin_cases a <;> rfl⟩
  obtain rfl : p = 0 := Subsingleton.elim _ _
  exact Rows.sum_rows (B := 256) (M := 4096) (by rw [points]) (fun n h => (outsAt0 m c n h).2.1 (ix2 0 l)) (fun k => du m c k l)
    (fun h => by
      refine (congrFun (dsh_first m c ⟨0, h⟩ rfl) _).trans ?_
      rw [pay4_apply]
      exact Finset.sum_congr rfl fun r _ => pay3_block m c _ r l)
    (fun n h => by
      refine (congrFun (dsh_next m c ⟨n + 1, h⟩ (by simp)) _).trans ?_
      rw [pay1_apply, pay4_apply]
      exact congrArg _ (Finset.sum_congr rfl fun r _ => pay3_block m c _ r l))
    t.val t.isLt (by have := points; omega)

theorem dsc_final (c : Dev nD) : (dats m 0 c).arrAt 8 cfg0.N = dsc m c := by
  refine final8 m c (dsc m c) fun t ht => funext fun (i : S1x1024.Idx) => ?_
  obtain ⟨p, l, rfl⟩ : ∃ p l, i = ix2 p l := ⟨i 0, i 1, funext fun a => by fin_cases a <;> rfl⟩
  obtain rfl : p = 0 := Subsingleton.elim _ _
  exact Rows.sum_rows (B := 256) (M := 4096) (by rw [points]) (fun n h => (outsAt0 m c n h).2.2 (ix2 0 l))
    (fun k => arg1 m c (ix2 k l) * du m c k l)
    (fun h => by
      refine (congrFun (dsc_first m c ⟨0, h⟩ rfl) _).trans ?_
      rw [pay5_apply]
      exact Finset.sum_congr rfl fun r _ => by rw [pay3_block, block1])
    (fun n h => by
      refine (congrFun (dsc_next m c ⟨n + 1, h⟩ (by simp)) _).trans ?_
      rw [pay2_apply, pay5_apply]
      exact congrArg _ (Finset.sum_congr rfl fun r _ => by rw [pay3_block, block1]))
    t.val t.isLt (by have := points; omega)

end Cert.Kernel3Ideal.FfnUpBwd

end
-- ==== Proof.FfnUpBwdRef.lean ====
/-
  The reference's gradient of the feed-forward block's modulated up product, read at an index.
-/
module

public import proofs.«01_k».proof.Proof.Gen.Reference3Ideal.Run
public import Idealize.ShloMosaic.Lib.Pointwise

@[expose] public section

noncomputable section

namespace Cert.Reference3Ideal.FfnUpBwd

open Cert.Reference3Ideal Cert.Reference3Ideal.Gen Idealize.ShloMosaic Idealize.ShloMosaic.TcCoe Idealize.SL.Sem

/-- The product of the incoming gradient with the transposed weight, as the reference takes it. -/
def product (a0 : FVec Ideal S4096x5632 .bf16) (a4 : FVec Ideal S4x1024x1408 .bf16) : FVec Ideal S4096x1024 .f32 :=
  Host.dotGeneral dot_S4096x5632_S1024x5632_S4096x1024_1_1_0_0_n_n none (extf .f32 a0 bitsLt_bf16_f32) (extf .f32 (shapeCast _ (transpose S1024x4x1408 [1, 0, 2] a4 transposes_S4x1024x1408_S1024x4x1408_1_0_2) shapeCasts_S1024x4x1408_S1024x5632) bitsLt_bf16_f32)

/-- At row `k` and column `l` it is a sum over 5632 columns, quarter by quarter. -/
theorem product_apply (a0 : FVec Ideal S4096x5632 .bf16) (a4 : FVec Ideal S4x1024x1408 .bf16) (k : Fin 4096) (l : Fin 1024) :
    product a0 a4 (ix2 k l)
      = ∑ q : Fin 4, ∑ n : Fin 1408, a0 (ix2 k ⟨q.val * 1408 + n.val, by omega⟩) * a4 (ix3 q l n) := by
  pointwise [product]
  rw [Fin.sum_univ_tiles 4 1408 (by norm_num)]
  refine Finset.sum_congr rfl fun q _ => Finset.sum_congr rfl fun n _ => ?_
  have hq : (⟨(q.val * 1408 + n.val) / 1408, by omega⟩ : Fin 4) = q := Fin.ext (by show _ / _ = _; omega)
  have hn : (⟨(q.val * 1408 + n.val) % 1408, by omega⟩ : Fin 1408) = n := Fin.ext (by show _ % _ = _; omega)
  exact congrArg₂ (fun q' n' => a0 (ix2 k ⟨q.val * 1408 + n.val, by omega⟩) * a4 (ix3 q' l n')) hq hn

theorem dx_apply (a0 : FVec Ideal S4096x5632 .bf16) (a3 : FVec Ideal S1x1024 .f32) (a4 : FVec Ideal S4x1024x1408 .bf16)
    (a5 : FVec Ideal S4096x1024 .f32) (k : Fin 4096) (l : Fin 1024) :
    (addf (mulf (product a0 a4) (broadcastInDim S4096x1024 ![0, 1] bcast_S1x1024_S4096x1024_0_1 (addf (broadcastInDim S1x1024 ![] bcast_S_S1x1024 (constant S_ .f32 0x3F800000#32)) a3))) a5 : FVec Ideal S4096x1024 .f32) (ix2 k l)
      = product a0 a4 (ix2 k l) * (Ideal.ofBits .f32 0x3F800000#32 + a3 (ix2 0 l)) + a5 (ix2 k l) := by
  pointwise

theorem dsh_apply (a0 : FVec Ideal S4096x5632 .bf16) (a4 : FVec Ideal S4x1024x1408 .bf16) (l : Fin 1024) :
    (shapeCast S1x1024 (Host.reduceAdd (product a0 a4) (constant S_ .f32 0x00000000#32) reducesTo_S4096x1024_S1024_d0 h_S_) shapeCasts_S1024_S1x1024 : FVec Ideal S1x1024 .f32) (ix2 0 l)
      = ∑ k : Fin 4096, product a0 a4 (ix2 k l) := by
  pointwise

theorem dsc_apply (a0 : FVec Ideal S4096x5632 .bf16) (a1 : FVec Ideal S4096x1024 .f32) (a4 : FVec Ideal S4x1024x1408 .bf16)
    (l : Fin 1024) :
    (shapeCast S1x1024 (Host.reduceAdd (mulf a1 (product a0 a4)) (constant S_ .f32 0x00000000#32) reducesTo_S4096x1024_S1024_d0 h_S_) shapeCasts_S1024_S1x1024 : FVec Ideal S1x1024 .f32) (ix2 0 l)
      = ∑ k : Fin 4096, a1 (ix2 k l) * product a0 a4 (ix2 k l) := by
  pointwise

end Cert.Reference3Ideal.FfnUpBwd

end
-- ==== Proof.FfnUpBwdClaim.lean ====
/-
  The gradient of the feed-forward block's modulated up product: kernel and reference compute the same three arrays.
-/
module

public import proofs.«01_k».proof.Defs
public import proofs.«01_k».proof.Proof.FfnUpBwd
public import proofs.«01_k».proof.Proof.FfnUpBwdRef

@[expose] public section

noncomputable section

open Idealize.ShloMosaic Idealize.ShloMosaic.TcCoe Idealize.SL.Sem

theorem Cert.FfnUpBwd.claim : Cert.algebraic_Kernel3Ideal_Reference3Ideal := by
  intro m g m' g' _ args
  refine ⟨Cert.Kernel3Ideal.FfnUpBwd.dx m, Cert.Kernel3Ideal.FfnUpBwd.dsh m, Cert.Kernel3Ideal.FfnUpBwd.dsc m,
    (θ_run _ _ _).mono (fun r h c => ?_) (Cert.Kernel3Ideal.Value.run_blocks m g),
    (θ_run _ _ _).mono (fun r h c => ?_) (Cert.Reference3Ideal.Value.run m' g')⟩
  · obtain ⟨h6, h7, h8, hrest⟩ := h c
    exact ⟨h6.trans (Cert.Kernel3Ideal.FfnUpBwd.dx_final m c), h7.trans (Cert.Kernel3Ideal.FfnUpBwd.dsh_final m c),
      h8.trans (Cert.Kernel3Ideal.FfnUpBwd.dsc_final m c), hrest⟩
  · obtain ⟨h0, h1, h2, hrest⟩ := h c
    obtain ⟨e0, e1, e2, e3, e4, e5⟩ := args c
    refine ⟨h0.trans ?_, h1.trans ?_, h2.trans ?_, hrest⟩
    · rw [e0, e3, e4, e5]
      refine funext fun (i : Cert.Reference3Ideal.S4096x1024.Idx) => ?_
      obtain ⟨k, l, rfl⟩ : ∃ k l, i = ix2 k l := ⟨i 0, i 1, funext fun a => by fin_cases a <;> rfl⟩
      refine (Cert.Reference3Ideal.FfnUpBwd.dx_apply _ _ _ _ k l).trans ?_
      rw [Cert.Reference3Ideal.FfnUpBwd.product_apply]
      rfl
    · rw [e0, e4]
      refine funext fun (i : Cert.Reference3Ideal.S1x1024.Idx) => ?_
      obtain ⟨p, l, rfl⟩ : ∃ p l, i = ix2 p l := ⟨i 0, i 1, funext fun a => by fin_cases a <;> rfl⟩
      obtain rfl : p = 0 := Subsingleton.elim _ _
      refine (Cert.Reference3Ideal.FfnUpBwd.dsh_apply _ _ l).trans ?_
      exact Finset.sum_congr rfl fun k _ => Cert.Reference3Ideal.FfnUpBwd.product_apply _ _ k l
    · rw [e0, e1, e4]
      refine funext fun (i : Cert.Reference3Ideal.S1x1024.Idx) => ?_
      obtain ⟨p, l, rfl⟩ : ∃ p l, i = ix2 p l := ⟨i 0, i 1, funext fun a => by fin_cases a <;> rfl⟩
      obtain rfl : p = 0 := Subsingleton.elim _ _
      refine (Cert.Reference3Ideal.FfnUpBwd.dsc_apply _ _ _ l).trans ?_
      exact Finset.sum_congr rfl fun k _ => congrArg _ (Cert.Reference3Ideal.FfnUpBwd.product_apply _ _ k l)

end
-- ==== Proof.DwUpBlocks.lean ====
/-
  The blocks of the arrays at a grid point, and the arrays after the last point.
-/
module

public import proofs.«01_k».proof.Proof.Gen.Kernel4Ideal.Value
public import proofs.«01_k».proof.Proof.Rows
public import Idealize.ShloMosaic.Lib.Pipeline.Value
public import Idealize.ShloMosaic.Lib.Pointwise

@[expose] public section

noncomputable section

namespace Cert.Kernel4Ideal.Blocks

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

theorem points : cfg0.N = 8 := N_0

theorem lt_points (t : Fin cfg0.N) : t.val < 8 := lt_of_lt_of_eq t.isLt N_0

theorem index0 : ∀ t : Fin cfg0.N, win0_0.index t 0 = 0 ∧ win0_0.index t 1 = t.val / 4 :=
  (by decide +kernel : ∀ t : Fin grid0.N, win0_0.index t 0 = 0 ∧ win0_0.index t 1 = t.val / 4)

abbrev arg0 (c : Dev nD) : FVec Ideal S4096x1024 .bf16 := m ((c : Thread nD τ).loc main_arg0)

theorem block0 (c : Dev nD) (t : Fin cfg0.N) (p : Fin 4096) (q : Fin 512) :
    iblk m c 0 t (ix2 p q) = arg0 m c (ix2 p ⟨t.val / 4 * 512 + q.val, by have := lt_points t; omega⟩) := by
  refine congrArg (arg0 m c) (funext fun a => Fin.ext ((win0_0.rect_emb_val t (ix2 p q) a).trans ?_))
  match a with
  | ⟨0, _⟩ => show win0_0.index t 0 * 4096 + p.val = p.val; rw [(index0 t).1]; omega
  | ⟨1, _⟩ => show win0_0.index t 1 * 512 + q.val = t.val / 4 * 512 + q.val; rw [(index0 t).2]

theorem index1 : ∀ t : Fin cfg0.N, win0_1.index t 0 = 0 ∧ win0_1.index t 1 = t.val % 4 :=
  (by decide +kernel : ∀ t : Fin grid0.N, win0_1.index t 0 = 0 ∧ win0_1.index t 1 = t.val % 4)

abbrev arg1 (c : Dev nD) : FVec Ideal S4096x5632 .bf16 := m ((c : Thread nD τ).loc main_arg1)

theorem block1 (c : Dev nD) (t : Fin cfg0.N) (p : Fin 4096) (q : Fin 1408) :
    iblk m c 1 t (ix2 p q) = arg1 m c (ix2 p ⟨t.val % 4 * 1408 + q.val, by have := lt_points t; omega⟩) := by
  refine congrArg (arg1 m c) (funext fun a => Fin.ext ((win0_1.rect_emb_val t (ix2 p q) a).trans ?_))
  match a with
  | ⟨0, _⟩ => show win0_1.index t 0 * 4096 + p.val = p.val; rw [(index1 t).1]; omega
  | ⟨1, _⟩ => show win0_1.index t 1 * 1408 + q.val = t.val % 4 * 1408 + q.val; rw [(index1 t).2]

theorem index2 : ∀ t : Fin cfg0.N, win0_2.index t 0 = t.val % 4 ∧ win0_2.index t 1 = t.val / 4 ∧ win0_2.index t 2 = 0 :=
  (by decide +kernel : ∀ t : Fin grid0.N, win0_2.index t 0 = t.val % 4 ∧ win0_2.index t 1 = t.val / 4 ∧ win0_2.index t 2 = 0)

theorem emb2 (t : Fin cfg0.N) (p : Fin 1) (q : Fin 512) (r : Fin 1408) :
    (win0_2.rect t).emb (ix3 p q r) = (ix3 ⟨t.val % 4 * 1 + p.val, by have := lt_points t; omega⟩ ⟨t.val / 4 * 512 + q.val, by have := lt_points t; omega⟩ r : S4x1024x1408.Idx) := by
  refine funext fun a => Fin.ext ((win0_2.rect_emb_val t (ix3 p q r) a).trans ?_)
  match a with
  | ⟨0, _⟩ => show win0_2.index t 0 * 1 + p.val = t.val % 4 * 1 + p.val; rw [(index2 t).1]
  | ⟨1, _⟩ => show win0_2.index t 1 * 512 + q.val = t.val / 4 * 512 + q.val; rw [(index2 t).2.1]
  | ⟨2, _⟩ => show win0_2.index t 2 * 1408 + r.val = r.val; rw [(index2 t).2.2]; omega

theorem final2 (c : Dev nD) (G : FVec Ideal S4x1024x1408 .bf16)
    (h : ∀ (t : Fin cfg0.N) (p : Fin 1) (q : Fin 512) (r : Fin 1408), (out0_2 (iblk m c 0 t) (iblk m c 1 t)) (ix3 p q r) = G (ix3 ⟨t.val % 4 * 1 + p.val, by have := lt_points t; omega⟩ ⟨t.val / 4 * 512 + q.val, by have := lt_points t; omega⟩ r)) :
    (dats m 0 c).arrAt 2 cfg0.N = G := by
  refine (dats m 0 c).arrAt_eq_of_cover 2 G (fun t _ => ?_) fun (i : S4x1024x1408.Idx) => ?_
  · rw [Value.flushed2]
    refine funext fun (y : S1x512x1408.Idx) => ?_
    obtain ⟨p, q, r, rfl⟩ : ∃ p q r, y = ix3 p q r := ⟨y 0, y 1, y 2, funext fun a => by fin_cases a <;> rfl⟩
    refine (h t p q r).trans ?_
    show _ = G ((win0_2.rect t).emb (ix3 p q r))
    rw [emb2]
  · have hN : cfg0.N = 8 := N_0
    have h0 : (i 0 : Nat) < 4 := (i 0).isLt
    have h1 : (i 1 : Nat) < 1024 := (i 1).isLt
    have h2 : (i 2 : Nat) < 1408 := (i 2).isLt
    have ht : (i 1 : Nat) / 512 * 4 + (i 0 : Nat) / 1 < cfg0.N := by omega
    refine ⟨⟨_, ht⟩, flush0_2 _, ?_⟩
    show i ∈ ((View.whole main_v0).slice (win0_2.rect ⟨_, ht⟩)).set
    rw [View.set_slice_whole, Rect.mem_set_unit]
    have e := index2 ⟨_, ht⟩
    intro a
    match a with
    | ⟨0, _⟩ =>
      show win0_2.index ⟨_, ht⟩ 0 * 1 ≤ (i 0 : Nat) ∧ (i 0 : Nat) < win0_2.index ⟨_, ht⟩ 0 * 1 + 1
      rw [e.1]; try dsimp only
      omega
    | ⟨1, _⟩ =>
      show win0_2.index ⟨_, ht⟩ 1 * 512 ≤ (i 1 : Nat) ∧ (i 1 : Nat) < win0_2.index ⟨_, ht⟩ 1 * 512 + 512
      rw [e.2.1]; try dsimp only
      omega
    | ⟨2, _⟩ =>
      show win0_2.index ⟨_, ht⟩ 2 * 1408 ≤ (i 2 : Nat) ∧ (i 2 : Nat) < win0_2.index ⟨_, ht⟩ 2 * 1408 + 1408
      rw [e.2.2]; try dsimp only
      omega

end Cert.Kernel4Ideal.Blocks

end
-- ==== Proof.DwUp.lean ====
/-
  The weight gradient of the up product: `dw = uᵀ dh`, laid out by quarters of the columns, rounded to bf16.
-/
module

public import proofs.«01_k».proof.Proof.DwUpBlocks

@[expose] public section

noncomputable section

namespace Cert.Kernel4Ideal.DwUp

open Cert.Kernel4Ideal Cert.Kernel4Ideal.Gen Cert.Kernel4Ideal.Blocks Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

/-- One block of the product: a sum over the rows. -/
theorem pay_apply (u : Vec Ideal S4096x512 .bf16) (y : Vec Ideal S4096x1408 .bf16) (p : Fin 1) (r : Fin 512) (l : Fin 1408) :
    k0_pay1 u y (ix3 p r l) = ∑ k : Fin 4096, u (ix2 k r) * y (ix2 k l) := by
  pointwise [k0_pay1]

/-- The gradient, as a function of the two whole arrays: entry `(q, r, n)` is that of column `1408 q + n`. -/
def dw (c : Dev nD) : FVec Ideal S4x1024x1408 .bf16 := fun i =>
  ∑ k : Fin 4096, arg0 m c (ix2 k (i 1)) * arg1 m c (ix2 k ⟨(i 0).val * 1408 + (i 2).val, by
    have h0 : (i 0).val < 4 := (i 0).isLt
    have h2 : (i 2).val < 1408 := (i 2).isLt
    omega⟩)

theorem dw_final (c : Dev nD) : (dats m 0 c).arrAt 2 cfg0.N = dw m c :=
  final2 m c (dw m c) fun t p r l => by
    obtain rfl : p = 0 := Subsingleton.elim _ _
    unfold out0_2
    rw [View.canon_unit_zero hz3, View.ld_unit_zero hz2, View.ld_unit_zero hz2, pay_apply]
    refine Finset.sum_congr rfl fun k _ => ?_
    rw [block0, block1]
    refine congrArg₂ (fun a b => arg0 m c (ix2 k a) * arg1 m c (ix2 k b)) rfl (Fin.ext ?_)
    show t.val % 4 * 1408 + l.val = (t.val % 4 * 1 + 0) * 1408 + l.val
    omega

end Cert.Kernel4Ideal.DwUp

end
-- ==== Proof.DwUpRef.lean ====
/-
  The reference's weight gradient of the up product, read at an index.
-/
module

public import proofs.«01_k».proof.Proof.Gen.Reference4Ideal.Run
public import Idealize.ShloMosaic.Lib.Pointwise

@[expose] public section

noncomputable section

namespace Cert.Reference4Ideal.DwUp

open Cert.Reference4Ideal Cert.Reference4Ideal.Gen Idealize.ShloMosaic Idealize.ShloMosaic.TcCoe Idealize.SL.Sem

theorem dw_apply (a0 : FVec Ideal S4096x1024 .bf16) (a1 : FVec Ideal S4096x5632 .bf16) (q : Fin 4) (k : Fin 1024) (l : Fin 1408) :
    (truncf .bf16 (transpose S4x1024x1408 [1, 0, 2] (shapeCast S1024x4x1408 (transpose S1024x5632 [1, 0] (Host.dotGeneral dot_S4096x5632_S4096x1024_S5632x1024_0_0_1_1_n_n none (extf .f32 a1 bitsLt_bf16_f32) (extf .f32 a0 bitsLt_bf16_f32)) transposes_S5632x1024_S1024x5632_1_0) shapeCasts_S1024x5632_S1024x4x1408) transposes_S1024x4x1408_S4x1024x1408_1_0_2) bitsLt_bf16_f32 : FVec Ideal S4x1024x1408 .bf16) (ix3 q k l)
      = ∑ n : Fin 4096, a0 (ix2 n k) * a1 (ix2 n ⟨q.val * 1408 + l.val, by omega⟩) := by
  pointwise!

end Cert.Reference4Ideal.DwUp

end
-- ==== Proof.DwUpClaim.lean ====
/-
  The weight gradient of the up product: kernel and reference compute the same array.
-/
module

public import proofs.«01_k».proof.Defs
public import proofs.«01_k».proof.Proof.DwUp
public import proofs.«01_k».proof.Proof.DwUpRef

@[expose] public section

noncomputable section

open Idealize.ShloMosaic Idealize.ShloMosaic.TcCoe Idealize.SL.Sem

theorem Cert.DwUp.claim : Cert.algebraic_Kernel4Ideal_Reference4Ideal := by
  intro m g m' g' _ args
  refine ⟨Cert.Kernel4Ideal.DwUp.dw m,
    (θ_run _ _ _).mono (fun r h c => ?_) (Cert.Kernel4Ideal.Value.run_blocks m g),
    (θ_run _ _ _).mono (fun r h c => ?_) (Cert.Reference4Ideal.Value.run m' g')⟩
  · obtain ⟨h0, hrest⟩ := h c
    exact ⟨h0.trans (Cert.Kernel4Ideal.DwUp.dw_final m c), hrest⟩
  · obtain ⟨h0, hrest⟩ := h c
    obtain ⟨e0, e1⟩ := args c
    refine ⟨h0.trans ?_, hrest⟩
    · rw [e0, e1]
      refine funext fun (i : Cert.Reference4Ideal.S4x1024x1408.Idx) => ?_
      obtain ⟨p, q, s, rfl⟩ : ∃ p q s, i = ix3 p q s := ⟨i 0, i 1, i 2, funext fun a => by fin_cases a <;> rfl⟩
      exact Cert.Reference4Ideal.DwUp.dw_apply _ _ p q s

end
-- ==== Proof.DwDownBlocks.lean ====
/-
  The blocks of the arrays at a grid point, and the arrays after the last point.
-/
module

public import proofs.«01_k».proof.Proof.Gen.Kernel5Ideal.Value
public import proofs.«01_k».proof.Proof.Rows
public import Idealize.ShloMosaic.Lib.Pipeline.Value
public import Idealize.ShloMosaic.Lib.Pointwise

@[expose] public section

noncomputable section

namespace Cert.Kernel5Ideal.Blocks

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

theorem points : cfg0.N = 4 := N_0

theorem lt_points (t : Fin cfg0.N) : t.val < 4 := lt_of_lt_of_eq t.isLt N_0

theorem index0 : ∀ t : Fin cfg0.N, win0_0.index t 0 = 0 ∧ win0_0.index t 1 = t.val / 2 :=
  (by decide +kernel : ∀ t : Fin grid0.N, win0_0.index t 0 = 0 ∧ win0_0.index t 1 = t.val / 2)

abbrev arg0 (c : Dev nD) : FVec Ideal S4096x2816 .bf16 := m ((c : Thread nD τ).loc main_arg0)

theorem block0 (c : Dev nD) (t : Fin cfg0.N) (p : Fin 4096) (q : Fin 1408) :
    iblk m c 0 t (ix2 p q) = arg0 m c (ix2 p ⟨t.val / 2 * 1408 + q.val, by have := lt_points t; omega⟩) := by
  refine congrArg (arg0 m c) (funext fun a => Fin.ext ((win0_0.rect_emb_val t (ix2 p q) a).trans ?_))
  match a with
  | ⟨0, _⟩ => show win0_0.index t 0 * 4096 + p.val = p.val; rw [(index0 t).1]; omega
  | ⟨1, _⟩ => show win0_0.index t 1 * 1408 + q.val = t.val / 2 * 1408 + q.val; rw [(index0 t).2]

theorem index1 : ∀ t : Fin cfg0.N, win0_1.index t 0 = 0 ∧ win0_1.index t 1 = t.val % 2 :=
  (by decide +kernel : ∀ t : Fin grid0.N, win0_1.index t 0 = 0 ∧ win0_1.index t 1 = t.val % 2)

abbrev arg1 (c : Dev nD) : FVec Ideal S4096x1024 .bf16 := m ((c : Thread nD τ).loc main_arg1)

theorem block1 (c : Dev nD) (t : Fin cfg0.N) (p : Fin 4096) (q : Fin 512) :
    iblk m c 1 t (ix2 p q) = arg1 m c (ix2 p ⟨t.val % 2 * 512 + q.val, by have := lt_points t; omega⟩) := by
  refine congrArg (arg1 m c) (funext fun a => Fin.ext ((win0_1.rect_emb_val t (ix2 p q) a).trans ?_))
  match a with
  | ⟨0, _⟩ => show win0_1.index t 0 * 4096 + p.val = p.val; rw [(index1 t).1]; omega
  | ⟨1, _⟩ => show win0_1.index t 1 * 512 + q.val = t.val % 2 * 512 + q.val; rw [(index1 t).2]

theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

theorem emb2 (t : Fin cfg0.N) (p : Fin 1408) (q : Fin 512) :
    (win0_2.rect t).emb (ix2 p q) = (ix2 ⟨t.val / 2 * 1408 + p.val, by have := lt_points t; omega⟩ ⟨t.val % 2 * 512 + q.val, by have := lt_points t; omega⟩ : S2816x1024.Idx) := by
  refine funext fun a => Fin.ext ((win0_2.rect_emb_val t (ix2 p q) a).trans ?_)
  match a with
  | ⟨0, _⟩ => show win0_2.index t 0 * 1408 + p.val = t.val / 2 * 1408 + p.val; rw [(index2 t).1]
  | ⟨1, _⟩ => show win0_2.index t 1 * 512 + q.val = t.val % 2 * 512 + q.val; rw [(index2 t).2]

theorem final2 (c : Dev nD) (G : FVec Ideal S2816x1024 .bf16)
    (h : ∀ (t : Fin cfg0.N) (p : Fin 1408) (q : Fin 512), (out0_2 (iblk m c 0 t) (iblk m c 1 t)) (ix2 p q) = G (ix2 ⟨t.val / 2 * 1408 + p.val, by have := lt_points t; omega⟩ ⟨t.val % 2 * 512 + q.val, by have := lt_points t; omega⟩)) :
    (dats m 0 c).arrAt 2 cfg0.N = G := by
  refine (dats m 0 c).arrAt_eq_of_cover 2 G (fun t _ => ?_) fun (i : S2816x1024.Idx) => ?_
  · rw [Value.flushed2]
    refine funext fun (y : S1408x512.Idx) => ?_
    obtain ⟨p, q, rfl⟩ : ∃ p q, y = ix2 p q := ⟨y 0, y 1, funext fun a => by fin_cases a <;> rfl⟩
    refine (h t p q).trans ?_
    show _ = G ((win0_2.rect t).emb (ix2 p q))
    rw [emb2]
  · have hN : cfg0.N = 4 := N_0
    have h0 : (i 0 : Nat) < 2816 := (i 0).isLt
    have h1 : (i 1 : Nat) < 1024 := (i 1).isLt
    have ht : (i 0 : Nat) / 1408 * 2 + (i 1 : Nat) / 512 < cfg0.N := by omega
    refine ⟨⟨_, ht⟩, flush0_2 _, ?_⟩
    show i ∈ ((View.whole main_v0).slice (win0_2.rect ⟨_, ht⟩)).set
    rw [View.set_slice_whole, Rect.mem_set_unit]
    have e := index2 ⟨_, ht⟩
    intro a
    match a with
    | ⟨0, _⟩ =>
      show win0_2.index ⟨_, ht⟩ 0 * 1408 ≤ (i 0 : Nat) ∧ (i 0 : Nat) < win0_2.index ⟨_, ht⟩ 0 * 1408 + 1408
      rw [e.1]; try dsimp only
      omega
    | ⟨1, _⟩ =>
      show win0_2.index ⟨_, ht⟩ 1 * 512 ≤ (i 1 : Nat) ∧ (i 1 : Nat) < win0_2.index ⟨_, ht⟩ 1 * 512 + 512
      rw [e.2]; try dsimp only
      omega

end Cert.Kernel5Ideal.Blocks

end
-- ==== Proof.DwDown.lean ====
/-
  The weight gradient of the down product: `dw = sᵀ dy`, rounded to bf16.
-/
module

public import proofs.«01_k».proof.Proof.DwDownBlocks

@[expose] public section

noncomputable section

namespace Cert.Kernel5Ideal.DwDown

open Cert.Kernel5Ideal Cert.Kernel5Ideal.Gen Cert.Kernel5Ideal.Blocks Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

/-- One block of the product: a sum over the rows. -/
theorem pay_apply (s : Vec Ideal S4096x1408 .bf16) (y : Vec Ideal S4096x512 .bf16) (r : Fin 1408) (l : Fin 512) :
    k0_pay1 s y (ix2 r l) = ∑ k : Fin 4096, s (ix2 k r) * y (ix2 k l) := by
  pointwise [k0_pay1]

/-- The gradient, as a function of the two whole arrays. -/
def dw (c : Dev nD) : FVec Ideal S2816x1024 .bf16 := fun i => ∑ k : Fin 4096, arg0 m c (ix2 k (i 0)) * arg1 m c (ix2 k (i 1))

theorem dw_final (c : Dev nD) : (dats m 0 c).arrAt 2 cfg0.N = dw m c :=
  final2 m c (dw m c) fun t r l => by
    unfold out0_2
    rw [View.canon_unit_zero hz2, View.ld_unit_zero hz2, View.ld_unit_zero hz2, pay_apply]
    exact Finset.sum_congr rfl fun k _ => by rw [block0, block1]; rfl

end Cert.Kernel5Ideal.DwDown

end
-- ==== Proof.DwDownRef.lean ====
/-
  The reference's weight gradient of the down product, read at an index.
-/
module

public import proofs.«01_k».proof.Proof.Gen.Reference5Ideal.Run
public import Idealize.ShloMosaic.Lib.Pointwise

@[expose] public section

noncomputable section

namespace Cert.Reference5Ideal.DwDown

open Cert.Reference5Ideal Cert.Reference5Ideal.Gen Idealize.ShloMosaic Idealize.ShloMosaic.TcCoe Idealize.SL.Sem

theorem dw_apply (a0 : FVec Ideal S4096x2816 .bf16) (a1 : FVec Ideal S4096x1024 .bf16) (k : Fin 2816) (l : Fin 1024) :
    (truncf .bf16 (transpose S2816x1024 [1, 0] (Host.dotGeneral dot_S4096x1024_S4096x2816_S1024x2816_0_0_1_1_n_n none (extf .f32 a1 bitsLt_bf16_f32) (extf .f32 a0 bitsLt_bf16_f32)) transposes_S1024x2816_S2816x1024_1_0) bitsLt_bf16_f32 : FVec Ideal S2816x1024 .bf16) (ix2 k l)
      = ∑ n : Fin 4096, a0 (ix2 n k) * a1 (ix2 n l) := by
  pointwise!

end Cert.Reference5Ideal.DwDown

end
-- ==== Proof.DwDownClaim.lean ====
/-
  The weight gradient of the down product: kernel and reference compute the same array.
-/
module

public import proofs.«01_k».proof.Defs
public import proofs.«01_k».proof.Proof.DwDown
public import proofs.«01_k».proof.Proof.DwDownRef

@[expose] public section

noncomputable section

open Idealize.ShloMosaic Idealize.ShloMosaic.TcCoe Idealize.SL.Sem

theorem Cert.DwDown.claim : Cert.algebraic_Kernel5Ideal_Reference5Ideal := by
  intro m g m' g' _ args
  refine ⟨Cert.Kernel5Ideal.DwDown.dw m,
    (θ_run _ _ _).mono (fun r h c => ?_) (Cert.Kernel5Ideal.Value.run_blocks m g),
    (θ_run _ _ _).mono (fun r h c => ?_) (Cert.Reference5Ideal.Value.run m' g')⟩
  · obtain ⟨h0, hrest⟩ := h c
    exact ⟨h0.trans (Cert.Kernel5Ideal.DwDown.dw_final m c), hrest⟩
  · obtain ⟨h0, hrest⟩ := h c
    obtain ⟨e0, e1⟩ := args c
    refine ⟨h0.trans ?_, hrest⟩
    · rw [e0, e1]
      refine funext fun (i : Cert.Reference5Ideal.S2816x1024.Idx) => ?_
      obtain ⟨p, q, rfl⟩ : ∃ p q, i = ix2 p q := ⟨i 0, i 1, funext fun a => by fin_cases a <;> rfl⟩
      exact Cert.Reference5Ideal.DwDown.dw_apply _ _ p q

end
-- ==== Proof.FfnUpBlocks.lean ====
/-
  The blocks of the arrays at a grid point, and the arrays after the last point.
-/
module

public import proofs.«01_k».proof.Proof.Gen.Kernel6Ideal.Value
public import proofs.«01_k».proof.Proof.Rows
public import Idealize.ShloMosaic.Lib.Pipeline.Value
public import Idealize.ShloMosaic.Lib.Pointwise

@[expose] public section

noncomputable section

namespace Cert.Kernel6Ideal.Blocks

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

theorem points : cfg0.N = 16 := N_0

theorem lt_points (t : Fin cfg0.N) : t.val < 16 := lt_of_lt_of_eq t.isLt N_0

theorem index0 : ∀ t : Fin cfg0.N, win0_0.index t 0 = t.val ∧ win0_0.index t 1 = 0 :=
  (by decide +kernel : ∀ t : Fin grid0.N, win0_0.index t 0 = t.val ∧ win0_0.index t 1 = 0)

abbrev arg0 (c : Dev nD) : FVec Ideal S4096x1024 .f32 := m ((c : Thread nD τ).loc main_arg0)

theorem block0 (c : Dev nD) (t : Fin cfg0.N) (p : Fin 256) (q : Fin 1024) :
    iblk m c 0 t (ix2 p q) = arg0 m c (ix2 ⟨t.val * 256 + p.val, by have := lt_points t; omega⟩ q) := by
  refine congrArg (arg0 m c) (funext fun a => Fin.ext ((win0_0.rect_emb_val t (ix2 p q) a).trans ?_))
  match a with
  | ⟨0, _⟩ => show win0_0.index t 0 * 256 + p.val = t.val * 256 + p.val; rw [(index0 t).1]
  | ⟨1, _⟩ => show win0_0.index t 1 * 1024 + q.val = q.val; rw [(index0 t).2]; omega

theorem index1 : ∀ t : Fin cfg0.N, win0_1.index t 0 = 0 ∧ win0_1.index t 1 = 0 :=
  (by decide +kernel : ∀ t : Fin grid0.N, win0_1.index t 0 = 0 ∧ win0_1.index t 1 = 0)

abbrev arg1 (c : Dev nD) : FVec Ideal S1x1024 .f32 := m ((c : Thread nD τ).loc main_arg1)

theorem block1 (c : Dev nD) (t : Fin cfg0.N) : iblk m c 1 t = arg1 m c := by
  refine funext fun (y : S1x1024.Idx) => congrArg (arg1 m c) (funext fun a => Fin.ext ((win0_1.rect_emb_val t y a).trans ?_))
  match a with
  | ⟨0, _⟩ => show win0_1.index t 0 * 1 + (y 0).val = (y 0).val; rw [(index1 t).1]; omega
  | ⟨1, _⟩ => show win0_1.index t 1 * 1024 + (y 1).val = (y 1).val; rw [(index1 t).2]; omega

theorem index2 : ∀ t : Fin cfg0.N, win0_2.index t 0 = 0 ∧ win0_2.index t 1 = 0 :=
  (by decide +kernel : ∀ t : Fin grid0.N, win0_2.index t 0 = 0 ∧ win0_2.index t 1 = 0)

abbrev arg2 (c : Dev nD) : FVec Ideal S1x1024 .f32 := m ((c : Thread nD τ).loc main_arg2)

theorem block2 (c : Dev nD) (t : Fin cfg0.N) : iblk m c 2 t = arg2 m c := by
  refine funext fun (y : S1x1024.Idx) => congrArg (arg2 m c) (funext fun a => Fin.ext ((win0_2.rect_emb_val t y a).trans ?_))
  match a with
  | ⟨0, _⟩ => show win0_2.index t 0 * 1 + (y 0).val = (y 0).val; rw [(index2 t).1]; omega
  | ⟨1, _⟩ => show win0_2.index t 1 * 1024 + (y 1).val = (y 1).val; rw [(index2 t).2]; omega

theorem index3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

abbrev arg3 (c : Dev nD) : FVec Ideal S4x1024x1408 .bf16 := m ((c : Thread nD τ).loc main_arg3)

theorem block3 (c : Dev nD) (t : Fin cfg0.N) : iblk m c 3 t = arg3 m c := by
  refine funext fun (y : S4x1024x1408.Idx) => congrArg (arg3 m c) (funext fun a => Fin.ext ((win0_3.rect_emb_val t y a).trans ?_))
  match a with
  | ⟨0, _⟩ => show win0_3.index t 0 * 4 + (y 0).val = (y 0).val; rw [(index3 t).1]; omega
  | ⟨1, _⟩ => show win0_3.index t 1 * 1024 + (y 1).val = (y 1).val; rw [(index3 t).2.1]; omega
  | ⟨2, _⟩ => show win0_3.index t 2 * 1408 + (y 2).val = (y 2).val; rw [(index3 t).2.2]; omega

theorem index4 : ∀ t : Fin cfg0.N, win0_4.index t 0 = t.val ∧ win0_4.index t 1 = 0 :=
  (by decide +kernel : ∀ t : Fin grid0.N, win0_4.index t 0 = t.val ∧ win0_4.index t 1 = 0)

theorem emb4 (t : Fin cfg0.N) (p : Fin 256) (q : Fin 5632) :
    (win0_4.rect t).emb (ix2 p q) = (ix2 ⟨t.val * 256 + p.val, by have := lt_points t; omega⟩ q : S4096x5632.Idx) := by
  refine funext fun a => Fin.ext ((win0_4.rect_emb_val t (ix2 p q) a).trans ?_)
  match a with
  | ⟨0, _⟩ => show win0_4.index t 0 * 256 + p.val = t.val * 256 + p.val; rw [(index4 t).1]
  | ⟨1, _⟩ => show win0_4.index t 1 * 5632 + q.val = q.val; rw [(index4 t).2]; omega

theorem final4 (c : Dev nD) (G : FVec Ideal S4096x5632 .f32)
    (h : ∀ (t : Fin cfg0.N) (p : Fin 256) (q : Fin 5632), (out0_4 (iblk m c 0 t) (iblk m c 1 t) (iblk m c 2 t) (iblk m c 3 t)) (ix2 p q) = G (ix2 ⟨t.val * 256 + p.val, by have := lt_points t; omega⟩ q)) :
    (dats m 0 c).arrAt 4 cfg0.N = G := by
  refine (dats m 0 c).arrAt_eq_of_cover 4 G (fun t _ => ?_) fun (i : S4096x5632.Idx) => ?_
  · rw [Value.flushed4]
    refine funext fun (y : S256x5632.Idx) => ?_
    obtain ⟨p, q, rfl⟩ : ∃ p q, y = ix2 p q := ⟨y 0, y 1, funext fun a => by fin_cases a <;> rfl⟩
    refine (h t p q).trans ?_
    show _ = G ((win0_4.rect t).emb (ix2 p q))
    rw [emb4]
  · have hN : cfg0.N = 16 := N_0
    have h0 : (i 0 : Nat) < 4096 := (i 0).isLt
    have h1 : (i 1 : Nat) < 5632 := (i 1).isLt
    have ht : (i 0 : Nat) / 256 < cfg0.N := by omega
    refine ⟨⟨_, ht⟩, flush0_4 _, ?_⟩
    show i ∈ ((View.whole main_v0_0).slice (win0_4.rect ⟨_, ht⟩)).set
    rw [View.set_slice_whole, Rect.mem_set_unit]
    have e := index4 ⟨_, ht⟩
    intro a
    match a with
    | ⟨0, _⟩ =>
      show win0_4.index ⟨_, ht⟩ 0 * 256 ≤ (i 0 : Nat) ∧ (i 0 : Nat) < win0_4.index ⟨_, ht⟩ 0 * 256 + 256
      rw [e.1]; try dsimp only
      omega
    | ⟨1, _⟩ =>
      show win0_4.index ⟨_, ht⟩ 1 * 5632 ≤ (i 1 : Nat) ∧ (i 1 : Nat) < win0_4.index ⟨_, ht⟩ 1 * 5632 + 5632
      rw [e.2]; try dsimp only
      omega

theorem index5 : ∀ t : Fin cfg0.N, win0_5.index t 0 = t.val ∧ win0_5.index t 1 = 0 :=
  (by decide +kernel : ∀ t : Fin grid0.N, win0_5.index t 0 = t.val ∧ win0_5.index t 1 = 0)

theorem emb5 (t : Fin cfg0.N) (p : Fin 256) (q : Fin 1024) :
    (win0_5.rect t).emb (ix2 p q) = (ix2 ⟨t.val * 256 + p.val, by have := lt_points t; omega⟩ q : S4096x1024.Idx) := by
  refine funext fun a => Fin.ext ((win0_5.rect_emb_val t (ix2 p q) a).trans ?_)
  match a with
  | ⟨0, _⟩ => show win0_5.index t 0 * 256 + p.val = t.val * 256 + p.val; rw [(index5 t).1]
  | ⟨1, _⟩ => show win0_5.index t 1 * 1024 + q.val = q.val; rw [(index5 t).2]; omega

theorem final5 (c : Dev nD) (G : FVec Ideal S4096x1024 .bf16)
    (h : ∀ (t : Fin cfg0.N) (p : Fin 256) (q : Fin 1024), (out0_5 (iblk m c 0 t) (iblk m c 1 t) (iblk m c 2 t) (iblk m c 3 t)) (ix2 p q) = G (ix2 ⟨t.val * 256 + p.val, by have := lt_points t; omega⟩ q)) :
    (dats m 0 c).arrAt 5 cfg0.N = G := by
  refine (dats m 0 c).arrAt_eq_of_cover 5 G (fun t _ => ?_) fun (i : S4096x1024.Idx) => ?_
  · rw [Value.flushed5]
    refine funext fun (y : S256x1024.Idx) => ?_
    obtain ⟨p, q, rfl⟩ : ∃ p q, y = ix2 p q := ⟨y 0, y 1, funext fun a => by fin_cases a <;> rfl⟩
    refine (h t p q).trans ?_
    show _ = G ((win0_5.rect t).emb (ix2 p q))
    rw [emb5]
  · have hN : cfg0.N = 16 := N_0
    have h0 : (i 0 : Nat) < 4096 := (i 0).isLt
    have h1 : (i 1 : Nat) < 1024 := (i 1).isLt
    have ht : (i 0 : Nat) / 256 < cfg0.N := by omega
    refine ⟨⟨_, ht⟩, flush0_5 _, ?_⟩
    show i ∈ ((View.whole main_v0_1).slice (win0_5.rect ⟨_, ht⟩)).set
    rw [View.set_slice_whole, Rect.mem_set_unit]
    have e := index5 ⟨_, ht⟩
    intro a
    match a with
    | ⟨0, _⟩ =>
      show win0_5.index ⟨_, ht⟩ 0 * 256 ≤ (i 0 : Nat) ∧ (i 0 : Nat) < win0_5.index ⟨_, ht⟩ 0 * 256 + 256
      rw [e.1]; try dsimp only
      omega
    | ⟨1, _⟩ =>
      show win0_5.index ⟨_, ht⟩ 1 * 1024 ≤ (i 1 : Nat) ∧ (i 1 : Nat) < win0_5.index ⟨_, ht⟩ 1 * 1024 + 1024
      rw [e.2]; try dsimp only
      omega

end Cert.Kernel6Ideal.Blocks

end
-- ==== Proof.FfnUp.lean ====
/-
  The feed-forward block's modulated up product and its modulated input.
-/
module

public import proofs.«01_k».proof.Proof.FfnUpBlocks

@[expose] public section

noncomputable section

namespace Cert.Kernel6Ideal.FfnUp

open Cert.Kernel6Ideal Cert.Kernel6Ideal.Gen Cert.Kernel6Ideal.Blocks Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

theorem pay1_apply (v0 : Vec Ideal S256x1024 .f32) (v1 v2 : Vec Ideal S1x1024 .f32) (r : Fin 256) (k : Fin 1024) :
    k0_pay1 v0 v1 v2 (ix2 r k) = v0 (ix2 r k) * (Ideal.ofBits .f32 0x3F800000#32 + v2 (ix2 0 k)) + v1 (ix2 0 k) := by
  pointwise [k0_pay1]

/-- The four quarters of the columns are four products laid side by side. -/
theorem pay2_apply (v0 : Vec Ideal S256x1024 .f32) (v1 v2 : Vec Ideal S1x1024 .f32) (v3 : Vec Ideal S4x1024x1408 .bf16)
    (r : Fin 256) (l : Fin 5632) :
    k0_pay2 v0 v1 v2 v3 (ix2 r l)
      = ∑ k : Fin 1024, k0_pay1 v0 v1 v2 (ix2 r k) * v3 (ix3 ⟨l.val / 1408, by omega⟩ k ⟨l.val % 1408, by omega⟩) := by
  have key : ∀ (q : Fin 4) (n : Fin 1408), l.val = q.val * 1408 + n.val →
      (∑ k : Fin 1024, k0_pay1 v0 v1 v2 (ix2 r k) * v3 (ix3 q k n))
        = ∑ k : Fin 1024, k0_pay1 v0 v1 v2 (ix2 r k) * v3 (ix3 ⟨l.val / 1408, by omega⟩ k ⟨l.val % 1408, by omega⟩) := by
    intro q n h
    have hq : (⟨l.val / 1408, by omega⟩ : Fin 4) = q := Fin.ext (by show _ / _ = q.val; omega)
    have hn : (⟨l.val % 1408, by omega⟩ : Fin 1408) = n := Fin.ext (by show _ % _ = n.val; omega)
    rw [hq, hn]
  pointwise [k0_pay2]
  split_ifs
  all_goals first
    | exact key 0 ⟨l.val, by omega⟩ (by show l.val = 0 * 1408 + l.val; omega)
    | exact key 1 ⟨l.val - 1408, by omega⟩ (by show l.val = 1 * 1408 + (l.val - 1408); omega)
    | exact key 2 ⟨l.val - 1408 - 1408, by omega⟩ (by show l.val = 2 * 1408 + (l.val - 1408 - 1408); omega)
    | exact key 3 ⟨l.val - 1408 - 1408 - 1408, by omega⟩ (by show l.val = 3 * 1408 + (l.val - 1408 - 1408 - 1408); omega)

/-- The modulated input. -/
def u (c : Dev nD) : FVec Ideal S4096x1024 .bf16 := fun i =>
  arg0 m c i * (Ideal.ofBits .f32 0x3F800000#32 + arg2 m c (ix2 0 (i 1))) + arg1 m c (ix2 0 (i 1))

/-- Its product with the weight, whose column `1408 q + n` is column `n` of quarter `q`. -/
def h (c : Dev nD) : FVec Ideal S4096x5632 .f32 := fun i =>
  ∑ k : Fin 1024, u m c (ix2 (i 0) k) * arg3 m c (ix3 ⟨(i 1).val / 1408, by
      have h1 : (i 1).val < 5632 := (i 1).isLt
      omega⟩ k ⟨(i 1).val % 1408, by omega⟩)

theorem u_block (c : Dev nD) (t : Fin cfg0.N) (r : Fin 256) (k : Fin 1024) :
    k0_pay1 (iblk m c 0 t) (iblk m c 1 t) (iblk m c 2 t) (ix2 r k)
      = u m c (ix2 ⟨t.val * 256 + r.val, by have := lt_points t; omega⟩ k) := by
  rw [pay1_apply, block0, block1, block2]
  rfl

theorem u_final (c : Dev nD) : (dats m 0 c).arrAt 5 cfg0.N = u m c :=
  final5 m c (u m c) fun t r l => by
    unfold out0_5
    rw [View.canon_unit_zero hz2, View.ld_unit_zero hz2, View.ld_unit_zero hz2, View.ld_unit_zero hz2, u_block]

theorem h_final (c : Dev nD) : (dats m 0 c).arrAt 4 cfg0.N = h m c :=
  final4 m c (h m c) fun t r l => by
    unfold out0_4
    rw [View.canon_unit_zero hz2, View.ld_unit_zero hz2, View.ld_unit_zero hz2, View.ld_unit_zero hz2, View.ld_unit_zero hz3,
      pay2_apply, block3]
    exact Finset.sum_congr rfl fun k _ => by rw [u_block]; rfl

end Cert.Kernel6Ideal.FfnUp

end
-- ==== Proof.FfnUpRef.lean ====
/-
  The reference's modulated up product, read at an index.
-/
module

public import proofs.«01_k».proof.Proof.Gen.Reference6Ideal.Run
public import Idealize.ShloMosaic.Lib.Pointwise

@[expose] public section

noncomputable section

namespace Cert.Reference6Ideal.FfnUp

open Cert.Reference6Ideal Cert.Reference6Ideal.Gen Idealize.ShloMosaic Idealize.ShloMosaic.TcCoe Idealize.SL.Sem

theorem u_apply (a0 : FVec Ideal S4096x1024 .f32) (a1 a2 : FVec Ideal S1x1024 .f32) (k : Fin 4096) (l : Fin 1024) :
    (truncf .bf16 (addf (mulf a0 (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a1)) bitsLt_bf16_f32 : FVec Ideal S4096x1024 .bf16) (ix2 k l)
      = a0 (ix2 k l) * (Ideal.ofBits .f32 0x3F800000#32 + a2 (ix2 0 l)) + a1 (ix2 0 l) := by
  pointwise

theorem h_apply (a0 : FVec Ideal S4096x1024 .f32) (a1 a2 : FVec Ideal S1x1024 .f32) (a3 : FVec Ideal S4x1024x1408 .bf16)
    (k : Fin 4096) (l : Fin 5632) :
    (Host.dotGeneral dot_S4096x1024_S1024x5632_S4096x5632_1_0_0_1_n_n none (addf (mulf a0 (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a1)) (extf .f32 (shapeCast S1024x5632 (transpose S1024x4x1408 [1, 0, 2] a3 transposes_S4x1024x1408_S1024x4x1408_1_0_2) shapeCasts_S1024x4x1408_S1024x5632) bitsLt_bf16_f32) : FVec Ideal S4096x5632 .f32) (ix2 k l)
      = ∑ n : Fin 1024, (a0 (ix2 k n) * (Ideal.ofBits .f32 0x3F800000#32 + a2 (ix2 0 n)) + a1 (ix2 0 n))
        * a3 (ix3 ⟨l.val / 1408, by omega⟩ n ⟨l.val % 1408, by omega⟩) := by
  pointwise

end Cert.Reference6Ideal.FfnUp

end
-- ==== Proof.FfnUpClaim.lean ====
/-
  The modulated up product: kernel and reference compute the same two arrays.
-/
module

public import proofs.«01_k».proof.Defs
public import proofs.«01_k».proof.Proof.FfnUp
public import proofs.«01_k».proof.Proof.FfnUpRef

@[expose] public section

noncomputable section

open Idealize.ShloMosaic Idealize.ShloMosaic.TcCoe Idealize.SL.Sem

theorem Cert.FfnUp.claim : Cert.algebraic_Kernel6Ideal_Reference6Ideal := by
  intro m g m' g' _ args
  refine ⟨Cert.Kernel6Ideal.FfnUp.h m, Cert.Kernel6Ideal.FfnUp.u m,
    (θ_run _ _ _).mono (fun r h c => ?_) (Cert.Kernel6Ideal.Value.run_blocks m g),
    (θ_run _ _ _).mono (fun r h c => ?_) (Cert.Reference6Ideal.Value.run m' g')⟩
  · obtain ⟨h0, h1, hrest⟩ := h c
    exact ⟨h0.trans (Cert.Kernel6Ideal.FfnUp.h_final m c),
      h1.trans (Cert.Kernel6Ideal.FfnUp.u_final m c), hrest⟩
  · obtain ⟨h0, h1, hrest⟩ := h c
    obtain ⟨e0, e1, e2, e3⟩ := args c
    refine ⟨h0.trans ?_, h1.trans ?_, hrest⟩
    · rw [e0, e1, e2, e3]
      refine funext fun (i : Cert.Reference6Ideal.S4096x5632.Idx) => ?_
      obtain ⟨p, q, rfl⟩ : ∃ p q, i = ix2 p q := ⟨i 0, i 1, funext fun a => by fin_cases a <;> rfl⟩
      exact Cert.Reference6Ideal.FfnUp.h_apply _ _ _ _ p q
    · rw [e0, e1, e2]
      refine funext fun (i : Cert.Reference6Ideal.S4096x1024.Idx) => ?_
      obtain ⟨p, q, rfl⟩ : ∃ p q, i = ix2 p q := ⟨i 0, i 1, funext fun a => by fin_cases a <;> rfl⟩
      exact Cert.Reference6Ideal.FfnUp.u_apply _ _ _ p q

end
-- ==== Proof.FfnDownBlocks.lean ====
/-
  The blocks of the arrays at a grid point, and the arrays after the last point.
-/
module

public import proofs.«01_k».proof.Proof.Gen.Kernel7Ideal.Value
public import proofs.«01_k».proof.Proof.Rows
public import Idealize.ShloMosaic.Lib.Pipeline.Value
public import Idealize.ShloMosaic.Lib.Pointwise

@[expose] public section

noncomputable section

namespace Cert.Kernel7Ideal.Blocks

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

theorem points : cfg0.N = 8 := N_0

theorem lt_points (t : Fin cfg0.N) : t.val < 8 := lt_of_lt_of_eq t.isLt N_0

theorem index0 : ∀ t : Fin cfg0.N, win0_0.index t 0 = t.val ∧ win0_0.index t 1 = 0 :=
  (by decide +kernel : ∀ t : Fin grid0.N, win0_0.index t 0 = t.val ∧ win0_0.index t 1 = 0)

abbrev arg0 (c : Dev nD) : FVec Ideal S4096x2816 .bf16 := m ((c : Thread nD τ).loc main_arg0)

theorem block0 (c : Dev nD) (t : Fin cfg0.N) (p : Fin 512) (q : Fin 2816) :
    iblk m c 0 t (ix2 p q) = arg0 m c (ix2 ⟨t.val * 512 + p.val, by have := lt_points t; omega⟩ q) := by
  refine congrArg (arg0 m c) (funext fun a => Fin.ext ((win0_0.rect_emb_val t (ix2 p q) a).trans ?_))
  match a with
  | ⟨0, _⟩ => show win0_0.index t 0 * 512 + p.val = t.val * 512 + p.val; rw [(index0 t).1]
  | ⟨1, _⟩ => show win0_0.index t 1 * 2816 + q.val = q.val; rw [(index0 t).2]; omega

theorem index1 : ∀ t : Fin cfg0.N, win0_1.index t 0 = t.val ∧ win0_1.index t 1 = 0 :=
  (by decide +kernel : ∀ t : Fin grid0.N, win0_1.index t 0 = t.val ∧ win0_1.index t 1 = 0)

abbrev arg1 (c : Dev nD) : FVec Ideal S4096x1024 .f32 := m ((c : Thread nD τ).loc main_arg1)

theorem block1 (c : Dev nD) (t : Fin cfg0.N) (p : Fin 512) (q : Fin 1024) :
    iblk m c 1 t (ix2 p q) = arg1 m c (ix2 ⟨t.val * 512 + p.val, by have := lt_points t; omega⟩ q) := by
  refine congrArg (arg1 m c) (funext fun a => Fin.ext ((win0_1.rect_emb_val t (ix2 p q) a).trans ?_))
  match a with
  | ⟨0, _⟩ => show win0_1.index t 0 * 512 + p.val = t.val * 512 + p.val; rw [(index1 t).1]
  | ⟨1, _⟩ => show win0_1.index t 1 * 1024 + q.val = q.val; rw [(index1 t).2]; omega

theorem index2 : ∀ t : Fin cfg0.N, win0_2.index t 0 = 0 ∧ win0_2.index t 1 = 0 :=
  (by decide +kernel : ∀ t : Fin grid0.N, win0_2.index t 0 = 0 ∧ win0_2.index t 1 = 0)

abbrev arg2 (c : Dev nD) : FVec Ideal S1x1024 .f32 := m ((c : Thread nD τ).loc main_arg2)

theorem block2 (c : Dev nD) (t : Fin cfg0.N) : iblk m c 2 t = arg2 m c := by
  refine funext fun (y : S1x1024.Idx) => congrArg (arg2 m c) (funext fun a => Fin.ext ((win0_2.rect_emb_val t y a).trans ?_))
  match a with
  | ⟨0, _⟩ => show win0_2.index t 0 * 1 + (y 0).val = (y 0).val; rw [(index2 t).1]; omega
  | ⟨1, _⟩ => show win0_2.index t 1 * 1024 + (y 1).val = (y 1).val; rw [(index2 t).2]; omega

theorem index3 : ∀ t : Fin cfg0.N, win0_3.index t 0 = 0 ∧ win0_3.index t 1 = 0 :=
  (by decide +kernel : ∀ t : Fin grid0.N, win0_3.index t 0 = 0 ∧ win0_3.index t 1 = 0)

abbrev arg3 (c : Dev nD) : FVec Ideal S1x1024 .f32 := m ((c : Thread nD τ).loc main_arg3)

theorem block3 (c : Dev nD) (t : Fin cfg0.N) : iblk m c 3 t = arg3 m c := by
  refine funext fun (y : S1x1024.Idx) => congrArg (arg3 m c) (funext fun a => Fin.ext ((win0_3.rect_emb_val t y a).trans ?_))
  match a with
  | ⟨0, _⟩ => show win0_3.index t 0 * 1 + (y 0).val = (y 0).val; rw [(index3 t).1]; omega
  | ⟨1, _⟩ => show win0_3.index t 1 * 1024 + (y 1).val = (y 1).val; rw [(index3 t).2]; omega

theorem index4 : ∀ t : Fin cfg0.N, win0_4.index t 0 = 0 ∧ win0_4.index t 1 = 0 :=
  (by decide +kernel : ∀ t : Fin grid0.N, win0_4.index t 0 = 0 ∧ win0_4.index t 1 = 0)

abbrev arg4 (c : Dev nD) : FVec Ideal S1x1024 .f32 := m ((c : Thread nD τ).loc main_arg4)

theorem block4 (c : Dev nD) (t : Fin cfg0.N) : iblk m c 4 t = arg4 m c := by
  refine funext fun (y : S1x1024.Idx) => congrArg (arg4 m c) (funext fun a => Fin.ext ((win0_4.rect_emb_val t y a).trans ?_))
  match a with
  | ⟨0, _⟩ => show win0_4.index t 0 * 1 + (y 0).val = (y 0).val; rw [(index4 t).1]; omega
  | ⟨1, _⟩ => show win0_4.index t 1 * 1024 + (y 1).val = (y 1).val; rw [(index4 t).2]; omega

theorem index5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)

abbrev arg5 (c : Dev nD) : FVec Ideal S4x704x1024 .bf16 := m ((c : Thread nD τ).loc main_arg5)

theorem block5 (c : Dev nD) (t : Fin cfg0.N) : iblk m c 5 t = arg5 m c := by
  refine funext fun (y : S4x704x1024.Idx) => congrArg (arg5 m c) (funext fun a => Fin.ext ((win0_5.rect_emb_val t y a).trans ?_))
  match a with
  | ⟨0, _⟩ => show win0_5.index t 0 * 4 + (y 0).val = (y 0).val; rw [(index5 t).1]; omega
  | ⟨1, _⟩ => show win0_5.index t 1 * 704 + (y 1).val = (y 1).val; rw [(index5 t).2.1]; omega
  | ⟨2, _⟩ => show win0_5.index t 2 * 1024 + (y 2).val = (y 2).val; rw [(index5 t).2.2]; omega

theorem index6 : ∀ t : Fin cfg0.N, win0_6.index t 0 = t.val ∧ win0_6.index t 1 = 0 :=
  (by decide +kernel : ∀ t : Fin grid0.N, win0_6.index t 0 = t.val ∧ win0_6.index t 1 = 0)

theorem emb6 (t : Fin cfg0.N) (p : Fin 512) (q : Fin 1024) :
    (win0_6.rect t).emb (ix2 p q) = (ix2 ⟨t.val * 512 + p.val, by have := lt_points t; omega⟩ q : S4096x1024.Idx) := by
  refine funext fun a => Fin.ext ((win0_6.rect_emb_val t (ix2 p q) a).trans ?_)
  match a with
  | ⟨0, _⟩ => show win0_6.index t 0 * 512 + p.val = t.val * 512 + p.val; rw [(index6 t).1]
  | ⟨1, _⟩ => show win0_6.index t 1 * 1024 + q.val = q.val; rw [(index6 t).2]; omega

theorem final6 (c : Dev nD) (G : FVec Ideal S4096x1024 .f32)
    (h : ∀ (t : Fin cfg0.N) (p : Fin 512) (q : Fin 1024), (out0_6 (iblk m c 0 t) (iblk m c 1 t) (iblk m c 2 t) (iblk m c 3 t) (iblk m c 4 t) (iblk m c 5 t)) (ix2 p q) = G (ix2 ⟨t.val * 512 + p.val, by have := lt_points t; omega⟩ q)) :
    (dats m 0 c).arrAt 6 cfg0.N = G := by
  refine (dats m 0 c).arrAt_eq_of_cover 6 G (fun t _ => ?_) fun (i : S4096x1024.Idx) => ?_
  · rw [Value.flushed6]
    refine funext fun (y : S512x1024.Idx) => ?_
    obtain ⟨p, q, rfl⟩ : ∃ p q, y = ix2 p q := ⟨y 0, y 1, funext fun a => by fin_cases a <;> rfl⟩
    refine (h t p q).trans ?_
    show _ = G ((win0_6.rect t).emb (ix2 p q))
    rw [emb6]
  · have hN : cfg0.N = 8 := N_0
    have h0 : (i 0 : Nat) < 4096 := (i 0).isLt
    have h1 : (i 1 : Nat) < 1024 := (i 1).isLt
    have ht : (i 0 : Nat) / 512 < cfg0.N := by omega
    refine ⟨⟨_, ht⟩, flush0_6 _, ?_⟩
    show i ∈ ((View.whole main_v0_0).slice (win0_6.rect ⟨_, ht⟩)).set
    rw [View.set_slice_whole, Rect.mem_set_unit]
    have e := index6 ⟨_, ht⟩
    intro a
    match a with
    | ⟨0, _⟩ =>
      show win0_6.index ⟨_, ht⟩ 0 * 512 ≤ (i 0 : Nat) ∧ (i 0 : Nat) < win0_6.index ⟨_, ht⟩ 0 * 512 + 512
      rw [e.1]; try dsimp only
      omega
    | ⟨1, _⟩ =>
      show win0_6.index ⟨_, ht⟩ 1 * 1024 ≤ (i 1 : Nat) ∧ (i 1 : Nat) < win0_6.index ⟨_, ht⟩ 1 * 1024 + 1024
      rw [e.2]; try dsimp only
      omega

theorem index7 : ∀ t : Fin cfg0.N, win0_7.index t 0 = t.val ∧ win0_7.index t 1 = 0 :=
  (by decide +kernel : ∀ t : Fin grid0.N, win0_7.index t 0 = t.val ∧ win0_7.index t 1 = 0)

theorem emb7 (t : Fin cfg0.N) (p : Fin 512) (q : Fin 1024) :
    (win0_7.rect t).emb (ix2 p q) = (ix2 ⟨t.val * 512 + p.val, by have := lt_points t; omega⟩ q : S4096x1024.Idx) := by
  refine funext fun a => Fin.ext ((win0_7.rect_emb_val t (ix2 p q) a).trans ?_)
  match a with
  | ⟨0, _⟩ => show win0_7.index t 0 * 512 + p.val = t.val * 512 + p.val; rw [(index7 t).1]
  | ⟨1, _⟩ => show win0_7.index t 1 * 1024 + q.val = q.val; rw [(index7 t).2]; omega

theorem final7 (c : Dev nD) (G : FVec Ideal S4096x1024 .f32)
    (h : ∀ (t : Fin cfg0.N) (p : Fin 512) (q : Fin 1024), (out0_7 (iblk m c 0 t) (iblk m c 1 t) (iblk m c 2 t) (iblk m c 3 t) (iblk m c 4 t) (iblk m c 5 t)) (ix2 p q) = G (ix2 ⟨t.val * 512 + p.val, by have := lt_points t; omega⟩ q)) :
    (dats m 0 c).arrAt 7 cfg0.N = G := by
  refine (dats m 0 c).arrAt_eq_of_cover 7 G (fun t _ => ?_) fun (i : S4096x1024.Idx) => ?_
  · rw [Value.flushed7]
    refine funext fun (y : S512x1024.Idx) => ?_
    obtain ⟨p, q, rfl⟩ : ∃ p q, y = ix2 p q := ⟨y 0, y 1, funext fun a => by fin_cases a <;> rfl⟩
    refine (h t p q).trans ?_
    show _ = G ((win0_7.rect t).emb (ix2 p q))
    rw [emb7]
  · have hN : cfg0.N = 8 := N_0
    have h0 : (i 0 : Nat) < 4096 := (i 0).isLt
    have h1 : (i 1 : Nat) < 1024 := (i 1).isLt
    have ht : (i 0 : Nat) / 512 < cfg0.N := by omega
    refine ⟨⟨_, ht⟩, flush0_7 _, ?_⟩
    show i ∈ ((View.whole main_v0_1).slice (win0_7.rect ⟨_, ht⟩)).set
    rw [View.set_slice_whole, Rect.mem_set_unit]
    have e := index7 ⟨_, ht⟩
    intro a
    match a with
    | ⟨0, _⟩ =>
      show win0_7.index ⟨_, ht⟩ 0 * 512 ≤ (i 0 : Nat) ∧ (i 0 : Nat) < win0_7.index ⟨_, ht⟩ 0 * 512 + 512
      rw [e.1]; try dsimp only
      omega
    | ⟨1, _⟩ =>
      show win0_7.index ⟨_, ht⟩ 1 * 1024 ≤ (i 1 : Nat) ∧ (i 1 : Nat) < win0_7.index ⟨_, ht⟩ 1 * 1024 + 1024
      rw [e.2]; try dsimp only
      omega

end Cert.Kernel7Ideal.Blocks

end
-- ==== Proof.FfnDown.lean ====
/-
  The feed-forward block's down product, its residual and layer normalisation.
-/
module

public import proofs.«01_k».proof.Proof.FfnDownBlocks
public import proofs.«01_k».proof.Proof.LayerNorm

@[expose] public section

noncomputable section

namespace Cert.Kernel7Ideal.FfnDown

open Cert.Kernel7Ideal Cert.Kernel7Ideal.Gen Cert.Kernel7Ideal.Blocks Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

open Cert.LayerNorm

/-- The down product, its inner dimension laid out as `4 × 704`. -/
theorem pay1_apply (v0 : Vec Ideal S512x2816 .bf16) (v5 : Vec Ideal S4x704x1024 .bf16) (r : Fin 512) (l : Fin 1024) :
    k0_pay1 v0 v5 (ix2 r l)
      = ∑ n : Fin 2816, v0 (ix2 r n) * v5 (ix3 ⟨n.val / 704, by omega⟩ ⟨n.val % 704, by omega⟩ l) := by
  pointwise [k0_pay1]

theorem pay2_apply (v0 : Vec Ideal S512x2816 .bf16) (v1 : Vec Ideal S512x1024 .f32) (v2 v3 v4 : Vec Ideal S1x1024 .f32)
    (v5 : Vec Ideal S4x704x1024 .bf16) (r : Fin 512) (l : Fin 1024) :
    k0_pay2 v0 v1 v2 v3 v4 v5 (ix2 r l)
      = norm (res (fun n => v1 (ix2 r n)) (fun n => k0_pay1 v0 v5 (ix2 r n)) (fun n => v2 (ix2 0 n)))
          (fun n => v3 (ix2 0 n)) (fun n => v4 (ix2 0 n)) l := by
  pointwise [k0_pay2]
  rfl

/-- The down product of the whole arrays. -/
def y (c : Dev nD) : FVec Ideal S4096x1024 .f32 := fun i =>
  ∑ n : Fin 2816, arg0 m c (ix2 (i 0) n) * arg5 m c (ix3 ⟨n.val / 704, by omega⟩ ⟨n.val % 704, by omega⟩ (i 1))

/-- The normalised rows. -/
def out (c : Dev nD) : FVec Ideal S4096x1024 .f32 := fun i =>
  norm (res (fun n => arg1 m c (ix2 (i 0) n)) (fun n => y m c (ix2 (i 0) n)) (fun n => arg2 m c (ix2 0 n)))
    (fun n => arg3 m c (ix2 0 n)) (fun n => arg4 m c (ix2 0 n)) (i 1)

theorem y_block (c : Dev nD) (t : Fin cfg0.N) (r : Fin 512) (l : Fin 1024) :
    k0_pay1 (iblk m c 0 t) (iblk m c 5 t) (ix2 r l)
      = y m c (ix2 ⟨t.val * 512 + r.val, by have := lt_points t; omega⟩ l) := by
  rw [pay1_apply, block5]
  exact Finset.sum_congr rfl fun n _ => by rw [block0]; rfl

theorem y_final (c : Dev nD) : (dats m 0 c).arrAt 7 cfg0.N = y m c :=
  final7 m c (y m c) fun t r l => by
    unfold out0_7
    rw [View.canon_unit_zero hz2, View.ld_unit_zero hz2, View.ld_unit_zero hz3, y_block]

theorem out_final (c : Dev nD) : (dats m 0 c).arrAt 6 cfg0.N = out m c :=
  final6 m c (out m c) fun t r l => by
    unfold out0_6
    rw [View.canon_unit_zero hz2, View.ld_unit_zero hz2, View.ld_unit_zero hz2, View.ld_unit_zero hz2, View.ld_unit_zero hz2,
      View.ld_unit_zero hz2, View.ld_unit_zero hz3, pay2_apply]
    simp only [y_block, block1, block2, block3, block4]
    rfl

end Cert.Kernel7Ideal.FfnDown

end
-- ==== Proof.FfnDownRef.lean ====
/-
  The reference's down product with residual and layer normalisation, read at an index.
-/
module

public import proofs.«01_k».proof.Proof.Gen.Reference7Ideal.Run
public import Idealize.ShloMosaic.Lib.Pointwise
public import proofs.«01_k».proof.Proof.LayerNorm

@[expose] public section

noncomputable section

namespace Cert.Reference7Ideal.FfnDown

open Cert.Reference7Ideal Cert.Reference7Ideal.Gen Idealize.ShloMosaic Idealize.ShloMosaic.TcCoe Idealize.SL.Sem

open Cert.LayerNorm

def product (a0 : FVec Ideal S4096x2816 .bf16) (a5 : FVec Ideal S4x704x1024 .bf16) : FVec Ideal S4096x1024 .f32 :=
  Host.dotGeneral dot_S4096x2816_S2816x1024_S4096x1024_1_0_0_1_n_n none (extf .f32 a0 bitsLt_bf16_f32) (extf .f32 (shapeCast S2816x1024 a5 shapeCasts_S4x704x1024_S2816x1024) bitsLt_bf16_f32)

theorem product_apply (a0 : FVec Ideal S4096x2816 .bf16) (a5 : FVec Ideal S4x704x1024 .bf16) (k : Fin 4096) (l : Fin 1024) :
    product a0 a5 (ix2 k l)
      = ∑ n : Fin 2816, a0 (ix2 k n) * a5 (ix3 ⟨n.val / 704, by omega⟩ ⟨n.val % 704, by omega⟩ l) := by
  unfold product
  pointwise

theorem out_apply (a1 y : FVec Ideal S4096x1024 .f32) (a2 a3 a4 : FVec Ideal S1x1024 .f32) (k : Fin 4096) (l : Fin 1024) :
    (addf (mulf (mulf (subf (addf (mulf (broadcastInDim S4096x1024 ![] bcast_S_S4096x1024 (constant S_ .f32 0x3FB504F3#32)) a1) (mulf (broadcastInDim S4096x1024 ![0, 1] bcast_S1x1024_S4096x1024_0_1 a2) y)) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FB504F3#32)) a1) (mulf (broadcastInDim S4096x1024 ![0, 1] bcast_S1x1024_S4096x1024_0_1 a2) y)) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (addf (mulf (broadcastInDim S4096x1024 ![] bcast_S_S4096x1024 (constant S_ .f32 0x3FB504F3#32)) a1) (mulf (broadcastInDim S4096x1024 ![0, 1] bcast_S1x1024_S4096x1024_0_1 a2) y)) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FB504F3#32)) a1) (mulf (broadcastInDim S4096x1024 ![0, 1] bcast_S1x1024_S4096x1024_0_1 a2) y)) (constant S_ .f32 0x00000000#32) reducesTo_S4096x1024_S4096_d1 h_S_)) (broadcastInDim S4096x1 ![] bcast_S_S4096x1 (constant S_ .f32 0x44800000#32))))) (subf (addf (mulf (broadcastInDim S4096x1024 ![] bcast_S_S4096x1024 (constant S_ .f32 0x3FB504F3#32)) a1) (mulf (broadcastInDim S4096x1024 ![0, 1] bcast_S1x1024_S4096x1024_0_1 a2) y)) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FB504F3#32)) a1) (mulf (broadcastInDim S4096x1024 ![0, 1] bcast_S1x1024_S4096x1024_0_1 a2) y)) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1024 ![0, 1] bcast_S1x1024_S4096x1024_0_1 a3)) (broadcastInDim S4096x1024 ![0, 1] bcast_S1x1024_S4096x1024_0_1 a4) : FVec Ideal S4096x1024 .f32) (ix2 k l)
      = norm (res (fun n => a1 (ix2 k n)) (fun n => y (ix2 k n)) (fun n => a2 (ix2 0 n)))
          (fun n => a3 (ix2 0 n)) (fun n => a4 (ix2 0 n)) l := by
  pointwise
  rfl

end Cert.Reference7Ideal.FfnDown

end
-- ==== Proof.FfnDownClaim.lean ====
/-
  The down product with residual and layer normalisation: kernel and reference compute the same two arrays.
-/
module

public import proofs.«01_k».proof.Defs
public import proofs.«01_k».proof.Proof.FfnDown
public import proofs.«01_k».proof.Proof.FfnDownRef

@[expose] public section

noncomputable section

open Idealize.ShloMosaic Idealize.ShloMosaic.TcCoe Idealize.SL.Sem

theorem Cert.FfnDown.claim : Cert.algebraic_Kernel7Ideal_Reference7Ideal := by
  intro m g m' g' _ args
  refine ⟨Cert.Kernel7Ideal.FfnDown.out m, Cert.Kernel7Ideal.FfnDown.y m,
    (θ_run _ _ _).mono (fun r h c => ?_) (Cert.Kernel7Ideal.Value.run_blocks m g),
    (θ_run _ _ _).mono (fun r h c => ?_) (Cert.Reference7Ideal.Value.run m' g')⟩
  · obtain ⟨h0, h1, hrest⟩ := h c
    exact ⟨h0.trans (Cert.Kernel7Ideal.FfnDown.out_final m c),
      h1.trans (Cert.Kernel7Ideal.FfnDown.y_final m c), hrest⟩
  · obtain ⟨h0, h1, hrest⟩ := h c
    obtain ⟨e0, e1, e2, e3, e4, e5⟩ := args c
    refine ⟨h0.trans ?_, h1.trans ?_, hrest⟩
    · skip
      refine funext fun (i : Cert.Reference7Ideal.S4096x1024.Idx) => ?_
      obtain ⟨p, q, rfl⟩ : ∃ p q, i = ix2 p q := ⟨i 0, i 1, funext fun a => by fin_cases a <;> rfl⟩
      unfold Cert.Reference7Ideal.Value.res_main_v28
      rw [e0, e1, e2, e3, e4, e5]
      refine (Cert.Reference7Ideal.FfnDown.out_apply _ (Cert.Reference7Ideal.FfnDown.product _ _) _ _ _ p q).trans ?_
      simp only [Cert.Reference7Ideal.FfnDown.product_apply]
      rfl
    · rw [e0, e5]
      refine funext fun (i : Cert.Reference7Ideal.S4096x1024.Idx) => ?_
      obtain ⟨p, q, rfl⟩ : ∃ p q, i = ix2 p q := ⟨i 0, i 1, funext fun a => by fin_cases a <;> rfl⟩
      exact Cert.Reference7Ideal.FfnDown.product_apply _ _ p q

end
-- ==== Proof.FfnDownLossBlocks.lean ====
/-
  The last down product with the loss: where each grid point reads its blocks and where its results land.
-/
module

public import proofs.«01_k».proof.Proof.Gen.Kernel9Ideal.Value
public import proofs.«01_k».proof.Proof.Rows
public import Idealize.ShloMosaic.Lib.Pipeline.Value
public import Idealize.ShloMosaic.Lib.Pointwise

@[expose] public section

noncomputable section

namespace Cert.Kernel9Ideal.Blocks

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

theorem points : cfg0.N = 8 := N_0

theorem lt_points (t : Fin cfg0.N) : t.val < 8 := lt_of_lt_of_eq t.isLt N_0

theorem index0 : ∀ t : Fin cfg0.N, win0_0.index t 0 = t.val ∧ win0_0.index t 1 = 0 :=
  (by decide +kernel : ∀ t : Fin grid0.N, win0_0.index t 0 = t.val ∧ win0_0.index t 1 = 0)

abbrev arg0 (c : Dev nD) : FVec Ideal S4096x2816 .bf16 := m ((c : Thread nD τ).loc main_arg0)

theorem block0 (c : Dev nD) (t : Fin cfg0.N) (p : Fin 512) (q : Fin 2816) :
    iblk m c 0 t (ix2 p q) = arg0 m c (ix2 ⟨t.val * 512 + p.val, by have := lt_points t; omega⟩ q) := by
  refine congrArg (arg0 m c) (funext fun a => Fin.ext ((win0_0.rect_emb_val t (ix2 p q) a).trans ?_))
  match a with
  | ⟨0, _⟩ => show win0_0.index t 0 * 512 + p.val = t.val * 512 + p.val; rw [(index0 t).1]
  | ⟨1, _⟩ => show win0_0.index t 1 * 2816 + q.val = q.val; rw [(index0 t).2]; omega

theorem index1 : ∀ t : Fin cfg0.N, win0_1.index t 0 = t.val ∧ win0_1.index t 1 = 0 :=
  (by decide +kernel : ∀ t : Fin grid0.N, win0_1.index t 0 = t.val ∧ win0_1.index t 1 = 0)

abbrev arg1 (c : Dev nD) : FVec Ideal S4096x1024 .f32 := m ((c : Thread nD τ).loc main_arg1)

theorem block1 (c : Dev nD) (t : Fin cfg0.N) (p : Fin 512) (q : Fin 1024) :
    iblk m c 1 t (ix2 p q) = arg1 m c (ix2 ⟨t.val * 512 + p.val, by have := lt_points t; omega⟩ q) := by
  refine congrArg (arg1 m c) (funext fun a => Fin.ext ((win0_1.rect_emb_val t (ix2 p q) a).trans ?_))
  match a with
  | ⟨0, _⟩ => show win0_1.index t 0 * 512 + p.val = t.val * 512 + p.val; rw [(index1 t).1]
  | ⟨1, _⟩ => show win0_1.index t 1 * 1024 + q.val = q.val; rw [(index1 t).2]; omega

theorem index2 : ∀ t : Fin cfg0.N, win0_2.index t 0 = 0 ∧ win0_2.index t 1 = 0 :=
  (by decide +kernel : ∀ t : Fin grid0.N, win0_2.index t 0 = 0 ∧ win0_2.index t 1 = 0)

abbrev arg2 (c : Dev nD) : FVec Ideal S1x1024 .f32 := m ((c : Thread nD τ).loc main_arg2)

theorem block2 (c : Dev nD) (t : Fin cfg0.N) : iblk m c 2 t = arg2 m c := by
  refine funext fun (y : S1x1024.Idx) => congrArg (arg2 m c) (funext fun a => Fin.ext ((win0_2.rect_emb_val t y a).trans ?_))
  match a with
  | ⟨0, _⟩ => show win0_2.index t 0 * 1 + (y 0).val = (y 0).val; rw [(index2 t).1]; omega
  | ⟨1, _⟩ => show win0_2.index t 1 * 1024 + (y 1).val = (y 1).val; rw [(index2 t).2]; omega

theorem index3 : ∀ t : Fin cfg0.N, win0_3.index t 0 = 0 ∧ win0_3.index t 1 = 0 :=
  (by decide +kernel : ∀ t : Fin grid0.N, win0_3.index t 0 = 0 ∧ win0_3.index t 1 = 0)

abbrev arg3 (c : Dev nD) : FVec Ideal S1x1024 .f32 := m ((c : Thread nD τ).loc main_arg3)

theorem block3 (c : Dev nD) (t : Fin cfg0.N) : iblk m c 3 t = arg3 m c := by
  refine funext fun (y : S1x1024.Idx) => congrArg (arg3 m c) (funext fun a => Fin.ext ((win0_3.rect_emb_val t y a).trans ?_))
  match a with
  | ⟨0, _⟩ => show win0_3.index t 0 * 1 + (y 0).val = (y 0).val; rw [(index3 t).1]; omega
  | ⟨1, _⟩ => show win0_3.index t 1 * 1024 + (y 1).val = (y 1).val; rw [(index3 t).2]; omega

theorem index4 : ∀ t : Fin cfg0.N, win0_4.index t 0 = 0 ∧ win0_4.index t 1 = 0 :=
  (by decide +kernel : ∀ t : Fin grid0.N, win0_4.index t 0 = 0 ∧ win0_4.index t 1 = 0)

abbrev arg4 (c : Dev nD) : FVec Ideal S1x1024 .f32 := m ((c : Thread nD τ).loc main_arg4)

theorem block4 (c : Dev nD) (t : Fin cfg0.N) : iblk m c 4 t = arg4 m c := by
  refine funext fun (y : S1x1024.Idx) => congrArg (arg4 m c) (funext fun a => Fin.ext ((win0_4.rect_emb_val t y a).trans ?_))
  match a with
  | ⟨0, _⟩ => show win0_4.index t 0 * 1 + (y 0).val = (y 0).val; rw [(index4 t).1]; omega
  | ⟨1, _⟩ => show win0_4.index t 1 * 1024 + (y 1).val = (y 1).val; rw [(index4 t).2]; omega

theorem index5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)

abbrev arg5 (c : Dev nD) : FVec Ideal S4x704x1024 .bf16 := m ((c : Thread nD τ).loc main_arg5)

theorem block5 (c : Dev nD) (t : Fin cfg0.N) : iblk m c 5 t = arg5 m c := by
  refine funext fun (y : S4x704x1024.Idx) => congrArg (arg5 m c) (funext fun a => Fin.ext ((win0_5.rect_emb_val t y a).trans ?_))
  match a with
  | ⟨0, _⟩ => show win0_5.index t 0 * 4 + (y 0).val = (y 0).val; rw [(index5 t).1]; omega
  | ⟨1, _⟩ => show win0_5.index t 1 * 704 + (y 1).val = (y 1).val; rw [(index5 t).2.1]; omega
  | ⟨2, _⟩ => show win0_5.index t 2 * 1024 + (y 2).val = (y 2).val; rw [(index5 t).2.2]; omega

theorem index6 : ∀ t : Fin cfg0.N, win0_6.index t 0 = t.val ∧ win0_6.index t 1 = 0 :=
  (by decide +kernel : ∀ t : Fin grid0.N, win0_6.index t 0 = t.val ∧ win0_6.index t 1 = 0)

abbrev arg6 (c : Dev nD) : FVec Ideal S4096x1024 .f32 := m ((c : Thread nD τ).loc main_arg6)

theorem block6 (c : Dev nD) (t : Fin cfg0.N) (p : Fin 512) (q : Fin 1024) :
    iblk m c 6 t (ix2 p q) = arg6 m c (ix2 ⟨t.val * 512 + p.val, by have := lt_points t; omega⟩ q) := by
  refine congrArg (arg6 m c) (funext fun a => Fin.ext ((win0_6.rect_emb_val t (ix2 p q) a).trans ?_))
  match a with
  | ⟨0, _⟩ => show win0_6.index t 0 * 512 + p.val = t.val * 512 + p.val; rw [(index6 t).1]
  | ⟨1, _⟩ => show win0_6.index t 1 * 1024 + q.val = q.val; rw [(index6 t).2]; omega

theorem index7 : ∀ t : Fin cfg0.N, win0_7.index t 0 = 0 ∧ win0_7.index t 1 = 0 :=
  (by decide +kernel : ∀ t : Fin grid0.N, win0_7.index t 0 = 0 ∧ win0_7.index t 1 = 0)

theorem final7 (c : Dev nD) (G : FVec Ideal S1x128 .f32)
    (h : ∀ t : Fin cfg0.N, t.val = 7 → (outsAt0 m c t.val t.isLt).1 = G) :
    (dats m 0 c).arrAt 7 cfg0.N = G := by
  refine (dats m 0 c).arrAt_eq_of_cover 7 G (fun t hf => ?_) fun (i : S1x128.Idx) => ?_
  · rw [Value.flushed7]
    have hN := lt_points t
    have ht : t.val = 7 := by have := (flush0_7 t).mp hf; omega
    refine funext fun (y : S1x128.Idx) => ?_
    have e : (win0_7.rect t).emb y = y := by
      refine funext fun a => Fin.ext ((win0_7.rect_emb_val t y a).trans ?_)
      match a with
      | ⟨0, _⟩ => show win0_7.index t 0 * 1 + (y 0).val = (y 0).val; rw [(index7 t).1]; omega
      | ⟨1, _⟩ => show win0_7.index t 1 * 128 + (y 1).val = (y 1).val; rw [(index7 t).2]; omega
    show ((outsAt0 m c t.val t.isLt).1) y = G ((win0_7.rect t).emb y)
    rw [e]
    exact congrFun (h t ht) y
  · have ht : 7 < cfg0.N := lt_of_lt_of_eq (by omega) N_0.symm
    have h0 : (i 0 : Nat) < 1 := (i 0).isLt
    have h1 : (i 1 : Nat) < 128 := (i 1).isLt
    refine ⟨⟨7, ht⟩, (flush0_7 _).mpr rfl, ?_⟩
    show i ∈ ((View.whole main_v0_0).slice (win0_7.rect ⟨7, ht⟩)).set
    rw [View.set_slice_whole, Rect.mem_set_unit]
    have e := index7 ⟨7, ht⟩
    intro a
    match a with
    | ⟨0, _⟩ =>
      show win0_7.index ⟨7, ht⟩ 0 * 1 ≤ (i 0 : Nat) ∧ (i 0 : Nat) < win0_7.index ⟨7, ht⟩ 0 * 1 + 1
      rw [e.1]
      omega
    | ⟨1, _⟩ =>
      show win0_7.index ⟨7, ht⟩ 1 * 128 ≤ (i 1 : Nat) ∧ (i 1 : Nat) < win0_7.index ⟨7, ht⟩ 1 * 128 + 128
      rw [e.2]
      omega

theorem index8 : ∀ t : Fin cfg0.N, win0_8.index t 0 = t.val ∧ win0_8.index t 1 = 0 :=
  (by decide +kernel : ∀ t : Fin grid0.N, win0_8.index t 0 = t.val ∧ win0_8.index t 1 = 0)

theorem emb8 (t : Fin cfg0.N) (p : Fin 512) (q : Fin 1024) :
    (win0_8.rect t).emb (ix2 p q) = (ix2 ⟨t.val * 512 + p.val, by have := lt_points t; omega⟩ q : S4096x1024.Idx) := by
  refine funext fun a => Fin.ext ((win0_8.rect_emb_val t (ix2 p q) a).trans ?_)
  match a with
  | ⟨0, _⟩ => show win0_8.index t 0 * 512 + p.val = t.val * 512 + p.val; rw [(index8 t).1]
  | ⟨1, _⟩ => show win0_8.index t 1 * 1024 + q.val = q.val; rw [(index8 t).2]; omega

theorem final8 (c : Dev nD) (G : FVec Ideal S4096x1024 .f32)
    (h : ∀ (t : Fin cfg0.N) (p : Fin 512) (q : Fin 1024), ((outsAt0 m c t.val t.isLt).2.1) (ix2 p q) = G (ix2 ⟨t.val * 512 + p.val, by have := lt_points t; omega⟩ q)) :
    (dats m 0 c).arrAt 8 cfg0.N = G := by
  refine (dats m 0 c).arrAt_eq_of_cover 8 G (fun t _ => ?_) fun (i : S4096x1024.Idx) => ?_
  · rw [Value.flushed8]
    refine funext fun (y : S512x1024.Idx) => ?_
    obtain ⟨p, q, rfl⟩ : ∃ p q, y = ix2 p q := ⟨y 0, y 1, funext fun a => by fin_cases a <;> rfl⟩
    refine (h t p q).trans ?_
    show _ = G ((win0_8.rect t).emb (ix2 p q))
    rw [emb8]
  · have hN : cfg0.N = 8 := N_0
    have h0 : (i 0 : Nat) < 4096 := (i 0).isLt
    have h1 : (i 1 : Nat) < 1024 := (i 1).isLt
    have ht : (i 0 : Nat) / 512 < cfg0.N := by omega
    refine ⟨⟨_, ht⟩, flush0_8 _, ?_⟩
    show i ∈ ((View.whole main_v0_1).slice (win0_8.rect ⟨_, ht⟩)).set
    rw [View.set_slice_whole, Rect.mem_set_unit]
    have e := index8 ⟨_, ht⟩
    intro a
    match a with
    | ⟨0, _⟩ =>
      show win0_8.index ⟨_, ht⟩ 0 * 512 ≤ (i 0 : Nat) ∧ (i 0 : Nat) < win0_8.index ⟨_, ht⟩ 0 * 512 + 512
      rw [e.1]; try dsimp only
      omega
    | ⟨1, _⟩ =>
      show win0_8.index ⟨_, ht⟩ 1 * 1024 ≤ (i 1 : Nat) ∧ (i 1 : Nat) < win0_8.index ⟨_, ht⟩ 1 * 1024 + 1024
      rw [e.2]; try dsimp only
      omega

theorem index9 : ∀ t : Fin cfg0.N, win0_9.index t 0 = t.val ∧ win0_9.index t 1 = 0 :=
  (by decide +kernel : ∀ t : Fin grid0.N, win0_9.index t 0 = t.val ∧ win0_9.index t 1 = 0)

theorem emb9 (t : Fin cfg0.N) (p : Fin 512) (q : Fin 1024) :
    (win0_9.rect t).emb (ix2 p q) = (ix2 ⟨t.val * 512 + p.val, by have := lt_points t; omega⟩ q : S4096x1024.Idx) := by
  refine funext fun a => Fin.ext ((win0_9.rect_emb_val t (ix2 p q) a).trans ?_)
  match a with
  | ⟨0, _⟩ => show win0_9.index t 0 * 512 + p.val = t.val * 512 + p.val; rw [(index9 t).1]
  | ⟨1, _⟩ => show win0_9.index t 1 * 1024 + q.val = q.val; rw [(index9 t).2]; omega

theorem final9 (c : Dev nD) (G : FVec Ideal S4096x1024 .f32)
    (h : ∀ (t : Fin cfg0.N) (p : Fin 512) (q : Fin 1024), ((outsAt0 m c t.val t.isLt).2.2) (ix2 p q) = G (ix2 ⟨t.val * 512 + p.val, by have := lt_points t; omega⟩ q)) :
    (dats m 0 c).arrAt 9 cfg0.N = G := by
  refine (dats m 0 c).arrAt_eq_of_cover 9 G (fun t _ => ?_) fun (i : S4096x1024.Idx) => ?_
  · rw [Value.flushed9]
    refine funext fun (y : S512x1024.Idx) => ?_
    obtain ⟨p, q, rfl⟩ : ∃ p q, y = ix2 p q := ⟨y 0, y 1, funext fun a => by fin_cases a <;> rfl⟩
    refine (h t p q).trans ?_
    show _ = G ((win0_9.rect t).emb (ix2 p q))
    rw [emb9]
  · have hN : cfg0.N = 8 := N_0
    have h0 : (i 0 : Nat) < 4096 := (i 0).isLt
    have h1 : (i 1 : Nat) < 1024 := (i 1).isLt
    have ht : (i 0 : Nat) / 512 < cfg0.N := by omega
    refine ⟨⟨_, ht⟩, flush0_9 _, ?_⟩
    show i ∈ ((View.whole main_v0_2).slice (win0_9.rect ⟨_, ht⟩)).set
    rw [View.set_slice_whole, Rect.mem_set_unit]
    have e := index9 ⟨_, ht⟩
    intro a
    match a with
    | ⟨0, _⟩ =>
      show win0_9.index ⟨_, ht⟩ 0 * 512 ≤ (i 0 : Nat) ∧ (i 0 : Nat) < win0_9.index ⟨_, ht⟩ 0 * 512 + 512
      rw [e.1]; try dsimp only
      omega
    | ⟨1, _⟩ =>
      show win0_9.index ⟨_, ht⟩ 1 * 1024 ≤ (i 1 : Nat) ∧ (i 1 : Nat) < win0_9.index ⟨_, ht⟩ 1 * 1024 + 1024
      rw [e.2]; try dsimp only
      omega

end Cert.Kernel9Ideal.Blocks

end
-- ==== Proof.Loss.lean ====
/-
  The squared error of a row, its mean, and the numbers one half and 1/1024, in extended reals.
-/
module

public import proofs.«01_k».proof.Proof.LayerNorm

@[expose] public section

noncomputable section

namespace Cert.Loss

open Idealize.ShloMosaic Cert.LayerNorm

/-- The mean over a row of the squares. -/
def meanSquare (e : Row) : EReal := Ideal.div (∑ l, e l * e l) (Ideal.ofBits .f32 0x44800000#32)

theorem half_f32 : Ideal.ofBits .f32 0x3F000000#32 = ((1 / 2 : ℝ) : EReal) := by
  simp [Ideal.ofBits, Ideal.ieee, -EReal.coe_mul]; norm_num

theorem one_f32 : Ideal.ofBits .f32 0x3F800000#32 = ((1 : ℝ) : EReal) := by
  simp [Ideal.ofBits, Ideal.ieee, -EReal.coe_mul]; norm_num

theorem width_f32 : Ideal.ofBits .f32 0x44800000#32 = ((1024 : ℝ) : EReal) := by
  simp [Ideal.ofBits, Ideal.ieee, -EReal.coe_mul]; norm_num

theorem inv_width_f32 : Ideal.ofBits .f32 0x3A800000#32 = ((1 / 1024 : ℝ) : EReal) := by
  simp [Ideal.ofBits, Ideal.ieee, -EReal.coe_mul]; norm_num

/-- Halving distributes over any finite sum. -/
theorem half_sum {α : Type*} (s : Finset α) (f : α → EReal) :
    Ideal.ofBits .f32 0x3F000000#32 * ∑ i ∈ s, f i = ∑ i ∈ s, Ideal.ofBits .f32 0x3F000000#32 * f i := by
  rw [half_f32]
  let half : EReal →+ EReal :=
    { toFun := fun x => ((1 / 2 : ℝ) : EReal) * x
      map_zero' := mul_zero _
      map_add' := fun x y => EReal.left_distrib_of_nonneg_of_ne_top (by norm_num) (EReal.coe_ne_top _) x y }
  exact map_sum half f s

/-- Half the mean square has gradient the error over 1024. -/
theorem slope_eq (e : EReal) :
    Ideal.div (Ideal.ofBits .f32 0x3F000000#32 * Ideal.ofBits .f32 0x3F800000#32) (Ideal.ofBits .f32 0x44800000#32)
      * (Ideal.ofBits .f32 0x40000000#32 * e) = e * Ideal.ofBits .f32 0x3A800000#32 := by
  have two : Ideal.ofBits .f32 0x40000000#32 = ((2 : ℝ) : EReal) := two_f32
  rw [half_f32, one_f32, width_f32, inv_width_f32, two, ← mul_assoc, mul_comm e]
  refine congrArg (· * e) ?_
  have ne : ((1024 : ℝ) : EReal) ≠ 0 := by norm_num
  rw [← EReal.coe_mul, Ideal.div, if_neg ne, ← EReal.coe_inv, ← EReal.coe_mul, ← EReal.coe_mul]
  norm_num

end Cert.Loss

end
-- ==== Proof.FfnDownLoss.lean ====
/-
  The last down product with its residual and layer normalisation, the loss of the result against the target, and the loss's
  gradient: what each grid point leaves, and the three arrays after the last point.
-/
module

public import proofs.«01_k».proof.Proof.FfnDownLossBlocks
public import proofs.«01_k».proof.Proof.LayerNorm
public import proofs.«01_k».proof.Proof.Loss
public import Idealize.ShloMosaic.Lib.Tactic

@[expose] public section

noncomputable section

namespace Cert.Kernel9Ideal.FfnDownLoss

open Cert.Kernel9Ideal Cert.Kernel9Ideal.Gen Cert.Kernel9Ideal.Blocks Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

open Cert.LayerNorm Cert.Loss

/-! ## The values of one block -/

/-- The down product, its inner dimension laid out as `4 × 704`. -/
theorem pay4_apply (v0 : Vec Ideal S512x2816 .bf16) (v5 : Vec Ideal S4x704x1024 .bf16) (r : Fin 512) (l : Fin 1024) :
    k0_pay4 v0 v5 (ix2 r l)
      = ∑ n : Fin 2816, v0 (ix2 r n) * v5 (ix3 ⟨n.val / 704, by omega⟩ ⟨n.val % 704, by omega⟩ l) := by
  pointwise [k0_pay4]

/-- The error: the normalised row less the target. -/
theorem pay5_apply (v0 : Vec Ideal S512x2816 .bf16) (v1 : Vec Ideal S512x1024 .f32) (v2 v3 v4 : Vec Ideal S1x1024 .f32)
    (v5 : Vec Ideal S4x704x1024 .bf16) (v6 : Vec Ideal S512x1024 .f32) (r : Fin 512) (l : Fin 1024) :
    k0_pay5 v0 v1 v2 v3 v4 v5 v6 (ix2 r l)
      = norm (res (fun n => v1 (ix2 r n)) (fun n => k0_pay4 v0 v5 (ix2 r n)) (fun n => v2 (ix2 0 n)))
          (fun n => v3 (ix2 0 n)) (fun n => v4 (ix2 0 n)) l - v6 (ix2 r l) := by
  pointwise [k0_pay5]
  rfl

theorem pay6_apply (v0 : Vec Ideal S512x2816 .bf16) (v1 : Vec Ideal S512x1024 .f32) (v2 v3 v4 : Vec Ideal S1x1024 .f32)
    (v5 : Vec Ideal S4x704x1024 .bf16) (v6 : Vec Ideal S512x1024 .f32) (r : Fin 512) (l : Fin 1024) :
    k0_pay6 v0 v1 v2 v3 v4 v5 v6 (ix2 r l)
      = k0_pay5 v0 v1 v2 v3 v4 v5 v6 (ix2 r l) * k0_pay5 v0 v1 v2 v3 v4 v5 v6 (ix2 r l) := by
  pointwise [k0_pay6]

theorem pay1_apply (v35 : FVec Ideal S512x1024 .f32) (l : Fin 128) :
    k0_pay1 v35 (ix2 0 l)
      = Ideal.ofBits .f32 0x3F000000#32
          * ∑ r : Fin 512, Ideal.div (∑ n : Fin 1024, v35 (ix2 r n)) (Ideal.ofBits .f32 0x44800000#32) := by
  pointwise [k0_pay1]

theorem pay3_apply (v35 : FVec Ideal S512x1024 .f32) (a : FVec Ideal S1x128 .f32) (l : Fin 128) :
    k0_pay3 v35 a (ix2 0 l) = a (ix2 0 l) + k0_pay1 v35 (ix2 0 l) := by
  pointwise [k0_pay3]

theorem pay2_apply (v34 : FVec Ideal S512x1024 .f32) (r : Fin 512) (l : Fin 1024) :
    k0_pay2 v34 (ix2 r l) = v34 (ix2 r l) * Ideal.ofBits .f32 0x3A800000#32 := by
  pointwise [k0_pay2]

/-! ## What point `t` leaves in each output's block -/

theorem dout_at (c : Dev nD) (t : Fin cfg0.N) : (outsAt0 m c t.val t.isLt).2.1
    = k0_pay2 (k0_pay5 (iblk m c 0 t) (iblk m c 1 t) (iblk m c 2 t) (iblk m c 3 t) (iblk m c 4 t) (iblk m c 5 t) (iblk m c 6 t)) := by
  have hN := lt_points t
  by_cases h : t.val = 0
  · skip
    rw [outsAt0_A m c t (by omega) (by omega)]
    dsimp only
    unfold out0_A_8
    rw [View.read_writes_eq_canon _ _ _ (fun y => cover0_A_8 ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1x1024) hz2, View.ld_unit_zero (S := S4x704x1024) hz3, View.ld_unit_zero (S := S512x1024) hz2, View.ld_unit_zero (S := S512x2816) hz2]
  · skip
    rw [outsAt0_B m c t (by omega) (by omega)]
    dsimp only
    unfold out0_B_8
    rw [View.read_writes_eq_canon _ _ _ (fun y => cover0_B_8 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1x1024) hz2, View.ld_unit_zero (S := S4x704x1024) hz3, View.ld_unit_zero (S := S512x1024) hz2, View.ld_unit_zero (S := S512x2816) hz2]

theorem y_at (c : Dev nD) (t : Fin cfg0.N) : (outsAt0 m c t.val t.isLt).2.2
    = k0_pay4 (iblk m c 0 t) (iblk m c 5 t) := by
  have hN := lt_points t
  by_cases h : t.val = 0
  · skip
    rw [outsAt0_A m c t (by omega) (by omega)]
    dsimp only
    unfold out0_A_9
    rw [View.read_writes_eq_canon _ _ _ (fun y => cover0_A_9 ..)]
    unfold kernelRun0_A
    dsimp only
    sl_unfold_words
    rw [View.canon_unit_zero hz2]
    simp only [View.readAt_eq_ld, (hs0_0 t).read_unread, (hs0_5 t).read_unread, View.ld_unit_zero (S := S4x704x1024) hz3, View.ld_unit_zero (S := S512x2816) hz2]
  · skip
    rw [outsAt0_B m c t (by omega) (by omega)]
    dsimp only
    unfold out0_B_9
    rw [View.read_writes_eq_canon _ _ _ (fun y => cover0_B_9 ..)]
    unfold kernelRun0_B
    dsimp only
    sl_unfold_words
    rw [View.canon_unit_zero hz2]
    simp only [View.readAt_eq_ld, (hs0_0 t).read_unread, (hs0_5 t).read_unread, View.ld_unit_zero (S := S4x704x1024) hz3, View.ld_unit_zero (S := S512x2816) hz2]

theorem loss_first (c : Dev nD) (t : Fin cfg0.N) (h : t.val = 0) : (outsAt0 m c t.val t.isLt).1
    = k0_pay1 (k0_pay6 (iblk m c 0 t) (iblk m c 1 t) (iblk m c 2 t) (iblk m c 3 t) (iblk m c 4 t) (iblk m c 5 t) (iblk m c 6 t)) := by
  rw [outsAt0_A m c t (by omega) (by omega)]
  dsimp only
  unfold out0_A_7
  rw [View.read_writes_eq_canon _ _ _ (fun y => cover0_A_7 ..)]
  unfold kernelRun0_A
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1x1024) hz2, View.ld_unit_zero (S := S4x704x1024) hz3, View.ld_unit_zero (S := S512x1024) hz2, View.ld_unit_zero (S := S512x2816) hz2]

theorem loss_next (c : Dev nD) (t : Fin cfg0.N) (h : t.val ≠ 0) : (outsAt0 m c t.val t.isLt).1
    = k0_pay3 (k0_pay6 (iblk m c 0 t) (iblk m c 1 t) (iblk m c 2 t) (iblk m c 3 t) (iblk m c 4 t) (iblk m c 5 t) (iblk m c 6 t)) (outsAt0 m c (t.val - 1) (by have := t.isLt; omega)).1 := by
  have hN := lt_points t
  rw [outsAt0_B m c t (by omega) (by omega)]
  dsimp only
  unfold out0_B_7
  rw [View.read_writes_eq_canon _ _ _ (fun y => cover0_B_7 ..)]
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1x1024) hz2, View.ld_unit_zero (S := S1x128) hz2, View.ld_unit_zero (S := S4x704x1024) hz3, View.ld_unit_zero (S := S512x1024) hz2, View.ld_unit_zero (S := S512x2816) hz2, (hs0_7 t).read_unread]

/-! ## The three results over the whole arrays -/

/-- The down product of the whole arrays. -/
def y (c : Dev nD) : FVec Ideal S4096x1024 .f32 := fun i =>
  ∑ n : Fin 2816, arg0 m c (ix2 (i 0) n) * arg5 m c (ix3 ⟨n.val / 704, by omega⟩ ⟨n.val % 704, by omega⟩ (i 1))

/-- Row `k` of the error: the normalised row less the target. -/
def err (c : Dev nD) (k : Fin 4096) : Row := fun l =>
  norm (res (fun n => arg1 m c (ix2 k n)) (fun n => y m c (ix2 k n)) (fun n => arg2 m c (ix2 0 n)))
    (fun n => arg3 m c (ix2 0 n)) (fun n => arg4 m c (ix2 0 n)) l - arg6 m c (ix2 k l)

/-- Half the sum over the rows of the mean squared error, in every lane. -/
def loss (c : Dev nD) : FVec Ideal S1x128 .f32 := fun _ =>
  Ideal.ofBits .f32 0x3F000000#32 * ∑ k : Fin 4096, meanSquare (err m c k)

/-- Its gradient with respect to the normalised rows. -/
def dout (c : Dev nD) : FVec Ideal S4096x1024 .f32 := fun i => err m c (i 0) (i 1) * Ideal.ofBits .f32 0x3A800000#32

theorem y_block (c : Dev nD) (t : Fin cfg0.N) (r : Fin 512) (l : Fin 1024) :
    k0_pay4 (iblk m c 0 t) (iblk m c 5 t) (ix2 r l) = y m c (ix2 ⟨t.val * 512 + r.val, by have := lt_points t; omega⟩ l) := by
  rw [pay4_apply, block5]
  exact Finset.sum_congr rfl fun n _ => by rw [block0]; rfl

theorem err_block (c : Dev nD) (t : Fin cfg0.N) (r : Fin 512) (l : Fin 1024) :
    k0_pay5 (iblk m c 0 t) (iblk m c 1 t) (iblk m c 2 t) (iblk m c 3 t) (iblk m c 4 t) (iblk m c 5 t) (iblk m c 6 t) (ix2 r l)
      = err m c ⟨t.val * 512 + r.val, by have := lt_points t; omega⟩ l := by
  rw [pay5_apply]
  simp only [y_block, block1, block2, block3, block4, block6]
  rfl

theorem loss_block (c : Dev nD) (t : Fin cfg0.N) (l : Fin 128) :
    k0_pay1 (k0_pay6 (iblk m c 0 t) (iblk m c 1 t) (iblk m c 2 t) (iblk m c 3 t) (iblk m c 4 t) (iblk m c 5 t) (iblk m c 6 t)) (ix2 0 l)
      = ∑ r : Fin 512, (fun k : Fin 4096 => Ideal.ofBits .f32 0x3F000000#32 * meanSquare (err m c k))
          ⟨t.val * 512 + r.val, by have := lt_points t; omega⟩ := by
  rw [pay1_apply, half_sum]
  simp only [pay6_apply, err_block]
  rfl

theorem y_final (c : Dev nD) : (dats m 0 c).arrAt 9 cfg0.N = y m c :=
  final9 m c (y m c) fun t r l => by rw [y_at, y_block]

theorem dout_final (c : Dev nD) : (dats m 0 c).arrAt 8 cfg0.N = dout m c :=
  final8 m c (dout m c) fun t r l => by
    rw [dout_at, pay2_apply, err_block]
    rfl

theorem loss_final (c : Dev nD) : (dats m 0 c).arrAt 7 cfg0.N = loss m c := by
  refine final7 m c (loss m c) fun t ht => funext fun (i : S1x128.Idx) => ?_
  obtain ⟨p, l, rfl⟩ : ∃ p l, i = ix2 p l := ⟨i 0, i 1, funext fun a => by fin_cases a <;> rfl⟩
  obtain rfl : p = 0 := Subsingleton.elim _ _
  refine Eq.trans ?_ (half_sum _ _).symm
  exact Rows.sum_rows (B := 512) (M := 4096) (by rw [points]) (fun n h => (outsAt0 m c n h).1 (ix2 0 l))
    (fun k => Ideal.ofBits .f32 0x3F000000#32 * meanSquare (err m c k))
    (fun h => (congrFun (loss_first m c ⟨0, h⟩ rfl) _).trans (loss_block m c _ l))
    (fun n h => by
      refine (congrFun (loss_next m c ⟨n + 1, h⟩ (by simp)) _).trans ?_
      rw [pay3_apply]
      exact congrArg _ (loss_block m c _ l))
    t.val t.isLt (by have := points; omega)

end Cert.Kernel9Ideal.FfnDownLoss

end
-- ==== Proof.FfnDownLossRef.lean ====
/-
  The reference's last down product with residual, layer normalisation and loss, read at an index.
-/
module

public import proofs.«01_k».proof.Proof.Gen.Reference9Ideal.Run
public import Idealize.ShloMosaic.Lib.Pointwise
public import proofs.«01_k».proof.Proof.LayerNorm
public import proofs.«01_k».proof.Proof.Loss

@[expose] public section

noncomputable section

namespace Cert.Reference9Ideal.FfnDownLoss

open Cert.Reference9Ideal Cert.Reference9Ideal.Gen Idealize.ShloMosaic Idealize.ShloMosaic.TcCoe Idealize.SL.Sem

open Cert.LayerNorm Cert.Loss

def product (a0 : FVec Ideal S4096x2816 .bf16) (a5 : FVec Ideal S4x704x1024 .bf16) : FVec Ideal S4096x1024 .f32 :=
  Host.dotGeneral dot_S4096x2816_S2816x1024_S4096x1024_1_0_0_1_n_n none (extf .f32 a0 bitsLt_bf16_f32) (extf .f32 (shapeCast S2816x1024 a5 shapeCasts_S4x704x1024_S2816x1024) bitsLt_bf16_f32)

theorem product_apply (a0 : FVec Ideal S4096x2816 .bf16) (a5 : FVec Ideal S4x704x1024 .bf16) (k : Fin 4096) (l : Fin 1024) :
    product a0 a5 (ix2 k l)
      = ∑ n : Fin 2816, a0 (ix2 k n) * a5 (ix3 ⟨n.val / 704, by omega⟩ ⟨n.val % 704, by omega⟩ l) := by
  unfold product
  pointwise

/-- The error: the normalised rows less the target. -/
def err (a1 y : FVec Ideal S4096x1024 .f32) (a2 a3 a4 : FVec Ideal S1x1024 .f32) (a6 : FVec Ideal S4096x1024 .f32) : FVec Ideal S4096x1024 .f32 :=
  subf (addf (mulf (mulf (subf (addf (mulf (broadcastInDim S4096x1024 ![] bcast_S_S4096x1024 (constant S_ .f32 0x3FB504F3#32)) a1) (mulf (broadcastInDim S4096x1024 ![0, 1] bcast_S1x1024_S4096x1024_0_1 a2) y)) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FB504F3#32)) a1) (mulf (broadcastInDim S4096x1024 ![0, 1] bcast_S1x1024_S4096x1024_0_1 a2) y)) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (addf (mulf (broadcastInDim S4096x1024 ![] bcast_S_S4096x1024 (constant S_ .f32 0x3FB504F3#32)) a1) (mulf (broadcastInDim S4096x1024 ![0, 1] bcast_S1x1024_S4096x1024_0_1 a2) y)) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FB504F3#32)) a1) (mulf (broadcastInDim S4096x1024 ![0, 1] bcast_S1x1024_S4096x1024_0_1 a2) y)) (constant S_ .f32 0x00000000#32) reducesTo_S4096x1024_S4096_d1 h_S_)) (broadcastInDim S4096x1 ![] bcast_S_S4096x1 (constant S_ .f32 0x44800000#32))))) (subf (addf (mulf (broadcastInDim S4096x1024 ![] bcast_S_S4096x1024 (constant S_ .f32 0x3FB504F3#32)) a1) (mulf (broadcastInDim S4096x1024 ![0, 1] bcast_S1x1024_S4096x1024_0_1 a2) y)) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FB504F3#32)) a1) (mulf (broadcastInDim S4096x1024 ![0, 1] bcast_S1x1024_S4096x1024_0_1 a2) y)) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1024 ![0, 1] bcast_S1x1024_S4096x1024_0_1 a3)) (broadcastInDim S4096x1024 ![0, 1] bcast_S1x1024_S4096x1024_0_1 a4)) a6

theorem err_apply (a1 y : FVec Ideal S4096x1024 .f32) (a2 a3 a4 : FVec Ideal S1x1024 .f32) (a6 : FVec Ideal S4096x1024 .f32) (k : Fin 4096) (l : Fin 1024) :
    err a1 y a2 a3 a4 a6 (ix2 k l)
      = norm (res (fun n => a1 (ix2 k n)) (fun n => y (ix2 k n)) (fun n => a2 (ix2 0 n)))
          (fun n => a3 (ix2 0 n)) (fun n => a4 (ix2 0 n)) l - a6 (ix2 k l) := by
  unfold err
  pointwise
  rfl

theorem loss_apply (e : FVec Ideal S4096x1024 .f32) (l : Fin 128) :
    (broadcastInDim S1x128 ![] bcast_S_S1x128 (mulf (constant S_ .f32 0x3F000000#32) (Host.reduceAdd (Host.divf (Host.reduceAdd (mulf e e) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) : FVec Ideal S1x128 .f32) (ix2 0 l)
      = Ideal.ofBits .f32 0x3F000000#32 * ∑ k : Fin 4096, meanSquare (fun n => e (ix2 k n)) := by
  pointwise
  rfl

theorem dout_apply (e : FVec Ideal S4096x1024 .f32) (k : Fin 4096) (l : Fin 1024) :
    (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) e) : FVec Ideal S4096x1024 .f32) (ix2 k l)
      = e (ix2 k l) * Ideal.ofBits .f32 0x3A800000#32 := by
  refine Eq.trans ?_ (slope_eq _)
  pointwise

end Cert.Reference9Ideal.FfnDownLoss

end
-- ==== Proof.FfnDownLossClaim.lean ====
/-
  The last down product with residual, layer normalisation and loss: kernel and reference compute the same three arrays.
-/
module

public import proofs.«01_k».proof.Defs
public import proofs.«01_k».proof.Proof.FfnDownLoss
public import proofs.«01_k».proof.Proof.FfnDownLossRef

@[expose] public section

noncomputable section

open Idealize.ShloMosaic Idealize.ShloMosaic.TcCoe Idealize.SL.Sem

theorem Cert.FfnDownLoss.claim : Cert.algebraic_Kernel9Ideal_Reference9Ideal := by
  intro m g m' g' _ args
  refine ⟨Cert.Kernel9Ideal.FfnDownLoss.loss m, Cert.Kernel9Ideal.FfnDownLoss.dout m, Cert.Kernel9Ideal.FfnDownLoss.y m,
    (θ_run _ _ _).mono (fun r h c => ?_) (Cert.Kernel9Ideal.Value.run_blocks m g),
    (θ_run _ _ _).mono (fun r h c => ?_) (Cert.Reference9Ideal.Value.run m' g')⟩
  · obtain ⟨h0, h1, h2, hrest⟩ := h c
    exact ⟨h0.trans (Cert.Kernel9Ideal.FfnDownLoss.loss_final m c),
      h1.trans (Cert.Kernel9Ideal.FfnDownLoss.dout_final m c),
      h2.trans (Cert.Kernel9Ideal.FfnDownLoss.y_final m c), hrest⟩
  · obtain ⟨h0, h1, h2, hrest⟩ := h c
    obtain ⟨e0, e1, e2, e3, e4, e5, e6⟩ := args c
    refine ⟨h0.trans ?_, h1.trans ?_, h2.trans ?_, hrest⟩
    · skip
      refine funext fun (i : Cert.Reference9Ideal.S1x128.Idx) => ?_
      obtain ⟨p, q, rfl⟩ : ∃ p q, i = ix2 p q := ⟨i 0, i 1, funext fun a => by fin_cases a <;> rfl⟩
      obtain rfl : p = 0 := Subsingleton.elim _ _
      unfold Cert.Reference9Ideal.Value.res_main_v38
      rw [e0, e1, e2, e3, e4, e5, e6]
      refine (Cert.Reference9Ideal.FfnDownLoss.loss_apply (Cert.Reference9Ideal.FfnDownLoss.err _ (Cert.Reference9Ideal.FfnDownLoss.product _ _) _ _ _ _) q).trans ?_
      simp only [Cert.Reference9Ideal.FfnDownLoss.err_apply, Cert.Reference9Ideal.FfnDownLoss.product_apply]
      rfl
    · skip
      refine funext fun (i : Cert.Reference9Ideal.S4096x1024.Idx) => ?_
      obtain ⟨p, q, rfl⟩ : ∃ p q, i = ix2 p q := ⟨i 0, i 1, funext fun a => by fin_cases a <;> rfl⟩
      unfold Cert.Reference9Ideal.Value.res_main_v44
      rw [e0, e1, e2, e3, e4, e5, e6]
      refine (Cert.Reference9Ideal.FfnDownLoss.dout_apply (Cert.Reference9Ideal.FfnDownLoss.err _ (Cert.Reference9Ideal.FfnDownLoss.product _ _) _ _ _ _) p q).trans ?_
      simp only [Cert.Reference9Ideal.FfnDownLoss.err_apply, Cert.Reference9Ideal.FfnDownLoss.product_apply]
      rfl
    · rw [e0, e5]
      refine funext fun (i : Cert.Reference9Ideal.S4096x1024.Idx) => ?_
      obtain ⟨p, q, rfl⟩ : ∃ p q, i = ix2 p q := ⟨i 0, i 1, funext fun a => by fin_cases a <;> rfl⟩
      exact Cert.Reference9Ideal.FfnDownLoss.product_apply _ _ p q

end
-- ==== Proof.OddInBwdBlocks.lean ====
/-
  The odd layer's projection gradient: where each grid point reads its blocks and where its results land.
-/
module

public import proofs.«01_k».proof.Proof.Gen.Kernel10Ideal.Value
public import proofs.«01_k».proof.Proof.Rows
public import Idealize.ShloMosaic.Lib.Pipeline.Value
public import Idealize.ShloMosaic.Lib.Pointwise

@[expose] public section

noncomputable section

namespace Cert.Kernel10Ideal.Blocks

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

theorem points : cfg0.N = 8 := N_0

theorem lt_points (t : Fin cfg0.N) : t.val < 8 := lt_of_lt_of_eq t.isLt N_0

theorem index0 : ∀ t : Fin cfg0.N, win0_0.index t 0 = t.val ∧ win0_0.index t 1 = 0 :=
  (by decide +kernel : ∀ t : Fin grid0.N, win0_0.index t 0 = t.val ∧ win0_0.index t 1 = 0)

abbrev arg0 (c : Dev nD) : FVec Ideal S4096x2560 .bf16 := m ((c : Thread nD τ).loc main_arg0)

theorem block0 (c : Dev nD) (t : Fin cfg0.N) (p : Fin 512) (q : Fin 2560) :
    iblk m c 0 t (ix2 p q) = arg0 m c (ix2 ⟨t.val * 512 + p.val, by have := lt_points t; omega⟩ q) := by
  refine congrArg (arg0 m c) (funext fun a => Fin.ext ((win0_0.rect_emb_val t (ix2 p q) a).trans ?_))
  match a with
  | ⟨0, _⟩ => show win0_0.index t 0 * 512 + p.val = t.val * 512 + p.val; rw [(index0 t).1]
  | ⟨1, _⟩ => show win0_0.index t 1 * 2560 + q.val = q.val; rw [(index0 t).2]; omega

theorem index1 : ∀ t : Fin cfg0.N, win0_1.index t 0 = t.val ∧ win0_1.index t 1 = 0 :=
  (by decide +kernel : ∀ t : Fin grid0.N, win0_1.index t 0 = t.val ∧ win0_1.index t 1 = 0)

abbrev arg1 (c : Dev nD) : FVec Ideal S4096x1024 .f32 := m ((c : Thread nD τ).loc main_arg1)

theorem block1 (c : Dev nD) (t : Fin cfg0.N) (p : Fin 512) (q : Fin 1024) :
    iblk m c 1 t (ix2 p q) = arg1 m c (ix2 ⟨t.val * 512 + p.val, by have := lt_points t; omega⟩ q) := by
  refine congrArg (arg1 m c) (funext fun a => Fin.ext ((win0_1.rect_emb_val t (ix2 p q) a).trans ?_))
  match a with
  | ⟨0, _⟩ => show win0_1.index t 0 * 512 + p.val = t.val * 512 + p.val; rw [(index1 t).1]
  | ⟨1, _⟩ => show win0_1.index t 1 * 1024 + q.val = q.val; rw [(index1 t).2]; omega

theorem index2 : ∀ t : Fin cfg0.N, win0_2.index t 0 = 0 ∧ win0_2.index t 1 = 0 :=
  (by decide +kernel : ∀ t : Fin grid0.N, win0_2.index t 0 = 0 ∧ win0_2.index t 1 = 0)

abbrev arg2 (c : Dev nD) : FVec Ideal S1x1024 .f32 := m ((c : Thread nD τ).loc main_arg2)

theorem block2 (c : Dev nD) (t : Fin cfg0.N) : iblk m c 2 t = arg2 m c := by
  refine funext fun (y : S1x1024.Idx) => congrArg (arg2 m c) (funext fun a => Fin.ext ((win0_2.rect_emb_val t y a).trans ?_))
  match a with
  | ⟨0, _⟩ => show win0_2.index t 0 * 1 + (y 0).val = (y 0).val; rw [(index2 t).1]; omega
  | ⟨1, _⟩ => show win0_2.index t 1 * 1024 + (y 1).val = (y 1).val; rw [(index2 t).2]; omega

theorem index3 : ∀ t : Fin cfg0.N, win0_3.index t 0 = 0 ∧ win0_3.index t 1 = 0 :=
  (by decide +kernel : ∀ t : Fin grid0.N, win0_3.index t 0 = 0 ∧ win0_3.index t 1 = 0)

abbrev arg3 (c : Dev nD) : FVec Ideal S1x1024 .f32 := m ((c : Thread nD τ).loc main_arg3)

theorem block3 (c : Dev nD) (t : Fin cfg0.N) : iblk m c 3 t = arg3 m c := by
  refine funext fun (y : S1x1024.Idx) => congrArg (arg3 m c) (funext fun a => Fin.ext ((win0_3.rect_emb_val t y a).trans ?_))
  match a with
  | ⟨0, _⟩ => show win0_3.index t 0 * 1 + (y 0).val = (y 0).val; rw [(index3 t).1]; omega
  | ⟨1, _⟩ => show win0_3.index t 1 * 1024 + (y 1).val = (y 1).val; rw [(index3 t).2]; omega

theorem index4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)

abbrev arg4 (c : Dev nD) : FVec Ideal S4x1024x640 .bf16 := m ((c : Thread nD τ).loc main_arg4)

theorem block4 (c : Dev nD) (t : Fin cfg0.N) : iblk m c 4 t = arg4 m c := by
  refine funext fun (y : S4x1024x640.Idx) => congrArg (arg4 m c) (funext fun a => Fin.ext ((win0_4.rect_emb_val t y a).trans ?_))
  match a with
  | ⟨0, _⟩ => show win0_4.index t 0 * 4 + (y 0).val = (y 0).val; rw [(index4 t).1]; omega
  | ⟨1, _⟩ => show win0_4.index t 1 * 1024 + (y 1).val = (y 1).val; rw [(index4 t).2.1]; omega
  | ⟨2, _⟩ => show win0_4.index t 2 * 640 + (y 2).val = (y 2).val; rw [(index4 t).2.2]; omega

theorem index5 : ∀ t : Fin cfg0.N, win0_5.index t 0 = t.val ∧ win0_5.index t 1 = 0 :=
  (by decide +kernel : ∀ t : Fin grid0.N, win0_5.index t 0 = t.val ∧ win0_5.index t 1 = 0)

abbrev arg5 (c : Dev nD) : FVec Ideal S4096x1024 .f32 := m ((c : Thread nD τ).loc main_arg5)

theorem block5 (c : Dev nD) (t : Fin cfg0.N) (p : Fin 512) (q : Fin 1024) :
    iblk m c 5 t (ix2 p q) = arg5 m c (ix2 ⟨t.val * 512 + p.val, by have := lt_points t; omega⟩ q) := by
  refine congrArg (arg5 m c) (funext fun a => Fin.ext ((win0_5.rect_emb_val t (ix2 p q) a).trans ?_))
  match a with
  | ⟨0, _⟩ => show win0_5.index t 0 * 512 + p.val = t.val * 512 + p.val; rw [(index5 t).1]
  | ⟨1, _⟩ => show win0_5.index t 1 * 1024 + q.val = q.val; rw [(index5 t).2]; omega

theorem index6 : ∀ t : Fin cfg0.N, win0_6.index t 0 = t.val ∧ win0_6.index t 1 = 0 :=
  (by decide +kernel : ∀ t : Fin grid0.N, win0_6.index t 0 = t.val ∧ win0_6.index t 1 = 0)

theorem emb6 (t : Fin cfg0.N) (p : Fin 512) (q : Fin 1024) :
    (win0_6.rect t).emb (ix2 p q) = (ix2 ⟨t.val * 512 + p.val, by have := lt_points t; omega⟩ q : S4096x1024.Idx) := by
  refine funext fun a => Fin.ext ((win0_6.rect_emb_val t (ix2 p q) a).trans ?_)
  match a with
  | ⟨0, _⟩ => show win0_6.index t 0 * 512 + p.val = t.val * 512 + p.val; rw [(index6 t).1]
  | ⟨1, _⟩ => show win0_6.index t 1 * 1024 + q.val = q.val; rw [(index6 t).2]; omega

theorem final6 (c : Dev nD) (G : FVec Ideal S4096x1024 .f32)
    (h : ∀ (t : Fin cfg0.N) (p : Fin 512) (q : Fin 1024), ((outsAt0 m c t.val t.isLt).1) (ix2 p q) = G (ix2 ⟨t.val * 512 + p.val, by have := lt_points t; omega⟩ q)) :
    (dats m 0 c).arrAt 6 cfg0.N = G := by
  refine (dats m 0 c).arrAt_eq_of_cover 6 G (fun t _ => ?_) fun (i : S4096x1024.Idx) => ?_
  · rw [Value.flushed6]
    refine funext fun (y : S512x1024.Idx) => ?_
    obtain ⟨p, q, rfl⟩ : ∃ p q, y = ix2 p q := ⟨y 0, y 1, funext fun a => by fin_cases a <;> rfl⟩
    refine (h t p q).trans ?_
    show _ = G ((win0_6.rect t).emb (ix2 p q))
    rw [emb6]
  · have hN : cfg0.N = 8 := N_0
    have h0 : (i 0 : Nat) < 4096 := (i 0).isLt
    have h1 : (i 1 : Nat) < 1024 := (i 1).isLt
    have ht : (i 0 : Nat) / 512 < cfg0.N := by omega
    refine ⟨⟨_, ht⟩, flush0_6 _, ?_⟩
    show i ∈ ((View.whole main_v0_0).slice (win0_6.rect ⟨_, ht⟩)).set
    rw [View.set_slice_whole, Rect.mem_set_unit]
    have e := index6 ⟨_, ht⟩
    intro a
    match a with
    | ⟨0, _⟩ =>
      show win0_6.index ⟨_, ht⟩ 0 * 512 ≤ (i 0 : Nat) ∧ (i 0 : Nat) < win0_6.index ⟨_, ht⟩ 0 * 512 + 512
      rw [e.1]; try dsimp only
      omega
    | ⟨1, _⟩ =>
      show win0_6.index ⟨_, ht⟩ 1 * 1024 ≤ (i 1 : Nat) ∧ (i 1 : Nat) < win0_6.index ⟨_, ht⟩ 1 * 1024 + 1024
      rw [e.2]; try dsimp only
      omega

theorem index7 : ∀ t : Fin cfg0.N, win0_7.index t 0 = 0 ∧ win0_7.index t 1 = 0 :=
  (by decide +kernel : ∀ t : Fin grid0.N, win0_7.index t 0 = 0 ∧ win0_7.index t 1 = 0)

theorem final7 (c : Dev nD) (G : FVec Ideal S1x1024 .f32)
    (h : ∀ t : Fin cfg0.N, t.val = 7 → (outsAt0 m c t.val t.isLt).2.1 = G) :
    (dats m 0 c).arrAt 7 cfg0.N = G := by
  refine (dats m 0 c).arrAt_eq_of_cover 7 G (fun t hf => ?_) fun (i : S1x1024.Idx) => ?_
  · rw [Value.flushed7]
    have hN := lt_points t
    have ht : t.val = 7 := by have := (flush0_7 t).mp hf; omega
    refine funext fun (y : S1x1024.Idx) => ?_
    have e : (win0_7.rect t).emb y = y := by
      refine funext fun a => Fin.ext ((win0_7.rect_emb_val t y a).trans ?_)
      match a with
      | ⟨0, _⟩ => show win0_7.index t 0 * 1 + (y 0).val = (y 0).val; rw [(index7 t).1]; omega
      | ⟨1, _⟩ => show win0_7.index t 1 * 1024 + (y 1).val = (y 1).val; rw [(index7 t).2]; omega
    show ((outsAt0 m c t.val t.isLt).2.1) y = G ((win0_7.rect t).emb y)
    rw [e]
    exact congrFun (h t ht) y
  · have ht : 7 < cfg0.N := lt_of_lt_of_eq (by omega) N_0.symm
    have h0 : (i 0 : Nat) < 1 := (i 0).isLt
    have h1 : (i 1 : Nat) < 1024 := (i 1).isLt
    refine ⟨⟨7, ht⟩, (flush0_7 _).mpr rfl, ?_⟩
    show i ∈ ((View.whole main_v0_1).slice (win0_7.rect ⟨7, ht⟩)).set
    rw [View.set_slice_whole, Rect.mem_set_unit]
    have e := index7 ⟨7, ht⟩
    intro a
    match a with
    | ⟨0, _⟩ =>
      show win0_7.index ⟨7, ht⟩ 0 * 1 ≤ (i 0 : Nat) ∧ (i 0 : Nat) < win0_7.index ⟨7, ht⟩ 0 * 1 + 1
      rw [e.1]
      omega
    | ⟨1, _⟩ =>
      show win0_7.index ⟨7, ht⟩ 1 * 1024 ≤ (i 1 : Nat) ∧ (i 1 : Nat) < win0_7.index ⟨7, ht⟩ 1 * 1024 + 1024
      rw [e.2]
      omega

theorem index8 : ∀ t : Fin cfg0.N, win0_8.index t 0 = 0 ∧ win0_8.index t 1 = 0 :=
  (by decide +kernel : ∀ t : Fin grid0.N, win0_8.index t 0 = 0 ∧ win0_8.index t 1 = 0)

theorem final8 (c : Dev nD) (G : FVec Ideal S1x1024 .f32)
    (h : ∀ t : Fin cfg0.N, t.val = 7 → (outsAt0 m c t.val t.isLt).2.2 = G) :
    (dats m 0 c).arrAt 8 cfg0.N = G := by
  refine (dats m 0 c).arrAt_eq_of_cover 8 G (fun t hf => ?_) fun (i : S1x1024.Idx) => ?_
  · rw [Value.flushed8]
    have hN := lt_points t
    have ht : t.val = 7 := by have := (flush0_8 t).mp hf; omega
    refine funext fun (y : S1x1024.Idx) => ?_
    have e : (win0_8.rect t).emb y = y := by
      refine funext fun a => Fin.ext ((win0_8.rect_emb_val t y a).trans ?_)
      match a with
      | ⟨0, _⟩ => show win0_8.index t 0 * 1 + (y 0).val = (y 0).val; rw [(index8 t).1]; omega
      | ⟨1, _⟩ => show win0_8.index t 1 * 1024 + (y 1).val = (y 1).val; rw [(index8 t).2]; omega
    show ((outsAt0 m c t.val t.isLt).2.2) y = G ((win0_8.rect t).emb y)
    rw [e]
    exact congrFun (h t ht) y
  · have ht : 7 < cfg0.N := lt_of_lt_of_eq (by omega) N_0.symm
    have h0 : (i 0 : Nat) < 1 := (i 0).isLt
    have h1 : (i 1 : Nat) < 1024 := (i 1).isLt
    refine ⟨⟨7, ht⟩, (flush0_8 _).mpr rfl, ?_⟩
    show i ∈ ((View.whole main_v0_2).slice (win0_8.rect ⟨7, ht⟩)).set
    rw [View.set_slice_whole, Rect.mem_set_unit]
    have e := index8 ⟨7, ht⟩
    intro a
    match a with
    | ⟨0, _⟩ =>
      show win0_8.index ⟨7, ht⟩ 0 * 1 ≤ (i 0 : Nat) ∧ (i 0 : Nat) < win0_8.index ⟨7, ht⟩ 0 * 1 + 1
      rw [e.1]
      omega
    | ⟨1, _⟩ =>
      show win0_8.index ⟨7, ht⟩ 1 * 1024 ≤ (i 1 : Nat) ∧ (i 1 : Nat) < win0_8.index ⟨7, ht⟩ 1 * 1024 + 1024
      rw [e.2]
      omega

end Cert.Kernel10Ideal.Blocks

end
-- ==== Proof.OddInBwd.lean ====
/-
  The gradient of the odd layer's modulated input projection: what each grid point leaves, and the three arrays after the
  last point.
-/
module

public import proofs.«01_k».proof.Proof.OddInBwdBlocks
public import Idealize.ShloMosaic.Lib.Tactic

@[expose] public section

noncomputable section

namespace Cert.Kernel10Ideal.OddInBwd

open Cert.Kernel10Ideal Cert.Kernel10Ideal.Gen Cert.Kernel10Ideal.Blocks Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The values of one block -/

/-- The four quarters of the product, as one sum over the quarters. -/
theorem pay3_apply (v0 : Vec Ideal S512x2560 .bf16) (v3 : Vec Ideal S4x1024x640 .bf16) (r : Fin 512) (l : Fin 1024) :
    k0_pay3 v0 v3 (ix2 r l)
      = ∑ q : Fin 4, ∑ n : Fin 640, v0 (ix2 r ⟨q.val * 640 + n.val, by omega⟩) * v3 (ix3 q l n) := by
  rw [Fin.sum_univ_four]
  pointwise [k0_pay3]

theorem pay4_apply (v0 : Vec Ideal S512x2560 .bf16) (v3 : Vec Ideal S4x1024x640 .bf16) (l : Fin 1024) :
    k0_pay4 v0 v3 (ix2 0 l) = ∑ r : Fin 512, k0_pay3 v0 v3 (ix2 r l) := by
  pointwise [k0_pay4]

theorem pay5_apply (v0 : Vec Ideal S512x2560 .bf16) (v1 : Vec Ideal S512x1024 .f32) (v3 : Vec Ideal S4x1024x640 .bf16)
    (l : Fin 1024) :
    k0_pay5 v0 v1 v3 (ix2 0 l) = ∑ r : Fin 512, v1 (ix2 r l) * k0_pay3 v0 v3 (ix2 r l) := by
  pointwise [k0_pay5]

theorem pay6_apply (v0 : Vec Ideal S512x2560 .bf16) (v2 : Vec Ideal S1x1024 .f32) (v3 : Vec Ideal S4x1024x640 .bf16)
    (v4 : Vec Ideal S512x1024 .f32) (r : Fin 512) (l : Fin 1024) :
    k0_pay6 v0 v2 v3 v4 (ix2 r l)
      = k0_pay3 v0 v3 (ix2 r l) * (Ideal.ofBits .f32 0x3F800000#32 + v2 (ix2 0 l)) + v4 (ix2 r l) := by
  pointwise [k0_pay6]

theorem pay1_apply (v a : FVec Ideal S1x1024 .f32) (l : Fin 1024) :
    k0_pay1 v a (ix2 0 l) = a (ix2 0 l) + v (ix2 0 l) := by
  pointwise [k0_pay1]

theorem pay2_apply (v a : FVec Ideal S1x1024 .f32) (l : Fin 1024) :
    k0_pay2 v a (ix2 0 l) = a (ix2 0 l) + v (ix2 0 l) := by
  pointwise [k0_pay2]

variable (m : (ℓ : Loc nD τ sig) → Buf (Elt Ideal) ℓ)

/-! ## What point `t` leaves in each output's block -/

theorem dx_at (c : Dev nD) (t : Fin cfg0.N) : (outsAt0 m c t.val t.isLt).1
    = k0_pay6 (iblk m c 0 t) (iblk m c 3 t) (iblk m c 4 t) (iblk m c 5 t) := by
  have hN := lt_points t
  by_cases h : t.val = 0
  · skip
    rw [outsAt0_A m c t (by omega) (by omega) (by omega) (by omega)]
    dsimp only
    unfold out0_A_6
    rw [View.read_writes_eq_canon _ _ _ (fun y => cover0_A_6 ..)]
    unfold kernelRun0_A
    dsimp only
    sl_unfold_words
    rw [View.canon_unit_zero hz2]
    simp only [View.readAt_eq_ld, (hs0_0 t).read_unread, (hs0_3 t).read_unread, (hs0_4 t).read_unread, (hs0_5 t).read_unread, View.ld_unit_zero (S := S1x1024) hz2, View.ld_unit_zero (S := S512x1024) hz2, View.ld_unit_zero (S := S512x2560) hz2, View.ld_unit_zero (S := S4x1024x640) hz3]
  · skip
    rw [outsAt0_B m c t (by omega) (by omega) (by omega) (by omega)]
    dsimp only
    unfold out0_B_6
    rw [View.read_writes_eq_canon _ _ _ (fun y => cover0_B_6 ..)]
    unfold kernelRun0_B
    dsimp only
    sl_unfold_words
    rw [View.canon_unit_zero hz2]
    simp only [View.readAt_eq_ld, (hs0_0 t).read_unread, (hs0_3 t).read_unread, (hs0_4 t).read_unread, (hs0_5 t).read_unread, View.ld_unit_zero (S := S1x1024) hz2, View.ld_unit_zero (S := S512x1024) hz2, View.ld_unit_zero (S := S512x2560) hz2, View.ld_unit_zero (S := S4x1024x640) hz3]

theorem dsh_first (c : Dev nD) (t : Fin cfg0.N) (h : t.val = 0) : (outsAt0 m c t.val t.isLt).2.1
    = k0_pay4 (iblk m c 0 t) (iblk m c 4 t) := by
  rw [outsAt0_A m c t (by omega) (by omega) (by omega) (by omega)]
  dsimp only
  unfold out0_A_7
  rw [View.read_writes_eq_canon _ _ _ (fun y => cover0_A_7 ..)]
  unfold kernelRun0_A
  dsimp only
  sl_unfold_words
  rw [View.canon_unit_zero hz2]
  simp only [View.readAt_eq_ld, (hs0_0 t).read_unread, (hs0_4 t).read_unread, View.ld_unit_zero (S := S512x2560) hz2, View.ld_unit_zero (S := S4x1024x640) hz3]

theorem dsh_next (c : Dev nD) (t : Fin cfg0.N) (h : t.val ≠ 0) : (outsAt0 m c t.val t.isLt).2.1
    = k0_pay1 (k0_pay4 (iblk m c 0 t) (iblk m c 4 t)) (outsAt0 m c (t.val - 1) (by have := t.isLt; omega)).2.1 := by
  have hN := lt_points t
  rw [outsAt0_B m c t (by omega) (by omega) (by omega) (by omega)]
  dsimp only
  unfold out0_B_7
  rw [View.read_writes_eq_canon _ _ _ (fun y => cover0_B_7 ..)]
  unfold kernelRun0_B
  dsimp only
  sl_unfold_words
  rw [View.canon_unit_zero hz2]
  simp only [View.readAt_eq_ld, (hs0_0 t).read_unread, (hs0_3 t).read_unread, (hs0_4 t).read_unread, View.ld_unit_zero (S := S1x1024) hz2, View.ld_unit_zero (S := S512x2560) hz2, View.ld_unit_zero (S := S4x1024x640) hz3, (hs0_7 t).read_unread, shapeCast_self]

theorem dsc_first (c : Dev nD) (t : Fin cfg0.N) (h : t.val = 0) : (outsAt0 m c t.val t.isLt).2.2
    = k0_pay5 (iblk m c 0 t) (iblk m c 1 t) (iblk m c 4 t) := by
  rw [outsAt0_A m c t (by omega) (by omega) (by omega) (by omega)]
  dsimp only
  unfold out0_A_8
  rw [View.read_writes_eq_canon _ _ _ (fun y => cover0_A_8 ..)]
  unfold kernelRun0_A
  dsimp only
  sl_unfold_words
  rw [View.canon_unit_zero hz2]
  simp only [View.readAt_eq_ld, (hs0_0 t).read_unread, (hs0_1 t).read_unread, (hs0_4 t).read_unread, View.ld_unit_zero (S := S512x1024) hz2, View.ld_unit_zero (S := S512x2560) hz2, View.ld_unit_zero (S := S4x1024x640) hz3]

theorem dsc_next (c : Dev nD) (t : Fin cfg0.N) (h : t.val ≠ 0) : (outsAt0 m c t.val t.isLt).2.2
    = k0_pay2 (k0_pay5 (iblk m c 0 t) (iblk m c 1 t) (iblk m c 4 t)) (outsAt0 m c (t.val - 1) (by have := t.isLt; omega)).2.2 := by
  have hN := lt_points t
  rw [outsAt0_B m c t (by omega) (by omega) (by omega) (by omega)]
  dsimp only
  unfold out0_B_8
  rw [View.read_writes_eq_canon _ _ _ (fun y => cover0_B_8 ..)]
  unfold kernelRun0_B
  dsimp only
  sl_unfold_words
  rw [View.canon_unit_zero hz2]
  simp only [View.readAt_eq_ld, (hs0_0 t).read_unread, (hs0_1 t).read_unread, (hs0_3 t).read_unread, (hs0_4 t).read_unread, View.ld_unit_zero (S := S1x1024) hz2, View.ld_unit_zero (S := S512x1024) hz2, View.ld_unit_zero (S := S512x2560) hz2, View.ld_unit_zero (S := S4x1024x640) hz3, (hs0_8 t).read_unread, shapeCast_self]

/-! ## The three gradients over the whole arrays -/

/-- The gradient of the modulated input, at row `k` and column `l`. -/
def du (c : Dev nD) (k : Fin 4096) (l : Fin 1024) : EReal :=
  ∑ q : Fin 4, ∑ n : Fin 640, arg0 m c (ix2 k ⟨q.val * 640 + n.val, by omega⟩) * arg4 m c (ix3 q l n)

theorem pay3_block (c : Dev nD) (t : Fin cfg0.N) (r : Fin 512) (l : Fin 1024) :
    k0_pay3 (iblk m c 0 t) (iblk m c 4 t) (ix2 r l)
      = du m c ⟨t.val * 512 + r.val, by have := lt_points t; omega⟩ l := by
  rw [pay3_apply, block4]
  exact Finset.sum_congr rfl fun q _ => Finset.sum_congr rfl fun n _ => by rw [block0]

def dx (c : Dev nD) : FVec Ideal S4096x1024 .f32 := fun i =>
  du m c (i 0) (i 1) * (Ideal.ofBits .f32 0x3F800000#32 + arg3 m c (ix2 0 (i 1))) + arg5 m c i

def dsh (c : Dev nD) : FVec Ideal S1x1024 .f32 := fun i => ∑ k : Fin 4096, du m c k (i 1)

def dsc (c : Dev nD) : FVec Ideal S1x1024 .f32 := fun i => ∑ k : Fin 4096, arg1 m c (ix2 k (i 1)) * du m c k (i 1)

theorem dx_final (c : Dev nD) : (dats m 0 c).arrAt 6 cfg0.N = dx m c :=
  final6 m c (dx m c) fun t r l => by
    rw [dx_at, pay6_apply, pay3_block, block3, block5]
    rfl

theorem dsh_final (c : Dev nD) : (dats m 0 c).arrAt 7 cfg0.N = dsh m c := by
  refine final7 m c (dsh m c) fun t ht => funext fun (i : S1x1024.Idx) => ?_
  obtain ⟨p, l, rfl⟩ : ∃ p l, i = ix2 p l := ⟨i 0, i 1, funext fun a => by fin_cases a <;> rfl⟩
  obtain rfl : p = 0 := Subsingleton.elim _ _
  exact Rows.sum_rows (B := 512) (M := 4096) (by rw [points]) (fun n h => (outsAt0 m c n h).2.1 (ix2 0 l)) (fun k => du m c k l)
    (fun h => by
      refine (congrFun (dsh_first m c ⟨0, h⟩ rfl) _).trans ?_
      rw [pay4_apply]
      exact Finset.sum_congr rfl fun r _ => pay3_block m c _ r l)
    (fun n h => by
      refine (congrFun (dsh_next m c ⟨n + 1, h⟩ (by simp)) _).trans ?_
      rw [pay1_apply, pay4_apply]
      exact congrArg _ (Finset.sum_congr rfl fun r _ => pay3_block m c _ r l))
    t.val t.isLt (by have := points; omega)

theorem dsc_final (c : Dev nD) : (dats m 0 c).arrAt 8 cfg0.N = dsc m c := by
  refine final8 m c (dsc m c) fun t ht => funext fun (i : S1x1024.Idx) => ?_
  obtain ⟨p, l, rfl⟩ : ∃ p l, i = ix2 p l := ⟨i 0, i 1, funext fun a => by fin_cases a <;> rfl⟩
  obtain rfl : p = 0 := Subsingleton.elim _ _
  exact Rows.sum_rows (B := 512) (M := 4096) (by rw [points]) (fun n h => (outsAt0 m c n h).2.2 (ix2 0 l))
    (fun k => arg1 m c (ix2 k l) * du m c k l)
    (fun h => by
      refine (congrFun (dsc_first m c ⟨0, h⟩ rfl) _).trans ?_
      rw [pay5_apply]
      exact Finset.sum_congr rfl fun r _ => by rw [pay3_block, block1])
    (fun n h => by
      refine (congrFun (dsc_next m c ⟨n + 1, h⟩ (by simp)) _).trans ?_
      rw [pay2_apply, pay5_apply]
      exact congrArg _ (Finset.sum_congr rfl fun r _ => by rw [pay3_block, block1]))
    t.val t.isLt (by have := points; omega)

end Cert.Kernel10Ideal.OddInBwd

end
-- ==== Proof.OddInBwdRef.lean ====
/-
  The reference's gradient of the odd layer's modulated input projection, read at an index.
-/
module

public import proofs.«01_k».proof.Proof.Gen.Reference10Ideal.Run
public import Idealize.ShloMosaic.Lib.Pointwise

@[expose] public section

noncomputable section

namespace Cert.Reference10Ideal.OddInBwd

open Cert.Reference10Ideal Cert.Reference10Ideal.Gen Idealize.ShloMosaic Idealize.ShloMosaic.TcCoe Idealize.SL.Sem

/-- The product of the incoming gradient with the transposed weight, as the reference takes it. -/
def product (a0 : FVec Ideal S4096x2560 .bf16) (a4 : FVec Ideal S4x1024x640 .bf16) : FVec Ideal S4096x1024 .f32 :=
  Host.dotGeneral dot_S4096x2560_S1024x2560_S4096x1024_1_1_0_0_n_n none (extf .f32 a0 bitsLt_bf16_f32) (extf .f32 (shapeCast _ (transpose S1024x4x640 [1, 0, 2] a4 transposes_S4x1024x640_S1024x4x640_1_0_2) shapeCasts_S1024x4x640_S1024x2560) bitsLt_bf16_f32)

/-- At row `k` and column `l` it is a sum over 2560 columns, quarter by quarter. -/
theorem product_apply (a0 : FVec Ideal S4096x2560 .bf16) (a4 : FVec Ideal S4x1024x640 .bf16) (k : Fin 4096) (l : Fin 1024) :
    product a0 a4 (ix2 k l)
      = ∑ q : Fin 4, ∑ n : Fin 640, a0 (ix2 k ⟨q.val * 640 + n.val, by omega⟩) * a4 (ix3 q l n) := by
  pointwise [product]
  rw [Fin.sum_univ_tiles 4 640 (by norm_num)]
  refine Finset.sum_congr rfl fun q _ => Finset.sum_congr rfl fun n _ => ?_
  have hq : (⟨(q.val * 640 + n.val) / 640, by omega⟩ : Fin 4) = q := Fin.ext (by show _ / _ = _; omega)
  have hn : (⟨(q.val * 640 + n.val) % 640, by omega⟩ : Fin 640) = n := Fin.ext (by show _ % _ = _; omega)
  exact congrArg₂ (fun q' n' => a0 (ix2 k ⟨q.val * 640 + n.val, by omega⟩) * a4 (ix3 q' l n')) hq hn

theorem dx_apply (a0 : FVec Ideal S4096x2560 .bf16) (a3 : FVec Ideal S1x1024 .f32) (a4 : FVec Ideal S4x1024x640 .bf16)
    (a5 : FVec Ideal S4096x1024 .f32) (k : Fin 4096) (l : Fin 1024) :
    (addf (mulf (product a0 a4) (broadcastInDim S4096x1024 ![0, 1] bcast_S1x1024_S4096x1024_0_1 (addf (broadcastInDim S1x1024 ![] bcast_S_S1x1024 (constant S_ .f32 0x3F800000#32)) a3))) a5 : FVec Ideal S4096x1024 .f32) (ix2 k l)
      = product a0 a4 (ix2 k l) * (Ideal.ofBits .f32 0x3F800000#32 + a3 (ix2 0 l)) + a5 (ix2 k l) := by
  pointwise

theorem dsh_apply (a0 : FVec Ideal S4096x2560 .bf16) (a4 : FVec Ideal S4x1024x640 .bf16) (l : Fin 1024) :
    (shapeCast S1x1024 (Host.reduceAdd (product a0 a4) (constant S_ .f32 0x00000000#32) reducesTo_S4096x1024_S1024_d0 h_S_) shapeCasts_S1024_S1x1024 : FVec Ideal S1x1024 .f32) (ix2 0 l)
      = ∑ k : Fin 4096, product a0 a4 (ix2 k l) := by
  pointwise

theorem dsc_apply (a0 : FVec Ideal S4096x2560 .bf16) (a1 : FVec Ideal S4096x1024 .f32) (a4 : FVec Ideal S4x1024x640 .bf16)
    (l : Fin 1024) :
    (shapeCast S1x1024 (Host.reduceAdd (mulf a1 (product a0 a4)) (constant S_ .f32 0x00000000#32) reducesTo_S4096x1024_S1024_d0 h_S_) shapeCasts_S1024_S1x1024 : FVec Ideal S1x1024 .f32) (ix2 0 l)
      = ∑ k : Fin 4096, a1 (ix2 k l) * product a0 a4 (ix2 k l) := by
  pointwise

end Cert.Reference10Ideal.OddInBwd

end
-- ==== Proof.OddInBwdClaim.lean ====
/-
  The gradient of the odd layer's modulated input projection: kernel and reference compute the same three arrays.
-/
module

public import proofs.«01_k».proof.Defs
public import proofs.«01_k».proof.Proof.OddInBwd
public import proofs.«01_k».proof.Proof.OddInBwdRef

@[expose] public section

noncomputable section

open Idealize.ShloMosaic Idealize.ShloMosaic.TcCoe Idealize.SL.Sem

theorem Cert.OddInBwd.claim : Cert.algebraic_Kernel10Ideal_Reference10Ideal := by
  intro m g m' g' _ args
  refine ⟨Cert.Kernel10Ideal.OddInBwd.dx m, Cert.Kernel10Ideal.OddInBwd.dsh m, Cert.Kernel10Ideal.OddInBwd.dsc m,
    (θ_run _ _ _).mono (fun r h c => ?_) (Cert.Kernel10Ideal.Value.run_blocks m g),
    (θ_run _ _ _).mono (fun r h c => ?_) (Cert.Reference10Ideal.Value.run m' g')⟩
  · obtain ⟨h6, h7, h8, hrest⟩ := h c
    exact ⟨h6.trans (Cert.Kernel10Ideal.OddInBwd.dx_final m c), h7.trans (Cert.Kernel10Ideal.OddInBwd.dsh_final m c),
      h8.trans (Cert.Kernel10Ideal.OddInBwd.dsc_final m c), hrest⟩
  · obtain ⟨h0, h1, h2, hrest⟩ := h c
    obtain ⟨e0, e1, e2, e3, e4, e5⟩ := args c
    refine ⟨h0.trans ?_, h1.trans ?_, h2.trans ?_, hrest⟩
    · rw [e0, e3, e4, e5]
      refine funext fun (i : Cert.Reference10Ideal.S4096x1024.Idx) => ?_
      obtain ⟨k, l, rfl⟩ : ∃ k l, i = ix2 k l := ⟨i 0, i 1, funext fun a => by fin_cases a <;> rfl⟩
      refine (Cert.Reference10Ideal.OddInBwd.dx_apply _ _ _ _ k l).trans ?_
      rw [Cert.Reference10Ideal.OddInBwd.product_apply]
      rfl
    · rw [e0, e4]
      refine funext fun (i : Cert.Reference10Ideal.S1x1024.Idx) => ?_
      obtain ⟨p, l, rfl⟩ : ∃ p l, i = ix2 p l := ⟨i 0, i 1, funext fun a => by fin_cases a <;> rfl⟩
      obtain rfl : p = 0 := Subsingleton.elim _ _
      refine (Cert.Reference10Ideal.OddInBwd.dsh_apply _ _ l).trans ?_
      exact Finset.sum_congr rfl fun k _ => Cert.Reference10Ideal.OddInBwd.product_apply _ _ k l
    · rw [e0, e1, e4]
      refine funext fun (i : Cert.Reference10Ideal.S1x1024.Idx) => ?_
      obtain ⟨p, l, rfl⟩ : ∃ p l, i = ix2 p l := ⟨i 0, i 1, funext fun a => by fin_cases a <;> rfl⟩
      obtain rfl : p = 0 := Subsingleton.elim _ _
      refine (Cert.Reference10Ideal.OddInBwd.dsc_apply _ _ _ l).trans ?_
      exact Finset.sum_congr rfl fun k _ => congrArg _ (Cert.Reference10Ideal.OddInBwd.product_apply _ _ k l)

end
-- ==== Proof.DwOddInBlocks.lean ====
/-
  The weight gradient of the odd layer's input projection: where each grid point reads its blocks and where its results land.
-/
module

public import proofs.«01_k».proof.Proof.Gen.Kernel11Ideal.Value
public import proofs.«01_k».proof.Proof.Rows
public import Idealize.ShloMosaic.Lib.Pipeline.Value
public import Idealize.ShloMosaic.Lib.Pointwise

@[expose] public section

noncomputable section

namespace Cert.Kernel11Ideal.Blocks

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

theorem points : cfg0.N = 4 := N_0

theorem lt_points (t : Fin cfg0.N) : t.val < 4 := lt_of_lt_of_eq t.isLt N_0

theorem index0 : ∀ t : Fin cfg0.N, win0_0.index t 0 = 0 ∧ win0_0.index t 1 = t.val / 4 :=
  (by decide +kernel : ∀ t : Fin grid0.N, win0_0.index t 0 = 0 ∧ win0_0.index t 1 = t.val / 4)

abbrev arg0 (c : Dev nD) : FVec Ideal S4096x1024 .bf16 := m ((c : Thread nD τ).loc main_arg0)

theorem block0 (c : Dev nD) (t : Fin cfg0.N) (p : Fin 4096) (q : Fin 1024) :
    iblk m c 0 t (ix2 p q) = arg0 m c (ix2 p ⟨t.val / 4 * 1024 + q.val, by have := lt_points t; omega⟩) := by
  refine congrArg (arg0 m c) (funext fun a => Fin.ext ((win0_0.rect_emb_val t (ix2 p q) a).trans ?_))
  match a with
  | ⟨0, _⟩ => show win0_0.index t 0 * 4096 + p.val = p.val; rw [(index0 t).1]; omega
  | ⟨1, _⟩ => show win0_0.index t 1 * 1024 + q.val = t.val / 4 * 1024 + q.val; rw [(index0 t).2]

theorem index1 : ∀ t : Fin cfg0.N, win0_1.index t 0 = 0 ∧ win0_1.index t 1 = t.val % 4 :=
  (by decide +kernel : ∀ t : Fin grid0.N, win0_1.index t 0 = 0 ∧ win0_1.index t 1 = t.val % 4)

abbrev arg1 (c : Dev nD) : FVec Ideal S4096x2560 .bf16 := m ((c : Thread nD τ).loc main_arg1)

theorem block1 (c : Dev nD) (t : Fin cfg0.N) (p : Fin 4096) (q : Fin 640) :
    iblk m c 1 t (ix2 p q) = arg1 m c (ix2 p ⟨t.val % 4 * 640 + q.val, by have := lt_points t; omega⟩) := by
  refine congrArg (arg1 m c) (funext fun a => Fin.ext ((win0_1.rect_emb_val t (ix2 p q) a).trans ?_))
  match a with
  | ⟨0, _⟩ => show win0_1.index t 0 * 4096 + p.val = p.val; rw [(index1 t).1]; omega
  | ⟨1, _⟩ => show win0_1.index t 1 * 640 + q.val = t.val % 4 * 640 + q.val; rw [(index1 t).2]

theorem index2 : ∀ t : Fin cfg0.N, win0_2.index t 0 = t.val % 4 ∧ win0_2.index t 1 = t.val / 4 ∧ win0_2.index t 2 = 0 :=
  (by decide +kernel : ∀ t : Fin grid0.N, win0_2.index t 0 = t.val % 4 ∧ win0_2.index t 1 = t.val / 4 ∧ win0_2.index t 2 = 0)

theorem emb2 (t : Fin cfg0.N) (p : Fin 1) (q : Fin 1024) (r : Fin 640) :
    (win0_2.rect t).emb (ix3 p q r) = (ix3 ⟨t.val % 4 * 1 + p.val, by have := lt_points t; omega⟩ ⟨t.val / 4 * 1024 + q.val, by have := lt_points t; omega⟩ r : S4x1024x640.Idx) := by
  refine funext fun a => Fin.ext ((win0_2.rect_emb_val t (ix3 p q r) a).trans ?_)
  match a with
  | ⟨0, _⟩ => show win0_2.index t 0 * 1 + p.val = t.val % 4 * 1 + p.val; rw [(index2 t).1]
  | ⟨1, _⟩ => show win0_2.index t 1 * 1024 + q.val = t.val / 4 * 1024 + q.val; rw [(index2 t).2.1]
  | ⟨2, _⟩ => show win0_2.index t 2 * 640 + r.val = r.val; rw [(index2 t).2.2]; omega

theorem final2 (c : Dev nD) (G : FVec Ideal S4x1024x640 .bf16)
    (h : ∀ (t : Fin cfg0.N) (p : Fin 1) (q : Fin 1024) (r : Fin 640), (out0_2 (iblk m c 0 t) (iblk m c 1 t)) (ix3 p q r) = G (ix3 ⟨t.val % 4 * 1 + p.val, by have := lt_points t; omega⟩ ⟨t.val / 4 * 1024 + q.val, by have := lt_points t; omega⟩ r)) :
    (dats m 0 c).arrAt 2 cfg0.N = G := by
  refine (dats m 0 c).arrAt_eq_of_cover 2 G (fun t _ => ?_) fun (i : S4x1024x640.Idx) => ?_
  · rw [Value.flushed2]
    refine funext fun (y : S1x1024x640.Idx) => ?_
    obtain ⟨p, q, r, rfl⟩ : ∃ p q r, y = ix3 p q r := ⟨y 0, y 1, y 2, funext fun a => by fin_cases a <;> rfl⟩
    refine (h t p q r).trans ?_
    show _ = G ((win0_2.rect t).emb (ix3 p q r))
    rw [emb2]
  · have hN : cfg0.N = 4 := N_0
    have h0 : (i 0 : Nat) < 4 := (i 0).isLt
    have h1 : (i 1 : Nat) < 1024 := (i 1).isLt
    have h2 : (i 2 : Nat) < 640 := (i 2).isLt
    have ht : (i 1 : Nat) / 1024 * 4 + (i 0 : Nat) / 1 < cfg0.N := by omega
    refine ⟨⟨_, ht⟩, flush0_2 _, ?_⟩
    show i ∈ ((View.whole main_v0).slice (win0_2.rect ⟨_, ht⟩)).set
    rw [View.set_slice_whole, Rect.mem_set_unit]
    have e := index2 ⟨_, ht⟩
    intro a
    match a with
    | ⟨0, _⟩ =>
      show win0_2.index ⟨_, ht⟩ 0 * 1 ≤ (i 0 : Nat) ∧ (i 0 : Nat) < win0_2.index ⟨_, ht⟩ 0 * 1 + 1
      rw [e.1]; try dsimp only
      omega
    | ⟨1, _⟩ =>
      show win0_2.index ⟨_, ht⟩ 1 * 1024 ≤ (i 1 : Nat) ∧ (i 1 : Nat) < win0_2.index ⟨_, ht⟩ 1 * 1024 + 1024
      rw [e.2.1]; try dsimp only
      omega
    | ⟨2, _⟩ =>
      show win0_2.index ⟨_, ht⟩ 2 * 640 ≤ (i 2 : Nat) ∧ (i 2 : Nat) < win0_2.index ⟨_, ht⟩ 2 * 640 + 640
      rw [e.2.2]; try dsimp only
      omega

end Cert.Kernel11Ideal.Blocks

end
-- ==== Proof.DwOddIn.lean ====
/-
  The weight gradient of the odd layer's input projection: `dw = uᵀ dp`, laid out by quarters of the columns, rounded to bf16.
-/
module

public import proofs.«01_k».proof.Proof.DwOddInBlocks

@[expose] public section

noncomputable section

namespace Cert.Kernel11Ideal.DwOddIn

open Cert.Kernel11Ideal Cert.Kernel11Ideal.Gen Cert.Kernel11Ideal.Blocks Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

/-- One block of the product: a sum over the rows. -/
theorem pay_apply (u : Vec Ideal S4096x1024 .bf16) (y : Vec Ideal S4096x640 .bf16) (p : Fin 1) (r : Fin 1024) (l : Fin 640) :
    k0_pay1 u y (ix3 p r l) = ∑ k : Fin 4096, u (ix2 k r) * y (ix2 k l) := by
  pointwise [k0_pay1]

/-- The gradient, as a function of the two whole arrays: entry `(q, r, n)` is that of column `640 q + n`. -/
def dw (c : Dev nD) : FVec Ideal S4x1024x640 .bf16 := fun i =>
  ∑ k : Fin 4096, arg0 m c (ix2 k (i 1)) * arg1 m c (ix2 k ⟨(i 0).val * 640 + (i 2).val, by
    have h0 : (i 0).val < 4 := (i 0).isLt
    have h2 : (i 2).val < 640 := (i 2).isLt
    omega⟩)

theorem dw_final (c : Dev nD) : (dats m 0 c).arrAt 2 cfg0.N = dw m c :=
  final2 m c (dw m c) fun t p r l => by
    obtain rfl : p = 0 := Subsingleton.elim _ _
    unfold out0_2
    rw [View.canon_unit_zero hz3, View.ld_unit_zero hz2, View.ld_unit_zero hz2, pay_apply]
    refine Finset.sum_congr rfl fun k _ => ?_
    rw [block0, block1]
    refine congrArg₂ (fun a b => arg0 m c (ix2 k a) * arg1 m c (ix2 k b)) rfl (Fin.ext ?_)
    show t.val % 4 * 640 + l.val = (t.val % 4 * 1 + 0) * 640 + l.val
    omega

end Cert.Kernel11Ideal.DwOddIn

end
-- ==== Proof.DwOddInRef.lean ====
/-
  The reference's weight gradient of the odd layer's input projection, read at an index.
-/
module

public import proofs.«01_k».proof.Proof.Gen.Reference11Ideal.Run
public import Idealize.ShloMosaic.Lib.Pointwise

@[expose] public section

noncomputable section

namespace Cert.Reference11Ideal.DwOddIn

open Cert.Reference11Ideal Cert.Reference11Ideal.Gen Idealize.ShloMosaic Idealize.ShloMosaic.TcCoe Idealize.SL.Sem

theorem dw_apply (a0 : FVec Ideal S4096x1024 .bf16) (a1 : FVec Ideal S4096x2560 .bf16) (q : Fin 4) (k : Fin 1024) (l : Fin 640) :
    (truncf .bf16 (transpose S4x1024x640 [1, 0, 2] (shapeCast S1024x4x640 (transpose S1024x2560 [1, 0] (Host.dotGeneral dot_S4096x2560_S4096x1024_S2560x1024_0_0_1_1_n_n none (extf .f32 a1 bitsLt_bf16_f32) (extf .f32 a0 bitsLt_bf16_f32)) transposes_S2560x1024_S1024x2560_1_0) shapeCasts_S1024x2560_S1024x4x640) transposes_S1024x4x640_S4x1024x640_1_0_2) bitsLt_bf16_f32 : FVec Ideal S4x1024x640 .bf16) (ix3 q k l)
      = ∑ n : Fin 4096, a0 (ix2 n k) * a1 (ix2 n ⟨q.val * 640 + l.val, by omega⟩) := by
  pointwise!

end Cert.Reference11Ideal.DwOddIn

end
-- ==== Proof.DwOddInClaim.lean ====
/-
  The weight gradient of the odd layer's input projection: kernel and reference compute the same array.
-/
module

public import proofs.«01_k».proof.Defs
public import proofs.«01_k».proof.Proof.DwOddIn
public import proofs.«01_k».proof.Proof.DwOddInRef

@[expose] public section

noncomputable section

open Idealize.ShloMosaic Idealize.ShloMosaic.TcCoe Idealize.SL.Sem

theorem Cert.DwOddIn.claim : Cert.algebraic_Kernel11Ideal_Reference11Ideal := by
  intro m g m' g' _ args
  refine ⟨Cert.Kernel11Ideal.DwOddIn.dw m,
    (θ_run _ _ _).mono (fun r h c => ?_) (Cert.Kernel11Ideal.Value.run_blocks m g),
    (θ_run _ _ _).mono (fun r h c => ?_) (Cert.Reference11Ideal.Value.run m' g')⟩
  · obtain ⟨h0, hrest⟩ := h c
    exact ⟨h0.trans (Cert.Kernel11Ideal.DwOddIn.dw_final m c), hrest⟩
  · obtain ⟨h0, hrest⟩ := h c
    obtain ⟨e0, e1⟩ := args c
    refine ⟨h0.trans ?_, hrest⟩
    · rw [e0, e1]
      refine funext fun (i : Cert.Reference11Ideal.S4x1024x640.Idx) => ?_
      obtain ⟨p, q, s, rfl⟩ : ∃ p q s, i = ix3 p q s := ⟨i 0, i 1, i 2, funext fun a => by fin_cases a <;> rfl⟩
      exact Cert.Reference11Ideal.DwOddIn.dw_apply _ _ p q s

end
-- ==== Proof.OddInBlocks.lean ====
/-
  The odd layer's input projection: where each grid point reads its blocks and where its results land.
-/
module

public import proofs.«01_k».proof.Proof.Gen.Kernel12Ideal.Value
public import proofs.«01_k».proof.Proof.Rows
public import Idealize.ShloMosaic.Lib.Pipeline.Value
public import Idealize.ShloMosaic.Lib.Pointwise

@[expose] public section

noncomputable section

namespace Cert.Kernel12Ideal.Blocks

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

theorem points : cfg0.N = 8 := N_0

theorem lt_points (t : Fin cfg0.N) : t.val < 8 := lt_of_lt_of_eq t.isLt N_0

theorem index0 : ∀ t : Fin cfg0.N, win0_0.index t 0 = t.val ∧ win0_0.index t 1 = 0 :=
  (by decide +kernel : ∀ t : Fin grid0.N, win0_0.index t 0 = t.val ∧ win0_0.index t 1 = 0)

abbrev arg0 (c : Dev nD) : FVec Ideal S4096x1024 .f32 := m ((c : Thread nD τ).loc main_arg0)

theorem block0 (c : Dev nD) (t : Fin cfg0.N) (p : Fin 512) (q : Fin 1024) :
    iblk m c 0 t (ix2 p q) = arg0 m c (ix2 ⟨t.val * 512 + p.val, by have := lt_points t; omega⟩ q) := by
  refine congrArg (arg0 m c) (funext fun a => Fin.ext ((win0_0.rect_emb_val t (ix2 p q) a).trans ?_))
  match a with
  | ⟨0, _⟩ => show win0_0.index t 0 * 512 + p.val = t.val * 512 + p.val; rw [(index0 t).1]
  | ⟨1, _⟩ => show win0_0.index t 1 * 1024 + q.val = q.val; rw [(index0 t).2]; omega

theorem index1 : ∀ t : Fin cfg0.N, win0_1.index t 0 = 0 ∧ win0_1.index t 1 = 0 :=
  (by decide +kernel : ∀ t : Fin grid0.N, win0_1.index t 0 = 0 ∧ win0_1.index t 1 = 0)

abbrev arg1 (c : Dev nD) : FVec Ideal S1x1024 .f32 := m ((c : Thread nD τ).loc main_arg1)

theorem block1 (c : Dev nD) (t : Fin cfg0.N) : iblk m c 1 t = arg1 m c := by
  refine funext fun (y : S1x1024.Idx) => congrArg (arg1 m c) (funext fun a => Fin.ext ((win0_1.rect_emb_val t y a).trans ?_))
  match a with
  | ⟨0, _⟩ => show win0_1.index t 0 * 1 + (y 0).val = (y 0).val; rw [(index1 t).1]; omega
  | ⟨1, _⟩ => show win0_1.index t 1 * 1024 + (y 1).val = (y 1).val; rw [(index1 t).2]; omega

theorem index2 : ∀ t : Fin cfg0.N, win0_2.index t 0 = 0 ∧ win0_2.index t 1 = 0 :=
  (by decide +kernel : ∀ t : Fin grid0.N, win0_2.index t 0 = 0 ∧ win0_2.index t 1 = 0)

abbrev arg2 (c : Dev nD) : FVec Ideal S1x1024 .f32 := m ((c : Thread nD τ).loc main_arg2)

theorem block2 (c : Dev nD) (t : Fin cfg0.N) : iblk m c 2 t = arg2 m c := by
  refine funext fun (y : S1x1024.Idx) => congrArg (arg2 m c) (funext fun a => Fin.ext ((win0_2.rect_emb_val t y a).trans ?_))
  match a with
  | ⟨0, _⟩ => show win0_2.index t 0 * 1 + (y 0).val = (y 0).val; rw [(index2 t).1]; omega
  | ⟨1, _⟩ => show win0_2.index t 1 * 1024 + (y 1).val = (y 1).val; rw [(index2 t).2]; omega

theorem index3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

abbrev arg3 (c : Dev nD) : FVec Ideal S4x1024x640 .bf16 := m ((c : Thread nD τ).loc main_arg3)

theorem block3 (c : Dev nD) (t : Fin cfg0.N) : iblk m c 3 t = arg3 m c := by
  refine funext fun (y : S4x1024x640.Idx) => congrArg (arg3 m c) (funext fun a => Fin.ext ((win0_3.rect_emb_val t y a).trans ?_))
  match a with
  | ⟨0, _⟩ => show win0_3.index t 0 * 4 + (y 0).val = (y 0).val; rw [(index3 t).1]; omega
  | ⟨1, _⟩ => show win0_3.index t 1 * 1024 + (y 1).val = (y 1).val; rw [(index3 t).2.1]; omega
  | ⟨2, _⟩ => show win0_3.index t 2 * 640 + (y 2).val = (y 2).val; rw [(index3 t).2.2]; omega

theorem index4 : ∀ t : Fin cfg0.N, win0_4.index t 0 = t.val ∧ win0_4.index t 1 = 0 :=
  (by decide +kernel : ∀ t : Fin grid0.N, win0_4.index t 0 = t.val ∧ win0_4.index t 1 = 0)

theorem emb4 (t : Fin cfg0.N) (p : Fin 512) (q : Fin 2560) :
    (win0_4.rect t).emb (ix2 p q) = (ix2 ⟨t.val * 512 + p.val, by have := lt_points t; omega⟩ q : S4096x2560.Idx) := by
  refine funext fun a => Fin.ext ((win0_4.rect_emb_val t (ix2 p q) a).trans ?_)
  match a with
  | ⟨0, _⟩ => show win0_4.index t 0 * 512 + p.val = t.val * 512 + p.val; rw [(index4 t).1]
  | ⟨1, _⟩ => show win0_4.index t 1 * 2560 + q.val = q.val; rw [(index4 t).2]; omega

theorem final4 (c : Dev nD) (G : FVec Ideal S4096x2560 .f32)
    (h : ∀ (t : Fin cfg0.N) (p : Fin 512) (q : Fin 2560), (out0_4 (iblk m c 0 t) (iblk m c 1 t) (iblk m c 2 t) (iblk m c 3 t)) (ix2 p q) = G (ix2 ⟨t.val * 512 + p.val, by have := lt_points t; omega⟩ q)) :
    (dats m 0 c).arrAt 4 cfg0.N = G := by
  refine (dats m 0 c).arrAt_eq_of_cover 4 G (fun t _ => ?_) fun (i : S4096x2560.Idx) => ?_
  · rw [Value.flushed4]
    refine funext fun (y : S512x2560.Idx) => ?_
    obtain ⟨p, q, rfl⟩ : ∃ p q, y = ix2 p q := ⟨y 0, y 1, funext fun a => by fin_cases a <;> rfl⟩
    refine (h t p q).trans ?_
    show _ = G ((win0_4.rect t).emb (ix2 p q))
    rw [emb4]
  · have hN : cfg0.N = 8 := N_0
    have h0 : (i 0 : Nat) < 4096 := (i 0).isLt
    have h1 : (i 1 : Nat) < 2560 := (i 1).isLt
    have ht : (i 0 : Nat) / 512 < cfg0.N := by omega
    refine ⟨⟨_, ht⟩, flush0_4 _, ?_⟩
    show i ∈ ((View.whole main_v0_0).slice (win0_4.rect ⟨_, ht⟩)).set
    rw [View.set_slice_whole, Rect.mem_set_unit]
    have e := index4 ⟨_, ht⟩
    intro a
    match a with
    | ⟨0, _⟩ =>
      show win0_4.index ⟨_, ht⟩ 0 * 512 ≤ (i 0 : Nat) ∧ (i 0 : Nat) < win0_4.index ⟨_, ht⟩ 0 * 512 + 512
      rw [e.1]; try dsimp only
      omega
    | ⟨1, _⟩ =>
      show win0_4.index ⟨_, ht⟩ 1 * 2560 ≤ (i 1 : Nat) ∧ (i 1 : Nat) < win0_4.index ⟨_, ht⟩ 1 * 2560 + 2560
      rw [e.2]; try dsimp only
      omega

theorem index5 : ∀ t : Fin cfg0.N, win0_5.index t 0 = t.val ∧ win0_5.index t 1 = 0 :=
  (by decide +kernel : ∀ t : Fin grid0.N, win0_5.index t 0 = t.val ∧ win0_5.index t 1 = 0)

theorem emb5 (t : Fin cfg0.N) (p : Fin 512) (q : Fin 1024) :
    (win0_5.rect t).emb (ix2 p q) = (ix2 ⟨t.val * 512 + p.val, by have := lt_points t; omega⟩ q : S4096x1024.Idx) := by
  refine funext fun a => Fin.ext ((win0_5.rect_emb_val t (ix2 p q) a).trans ?_)
  match a with
  | ⟨0, _⟩ => show win0_5.index t 0 * 512 + p.val = t.val * 512 + p.val; rw [(index5 t).1]
  | ⟨1, _⟩ => show win0_5.index t 1 * 1024 + q.val = q.val; rw [(index5 t).2]; omega

theorem final5 (c : Dev nD) (G : FVec Ideal S4096x1024 .bf16)
    (h : ∀ (t : Fin cfg0.N) (p : Fin 512) (q : Fin 1024), (out0_5 (iblk m c 0 t) (iblk m c 1 t) (iblk m c 2 t) (iblk m c 3 t)) (ix2 p q) = G (ix2 ⟨t.val * 512 + p.val, by have := lt_points t; omega⟩ q)) :
    (dats m 0 c).arrAt 5 cfg0.N = G := by
  refine (dats m 0 c).arrAt_eq_of_cover 5 G (fun t _ => ?_) fun (i : S4096x1024.Idx) => ?_
  · rw [Value.flushed5]
    refine funext fun (y : S512x1024.Idx) => ?_
    obtain ⟨p, q, rfl⟩ : ∃ p q, y = ix2 p q := ⟨y 0, y 1, funext fun a => by fin_cases a <;> rfl⟩
    refine (h t p q).trans ?_
    show _ = G ((win0_5.rect t).emb (ix2 p q))
    rw [emb5]
  · have hN : cfg0.N = 8 := N_0
    have h0 : (i 0 : Nat) < 4096 := (i 0).isLt
    have h1 : (i 1 : Nat) < 1024 := (i 1).isLt
    have ht : (i 0 : Nat) / 512 < cfg0.N := by omega
    refine ⟨⟨_, ht⟩, flush0_5 _, ?_⟩
    show i ∈ ((View.whole main_v0_1).slice (win0_5.rect ⟨_, ht⟩)).set
    rw [View.set_slice_whole, Rect.mem_set_unit]
    have e := index5 ⟨_, ht⟩
    intro a
    match a with
    | ⟨0, _⟩ =>
      show win0_5.index ⟨_, ht⟩ 0 * 512 ≤ (i 0 : Nat) ∧ (i 0 : Nat) < win0_5.index ⟨_, ht⟩ 0 * 512 + 512
      rw [e.1]; try dsimp only
      omega
    | ⟨1, _⟩ =>
      show win0_5.index ⟨_, ht⟩ 1 * 1024 ≤ (i 1 : Nat) ∧ (i 1 : Nat) < win0_5.index ⟨_, ht⟩ 1 * 1024 + 1024
      rw [e.2]; try dsimp only
      omega

end Cert.Kernel12Ideal.Blocks

end
-- ==== Proof.OddIn.lean ====
/-
  The odd layer's modulated input projection and its modulated input.
-/
module

public import proofs.«01_k».proof.Proof.OddInBlocks

@[expose] public section

noncomputable section

namespace Cert.Kernel12Ideal.OddIn

open Cert.Kernel12Ideal Cert.Kernel12Ideal.Gen Cert.Kernel12Ideal.Blocks Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

theorem pay1_apply (v0 : Vec Ideal S512x1024 .f32) (v1 v2 : Vec Ideal S1x1024 .f32) (r : Fin 512) (k : Fin 1024) :
    k0_pay1 v0 v1 v2 (ix2 r k) = v0 (ix2 r k) * (Ideal.ofBits .f32 0x3F800000#32 + v2 (ix2 0 k)) + v1 (ix2 0 k) := by
  pointwise [k0_pay1]

/-- The four quarters of the columns are four products laid side by side. -/
theorem pay2_apply (v0 : Vec Ideal S512x1024 .f32) (v1 v2 : Vec Ideal S1x1024 .f32) (v3 : Vec Ideal S4x1024x640 .bf16)
    (r : Fin 512) (l : Fin 2560) :
    k0_pay2 v0 v1 v2 v3 (ix2 r l)
      = ∑ k : Fin 1024, k0_pay1 v0 v1 v2 (ix2 r k) * v3 (ix3 ⟨l.val / 640, by omega⟩ k ⟨l.val % 640, by omega⟩) := by
  have key : ∀ (q : Fin 4) (n : Fin 640), l.val = q.val * 640 + n.val →
      (∑ k : Fin 1024, k0_pay1 v0 v1 v2 (ix2 r k) * v3 (ix3 q k n))
        = ∑ k : Fin 1024, k0_pay1 v0 v1 v2 (ix2 r k) * v3 (ix3 ⟨l.val / 640, by omega⟩ k ⟨l.val % 640, by omega⟩) := by
    intro q n h
    have hq : (⟨l.val / 640, by omega⟩ : Fin 4) = q := Fin.ext (by show _ / _ = q.val; omega)
    have hn : (⟨l.val % 640, by omega⟩ : Fin 640) = n := Fin.ext (by show _ % _ = n.val; omega)
    rw [hq, hn]
  pointwise [k0_pay2]
  split_ifs
  all_goals first
    | exact key 0 ⟨l.val, by omega⟩ (by show l.val = 0 * 640 + l.val; omega)
    | exact key 1 ⟨l.val - 640, by omega⟩ (by show l.val = 1 * 640 + (l.val - 640); omega)
    | exact key 2 ⟨l.val - 640 - 640, by omega⟩ (by show l.val = 2 * 640 + (l.val - 640 - 640); omega)
    | exact key 3 ⟨l.val - 640 - 640 - 640, by omega⟩ (by show l.val = 3 * 640 + (l.val - 640 - 640 - 640); omega)

/-- The modulated input. -/
def u (c : Dev nD) : FVec Ideal S4096x1024 .bf16 := fun i =>
  arg0 m c i * (Ideal.ofBits .f32 0x3F800000#32 + arg2 m c (ix2 0 (i 1))) + arg1 m c (ix2 0 (i 1))

/-- Its product with the weight, whose column `640 q + n` is column `n` of quarter `q`. -/
def h (c : Dev nD) : FVec Ideal S4096x2560 .f32 := fun i =>
  ∑ k : Fin 1024, u m c (ix2 (i 0) k) * arg3 m c (ix3 ⟨(i 1).val / 640, by
      have h1 : (i 1).val < 2560 := (i 1).isLt
      omega⟩ k ⟨(i 1).val % 640, by omega⟩)

theorem u_block (c : Dev nD) (t : Fin cfg0.N) (r : Fin 512) (k : Fin 1024) :
    k0_pay1 (iblk m c 0 t) (iblk m c 1 t) (iblk m c 2 t) (ix2 r k)
      = u m c (ix2 ⟨t.val * 512 + r.val, by have := lt_points t; omega⟩ k) := by
  rw [pay1_apply, block0, block1, block2]
  rfl

theorem u_final (c : Dev nD) : (dats m 0 c).arrAt 5 cfg0.N = u m c :=
  final5 m c (u m c) fun t r l => by
    unfold out0_5
    rw [View.canon_unit_zero hz2, View.ld_unit_zero hz2, View.ld_unit_zero hz2, View.ld_unit_zero hz2, u_block]

theorem h_final (c : Dev nD) : (dats m 0 c).arrAt 4 cfg0.N = h m c :=
  final4 m c (h m c) fun t r l => by
    unfold out0_4
    rw [View.canon_unit_zero hz2, View.ld_unit_zero hz2, View.ld_unit_zero hz2, View.ld_unit_zero hz2, View.ld_unit_zero hz3,
      pay2_apply, block3]
    exact Finset.sum_congr rfl fun k _ => by rw [u_block]; rfl

end Cert.Kernel12Ideal.OddIn

end
-- ==== Proof.OddInRef.lean ====
/-
  The reference's odd layer's modulated input projection, read at an index.
-/
module

public import proofs.«01_k».proof.Proof.Gen.Reference12Ideal.Run
public import Idealize.ShloMosaic.Lib.Pointwise

@[expose] public section

noncomputable section

namespace Cert.Reference12Ideal.OddIn

open Cert.Reference12Ideal Cert.Reference12Ideal.Gen Idealize.ShloMosaic Idealize.ShloMosaic.TcCoe Idealize.SL.Sem

theorem u_apply (a0 : FVec Ideal S4096x1024 .f32) (a1 a2 : FVec Ideal S1x1024 .f32) (k : Fin 4096) (l : Fin 1024) :
    (truncf .bf16 (addf (mulf a0 (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a1)) bitsLt_bf16_f32 : FVec Ideal S4096x1024 .bf16) (ix2 k l)
      = a0 (ix2 k l) * (Ideal.ofBits .f32 0x3F800000#32 + a2 (ix2 0 l)) + a1 (ix2 0 l) := by
  pointwise

theorem h_apply (a0 : FVec Ideal S4096x1024 .f32) (a1 a2 : FVec Ideal S1x1024 .f32) (a3 : FVec Ideal S4x1024x640 .bf16)
    (k : Fin 4096) (l : Fin 2560) :
    (Host.dotGeneral dot_S4096x1024_S1024x2560_S4096x2560_1_0_0_1_n_n none (addf (mulf a0 (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a1)) (extf .f32 (shapeCast S1024x2560 (transpose S1024x4x640 [1, 0, 2] a3 transposes_S4x1024x640_S1024x4x640_1_0_2) shapeCasts_S1024x4x640_S1024x2560) bitsLt_bf16_f32) : FVec Ideal S4096x2560 .f32) (ix2 k l)
      = ∑ n : Fin 1024, (a0 (ix2 k n) * (Ideal.ofBits .f32 0x3F800000#32 + a2 (ix2 0 n)) + a1 (ix2 0 n))
        * a3 (ix3 ⟨l.val / 640, by omega⟩ n ⟨l.val % 640, by omega⟩) := by
  pointwise

end Cert.Reference12Ideal.OddIn

end
-- ==== Proof.OddInClaim.lean ====
/-
  The odd layer's modulated input projection: kernel and reference compute the same two arrays.
-/
module

public import proofs.«01_k».proof.Defs
public import proofs.«01_k».proof.Proof.OddIn
public import proofs.«01_k».proof.Proof.OddInRef

@[expose] public section

noncomputable section

open Idealize.ShloMosaic Idealize.ShloMosaic.TcCoe Idealize.SL.Sem

theorem Cert.OddIn.claim : Cert.algebraic_Kernel12Ideal_Reference12Ideal := by
  intro m g m' g' _ args
  refine ⟨Cert.Kernel12Ideal.OddIn.h m, Cert.Kernel12Ideal.OddIn.u m,
    (θ_run _ _ _).mono (fun r h c => ?_) (Cert.Kernel12Ideal.Value.run_blocks m g),
    (θ_run _ _ _).mono (fun r h c => ?_) (Cert.Reference12Ideal.Value.run m' g')⟩
  · obtain ⟨h0, h1, hrest⟩ := h c
    exact ⟨h0.trans (Cert.Kernel12Ideal.OddIn.h_final m c),
      h1.trans (Cert.Kernel12Ideal.OddIn.u_final m c), hrest⟩
  · obtain ⟨h0, h1, hrest⟩ := h c
    obtain ⟨e0, e1, e2, e3⟩ := args c
    refine ⟨h0.trans ?_, h1.trans ?_, hrest⟩
    · rw [e0, e1, e2, e3]
      refine funext fun (i : Cert.Reference12Ideal.S4096x2560.Idx) => ?_
      obtain ⟨p, q, rfl⟩ : ∃ p q, i = ix2 p q := ⟨i 0, i 1, funext fun a => by fin_cases a <;> rfl⟩
      exact Cert.Reference12Ideal.OddIn.h_apply _ _ _ _ p q
    · rw [e0, e1, e2]
      refine funext fun (i : Cert.Reference12Ideal.S4096x1024.Idx) => ?_
      obtain ⟨p, q, rfl⟩ : ∃ p q, i = ix2 p q := ⟨i 0, i 1, funext fun a => by fin_cases a <;> rfl⟩
      exact Cert.Reference12Ideal.OddIn.u_apply _ _ _ p q

end
-- ==== Proof.EvenInBwdBlocks.lean ====
/-
  The even layer's projection gradient: where each grid point reads its blocks and where its results land.
-/
module

public import proofs.«01_k».proof.Proof.Gen.Kernel13Ideal.Value
public import proofs.«01_k».proof.Proof.Rows
public import Idealize.ShloMosaic.Lib.Pipeline.Value
public import Idealize.ShloMosaic.Lib.Pointwise

@[expose] public section

noncomputable section

namespace Cert.Kernel13Ideal.Blocks

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

theorem points : cfg0.N = 8 := N_0

theorem lt_points (t : Fin cfg0.N) : t.val < 8 := lt_of_lt_of_eq t.isLt N_0

theorem index0 : ∀ t : Fin cfg0.N, win0_0.index t 0 = t.val ∧ win0_0.index t 1 = 0 :=
  (by decide +kernel : ∀ t : Fin grid0.N, win0_0.index t 0 = t.val ∧ win0_0.index t 1 = 0)

abbrev arg0 (c : Dev nD) : FVec Ideal S4096x2688 .bf16 := m ((c : Thread nD τ).loc main_arg0)

theorem block0 (c : Dev nD) (t : Fin cfg0.N) (p : Fin 512) (q : Fin 2688) :
    iblk m c 0 t (ix2 p q) = arg0 m c (ix2 ⟨t.val * 512 + p.val, by have := lt_points t; omega⟩ q) := by
  refine congrArg (arg0 m c) (funext fun a => Fin.ext ((win0_0.rect_emb_val t (ix2 p q) a).trans ?_))
  match a with
  | ⟨0, _⟩ => show win0_0.index t 0 * 512 + p.val = t.val * 512 + p.val; rw [(index0 t).1]
  | ⟨1, _⟩ => show win0_0.index t 1 * 2688 + q.val = q.val; rw [(index0 t).2]; omega

theorem index1 : ∀ t : Fin cfg0.N, win0_1.index t 0 = t.val ∧ win0_1.index t 1 = 0 :=
  (by decide +kernel : ∀ t : Fin grid0.N, win0_1.index t 0 = t.val ∧ win0_1.index t 1 = 0)

abbrev arg1 (c : Dev nD) : FVec Ideal S4096x1024 .f32 := m ((c : Thread nD τ).loc main_arg1)

theorem block1 (c : Dev nD) (t : Fin cfg0.N) (p : Fin 512) (q : Fin 1024) :
    iblk m c 1 t (ix2 p q) = arg1 m c (ix2 ⟨t.val * 512 + p.val, by have := lt_points t; omega⟩ q) := by
  refine congrArg (arg1 m c) (funext fun a => Fin.ext ((win0_1.rect_emb_val t (ix2 p q) a).trans ?_))
  match a with
  | ⟨0, _⟩ => show win0_1.index t 0 * 512 + p.val = t.val * 512 + p.val; rw [(index1 t).1]
  | ⟨1, _⟩ => show win0_1.index t 1 * 1024 + q.val = q.val; rw [(index1 t).2]; omega

theorem index2 : ∀ t : Fin cfg0.N, win0_2.index t 0 = 0 ∧ win0_2.index t 1 = 0 :=
  (by decide +kernel : ∀ t : Fin grid0.N, win0_2.index t 0 = 0 ∧ win0_2.index t 1 = 0)

abbrev arg2 (c : Dev nD) : FVec Ideal S1x1024 .f32 := m ((c : Thread nD τ).loc main_arg2)

theorem block2 (c : Dev nD) (t : Fin cfg0.N) : iblk m c 2 t = arg2 m c := by
  refine funext fun (y : S1x1024.Idx) => congrArg (arg2 m c) (funext fun a => Fin.ext ((win0_2.rect_emb_val t y a).trans ?_))
  match a with
  | ⟨0, _⟩ => show win0_2.index t 0 * 1 + (y 0).val = (y 0).val; rw [(index2 t).1]; omega
  | ⟨1, _⟩ => show win0_2.index t 1 * 1024 + (y 1).val = (y 1).val; rw [(index2 t).2]; omega

theorem index3 : ∀ t : Fin cfg0.N, win0_3.index t 0 = 0 ∧ win0_3.index t 1 = 0 :=
  (by decide +kernel : ∀ t : Fin grid0.N, win0_3.index t 0 = 0 ∧ win0_3.index t 1 = 0)

abbrev arg3 (c : Dev nD) : FVec Ideal S1x1024 .f32 := m ((c : Thread nD τ).loc main_arg3)

theorem block3 (c : Dev nD) (t : Fin cfg0.N) : iblk m c 3 t = arg3 m c := by
  refine funext fun (y : S1x1024.Idx) => congrArg (arg3 m c) (funext fun a => Fin.ext ((win0_3.rect_emb_val t y a).trans ?_))
  match a with
  | ⟨0, _⟩ => show win0_3.index t 0 * 1 + (y 0).val = (y 0).val; rw [(index3 t).1]; omega
  | ⟨1, _⟩ => show win0_3.index t 1 * 1024 + (y 1).val = (y 1).val; rw [(index3 t).2]; omega

theorem index4 : ∀ t : Fin cfg0.N, win0_4.index t 0 = 0 ∧ win0_4.index t 1 = 0 :=
  (by decide +kernel : ∀ t : Fin grid0.N, win0_4.index t 0 = 0 ∧ win0_4.index t 1 = 0)

abbrev arg4 (c : Dev nD) : FVec Ideal S1024x2688 .bf16 := m ((c : Thread nD τ).loc main_arg4)

theorem block4 (c : Dev nD) (t : Fin cfg0.N) : iblk m c 4 t = arg4 m c := by
  refine funext fun (y : S1024x2688.Idx) => congrArg (arg4 m c) (funext fun a => Fin.ext ((win0_4.rect_emb_val t y a).trans ?_))
  match a with
  | ⟨0, _⟩ => show win0_4.index t 0 * 1024 + (y 0).val = (y 0).val; rw [(index4 t).1]; omega
  | ⟨1, _⟩ => show win0_4.index t 1 * 2688 + (y 1).val = (y 1).val; rw [(index4 t).2]; omega

theorem index5 : ∀ t : Fin cfg0.N, win0_5.index t 0 = t.val ∧ win0_5.index t 1 = 0 :=
  (by decide +kernel : ∀ t : Fin grid0.N, win0_5.index t 0 = t.val ∧ win0_5.index t 1 = 0)

abbrev arg5 (c : Dev nD) : FVec Ideal S4096x1024 .f32 := m ((c : Thread nD τ).loc main_arg5)

theorem block5 (c : Dev nD) (t : Fin cfg0.N) (p : Fin 512) (q : Fin 1024) :
    iblk m c 5 t (ix2 p q) = arg5 m c (ix2 ⟨t.val * 512 + p.val, by have := lt_points t; omega⟩ q) := by
  refine congrArg (arg5 m c) (funext fun a => Fin.ext ((win0_5.rect_emb_val t (ix2 p q) a).trans ?_))
  match a with
  | ⟨0, _⟩ => show win0_5.index t 0 * 512 + p.val = t.val * 512 + p.val; rw [(index5 t).1]
  | ⟨1, _⟩ => show win0_5.index t 1 * 1024 + q.val = q.val; rw [(index5 t).2]; omega

theorem index6 : ∀ t : Fin cfg0.N, win0_6.index t 0 = t.val ∧ win0_6.index t 1 = 0 :=
  (by decide +kernel : ∀ t : Fin grid0.N, win0_6.index t 0 = t.val ∧ win0_6.index t 1 = 0)

theorem emb6 (t : Fin cfg0.N) (p : Fin 512) (q : Fin 1024) :
    (win0_6.rect t).emb (ix2 p q) = (ix2 ⟨t.val * 512 + p.val, by have := lt_points t; omega⟩ q : S4096x1024.Idx) := by
  refine funext fun a => Fin.ext ((win0_6.rect_emb_val t (ix2 p q) a).trans ?_)
  match a with
  | ⟨0, _⟩ => show win0_6.index t 0 * 512 + p.val = t.val * 512 + p.val; rw [(index6 t).1]
  | ⟨1, _⟩ => show win0_6.index t 1 * 1024 + q.val = q.val; rw [(index6 t).2]; omega

theorem final6 (c : Dev nD) (G : FVec Ideal S4096x1024 .f32)
    (h : ∀ (t : Fin cfg0.N) (p : Fin 512) (q : Fin 1024), ((outsAt0 m c t.val t.isLt).1) (ix2 p q) = G (ix2 ⟨t.val * 512 + p.val, by have := lt_points t; omega⟩ q)) :
    (dats m 0 c).arrAt 6 cfg0.N = G := by
  refine (dats m 0 c).arrAt_eq_of_cover 6 G (fun t _ => ?_) fun (i : S4096x1024.Idx) => ?_
  · rw [Value.flushed6]
    refine funext fun (y : S512x1024.Idx) => ?_
    obtain ⟨p, q, rfl⟩ : ∃ p q, y = ix2 p q := ⟨y 0, y 1, funext fun a => by fin_cases a <;> rfl⟩
    refine (h t p q).trans ?_
    show _ = G ((win0_6.rect t).emb (ix2 p q))
    rw [emb6]
  · have hN : cfg0.N = 8 := N_0
    have h0 : (i 0 : Nat) < 4096 := (i 0).isLt
    have h1 : (i 1 : Nat) < 1024 := (i 1).isLt
    have ht : (i 0 : Nat) / 512 < cfg0.N := by omega
    refine ⟨⟨_, ht⟩, flush0_6 _, ?_⟩
    show i ∈ ((View.whole main_v0_0).slice (win0_6.rect ⟨_, ht⟩)).set
    rw [View.set_slice_whole, Rect.mem_set_unit]
    have e := index6 ⟨_, ht⟩
    intro a
    match a with
    | ⟨0, _⟩ =>
      show win0_6.index ⟨_, ht⟩ 0 * 512 ≤ (i 0 : Nat) ∧ (i 0 : Nat) < win0_6.index ⟨_, ht⟩ 0 * 512 + 512
      rw [e.1]; try dsimp only
      omega
    | ⟨1, _⟩ =>
      show win0_6.index ⟨_, ht⟩ 1 * 1024 ≤ (i 1 : Nat) ∧ (i 1 : Nat) < win0_6.index ⟨_, ht⟩ 1 * 1024 + 1024
      rw [e.2]; try dsimp only
      omega

theorem index7 : ∀ t : Fin cfg0.N, win0_7.index t 0 = 0 ∧ win0_7.index t 1 = 0 :=
  (by decide +kernel : ∀ t : Fin grid0.N, win0_7.index t 0 = 0 ∧ win0_7.index t 1 = 0)

theorem final7 (c : Dev nD) (G : FVec Ideal S1x1024 .f32)
    (h : ∀ t : Fin cfg0.N, t.val = 7 → (outsAt0 m c t.val t.isLt).2.1 = G) :
    (dats m 0 c).arrAt 7 cfg0.N = G := by
  refine (dats m 0 c).arrAt_eq_of_cover 7 G (fun t hf => ?_) fun (i : S1x1024.Idx) => ?_
  · rw [Value.flushed7]
    have hN := lt_points t
    have ht : t.val = 7 := by have := (flush0_7 t).mp hf; omega
    refine funext fun (y : S1x1024.Idx) => ?_
    have e : (win0_7.rect t).emb y = y := by
      refine funext fun a => Fin.ext ((win0_7.rect_emb_val t y a).trans ?_)
      match a with
      | ⟨0, _⟩ => show win0_7.index t 0 * 1 + (y 0).val = (y 0).val; rw [(index7 t).1]; omega
      | ⟨1, _⟩ => show win0_7.index t 1 * 1024 + (y 1).val = (y 1).val; rw [(index7 t).2]; omega
    show ((outsAt0 m c t.val t.isLt).2.1) y = G ((win0_7.rect t).emb y)
    rw [e]
    exact congrFun (h t ht) y
  · have ht : 7 < cfg0.N := lt_of_lt_of_eq (by omega) N_0.symm
    have h0 : (i 0 : Nat) < 1 := (i 0).isLt
    have h1 : (i 1 : Nat) < 1024 := (i 1).isLt
    refine ⟨⟨7, ht⟩, (flush0_7 _).mpr rfl, ?_⟩
    show i ∈ ((View.whole main_v0_1).slice (win0_7.rect ⟨7, ht⟩)).set
    rw [View.set_slice_whole, Rect.mem_set_unit]
    have e := index7 ⟨7, ht⟩
    intro a
    match a with
    | ⟨0, _⟩ =>
      show win0_7.index ⟨7, ht⟩ 0 * 1 ≤ (i 0 : Nat) ∧ (i 0 : Nat) < win0_7.index ⟨7, ht⟩ 0 * 1 + 1
      rw [e.1]
      omega
    | ⟨1, _⟩ =>
      show win0_7.index ⟨7, ht⟩ 1 * 1024 ≤ (i 1 : Nat) ∧ (i 1 : Nat) < win0_7.index ⟨7, ht⟩ 1 * 1024 + 1024
      rw [e.2]
      omega

theorem index8 : ∀ t : Fin cfg0.N, win0_8.index t 0 = 0 ∧ win0_8.index t 1 = 0 :=
  (by decide +kernel : ∀ t : Fin grid0.N, win0_8.index t 0 = 0 ∧ win0_8.index t 1 = 0)

theorem final8 (c : Dev nD) (G : FVec Ideal S1x1024 .f32)
    (h : ∀ t : Fin cfg0.N, t.val = 7 → (outsAt0 m c t.val t.isLt).2.2 = G) :
    (dats m 0 c).arrAt 8 cfg0.N = G := by
  refine (dats m 0 c).arrAt_eq_of_cover 8 G (fun t hf => ?_) fun (i : S1x1024.Idx) => ?_
  · rw [Value.flushed8]
    have hN := lt_points t
    have ht : t.val = 7 := by have := (flush0_8 t).mp hf; omega
    refine funext fun (y : S1x1024.Idx) => ?_
    have e : (win0_8.rect t).emb y = y := by
      refine funext fun a => Fin.ext ((win0_8.rect_emb_val t y a).trans ?_)
      match a with
      | ⟨0, _⟩ => show win0_8.index t 0 * 1 + (y 0).val = (y 0).val; rw [(index8 t).1]; omega
      | ⟨1, _⟩ => show win0_8.index t 1 * 1024 + (y 1).val = (y 1).val; rw [(index8 t).2]; omega
    show ((outsAt0 m c t.val t.isLt).2.2) y = G ((win0_8.rect t).emb y)
    rw [e]
    exact congrFun (h t ht) y
  · have ht : 7 < cfg0.N := lt_of_lt_of_eq (by omega) N_0.symm
    have h0 : (i 0 : Nat) < 1 := (i 0).isLt
    have h1 : (i 1 : Nat) < 1024 := (i 1).isLt
    refine ⟨⟨7, ht⟩, (flush0_8 _).mpr rfl, ?_⟩
    show i ∈ ((View.whole main_v0_2).slice (win0_8.rect ⟨7, ht⟩)).set
    rw [View.set_slice_whole, Rect.mem_set_unit]
    have e := index8 ⟨7, ht⟩
    intro a
    match a with
    | ⟨0, _⟩ =>
      show win0_8.index ⟨7, ht⟩ 0 * 1 ≤ (i 0 : Nat) ∧ (i 0 : Nat) < win0_8.index ⟨7, ht⟩ 0 * 1 + 1
      rw [e.1]
      omega
    | ⟨1, _⟩ =>
      show win0_8.index ⟨7, ht⟩ 1 * 1024 ≤ (i 1 : Nat) ∧ (i 1 : Nat) < win0_8.index ⟨7, ht⟩ 1 * 1024 + 1024
      rw [e.2]
      omega

end Cert.Kernel13Ideal.Blocks

end
-- ==== Proof.EvenInBwd.lean ====
/-
  The gradient of the even layer's modulated input projection: what each grid point leaves, and the three arrays after the
  last point.
-/
module

public import proofs.«01_k».proof.Proof.EvenInBwdBlocks
public import Idealize.ShloMosaic.Lib.Tactic

@[expose] public section

noncomputable section

namespace Cert.Kernel13Ideal.EvenInBwd

open Cert.Kernel13Ideal Cert.Kernel13Ideal.Gen Cert.Kernel13Ideal.Blocks Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The values of one block -/

theorem pay1_apply (v0 : Vec Ideal S512x2688 .bf16) (v3 : Vec Ideal S1024x2688 .bf16) (r : Fin 512) (l : Fin 1024) :
    k0_pay1 v0 v3 (ix2 r l) = ∑ n : Fin 2688, v0 (ix2 r n) * v3 (ix2 l n) := by
  pointwise [k0_pay1]

theorem pay2_apply (v0 : Vec Ideal S512x2688 .bf16) (v3 : Vec Ideal S1024x2688 .bf16) (l : Fin 1024) :
    k0_pay2 v0 v3 (ix2 0 l) = ∑ r : Fin 512, k0_pay1 v0 v3 (ix2 r l) := by
  pointwise [k0_pay2]

theorem pay3_apply (v0 : Vec Ideal S512x2688 .bf16) (v1 : Vec Ideal S512x1024 .f32) (v3 : Vec Ideal S1024x2688 .bf16)
    (l : Fin 1024) :
    k0_pay3 v0 v1 v3 (ix2 0 l) = ∑ r : Fin 512, v1 (ix2 r l) * k0_pay1 v0 v3 (ix2 r l) := by
  pointwise [k0_pay3]

theorem pay4_apply (v0 : Vec Ideal S512x2688 .bf16) (v2 : Vec Ideal S1x1024 .f32) (v3 : Vec Ideal S1024x2688 .bf16)
    (v4 : Vec Ideal S512x1024 .f32) (r : Fin 512) (l : Fin 1024) :
    k0_pay4 v0 v2 v3 v4 (ix2 r l)
      = k0_pay1 v0 v3 (ix2 r l) * (Ideal.ofBits .f32 0x3F800000#32 + v2 (ix2 0 l)) + v4 (ix2 r l) := by
  pointwise [k0_pay4]

theorem pay5_apply (v0 : Vec Ideal S512x2688 .bf16) (v3 : Vec Ideal S1024x2688 .bf16) (a : FVec Ideal S1x1024 .f32) (l : Fin 1024) :
    k0_pay5 v0 v3 a (ix2 0 l) = a (ix2 0 l) + k0_pay2 v0 v3 (ix2 0 l) := by
  pointwise [k0_pay5]

theorem pay6_apply (v0 : Vec Ideal S512x2688 .bf16) (v1 : Vec Ideal S512x1024 .f32) (v3 : Vec Ideal S1024x2688 .bf16)
    (a : FVec Ideal S1x1024 .f32) (l : Fin 1024) :
    k0_pay6 v0 v1 v3 a (ix2 0 l) = a (ix2 0 l) + k0_pay3 v0 v1 v3 (ix2 0 l) := by
  pointwise [k0_pay6]

variable (m : (ℓ : Loc nD τ sig) → Buf (Elt Ideal) ℓ)

/-! ## What point `t` leaves in each output's block -/

theorem dx_at (c : Dev nD) (t : Fin cfg0.N) : (outsAt0 m c t.val t.isLt).1
    = k0_pay4 (iblk m c 0 t) (iblk m c 3 t) (iblk m c 4 t) (iblk m c 5 t) := by
  have hN := lt_points t
  by_cases h : t.val = 0
  · skip
    rw [outsAt0_A m c t (by omega) (by omega) (by omega) (by omega)]
    dsimp only
    unfold out0_A_6
    rw [View.read_writes_eq_canon _ _ _ (fun y => cover0_A_6 ..)]
    unfold kernelRun0_A
    dsimp only
    sl_unfold_words
    rw [View.canon_unit_zero hz2]
    simp only [View.readAt_eq_ld, (hs0_0 t).read_unread, (hs0_3 t).read_unread, (hs0_4 t).read_unread, (hs0_5 t).read_unread, View.ld_unit_zero (S := S1x1024) hz2, View.ld_unit_zero (S := S512x1024) hz2, View.ld_unit_zero (S := S512x2688) hz2, View.ld_unit_zero (S := S1024x2688) hz2]
  · skip
    rw [outsAt0_B m c t (by omega) (by omega) (by omega) (by omega)]
    dsimp only
    unfold out0_B_6
    rw [View.read_writes_eq_canon _ _ _ (fun y => cover0_B_6 ..)]
    unfold kernelRun0_B
    dsimp only
    sl_unfold_words
    rw [View.canon_unit_zero hz2]
    simp only [View.readAt_eq_ld, (hs0_0 t).read_unread, (hs0_3 t).read_unread, (hs0_4 t).read_unread, (hs0_5 t).read_unread, View.ld_unit_zero (S := S1x1024) hz2, View.ld_unit_zero (S := S512x1024) hz2, View.ld_unit_zero (S := S512x2688) hz2, View.ld_unit_zero (S := S1024x2688) hz2]

theorem dsh_first (c : Dev nD) (t : Fin cfg0.N) (h : t.val = 0) : (outsAt0 m c t.val t.isLt).2.1
    = k0_pay2 (iblk m c 0 t) (iblk m c 4 t) := by
  rw [outsAt0_A m c t (by omega) (by omega) (by omega) (by omega)]
  dsimp only
  unfold out0_A_7
  rw [View.read_writes_eq_canon _ _ _ (fun y => cover0_A_7 ..)]
  unfold kernelRun0_A
  dsimp only
  sl_unfold_words
  rw [View.canon_unit_zero hz2]
  simp only [View.readAt_eq_ld, (hs0_0 t).read_unread, (hs0_4 t).read_unread, View.ld_unit_zero (S := S512x2688) hz2, View.ld_unit_zero (S := S1024x2688) hz2]

theorem dsh_next (c : Dev nD) (t : Fin cfg0.N) (h : t.val ≠ 0) : (outsAt0 m c t.val t.isLt).2.1
    = k0_pay5 (iblk m c 0 t) (iblk m c 4 t) (outsAt0 m c (t.val - 1) (by have := t.isLt; omega)).2.1 := by
  have hN := lt_points t
  rw [outsAt0_B m c t (by omega) (by omega) (by omega) (by omega)]
  dsimp only
  unfold out0_B_7
  rw [View.read_writes_eq_canon _ _ _ (fun y => cover0_B_7 ..)]
  unfold kernelRun0_B
  dsimp only
  sl_unfold_words
  rw [View.canon_unit_zero hz2]
  simp only [View.readAt_eq_ld, (hs0_0 t).read_unread, (hs0_3 t).read_unread, (hs0_4 t).read_unread, View.ld_unit_zero (S := S1x1024) hz2, View.ld_unit_zero (S := S512x2688) hz2, View.ld_unit_zero (S := S1024x2688) hz2, (hs0_7 t).read_unread, shapeCast_self]

theorem dsc_first (c : Dev nD) (t : Fin cfg0.N) (h : t.val = 0) : (outsAt0 m c t.val t.isLt).2.2
    = k0_pay3 (iblk m c 0 t) (iblk m c 1 t) (iblk m c 4 t) := by
  rw [outsAt0_A m c t (by omega) (by omega) (by omega) (by omega)]
  dsimp only
  unfold out0_A_8
  rw [View.read_writes_eq_canon _ _ _ (fun y => cover0_A_8 ..)]
  unfold kernelRun0_A
  dsimp only
  sl_unfold_words
  rw [View.canon_unit_zero hz2]
  simp only [View.readAt_eq_ld, (hs0_0 t).read_unread, (hs0_1 t).read_unread, (hs0_4 t).read_unread, View.ld_unit_zero (S := S512x1024) hz2, View.ld_unit_zero (S := S512x2688) hz2, View.ld_unit_zero (S := S1024x2688) hz2]

theorem dsc_next (c : Dev nD) (t : Fin cfg0.N) (h : t.val ≠ 0) : (outsAt0 m c t.val t.isLt).2.2
    = k0_pay6 (iblk m c 0 t) (iblk m c 1 t) (iblk m c 4 t) (outsAt0 m c (t.val - 1) (by have := t.isLt; omega)).2.2 := by
  have hN := lt_points t
  rw [outsAt0_B m c t (by omega) (by omega) (by omega) (by omega)]
  dsimp only
  unfold out0_B_8
  rw [View.read_writes_eq_canon _ _ _ (fun y => cover0_B_8 ..)]
  unfold kernelRun0_B
  dsimp only
  sl_unfold_words
  rw [View.canon_unit_zero hz2]
  simp only [View.readAt_eq_ld, (hs0_0 t).read_unread, (hs0_1 t).read_unread, (hs0_3 t).read_unread, (hs0_4 t).read_unread, View.ld_unit_zero (S := S1x1024) hz2, View.ld_unit_zero (S := S512x1024) hz2, View.ld_unit_zero (S := S512x2688) hz2, View.ld_unit_zero (S := S1024x2688) hz2, (hs0_8 t).read_unread, shapeCast_self]

/-! ## The three gradients over the whole arrays -/

/-- The gradient of the modulated input, at row `k` and column `l`. -/
def du (c : Dev nD) (k : Fin 4096) (l : Fin 1024) : EReal :=
  ∑ n : Fin 2688, arg0 m c (ix2 k n) * arg4 m c (ix2 l n)

theorem pay1_block (c : Dev nD) (t : Fin cfg0.N) (r : Fin 512) (l : Fin 1024) :
    k0_pay1 (iblk m c 0 t) (iblk m c 4 t) (ix2 r l)
      = du m c ⟨t.val * 512 + r.val, by have := lt_points t; omega⟩ l := by
  rw [pay1_apply, block4]
  exact Finset.sum_congr rfl fun n _ => by rw [block0]

def dx (c : Dev nD) : FVec Ideal S4096x1024 .f32 := fun i =>
  du m c (i 0) (i 1) * (Ideal.ofBits .f32 0x3F800000#32 + arg3 m c (ix2 0 (i 1))) + arg5 m c i

def dsh (c : Dev nD) : FVec Ideal S1x1024 .f32 := fun i => ∑ k : Fin 4096, du m c k (i 1)

def dsc (c : Dev nD) : FVec Ideal S1x1024 .f32 := fun i => ∑ k : Fin 4096, arg1 m c (ix2 k (i 1)) * du m c k (i 1)

theorem dx_final (c : Dev nD) : (dats m 0 c).arrAt 6 cfg0.N = dx m c :=
  final6 m c (dx m c) fun t r l => by
    rw [dx_at, pay4_apply, pay1_block, block3, block5]
    rfl

theorem dsh_final (c : Dev nD) : (dats m 0 c).arrAt 7 cfg0.N = dsh m c := by
  refine final7 m c (dsh m c) fun t ht => funext fun (i : S1x1024.Idx) => ?_
  obtain ⟨p, l, rfl⟩ : ∃ p l, i = ix2 p l := ⟨i 0, i 1, funext fun a => by fin_cases a <;> rfl⟩
  obtain rfl : p = 0 := Subsingleton.elim _ _
  exact Rows.sum_rows (B := 512) (M := 4096) (by rw [points]) (fun n h => (outsAt0 m c n h).2.1 (ix2 0 l)) (fun k => du m c k l)
    (fun h => by
      refine (congrFun (dsh_first m c ⟨0, h⟩ rfl) _).trans ?_
      rw [pay2_apply]
      exact Finset.sum_congr rfl fun r _ => pay1_block m c _ r l)
    (fun n h => by
      refine (congrFun (dsh_next m c ⟨n + 1, h⟩ (by simp)) _).trans ?_
      rw [pay5_apply, pay2_apply]
      exact congrArg _ (Finset.sum_congr rfl fun r _ => pay1_block m c _ r l))
    t.val t.isLt (by have := points; omega)

theorem dsc_final (c : Dev nD) : (dats m 0 c).arrAt 8 cfg0.N = dsc m c := by
  refine final8 m c (dsc m c) fun t ht => funext fun (i : S1x1024.Idx) => ?_
  obtain ⟨p, l, rfl⟩ : ∃ p l, i = ix2 p l := ⟨i 0, i 1, funext fun a => by fin_cases a <;> rfl⟩
  obtain rfl : p = 0 := Subsingleton.elim _ _
  exact Rows.sum_rows (B := 512) (M := 4096) (by rw [points]) (fun n h => (outsAt0 m c n h).2.2 (ix2 0 l))
    (fun k => arg1 m c (ix2 k l) * du m c k l)
    (fun h => by
      refine (congrFun (dsc_first m c ⟨0, h⟩ rfl) _).trans ?_
      rw [pay3_apply]
      exact Finset.sum_congr rfl fun r _ => by rw [pay1_block, block1])
    (fun n h => by
      refine (congrFun (dsc_next m c ⟨n + 1, h⟩ (by simp)) _).trans ?_
      rw [pay6_apply, pay3_apply]
      exact congrArg _ (Finset.sum_congr rfl fun r _ => by rw [pay1_block, block1]))
    t.val t.isLt (by have := points; omega)

end Cert.Kernel13Ideal.EvenInBwd

end
-- ==== Proof.EvenInBwdRef.lean ====
/-
  The reference's gradient of the even layer's modulated input projection, read at an index.
-/
module

public import proofs.«01_k».proof.Proof.Gen.Reference13Ideal.Run
public import Idealize.ShloMosaic.Lib.Pointwise

@[expose] public section

noncomputable section

namespace Cert.Reference13Ideal.EvenInBwd

open Cert.Reference13Ideal Cert.Reference13Ideal.Gen Idealize.ShloMosaic Idealize.ShloMosaic.TcCoe Idealize.SL.Sem

/-- The product of the incoming gradient with the transposed weight, as the reference takes it. -/
def product (a0 : FVec Ideal S4096x2688 .bf16) (a4 : FVec Ideal S1024x2688 .bf16) : FVec Ideal S4096x1024 .f32 :=
  Host.dotGeneral dot_S4096x2688_S1024x2688_S4096x1024_1_1_0_0_n_n none (extf .f32 a0 bitsLt_bf16_f32) (extf .f32 a4 bitsLt_bf16_f32)

theorem product_apply (a0 : FVec Ideal S4096x2688 .bf16) (a4 : FVec Ideal S1024x2688 .bf16) (k : Fin 4096) (l : Fin 1024) :
    product a0 a4 (ix2 k l) = ∑ n : Fin 2688, a0 (ix2 k n) * a4 (ix2 l n) := by
  pointwise [product]

theorem dx_apply (a0 : FVec Ideal S4096x2688 .bf16) (a3 : FVec Ideal S1x1024 .f32) (a4 : FVec Ideal S1024x2688 .bf16)
    (a5 : FVec Ideal S4096x1024 .f32) (k : Fin 4096) (l : Fin 1024) :
    (addf (mulf (product a0 a4) (broadcastInDim S4096x1024 ![0, 1] bcast_S1x1024_S4096x1024_0_1 (addf (broadcastInDim S1x1024 ![] bcast_S_S1x1024 (constant S_ .f32 0x3F800000#32)) a3))) a5 : FVec Ideal S4096x1024 .f32) (ix2 k l)
      = product a0 a4 (ix2 k l) * (Ideal.ofBits .f32 0x3F800000#32 + a3 (ix2 0 l)) + a5 (ix2 k l) := by
  pointwise

theorem dsh_apply (a0 : FVec Ideal S4096x2688 .bf16) (a4 : FVec Ideal S1024x2688 .bf16) (l : Fin 1024) :
    (shapeCast S1x1024 (Host.reduceAdd (product a0 a4) (constant S_ .f32 0x00000000#32) reducesTo_S4096x1024_S1024_d0 h_S_) shapeCasts_S1024_S1x1024 : FVec Ideal S1x1024 .f32) (ix2 0 l)
      = ∑ k : Fin 4096, product a0 a4 (ix2 k l) := by
  pointwise

theorem dsc_apply (a0 : FVec Ideal S4096x2688 .bf16) (a1 : FVec Ideal S4096x1024 .f32) (a4 : FVec Ideal S1024x2688 .bf16)
    (l : Fin 1024) :
    (shapeCast S1x1024 (Host.reduceAdd (mulf a1 (product a0 a4)) (constant S_ .f32 0x00000000#32) reducesTo_S4096x1024_S1024_d0 h_S_) shapeCasts_S1024_S1x1024 : FVec Ideal S1x1024 .f32) (ix2 0 l)
      = ∑ k : Fin 4096, a1 (ix2 k l) * product a0 a4 (ix2 k l) := by
  pointwise

end Cert.Reference13Ideal.EvenInBwd

end
-- ==== Proof.EvenInBwdClaim.lean ====
/-
  The gradient of the even layer's modulated input projection: kernel and reference compute the same three arrays.
-/
module

public import proofs.«01_k».proof.Defs
public import proofs.«01_k».proof.Proof.EvenInBwd
public import proofs.«01_k».proof.Proof.EvenInBwdRef

@[expose] public section

noncomputable section

open Idealize.ShloMosaic Idealize.ShloMosaic.TcCoe Idealize.SL.Sem

theorem Cert.EvenInBwd.claim : Cert.algebraic_Kernel13Ideal_Reference13Ideal := by
  intro m g m' g' _ args
  refine ⟨Cert.Kernel13Ideal.EvenInBwd.dx m, Cert.Kernel13Ideal.EvenInBwd.dsh m, Cert.Kernel13Ideal.EvenInBwd.dsc m,
    (θ_run _ _ _).mono (fun r h c => ?_) (Cert.Kernel13Ideal.Value.run_blocks m g),
    (θ_run _ _ _).mono (fun r h c => ?_) (Cert.Reference13Ideal.Value.run m' g')⟩
  · obtain ⟨h6, h7, h8, hrest⟩ := h c
    exact ⟨h6.trans (Cert.Kernel13Ideal.EvenInBwd.dx_final m c), h7.trans (Cert.Kernel13Ideal.EvenInBwd.dsh_final m c),
      h8.trans (Cert.Kernel13Ideal.EvenInBwd.dsc_final m c), hrest⟩
  · obtain ⟨h0, h1, h2, hrest⟩ := h c
    obtain ⟨e0, e1, e2, e3, e4, e5⟩ := args c
    refine ⟨h0.trans ?_, h1.trans ?_, h2.trans ?_, hrest⟩
    · rw [e0, e3, e4, e5]
      refine funext fun (i : Cert.Reference13Ideal.S4096x1024.Idx) => ?_
      obtain ⟨k, l, rfl⟩ : ∃ k l, i = ix2 k l := ⟨i 0, i 1, funext fun a => by fin_cases a <;> rfl⟩
      refine (Cert.Reference13Ideal.EvenInBwd.dx_apply _ _ _ _ k l).trans ?_
      rw [Cert.Reference13Ideal.EvenInBwd.product_apply]
      rfl
    · rw [e0, e4]
      refine funext fun (i : Cert.Reference13Ideal.S1x1024.Idx) => ?_
      obtain ⟨p, l, rfl⟩ : ∃ p l, i = ix2 p l := ⟨i 0, i 1, funext fun a => by fin_cases a <;> rfl⟩
      obtain rfl : p = 0 := Subsingleton.elim _ _
      refine (Cert.Reference13Ideal.EvenInBwd.dsh_apply _ _ l).trans ?_
      exact Finset.sum_congr rfl fun k _ => Cert.Reference13Ideal.EvenInBwd.product_apply _ _ k l
    · rw [e0, e1, e4]
      refine funext fun (i : Cert.Reference13Ideal.S1x1024.Idx) => ?_
      obtain ⟨p, l, rfl⟩ : ∃ p l, i = ix2 p l := ⟨i 0, i 1, funext fun a => by fin_cases a <;> rfl⟩
      obtain rfl : p = 0 := Subsingleton.elim _ _
      refine (Cert.Reference13Ideal.EvenInBwd.dsc_apply _ _ _ l).trans ?_
      exact Finset.sum_congr rfl fun k _ => congrArg _ (Cert.Reference13Ideal.EvenInBwd.product_apply _ _ k l)

end
-- ==== Proof.EvenInBlocks.lean ====
/-
  The even layer's input projection: where each grid point reads its blocks and where its results land.
-/
module

public import proofs.«01_k».proof.Proof.Gen.Kernel14Ideal.Value
public import proofs.«01_k».proof.Proof.Rows
public import Idealize.ShloMosaic.Lib.Pipeline.Value
public import Idealize.ShloMosaic.Lib.Pointwise

@[expose] public section

noncomputable section

namespace Cert.Kernel14Ideal.Blocks

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)

theorem points : cfg0.N = 8 := N_0

theorem lt_points (t : Fin cfg0.N) : t.val < 8 := lt_of_lt_of_eq t.isLt N_0

theorem index0 : ∀ t : Fin cfg0.N, win0_0.index t 0 = t.val ∧ win0_0.index t 1 = 0 :=
  (by decide +kernel : ∀ t : Fin grid0.N, win0_0.index t 0 = t.val ∧ win0_0.index t 1 = 0)

abbrev arg0 (c : Dev nD) : FVec Ideal S4096x1024 .f32 := m ((c : Thread nD τ).loc main_arg0)

theorem block0 (c : Dev nD) (t : Fin cfg0.N) (p : Fin 512) (q : Fin 1024) :
    iblk m c 0 t (ix2 p q) = arg0 m c (ix2 ⟨t.val * 512 + p.val, by have := lt_points t; omega⟩ q) := by
  refine congrArg (arg0 m c) (funext fun a => Fin.ext ((win0_0.rect_emb_val t (ix2 p q) a).trans ?_))
  match a with
  | ⟨0, _⟩ => show win0_0.index t 0 * 512 + p.val = t.val * 512 + p.val; rw [(index0 t).1]
  | ⟨1, _⟩ => show win0_0.index t 1 * 1024 + q.val = q.val; rw [(index0 t).2]; omega

theorem index1 : ∀ t : Fin cfg0.N, win0_1.index t 0 = 0 ∧ win0_1.index t 1 = 0 :=
  (by decide +kernel : ∀ t : Fin grid0.N, win0_1.index t 0 = 0 ∧ win0_1.index t 1 = 0)

abbrev arg1 (c : Dev nD) : FVec Ideal S1x1024 .f32 := m ((c : Thread nD τ).loc main_arg1)

theorem block1 (c : Dev nD) (t : Fin cfg0.N) : iblk m c 1 t = arg1 m c := by
  refine funext fun (y : S1x1024.Idx) => congrArg (arg1 m c) (funext fun a => Fin.ext ((win0_1.rect_emb_val t y a).trans ?_))
  match a with
  | ⟨0, _⟩ => show win0_1.index t 0 * 1 + (y 0).val = (y 0).val; rw [(index1 t).1]; omega
  | ⟨1, _⟩ => show win0_1.index t 1 * 1024 + (y 1).val = (y 1).val; rw [(index1 t).2]; omega

theorem index2 : ∀ t : Fin cfg0.N, win0_2.index t 0 = 0 ∧ win0_2.index t 1 = 0 :=
  (by decide +kernel : ∀ t : Fin grid0.N, win0_2.index t 0 = 0 ∧ win0_2.index t 1 = 0)

abbrev arg2 (c : Dev nD) : FVec Ideal S1x1024 .f32 := m ((c : Thread nD τ).loc main_arg2)

theorem block2 (c : Dev nD) (t : Fin cfg0.N) : iblk m c 2 t = arg2 m c := by
  refine funext fun (y : S1x1024.Idx) => congrArg (arg2 m c) (funext fun a => Fin.ext ((win0_2.rect_emb_val t y a).trans ?_))
  match a with
  | ⟨0, _⟩ => show win0_2.index t 0 * 1 + (y 0).val = (y 0).val; rw [(index2 t).1]; omega
  | ⟨1, _⟩ => show win0_2.index t 1 * 1024 + (y 1).val = (y 1).val; rw [(index2 t).2]; omega

theorem index3 : ∀ t : Fin cfg0.N, win0_3.index t 0 = 0 ∧ win0_3.index t 1 = 0 :=
  (by decide +kernel : ∀ t : Fin grid0.N, win0_3.index t 0 = 0 ∧ win0_3.index t 1 = 0)

abbrev arg3 (c : Dev nD) : FVec Ideal S1024x2688 .bf16 := m ((c : Thread nD τ).loc main_arg3)

theorem block3 (c : Dev nD) (t : Fin cfg0.N) : iblk m c 3 t = arg3 m c := by
  refine funext fun (y : S1024x2688.Idx) => congrArg (arg3 m c) (funext fun a => Fin.ext ((win0_3.rect_emb_val t y a).trans ?_))
  match a with
  | ⟨0, _⟩ => show win0_3.index t 0 * 1024 + (y 0).val = (y 0).val; rw [(index3 t).1]; omega
  | ⟨1, _⟩ => show win0_3.index t 1 * 2688 + (y 1).val = (y 1).val; rw [(index3 t).2]; omega

theorem index4 : ∀ t : Fin cfg0.N, win0_4.index t 0 = t.val ∧ win0_4.index t 1 = 0 :=
  (by decide +kernel : ∀ t : Fin grid0.N, win0_4.index t 0 = t.val ∧ win0_4.index t 1 = 0)

theorem emb4 (t : Fin cfg0.N) (p : Fin 512) (q : Fin 2688) :
    (win0_4.rect t).emb (ix2 p q) = (ix2 ⟨t.val * 512 + p.val, by have := lt_points t; omega⟩ q : S4096x2688.Idx) := by
  refine funext fun a => Fin.ext ((win0_4.rect_emb_val t (ix2 p q) a).trans ?_)
  match a with
  | ⟨0, _⟩ => show win0_4.index t 0 * 512 + p.val = t.val * 512 + p.val; rw [(index4 t).1]
  | ⟨1, _⟩ => show win0_4.index t 1 * 2688 + q.val = q.val; rw [(index4 t).2]; omega

theorem final4 (c : Dev nD) (G : FVec Ideal S4096x2688 .f32)
    (h : ∀ (t : Fin cfg0.N) (p : Fin 512) (q : Fin 2688), (out0_4 (iblk m c 0 t) (iblk m c 1 t) (iblk m c 2 t) (iblk m c 3 t)) (ix2 p q) = G (ix2 ⟨t.val * 512 + p.val, by have := lt_points t; omega⟩ q)) :
    (dats m 0 c).arrAt 4 cfg0.N = G := by
  refine (dats m 0 c).arrAt_eq_of_cover 4 G (fun t _ => ?_) fun (i : S4096x2688.Idx) => ?_
  · rw [Value.flushed4]
    refine funext fun (y : S512x2688.Idx) => ?_
    obtain ⟨p, q, rfl⟩ : ∃ p q, y = ix2 p q := ⟨y 0, y 1, funext fun a => by fin_cases a <;> rfl⟩
    refine (h t p q).trans ?_
    show _ = G ((win0_4.rect t).emb (ix2 p q))
    rw [emb4]
  · have hN : cfg0.N = 8 := N_0
    have h0 : (i 0 : Nat) < 4096 := (i 0).isLt
    have h1 : (i 1 : Nat) < 2688 := (i 1).isLt
    have ht : (i 0 : Nat) / 512 < cfg0.N := by omega
    refine ⟨⟨_, ht⟩, flush0_4 _, ?_⟩
    show i ∈ ((View.whole main_v0_0).slice (win0_4.rect ⟨_, ht⟩)).set
    rw [View.set_slice_whole, Rect.mem_set_unit]
    have e := index4 ⟨_, ht⟩
    intro a
    match a with
    | ⟨0, _⟩ =>
      show win0_4.index ⟨_, ht⟩ 0 * 512 ≤ (i 0 : Nat) ∧ (i 0 : Nat) < win0_4.index ⟨_, ht⟩ 0 * 512 + 512
      rw [e.1]; try dsimp only
      omega
    | ⟨1, _⟩ =>
      show win0_4.index ⟨_, ht⟩ 1 * 2688 ≤ (i 1 : Nat) ∧ (i 1 : Nat) < win0_4.index ⟨_, ht⟩ 1 * 2688 + 2688
      rw [e.2]; try dsimp only
      omega

theorem index5 : ∀ t : Fin cfg0.N, win0_5.index t 0 = t.val ∧ win0_5.index t 1 = 0 :=
  (by decide +kernel : ∀ t : Fin grid0.N, win0_5.index t 0 = t.val ∧ win0_5.index t 1 = 0)

theorem emb5 (t : Fin cfg0.N) (p : Fin 512) (q : Fin 1024) :
    (win0_5.rect t).emb (ix2 p q) = (ix2 ⟨t.val * 512 + p.val, by have := lt_points t; omega⟩ q : S4096x1024.Idx) := by
  refine funext fun a => Fin.ext ((win0_5.rect_emb_val t (ix2 p q) a).trans ?_)
  match a with
  | ⟨0, _⟩ => show win0_5.index t 0 * 512 + p.val = t.val * 512 + p.val; rw [(index5 t).1]
  | ⟨1, _⟩ => show win0_5.index t 1 * 1024 + q.val = q.val; rw [(index5 t).2]; omega

theorem final5 (c : Dev nD) (G : FVec Ideal S4096x1024 .bf16)
    (h : ∀ (t : Fin cfg0.N) (p : Fin 512) (q : Fin 1024), (out0_5 (iblk m c 0 t) (iblk m c 1 t) (iblk m c 2 t) (iblk m c 3 t)) (ix2 p q) = G (ix2 ⟨t.val * 512 + p.val, by have := lt_points t; omega⟩ q)) :
    (dats m 0 c).arrAt 5 cfg0.N = G := by
  refine (dats m 0 c).arrAt_eq_of_cover 5 G (fun t _ => ?_) fun (i : S4096x1024.Idx) => ?_
  · rw [Value.flushed5]
    refine funext fun (y : S512x1024.Idx) => ?_
    obtain ⟨p, q, rfl⟩ : ∃ p q, y = ix2 p q := ⟨y 0, y 1, funext fun a => by fin_cases a <;> rfl⟩
    refine (h t p q).trans ?_
    show _ = G ((win0_5.rect t).emb (ix2 p q))
    rw [emb5]
  · have hN : cfg0.N = 8 := N_0
    have h0 : (i 0 : Nat) < 4096 := (i 0).isLt
    have h1 : (i 1 : Nat) < 1024 := (i 1).isLt
    have ht : (i 0 : Nat) / 512 < cfg0.N := by omega
    refine ⟨⟨_, ht⟩, flush0_5 _, ?_⟩
    show i ∈ ((View.whole main_v0_1).slice (win0_5.rect ⟨_, ht⟩)).set
    rw [View.set_slice_whole, Rect.mem_set_unit]
    have e := index5 ⟨_, ht⟩
    intro a
    match a with
    | ⟨0, _⟩ =>
      show win0_5.index ⟨_, ht⟩ 0 * 512 ≤ (i 0 : Nat) ∧ (i 0 : Nat) < win0_5.index ⟨_, ht⟩ 0 * 512 + 512
      rw [e.1]; try dsimp only
      omega
    | ⟨1, _⟩ =>
      show win0_5.index ⟨_, ht⟩ 1 * 1024 ≤ (i 1 : Nat) ∧ (i 1 : Nat) < win0_5.index ⟨_, ht⟩ 1 * 1024 + 1024
      rw [e.2]; try dsimp only
      omega

end Cert.Kernel14Ideal.Blocks

end
-- ==== Proof.EvenIn.lean ====
/-
  The even layer's modulated input projection and its modulated input.
-/
module

public import proofs.«01_k».proof.Proof.EvenInBlocks

@[expose] public section

noncomputable section

namespace Cert.Kernel14Ideal.EvenIn

open Cert.Kernel14Ideal Cert.Kernel14Ideal.Gen Cert.Kernel14Ideal.Blocks Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

theorem pay1_apply (v0 : Vec Ideal S512x1024 .f32) (v1 v2 : Vec Ideal S1x1024 .f32) (r : Fin 512) (k : Fin 1024) :
    k0_pay1 v0 v1 v2 (ix2 r k) = v0 (ix2 r k) * (Ideal.ofBits .f32 0x3F800000#32 + v2 (ix2 0 k)) + v1 (ix2 0 k) := by
  pointwise [k0_pay1]

theorem pay2_apply (v0 : Vec Ideal S512x1024 .f32) (v1 v2 : Vec Ideal S1x1024 .f32) (v3 : Vec Ideal S1024x2688 .bf16)
    (r : Fin 512) (l : Fin 2688) :
    k0_pay2 v0 v1 v2 v3 (ix2 r l) = ∑ k : Fin 1024, k0_pay1 v0 v1 v2 (ix2 r k) * v3 (ix2 k l) := by
  pointwise [k0_pay2]

/-- The modulated input. -/
def u (c : Dev nD) : FVec Ideal S4096x1024 .bf16 := fun i =>
  arg0 m c i * (Ideal.ofBits .f32 0x3F800000#32 + arg2 m c (ix2 0 (i 1))) + arg1 m c (ix2 0 (i 1))

/-- Its product with the weight. -/
def h (c : Dev nD) : FVec Ideal S4096x2688 .f32 := fun i => ∑ k : Fin 1024, u m c (ix2 (i 0) k) * arg3 m c (ix2 k (i 1))

theorem u_block (c : Dev nD) (t : Fin cfg0.N) (r : Fin 512) (k : Fin 1024) :
    k0_pay1 (iblk m c 0 t) (iblk m c 1 t) (iblk m c 2 t) (ix2 r k)
      = u m c (ix2 ⟨t.val * 512 + r.val, by have := lt_points t; omega⟩ k) := by
  rw [pay1_apply, block0, block1, block2]
  rfl

theorem u_final (c : Dev nD) : (dats m 0 c).arrAt 5 cfg0.N = u m c :=
  final5 m c (u m c) fun t r l => by
    unfold out0_5
    rw [View.canon_unit_zero hz2, View.ld_unit_zero hz2, View.ld_unit_zero hz2, View.ld_unit_zero hz2, u_block]

theorem h_final (c : Dev nD) : (dats m 0 c).arrAt 4 cfg0.N = h m c :=
  final4 m c (h m c) fun t r l => by
    unfold out0_4
    rw [View.canon_unit_zero hz2, View.ld_unit_zero hz2, View.ld_unit_zero hz2, View.ld_unit_zero hz2, View.ld_unit_zero hz2,
      pay2_apply, block3]
    exact Finset.sum_congr rfl fun k _ => by rw [u_block]; rfl

end Cert.Kernel14Ideal.EvenIn

end
-- ==== Proof.EvenInRef.lean ====
/-
  The reference's even layer's modulated input projection, read at an index.
-/
module

public import proofs.«01_k».proof.Proof.Gen.Reference14Ideal.Run
public import Idealize.ShloMosaic.Lib.Pointwise

@[expose] public section

noncomputable section

namespace Cert.Reference14Ideal.EvenIn

open Cert.Reference14Ideal Cert.Reference14Ideal.Gen Idealize.ShloMosaic Idealize.ShloMosaic.TcCoe Idealize.SL.Sem

theorem u_apply (a0 : FVec Ideal S4096x1024 .f32) (a1 a2 : FVec Ideal S1x1024 .f32) (k : Fin 4096) (l : Fin 1024) :
    (truncf .bf16 (addf (mulf a0 (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a1)) bitsLt_bf16_f32 : FVec Ideal S4096x1024 .bf16) (ix2 k l)
      = a0 (ix2 k l) * (Ideal.ofBits .f32 0x3F800000#32 + a2 (ix2 0 l)) + a1 (ix2 0 l) := by
  pointwise

theorem h_apply (a0 : FVec Ideal S4096x1024 .f32) (a1 a2 : FVec Ideal S1x1024 .f32) (a3 : FVec Ideal S1024x2688 .bf16)
    (k : Fin 4096) (l : Fin 2688) :
    (Host.dotGeneral dot_S4096x1024_S1024x2688_S4096x2688_1_0_0_1_n_n none (addf (mulf a0 (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a1)) (extf .f32 a3 bitsLt_bf16_f32) : FVec Ideal S4096x2688 .f32) (ix2 k l)
      = ∑ n : Fin 1024, (a0 (ix2 k n) * (Ideal.ofBits .f32 0x3F800000#32 + a2 (ix2 0 n)) + a1 (ix2 0 n)) * a3 (ix2 n l) := by
  pointwise

end Cert.Reference14Ideal.EvenIn

end
-- ==== Proof.EvenInClaim.lean ====
/-
  The even layer's modulated input projection: kernel and reference compute the same two arrays.
-/
module

public import proofs.«01_k».proof.Defs
public import proofs.«01_k».proof.Proof.EvenIn
public import proofs.«01_k».proof.Proof.EvenInRef

@[expose] public section

noncomputable section

open Idealize.ShloMosaic Idealize.ShloMosaic.TcCoe Idealize.SL.Sem

theorem Cert.EvenIn.claim : Cert.algebraic_Kernel14Ideal_Reference14Ideal := by
  intro m g m' g' _ args
  refine ⟨Cert.Kernel14Ideal.EvenIn.h m, Cert.Kernel14Ideal.EvenIn.u m,
    (θ_run _ _ _).mono (fun r h c => ?_) (Cert.Kernel14Ideal.Value.run_blocks m g),
    (θ_run _ _ _).mono (fun r h c => ?_) (Cert.Reference14Ideal.Value.run m' g')⟩
  · obtain ⟨h0, h1, hrest⟩ := h c
    exact ⟨h0.trans (Cert.Kernel14Ideal.EvenIn.h_final m c),
      h1.trans (Cert.Kernel14Ideal.EvenIn.u_final m c), hrest⟩
  · obtain ⟨h0, h1, hrest⟩ := h c
    obtain ⟨e0, e1, e2, e3⟩ := args c
    refine ⟨h0.trans ?_, h1.trans ?_, hrest⟩
    · rw [e0, e1, e2, e3]
      refine funext fun (i : Cert.Reference14Ideal.S4096x2688.Idx) => ?_
      obtain ⟨p, q, rfl⟩ : ∃ p q, i = ix2 p q := ⟨i 0, i 1, funext fun a => by fin_cases a <;> rfl⟩
      exact Cert.Reference14Ideal.EvenIn.h_apply _ _ _ _ p q
    · rw [e0, e1, e2]
      refine funext fun (i : Cert.Reference14Ideal.S4096x1024.Idx) => ?_
      obtain ⟨p, q, rfl⟩ : ∃ p q, i = ix2 p q := ⟨i 0, i 1, funext fun a => by fin_cases a <;> rfl⟩
      exact Cert.Reference14Ideal.EvenIn.u_apply _ _ _ p q

end
-- ==== Proof.DwEvenInBlocks.lean ====
/-
  The weight gradient of the even layer's input projection: where each grid point reads its blocks and where its results land.
-/
module

public import proofs.«01_k».proof.Proof.Gen.Kernel15Ideal.Value
public import proofs.«01_k».proof.Proof.Rows
public import Idealize.ShloMosaic.Lib.Pipeline.Value
public import Idealize.ShloMosaic.Lib.Pointwise

@[expose] public section

noncomputable section

namespace Cert.Kernel15Ideal.Blocks

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

theorem points : cfg0.N = 7 := N_0

theorem lt_points (t : Fin cfg0.N) : t.val < 7 := lt_of_lt_of_eq t.isLt N_0

theorem index0 : ∀ t : Fin cfg0.N, win0_0.index t 0 = 0 ∧ win0_0.index t 1 = t.val / 7 :=
  (by decide +kernel : ∀ t : Fin grid0.N, win0_0.index t 0 = 0 ∧ win0_0.index t 1 = t.val / 7)

abbrev arg0 (c : Dev nD) : FVec Ideal S4096x1024 .bf16 := m ((c : Thread nD τ).loc main_arg0)

theorem block0 (c : Dev nD) (t : Fin cfg0.N) (p : Fin 4096) (q : Fin 1024) :
    iblk m c 0 t (ix2 p q) = arg0 m c (ix2 p ⟨t.val / 7 * 1024 + q.val, by have := lt_points t; omega⟩) := by
  refine congrArg (arg0 m c) (funext fun a => Fin.ext ((win0_0.rect_emb_val t (ix2 p q) a).trans ?_))
  match a with
  | ⟨0, _⟩ => show win0_0.index t 0 * 4096 + p.val = p.val; rw [(index0 t).1]; omega
  | ⟨1, _⟩ => show win0_0.index t 1 * 1024 + q.val = t.val / 7 * 1024 + q.val; rw [(index0 t).2]

theorem index1 : ∀ t : Fin cfg0.N, win0_1.index t 0 = 0 ∧ win0_1.index t 1 = t.val % 7 :=
  (by decide +kernel : ∀ t : Fin grid0.N, win0_1.index t 0 = 0 ∧ win0_1.index t 1 = t.val % 7)

abbrev arg1 (c : Dev nD) : FVec Ideal S4096x2688 .bf16 := m ((c : Thread nD τ).loc main_arg1)

theorem block1 (c : Dev nD) (t : Fin cfg0.N) (p : Fin 4096) (q : Fin 384) :
    iblk m c 1 t (ix2 p q) = arg1 m c (ix2 p ⟨t.val % 7 * 384 + q.val, by have := lt_points t; omega⟩) := by
  refine congrArg (arg1 m c) (funext fun a => Fin.ext ((win0_1.rect_emb_val t (ix2 p q) a).trans ?_))
  match a with
  | ⟨0, _⟩ => show win0_1.index t 0 * 4096 + p.val = p.val; rw [(index1 t).1]; omega
  | ⟨1, _⟩ => show win0_1.index t 1 * 384 + q.val = t.val % 7 * 384 + q.val; rw [(index1 t).2]

theorem index2 : ∀ t : Fin cfg0.N, win0_2.index t 0 = 0 ∧ win0_2.index t 1 = t.val / 7 :=
  (by decide +kernel : ∀ t : Fin grid0.N, win0_2.index t 0 = 0 ∧ win0_2.index t 1 = t.val / 7)

abbrev arg2 (c : Dev nD) : FVec Ideal S256x1024 .bf16 := m ((c : Thread nD τ).loc main_arg2)

theorem block2 (c : Dev nD) (t : Fin cfg0.N) (p : Fin 256) (q : Fin 1024) :
    iblk m c 2 t (ix2 p q) = arg2 m c (ix2 p ⟨t.val / 7 * 1024 + q.val, by have := lt_points t; omega⟩) := by
  refine congrArg (arg2 m c) (funext fun a => Fin.ext ((win0_2.rect_emb_val t (ix2 p q) a).trans ?_))
  match a with
  | ⟨0, _⟩ => show win0_2.index t 0 * 256 + p.val = p.val; rw [(index2 t).1]; omega
  | ⟨1, _⟩ => show win0_2.index t 1 * 1024 + q.val = t.val / 7 * 1024 + q.val; rw [(index2 t).2]

theorem index3 : ∀ t : Fin cfg0.N, win0_3.index t 0 = 0 ∧ win0_3.index t 1 = t.val % 7 :=
  (by decide +kernel : ∀ t : Fin grid0.N, win0_3.index t 0 = 0 ∧ win0_3.index t 1 = t.val % 7)

abbrev arg3 (c : Dev nD) : FVec Ideal S256x2688 .bf16 := m ((c : Thread nD τ).loc main_arg3)

theorem block3 (c : Dev nD) (t : Fin cfg0.N) (p : Fin 256) (q : Fin 384) :
    iblk m c 3 t (ix2 p q) = arg3 m c (ix2 p ⟨t.val % 7 * 384 + q.val, by have := lt_points t; omega⟩) := by
  refine congrArg (arg3 m c) (funext fun a => Fin.ext ((win0_3.rect_emb_val t (ix2 p q) a).trans ?_))
  match a with
  | ⟨0, _⟩ => show win0_3.index t 0 * 256 + p.val = p.val; rw [(index3 t).1]; omega
  | ⟨1, _⟩ => show win0_3.index t 1 * 384 + q.val = t.val % 7 * 384 + q.val; rw [(index3 t).2]

theorem index4 : ∀ t : Fin cfg0.N, win0_4.index t 0 = t.val / 7 ∧ win0_4.index t 1 = t.val % 7 :=
  (by decide +kernel : ∀ t : Fin grid0.N, win0_4.index t 0 = t.val / 7 ∧ win0_4.index t 1 = t.val % 7)

theorem emb4 (t : Fin cfg0.N) (p : Fin 1024) (q : Fin 384) :
    (win0_4.rect t).emb (ix2 p q) = (ix2 ⟨t.val / 7 * 1024 + p.val, by have := lt_points t; omega⟩ ⟨t.val % 7 * 384 + q.val, by have := lt_points t; omega⟩ : S1024x2688.Idx) := by
  refine funext fun a => Fin.ext ((win0_4.rect_emb_val t (ix2 p q) a).trans ?_)
  match a with
  | ⟨0, _⟩ => show win0_4.index t 0 * 1024 + p.val = t.val / 7 * 1024 + p.val; rw [(index4 t).1]
  | ⟨1, _⟩ => show win0_4.index t 1 * 384 + q.val = t.val % 7 * 384 + q.val; rw [(index4 t).2]

theorem final4 (c : Dev nD) (G : FVec Ideal S1024x2688 .bf16)
    (h : ∀ (t : Fin cfg0.N) (p : Fin 1024) (q : Fin 384), (out0_4 (iblk m c 0 t) (iblk m c 1 t) (iblk m c 2 t) (iblk m c 3 t)) (ix2 p q) = G (ix2 ⟨t.val / 7 * 1024 + p.val, by have := lt_points t; omega⟩ ⟨t.val % 7 * 384 + q.val, by have := lt_points t; omega⟩)) :
    (dats m 0 c).arrAt 4 cfg0.N = G := by
  refine (dats m 0 c).arrAt_eq_of_cover 4 G (fun t _ => ?_) fun (i : S1024x2688.Idx) => ?_
  · rw [Value.flushed4]
    refine funext fun (y : S1024x384.Idx) => ?_
    obtain ⟨p, q, rfl⟩ : ∃ p q, y = ix2 p q := ⟨y 0, y 1, funext fun a => by fin_cases a <;> rfl⟩
    refine (h t p q).trans ?_
    show _ = G ((win0_4.rect t).emb (ix2 p q))
    rw [emb4]
  · have hN : cfg0.N = 7 := N_0
    have h0 : (i 0 : Nat) < 1024 := (i 0).isLt
    have h1 : (i 1 : Nat) < 2688 := (i 1).isLt
    have ht : (i 0 : Nat) / 1024 * 7 + (i 1 : Nat) / 384 < cfg0.N := by omega
    refine ⟨⟨_, ht⟩, flush0_4 _, ?_⟩
    show i ∈ ((View.whole main_v0).slice (win0_4.rect ⟨_, ht⟩)).set
    rw [View.set_slice_whole, Rect.mem_set_unit]
    have e := index4 ⟨_, ht⟩
    intro a
    match a with
    | ⟨0, _⟩ =>
      show win0_4.index ⟨_, ht⟩ 0 * 1024 ≤ (i 0 : Nat) ∧ (i 0 : Nat) < win0_4.index ⟨_, ht⟩ 0 * 1024 + 1024
      rw [e.1]; try dsimp only
      omega
    | ⟨1, _⟩ =>
      show win0_4.index ⟨_, ht⟩ 1 * 384 ≤ (i 1 : Nat) ∧ (i 1 : Nat) < win0_4.index ⟨_, ht⟩ 1 * 384 + 384
      rw [e.2]; try dsimp only
      omega

end Cert.Kernel15Ideal.Blocks

end
-- ==== Proof.DwEvenIn.lean ====
/-
  The weight gradient of the even layer's input projection: `dw = uᵀ dp + ucᵀ dpc`, over the tokens and over the context's
  rows, rounded to bf16.
-/
module

public import proofs.«01_k».proof.Proof.DwEvenInBlocks

@[expose] public section

noncomputable section

namespace Cert.Kernel15Ideal.DwEvenIn

open Cert.Kernel15Ideal Cert.Kernel15Ideal.Gen Cert.Kernel15Ideal.Blocks Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

/-- One block of the two products: a sum over the tokens and a sum over the context's rows. -/
theorem pay_apply (u : Vec Ideal S4096x1024 .bf16) (y : Vec Ideal S4096x384 .bf16) (uc : Vec Ideal S256x1024 .bf16)
    (yc : Vec Ideal S256x384 .bf16) (r : Fin 1024) (l : Fin 384) :
    k0_pay1 u y uc yc (ix2 r l)
      = (∑ k : Fin 4096, u (ix2 k r) * y (ix2 k l)) + ∑ k : Fin 256, uc (ix2 k r) * yc (ix2 k l) := by
  pointwise [k0_pay1]

/-- The gradient, as a function of the four whole arrays. -/
def dw (c : Dev nD) : FVec Ideal S1024x2688 .bf16 := fun i =>
  (∑ k : Fin 4096, arg0 m c (ix2 k (i 0)) * arg1 m c (ix2 k (i 1))) + ∑ k : Fin 256, arg2 m c (ix2 k (i 0)) * arg3 m c (ix2 k (i 1))

theorem dw_final (c : Dev nD) : (dats m 0 c).arrAt 4 cfg0.N = dw m c :=
  final4 m c (dw m c) fun t r l => by
    unfold out0_4
    rw [View.canon_unit_zero hz2, View.ld_unit_zero hz2, View.ld_unit_zero hz2, View.ld_unit_zero hz2, View.ld_unit_zero hz2, pay_apply]
    refine congrArg₂ (· + ·) (Finset.sum_congr rfl fun k _ => ?_) (Finset.sum_congr rfl fun k _ => ?_)
    · rw [block0, block1]; rfl
    · rw [block2, block3]; rfl

end Cert.Kernel15Ideal.DwEvenIn

end
-- ==== Proof.DwEvenInRef.lean ====
/-
  The reference's weight gradient of the even layer's input projection, read at an index.
-/
module

public import proofs.«01_k».proof.Proof.Gen.Reference15Ideal.Run
public import Idealize.ShloMosaic.Lib.Pointwise

@[expose] public section

noncomputable section

namespace Cert.Reference15Ideal.DwEvenIn

open Cert.Reference15Ideal Cert.Reference15Ideal.Gen Idealize.ShloMosaic Idealize.ShloMosaic.TcCoe Idealize.SL.Sem

theorem dw_apply (a0 : FVec Ideal S4096x1024 .bf16) (a1 : FVec Ideal S4096x2688 .bf16) (a2 : FVec Ideal S256x1024 .bf16)
    (a3 : FVec Ideal S256x2688 .bf16) (k : Fin 1024) (l : Fin 2688) :
    (truncf .bf16 (addf (transpose S1024x2688 [1, 0] (Host.dotGeneral dot_S256x2688_S256x1024_S2688x1024_0_0_1_1_n_n none (extf .f32 a3 bitsLt_bf16_f32) (extf .f32 a2 bitsLt_bf16_f32)) transposes_S2688x1024_S1024x2688_1_0) (transpose S1024x2688 [1, 0] (Host.dotGeneral dot_S4096x2688_S4096x1024_S2688x1024_0_0_1_1_n_n none (extf .f32 a1 bitsLt_bf16_f32) (extf .f32 a0 bitsLt_bf16_f32)) transposes_S2688x1024_S1024x2688_1_0)) bitsLt_bf16_f32 : FVec Ideal S1024x2688 .bf16) (ix2 k l)
      = (∑ n : Fin 4096, a0 (ix2 n k) * a1 (ix2 n l)) + ∑ n : Fin 256, a2 (ix2 n k) * a3 (ix2 n l) := by
  refine Eq.trans ?_ (add_comm _ _)
  pointwise!

end Cert.Reference15Ideal.DwEvenIn

end
-- ==== Proof.DwEvenInClaim.lean ====
/-
  The weight gradient of the even layer's input projection: kernel and reference compute the same array.
-/
module

public import proofs.«01_k».proof.Defs
public import proofs.«01_k».proof.Proof.DwEvenIn
public import proofs.«01_k».proof.Proof.DwEvenInRef

@[expose] public section

noncomputable section

open Idealize.ShloMosaic Idealize.ShloMosaic.TcCoe Idealize.SL.Sem

theorem Cert.DwEvenIn.claim : Cert.algebraic_Kernel15Ideal_Reference15Ideal := by
  intro m g m' g' _ args
  refine ⟨Cert.Kernel15Ideal.DwEvenIn.dw m,
    (θ_run _ _ _).mono (fun r h c => ?_) (Cert.Kernel15Ideal.Value.run_blocks m g),
    (θ_run _ _ _).mono (fun r h c => ?_) (Cert.Reference15Ideal.Value.run m' g')⟩
  · obtain ⟨h0, hrest⟩ := h c
    exact ⟨h0.trans (Cert.Kernel15Ideal.DwEvenIn.dw_final m c), hrest⟩
  · obtain ⟨h0, hrest⟩ := h c
    obtain ⟨e0, e1, e2, e3⟩ := args c
    refine ⟨h0.trans ?_, hrest⟩
    · rw [e0, e1, e2, e3]
      refine funext fun (i : Cert.Reference15Ideal.S1024x2688.Idx) => ?_
      obtain ⟨p, q, rfl⟩ : ∃ p q, i = ix2 p q := ⟨i 0, i 1, funext fun a => by fin_cases a <;> rfl⟩
      exact Cert.Reference15Ideal.DwEvenIn.dw_apply _ _ _ _ p q

end
-- ==== Proof.DwOutBlocks.lean ====
/-
  The weight gradient of an output projection: where each grid point reads its blocks and where its results land.
-/
module

public import proofs.«01_k».proof.Proof.Gen.Kernel16Ideal.Value
public import proofs.«01_k».proof.Proof.Rows
public import Idealize.ShloMosaic.Lib.Pipeline.Value
public import Idealize.ShloMosaic.Lib.Pointwise

@[expose] public section

noncomputable section

namespace Cert.Kernel16Ideal.Blocks

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)

theorem points : cfg0.N = 2 := N_0

theorem lt_points (t : Fin cfg0.N) : t.val < 2 := lt_of_lt_of_eq t.isLt N_0

theorem index0 : ∀ t : Fin cfg0.N, win0_0.index t 0 = 0 ∧ win0_0.index t 1 = t.val / 2 :=
  (by decide +kernel : ∀ t : Fin grid0.N, win0_0.index t 0 = 0 ∧ win0_0.index t 1 = t.val / 2)

abbrev arg0 (c : Dev nD) : FVec Ideal S4096x1024 .bf16 := m ((c : Thread nD τ).loc main_arg0)

theorem block0 (c : Dev nD) (t : Fin cfg0.N) (p : Fin 4096) (q : Fin 1024) :
    iblk m c 0 t (ix2 p q) = arg0 m c (ix2 p ⟨t.val / 2 * 1024 + q.val, by have := lt_points t; omega⟩) := by
  refine congrArg (arg0 m c) (funext fun a => Fin.ext ((win0_0.rect_emb_val t (ix2 p q) a).trans ?_))
  match a with
  | ⟨0, _⟩ => show win0_0.index t 0 * 4096 + p.val = p.val; rw [(index0 t).1]; omega
  | ⟨1, _⟩ => show win0_0.index t 1 * 1024 + q.val = t.val / 2 * 1024 + q.val; rw [(index0 t).2]

theorem index1 : ∀ t : Fin cfg0.N, win0_1.index t 0 = 0 ∧ win0_1.index t 1 = t.val % 2 :=
  (by decide +kernel : ∀ t : Fin grid0.N, win0_1.index t 0 = 0 ∧ win0_1.index t 1 = t.val % 2)

abbrev arg1 (c : Dev nD) : FVec Ideal S4096x1024 .bf16 := m ((c : Thread nD τ).loc main_arg1)

theorem block1 (c : Dev nD) (t : Fin cfg0.N) (p : Fin 4096) (q : Fin 512) :
    iblk m c 1 t (ix2 p q) = arg1 m c (ix2 p ⟨t.val % 2 * 512 + q.val, by have := lt_points t; omega⟩) := by
  refine congrArg (arg1 m c) (funext fun a => Fin.ext ((win0_1.rect_emb_val t (ix2 p q) a).trans ?_))
  match a with
  | ⟨0, _⟩ => show win0_1.index t 0 * 4096 + p.val = p.val; rw [(index1 t).1]; omega
  | ⟨1, _⟩ => show win0_1.index t 1 * 512 + q.val = t.val % 2 * 512 + q.val; rw [(index1 t).2]

theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

theorem emb2 (t : Fin cfg0.N) (p : Fin 1024) (q : Fin 512) :
    (win0_2.rect t).emb (ix2 p q) = (ix2 ⟨t.val / 2 * 1024 + p.val, by have := lt_points t; omega⟩ ⟨t.val % 2 * 512 + q.val, by have := lt_points t; omega⟩ : S1024x1024.Idx) := by
  refine funext fun a => Fin.ext ((win0_2.rect_emb_val t (ix2 p q) a).trans ?_)
  match a with
  | ⟨0, _⟩ => show win0_2.index t 0 * 1024 + p.val = t.val / 2 * 1024 + p.val; rw [(index2 t).1]
  | ⟨1, _⟩ => show win0_2.index t 1 * 512 + q.val = t.val % 2 * 512 + q.val; rw [(index2 t).2]

theorem final2 (c : Dev nD) (G : FVec Ideal S1024x1024 .bf16)
    (h : ∀ (t : Fin cfg0.N) (p : Fin 1024) (q : Fin 512), (out0_2 (iblk m c 0 t) (iblk m c 1 t)) (ix2 p q) = G (ix2 ⟨t.val / 2 * 1024 + p.val, by have := lt_points t; omega⟩ ⟨t.val % 2 * 512 + q.val, by have := lt_points t; omega⟩)) :
    (dats m 0 c).arrAt 2 cfg0.N = G := by
  refine (dats m 0 c).arrAt_eq_of_cover 2 G (fun t _ => ?_) fun (i : S1024x1024.Idx) => ?_
  · rw [Value.flushed2]
    refine funext fun (y : S1024x512.Idx) => ?_
    obtain ⟨p, q, rfl⟩ : ∃ p q, y = ix2 p q := ⟨y 0, y 1, funext fun a => by fin_cases a <;> rfl⟩
    refine (h t p q).trans ?_
    show _ = G ((win0_2.rect t).emb (ix2 p q))
    rw [emb2]
  · have hN : cfg0.N = 2 := N_0
    have h0 : (i 0 : Nat) < 1024 := (i 0).isLt
    have h1 : (i 1 : Nat) < 1024 := (i 1).isLt
    have ht : (i 0 : Nat) / 1024 * 2 + (i 1 : Nat) / 512 < cfg0.N := by omega
    refine ⟨⟨_, ht⟩, flush0_2 _, ?_⟩
    show i ∈ ((View.whole main_v0).slice (win0_2.rect ⟨_, ht⟩)).set
    rw [View.set_slice_whole, Rect.mem_set_unit]
    have e := index2 ⟨_, ht⟩
    intro a
    match a with
    | ⟨0, _⟩ =>
      show win0_2.index ⟨_, ht⟩ 0 * 1024 ≤ (i 0 : Nat) ∧ (i 0 : Nat) < win0_2.index ⟨_, ht⟩ 0 * 1024 + 1024
      rw [e.1]; try dsimp only
      omega
    | ⟨1, _⟩ =>
      show win0_2.index ⟨_, ht⟩ 1 * 512 ≤ (i 1 : Nat) ∧ (i 1 : Nat) < win0_2.index ⟨_, ht⟩ 1 * 512 + 512
      rw [e.2]; try dsimp only
      omega

end Cert.Kernel16Ideal.Blocks

end
-- ==== Proof.DwOut.lean ====
/-
  The weight gradient of an output projection: `dw = mixᵀ dy`, rounded to bf16.
-/
module

public import proofs.«01_k».proof.Proof.DwOutBlocks

@[expose] public section

noncomputable section

namespace Cert.Kernel16Ideal.DwOut

open Cert.Kernel16Ideal Cert.Kernel16Ideal.Gen Cert.Kernel16Ideal.Blocks Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

/-- One block of the product: a sum over the rows. -/
theorem pay_apply (s : Vec Ideal S4096x1024 .bf16) (y : Vec Ideal S4096x512 .bf16) (r : Fin 1024) (l : Fin 512) :
    k0_pay1 s y (ix2 r l) = ∑ k : Fin 4096, s (ix2 k r) * y (ix2 k l) := by
  pointwise [k0_pay1]

/-- The gradient, as a function of the two whole arrays. -/
def dw (c : Dev nD) : FVec Ideal S1024x1024 .bf16 := fun i => ∑ k : Fin 4096, arg0 m c (ix2 k (i 0)) * arg1 m c (ix2 k (i 1))

theorem dw_final (c : Dev nD) : (dats m 0 c).arrAt 2 cfg0.N = dw m c :=
  final2 m c (dw m c) fun t r l => by
    unfold out0_2
    rw [View.canon_unit_zero hz2, View.ld_unit_zero hz2, View.ld_unit_zero hz2, pay_apply]
    exact Finset.sum_congr rfl fun k _ => by rw [block0, block1]; rfl

end Cert.Kernel16Ideal.DwOut

end
-- ==== Proof.DwOutRef.lean ====
/-
  The reference's weight gradient of an output projection, read at an index.
-/
module

public import proofs.«01_k».proof.Proof.Gen.Reference16Ideal.Run
public import Idealize.ShloMosaic.Lib.Pointwise

@[expose] public section

noncomputable section

namespace Cert.Reference16Ideal.DwOut

open Cert.Reference16Ideal Cert.Reference16Ideal.Gen Idealize.ShloMosaic Idealize.ShloMosaic.TcCoe Idealize.SL.Sem

theorem dw_apply (a0 : FVec Ideal S4096x1024 .bf16) (a1 : FVec Ideal S4096x1024 .bf16) (k : Fin 1024) (l : Fin 1024) :
    (truncf .bf16 (transpose S1024x1024 [1, 0] (Host.dotGeneral dot_S4096x1024_S4096x1024_S1024x1024_0_0_1_1_n_n none (extf .f32 a1 bitsLt_bf16_f32) (extf .f32 a0 bitsLt_bf16_f32)) transposes_S1024x1024_S1024x1024_1_0) bitsLt_bf16_f32 : FVec Ideal S1024x1024 .bf16) (ix2 k l)
      = ∑ n : Fin 4096, a0 (ix2 n k) * a1 (ix2 n l) := by
  pointwise!

end Cert.Reference16Ideal.DwOut

end
-- ==== Proof.DwOutClaim.lean ====
/-
  The weight gradient of an output projection: kernel and reference compute the same array.
-/
module

public import proofs.«01_k».proof.Defs
public import proofs.«01_k».proof.Proof.DwOut
public import proofs.«01_k».proof.Proof.DwOutRef

@[expose] public section

noncomputable section

open Idealize.ShloMosaic Idealize.ShloMosaic.TcCoe Idealize.SL.Sem

theorem Cert.DwOut.claim : Cert.algebraic_Kernel16Ideal_Reference16Ideal := by
  intro m g m' g' _ args
  refine ⟨Cert.Kernel16Ideal.DwOut.dw m,
    (θ_run _ _ _).mono (fun r h c => ?_) (Cert.Kernel16Ideal.Value.run_blocks m g),
    (θ_run _ _ _).mono (fun r h c => ?_) (Cert.Reference16Ideal.Value.run m' g')⟩
  · obtain ⟨h0, hrest⟩ := h c
    exact ⟨h0.trans (Cert.Kernel16Ideal.DwOut.dw_final m c), hrest⟩
  · obtain ⟨h0, hrest⟩ := h c
    obtain ⟨e0, e1⟩ := args c
    refine ⟨h0.trans ?_, hrest⟩
    · rw [e0, e1]
      refine funext fun (i : Cert.Reference16Ideal.S1024x1024.Idx) => ?_
      obtain ⟨p, q, rfl⟩ : ∃ p q, i = ix2 p q := ⟨i 0, i 1, funext fun a => by fin_cases a <;> rfl⟩
      exact Cert.Reference16Ideal.DwOut.dw_apply _ _ p q

end
-- ==== Proof.EvenInCtxBlocks.lean ====
/-
  The context's input projection: where each grid point reads its blocks and where its results land.
-/
module

public import proofs.«01_k».proof.Proof.Gen.Kernel55Ideal.Value
public import proofs.«01_k».proof.Proof.Rows
public import Idealize.ShloMosaic.Lib.Pipeline.Value
public import Idealize.ShloMosaic.Lib.Pointwise

@[expose] public section

noncomputable section

namespace Cert.Kernel55Ideal.Blocks

open Cert.Kernel55Ideal Cert.Kernel55Ideal.Gen Idealize.ShloMosaic Idealize.ShloMosaic.TcCoe Idealize.SL.Sem
open Idealize.ShloMosaic.Pipeline (Dat)

variable (m : (ℓ : Loc nD τ sig) → Buf (Elt Ideal) ℓ)

theorem points : cfg0.N = 1 := N_0

theorem lt_points (t : Fin cfg0.N) : t.val < 1 := lt_of_lt_of_eq t.isLt N_0

theorem index0 : ∀ t : Fin cfg0.N, win0_0.index t 0 = t.val ∧ win0_0.index t 1 = 0 :=
  (by decide +kernel : ∀ t : Fin grid0.N, win0_0.index t 0 = t.val ∧ win0_0.index t 1 = 0)

abbrev arg0 (c : Dev nD) : FVec Ideal S256x1024 .f32 := m ((c : Thread nD τ).loc main_arg0)

theorem block0 (c : Dev nD) (t : Fin cfg0.N) (p : Fin 256) (q : Fin 1024) :
    iblk m c 0 t (ix2 p q) = arg0 m c (ix2 ⟨t.val * 256 + p.val, by have := lt_points t; omega⟩ q) := by
  refine congrArg (arg0 m c) (funext fun a => Fin.ext ((win0_0.rect_emb_val t (ix2 p q) a).trans ?_))
  match a with
  | ⟨0, _⟩ => show win0_0.index t 0 * 256 + p.val = t.val * 256 + p.val; rw [(index0 t).1]
  | ⟨1, _⟩ => show win0_0.index t 1 * 1024 + q.val = q.val; rw [(index0 t).2]; omega

theorem index1 : ∀ t : Fin cfg0.N, win0_1.index t 0 = 0 ∧ win0_1.index t 1 = 0 :=
  (by decide +kernel : ∀ t : Fin grid0.N, win0_1.index t 0 = 0 ∧ win0_1.index t 1 = 0)

abbrev arg1 (c : Dev nD) : FVec Ideal S1x1024 .f32 := m ((c : Thread nD τ).loc main_arg1)

theorem block1 (c : Dev nD) (t : Fin cfg0.N) : iblk m c 1 t = arg1 m c := by
  refine funext fun (y : S1x1024.Idx) => congrArg (arg1 m c) (funext fun a => Fin.ext ((win0_1.rect_emb_val t y a).trans ?_))
  match a with
  | ⟨0, _⟩ => show win0_1.index t 0 * 1 + (y 0).val = (y 0).val; rw [(index1 t).1]; omega
  | ⟨1, _⟩ => show win0_1.index t 1 * 1024 + (y 1).val = (y 1).val; rw [(index1 t).2]; omega

theorem index2 : ∀ t : Fin cfg0.N, win0_2.index t 0 = 0 ∧ win0_2.index t 1 = 0 :=
  (by decide +kernel : ∀ t : Fin grid0.N, win0_2.index t 0 = 0 ∧ win0_2.index t 1 = 0)

abbrev arg2 (c : Dev nD) : FVec Ideal S1x1024 .f32 := m ((c : Thread nD τ).loc main_arg2)

theorem block2 (c : Dev nD) (t : Fin cfg0.N) : iblk m c 2 t = arg2 m c := by
  refine funext fun (y : S1x1024.Idx) => congrArg (arg2 m c) (funext fun a => Fin.ext ((win0_2.rect_emb_val t y a).trans ?_))
  match a with
  | ⟨0, _⟩ => show win0_2.index t 0 * 1 + (y 0).val = (y 0).val; rw [(index2 t).1]; omega
  | ⟨1, _⟩ => show win0_2.index t 1 * 1024 + (y 1).val = (y 1).val; rw [(index2 t).2]; omega

theorem index3 : ∀ t : Fin cfg0.N, win0_3.index t 0 = 0 ∧ win0_3.index t 1 = 0 :=
  (by decide +kernel : ∀ t : Fin grid0.N, win0_3.index t 0 = 0 ∧ win0_3.index t 1 = 0)

abbrev arg3 (c : Dev nD) : FVec Ideal S1024x2688 .bf16 := m ((c : Thread nD τ).loc main_arg3)

theorem block3 (c : Dev nD) (t : Fin cfg0.N) : iblk m c 3 t = arg3 m c := by
  refine funext fun (y : S1024x2688.Idx) => congrArg (arg3 m c) (funext fun a => Fin.ext ((win0_3.rect_emb_val t y a).trans ?_))
  match a with
  | ⟨0, _⟩ => show win0_3.index t 0 * 1024 + (y 0).val = (y 0).val; rw [(index3 t).1]; omega
  | ⟨1, _⟩ => show win0_3.index t 1 * 2688 + (y 1).val = (y 1).val; rw [(index3 t).2]; omega

theorem index4 : ∀ t : Fin cfg0.N, win0_4.index t 0 = t.val ∧ win0_4.index t 1 = 0 :=
  (by decide +kernel : ∀ t : Fin grid0.N, win0_4.index t 0 = t.val ∧ win0_4.index t 1 = 0)

theorem emb4 (t : Fin cfg0.N) (p : Fin 256) (q : Fin 2688) :
    (win0_4.rect t).emb (ix2 p q) = (ix2 ⟨t.val * 256 + p.val, by have := lt_points t; omega⟩ q : S256x2688.Idx) := by
  refine funext fun a => Fin.ext ((win0_4.rect_emb_val t (ix2 p q) a).trans ?_)
  match a with
  | ⟨0, _⟩ => show win0_4.index t 0 * 256 + p.val = t.val * 256 + p.val; rw [(index4 t).1]
  | ⟨1, _⟩ => show win0_4.index t 1 * 2688 + q.val = q.val; rw [(index4 t).2]; omega

theorem final4 (c : Dev nD) (G : FVec Ideal S256x2688 .f32)
    (h : ∀ (t : Fin cfg0.N) (p : Fin 256) (q : Fin 2688), (out0_4 (iblk m c 0 t) (iblk m c 1 t) (iblk m c 2 t) (iblk m c 3 t)) (ix2 p q) = G (ix2 ⟨t.val * 256 + p.val, by have := lt_points t; omega⟩ q)) :
    (dats m 0 c).arrAt 4 cfg0.N = G := by
  refine (dats m 0 c).arrAt_eq_of_cover 4 G (fun t _ => ?_) fun (i : S256x2688.Idx) => ?_
  · rw [Value.flushed4]
    refine funext fun (y : S256x2688.Idx) => ?_
    obtain ⟨p, q, rfl⟩ : ∃ p q, y = ix2 p q := ⟨y 0, y 1, funext fun a => by fin_cases a <;> rfl⟩
    refine (h t p q).trans ?_
    show _ = G ((win0_4.rect t).emb (ix2 p q))
    rw [emb4]
  · have hN : cfg0.N = 1 := N_0
    have h0 : (i 0 : Nat) < 256 := (i 0).isLt
    have h1 : (i 1 : Nat) < 2688 := (i 1).isLt
    have ht : (i 0 : Nat) / 256 < cfg0.N := by omega
    refine ⟨⟨_, ht⟩, flush0_4 _, ?_⟩
    show i ∈ ((View.whole main_v0_0).slice (win0_4.rect ⟨_, ht⟩)).set
    rw [View.set_slice_whole, Rect.mem_set_unit]
    have e := index4 ⟨_, ht⟩
    intro a
    match a with
    | ⟨0, _⟩ =>
      show win0_4.index ⟨_, ht⟩ 0 * 256 ≤ (i 0 : Nat) ∧ (i 0 : Nat) < win0_4.index ⟨_, ht⟩ 0 * 256 + 256
      rw [e.1]; try dsimp only
      omega
    | ⟨1, _⟩ =>
      show win0_4.index ⟨_, ht⟩ 1 * 2688 ≤ (i 1 : Nat) ∧ (i 1 : Nat) < win0_4.index ⟨_, ht⟩ 1 * 2688 + 2688
      rw [e.2]; try dsimp only
      omega

theorem index5 : ∀ t : Fin cfg0.N, win0_5.index t 0 = t.val ∧ win0_5.index t 1 = 0 :=
  (by decide +kernel : ∀ t : Fin grid0.N, win0_5.index t 0 = t.val ∧ win0_5.index t 1 = 0)

theorem emb5 (t : Fin cfg0.N) (p : Fin 256) (q : Fin 1024) :
    (win0_5.rect t).emb (ix2 p q) = (ix2 ⟨t.val * 256 + p.val, by have := lt_points t; omega⟩ q : S256x1024.Idx) := by
  refine funext fun a => Fin.ext ((win0_5.rect_emb_val t (ix2 p q) a).trans ?_)
  match a with
  | ⟨0, _⟩ => show win0_5.index t 0 * 256 + p.val = t.val * 256 + p.val; rw [(index5 t).1]
  | ⟨1, _⟩ => show win0_5.index t 1 * 1024 + q.val = q.val; rw [(index5 t).2]; omega

theorem final5 (c : Dev nD) (G : FVec Ideal S256x1024 .bf16)
    (h : ∀ (t : Fin cfg0.N) (p : Fin 256) (q : Fin 1024), (out0_5 (iblk m c 0 t) (iblk m c 1 t) (iblk m c 2 t) (iblk m c 3 t)) (ix2 p q) = G (ix2 ⟨t.val * 256 + p.val, by have := lt_points t; omega⟩ q)) :
    (dats m 0 c).arrAt 5 cfg0.N = G := by
  refine (dats m 0 c).arrAt_eq_of_cover 5 G (fun t _ => ?_) fun (i : S256x1024.Idx) => ?_
  · rw [Value.flushed5]
    refine funext fun (y : S256x1024.Idx) => ?_
    obtain ⟨p, q, rfl⟩ : ∃ p q, y = ix2 p q := ⟨y 0, y 1, funext fun a => by fin_cases a <;> rfl⟩
    refine (h t p q).trans ?_
    show _ = G ((win0_5.rect t).emb (ix2 p q))
    rw [emb5]
  · have hN : cfg0.N = 1 := N_0
    have h0 : (i 0 : Nat) < 256 := (i 0).isLt
    have h1 : (i 1 : Nat) < 1024 := (i 1).isLt
    have ht : (i 0 : Nat) / 256 < cfg0.N := by omega
    refine ⟨⟨_, ht⟩, flush0_5 _, ?_⟩
    show i ∈ ((View.whole main_v0_1).slice (win0_5.rect ⟨_, ht⟩)).set
    rw [View.set_slice_whole, Rect.mem_set_unit]
    have e := index5 ⟨_, ht⟩
    intro a
    match a with
    | ⟨0, _⟩ =>
      show win0_5.index ⟨_, ht⟩ 0 * 256 ≤ (i 0 : Nat) ∧ (i 0 : Nat) < win0_5.index ⟨_, ht⟩ 0 * 256 + 256
      rw [e.1]; try dsimp only
      omega
    | ⟨1, _⟩ =>
      show win0_5.index ⟨_, ht⟩ 1 * 1024 ≤ (i 1 : Nat) ∧ (i 1 : Nat) < win0_5.index ⟨_, ht⟩ 1 * 1024 + 1024
      rw [e.2]; try dsimp only
      omega

end Cert.Kernel55Ideal.Blocks

end
-- ==== Proof.EvenInCtx.lean ====
/-
  The context, at the even layer's modulated input projection and its modulated input.
-/
module

public import proofs.«01_k».proof.Proof.EvenInCtxBlocks

@[expose] public section

noncomputable section

namespace Cert.Kernel55Ideal.EvenInCtx

open Cert.Kernel55Ideal Cert.Kernel55Ideal.Gen Cert.Kernel55Ideal.Blocks Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

theorem pay1_apply (v0 : Vec Ideal S256x1024 .f32) (v1 v2 : Vec Ideal S1x1024 .f32) (r : Fin 256) (k : Fin 1024) :
    k0_pay1 v0 v1 v2 (ix2 r k) = v0 (ix2 r k) * (Ideal.ofBits .f32 0x3F800000#32 + v2 (ix2 0 k)) + v1 (ix2 0 k) := by
  pointwise [k0_pay1]

theorem pay2_apply (v0 : Vec Ideal S256x1024 .f32) (v1 v2 : Vec Ideal S1x1024 .f32) (v3 : Vec Ideal S1024x2688 .bf16)
    (r : Fin 256) (l : Fin 2688) :
    k0_pay2 v0 v1 v2 v3 (ix2 r l) = ∑ k : Fin 1024, k0_pay1 v0 v1 v2 (ix2 r k) * v3 (ix2 k l) := by
  pointwise [k0_pay2]

/-- The modulated input. -/
def u (c : Dev nD) : FVec Ideal S256x1024 .bf16 := fun i =>
  arg0 m c i * (Ideal.ofBits .f32 0x3F800000#32 + arg2 m c (ix2 0 (i 1))) + arg1 m c (ix2 0 (i 1))

/-- Its product with the weight. -/
def h (c : Dev nD) : FVec Ideal S256x2688 .f32 := fun i => ∑ k : Fin 1024, u m c (ix2 (i 0) k) * arg3 m c (ix2 k (i 1))

theorem u_block (c : Dev nD) (t : Fin cfg0.N) (r : Fin 256) (k : Fin 1024) :
    k0_pay1 (iblk m c 0 t) (iblk m c 1 t) (iblk m c 2 t) (ix2 r k)
      = u m c (ix2 ⟨t.val * 256 + r.val, by have := lt_points t; omega⟩ k) := by
  rw [pay1_apply, block0, block1, block2]
  rfl

theorem u_final (c : Dev nD) : (dats m 0 c).arrAt 5 cfg0.N = u m c :=
  final5 m c (u m c) fun t r l => by
    unfold out0_5
    rw [View.canon_unit_zero hz2, View.ld_unit_zero hz2, View.ld_unit_zero hz2, View.ld_unit_zero hz2, u_block]

theorem h_final (c : Dev nD) : (dats m 0 c).arrAt 4 cfg0.N = h m c :=
  final4 m c (h m c) fun t r l => by
    unfold out0_4
    rw [View.canon_unit_zero hz2, View.ld_unit_zero hz2, View.ld_unit_zero hz2, View.ld_unit_zero hz2, View.ld_unit_zero hz2,
      pay2_apply, block3]
    exact Finset.sum_congr rfl fun k _ => by rw [u_block]; rfl

end Cert.Kernel55Ideal.EvenInCtx

end
-- ==== Proof.EvenInCtxRef.lean ====
/-
  The reference's even layer's modulated input projection, read at an index.
-/
module

public import proofs.«01_k».proof.Proof.Gen.Reference55Ideal.Run
public import Idealize.ShloMosaic.Lib.Pointwise

@[expose] public section

noncomputable section

namespace Cert.Reference55Ideal.EvenInCtx

open Cert.Reference55Ideal Cert.Reference55Ideal.Gen Idealize.ShloMosaic Idealize.ShloMosaic.TcCoe Idealize.SL.Sem

theorem u_apply (a0 : FVec Ideal S256x1024 .f32) (a1 a2 : FVec Ideal S1x1024 .f32) (k : Fin 256) (l : Fin 1024) :
    (truncf .bf16 (addf (mulf a0 (broadcastInDim S256x1024 ![0, 1] bcast_S1x1024_S256x1024_0_1 (addf (broadcastInDim S1x1024 ![] bcast_S_S1x1024 (constant S_ .f32 0x3F800000#32)) a2))) (broadcastInDim S256x1024 ![0, 1] bcast_S1x1024_S256x1024_0_1 a1)) bitsLt_bf16_f32 : FVec Ideal S256x1024 .bf16) (ix2 k l)
      = a0 (ix2 k l) * (Ideal.ofBits .f32 0x3F800000#32 + a2 (ix2 0 l)) + a1 (ix2 0 l) := by
  pointwise

theorem h_apply (a0 : FVec Ideal S256x1024 .f32) (a1 a2 : FVec Ideal S1x1024 .f32) (a3 : FVec Ideal S1024x2688 .bf16)
    (k : Fin 256) (l : Fin 2688) :
    (Host.dotGeneral dot_S256x1024_S1024x2688_S256x2688_1_0_0_1_n_n none (addf (mulf a0 (broadcastInDim S256x1024 ![0, 1] bcast_S1x1024_S256x1024_0_1 (addf (broadcastInDim S1x1024 ![] bcast_S_S1x1024 (constant S_ .f32 0x3F800000#32)) a2))) (broadcastInDim S256x1024 ![0, 1] bcast_S1x1024_S256x1024_0_1 a1)) (extf .f32 a3 bitsLt_bf16_f32) : FVec Ideal S256x2688 .f32) (ix2 k l)
      = ∑ n : Fin 1024, (a0 (ix2 k n) * (Ideal.ofBits .f32 0x3F800000#32 + a2 (ix2 0 n)) + a1 (ix2 0 n)) * a3 (ix2 n l) := by
  pointwise

end Cert.Reference55Ideal.EvenInCtx

end
-- ==== Proof.EvenInCtxClaim.lean ====
/-
  The context, at the even layer's modulated input projection: kernel and reference compute the same two arrays.
-/
module

public import proofs.«01_k».proof.Defs
public import proofs.«01_k».proof.Proof.EvenInCtx
public import proofs.«01_k».proof.Proof.EvenInCtxRef

@[expose] public section

noncomputable section

open Idealize.ShloMosaic Idealize.ShloMosaic.TcCoe Idealize.SL.Sem

theorem Cert.EvenInCtx.claim : Cert.algebraic_Kernel55Ideal_Reference55Ideal := by
  intro m g m' g' _ args
  refine ⟨Cert.Kernel55Ideal.EvenInCtx.h m, Cert.Kernel55Ideal.EvenInCtx.u m,
    (θ_run _ _ _).mono (fun r h c => ?_) (Cert.Kernel55Ideal.Value.run_blocks m g),
    (θ_run _ _ _).mono (fun r h c => ?_) (Cert.Reference55Ideal.Value.run m' g')⟩
  · obtain ⟨h0, h1, hrest⟩ := h c
    exact ⟨h0.trans (Cert.Kernel55Ideal.EvenInCtx.h_final m c),
      h1.trans (Cert.Kernel55Ideal.EvenInCtx.u_final m c), hrest⟩
  · obtain ⟨h0, h1, hrest⟩ := h c
    obtain ⟨e0, e1, e2, e3⟩ := args c
    refine ⟨h0.trans ?_, h1.trans ?_, hrest⟩
    · rw [e0, e1, e2, e3]
      refine funext fun (i : Cert.Reference55Ideal.S256x2688.Idx) => ?_
      obtain ⟨p, q, rfl⟩ : ∃ p q, i = ix2 p q := ⟨i 0, i 1, funext fun a => by fin_cases a <;> rfl⟩
      exact Cert.Reference55Ideal.EvenInCtx.h_apply _ _ _ _ p q
    · rw [e0, e1, e2]
      refine funext fun (i : Cert.Reference55Ideal.S256x1024.Idx) => ?_
      obtain ⟨p, q, rfl⟩ : ∃ p q, i = ix2 p q := ⟨i 0, i 1, funext fun a => by fin_cases a <;> rfl⟩
      exact Cert.Reference55Ideal.EvenInCtx.u_apply _ _ _ p q

end
-- ==== Proof.EvenInCtxBwdBlocks.lean ====
/-
  The context's input projection, backward: where each grid point reads its blocks and where its results land.
-/
module

public import proofs.«01_k».proof.Proof.Gen.Kernel56Ideal.Value
public import proofs.«01_k».proof.Proof.Rows
public import Idealize.ShloMosaic.Lib.Pipeline.Value
public import Idealize.ShloMosaic.Lib.Pointwise

@[expose] public section

noncomputable section

namespace Cert.Kernel56Ideal.Blocks

open Cert.Kernel56Ideal Cert.Kernel56Ideal.Gen Idealize.ShloMosaic Idealize.ShloMosaic.TcCoe Idealize.SL.Sem
open Idealize.ShloMosaic.Pipeline (Dat)

variable (m : (ℓ : Loc nD τ sig) → Buf (Elt Ideal) ℓ)

theorem points : cfg0.N = 1 := N_0

theorem lt_points (t : Fin cfg0.N) : t.val < 1 := lt_of_lt_of_eq t.isLt N_0

theorem index0 : ∀ t : Fin cfg0.N, win0_0.index t 0 = t.val ∧ win0_0.index t 1 = 0 :=
  (by decide +kernel : ∀ t : Fin grid0.N, win0_0.index t 0 = t.val ∧ win0_0.index t 1 = 0)

abbrev arg0 (c : Dev nD) : FVec Ideal S256x2688 .bf16 := m ((c : Thread nD τ).loc main_arg0)

theorem block0 (c : Dev nD) (t : Fin cfg0.N) (p : Fin 256) (q : Fin 2688) :
    iblk m c 0 t (ix2 p q) = arg0 m c (ix2 ⟨t.val * 256 + p.val, by have := lt_points t; omega⟩ q) := by
  refine congrArg (arg0 m c) (funext fun a => Fin.ext ((win0_0.rect_emb_val t (ix2 p q) a).trans ?_))
  match a with
  | ⟨0, _⟩ => show win0_0.index t 0 * 256 + p.val = t.val * 256 + p.val; rw [(index0 t).1]
  | ⟨1, _⟩ => show win0_0.index t 1 * 2688 + q.val = q.val; rw [(index0 t).2]; omega

theorem index1 : ∀ t : Fin cfg0.N, win0_1.index t 0 = t.val ∧ win0_1.index t 1 = 0 :=
  (by decide +kernel : ∀ t : Fin grid0.N, win0_1.index t 0 = t.val ∧ win0_1.index t 1 = 0)

abbrev arg1 (c : Dev nD) : FVec Ideal S256x1024 .f32 := m ((c : Thread nD τ).loc main_arg1)

theorem block1 (c : Dev nD) (t : Fin cfg0.N) (p : Fin 256) (q : Fin 1024) :
    iblk m c 1 t (ix2 p q) = arg1 m c (ix2 ⟨t.val * 256 + p.val, by have := lt_points t; omega⟩ q) := by
  refine congrArg (arg1 m c) (funext fun a => Fin.ext ((win0_1.rect_emb_val t (ix2 p q) a).trans ?_))
  match a with
  | ⟨0, _⟩ => show win0_1.index t 0 * 256 + p.val = t.val * 256 + p.val; rw [(index1 t).1]
  | ⟨1, _⟩ => show win0_1.index t 1 * 1024 + q.val = q.val; rw [(index1 t).2]; omega

theorem index2 : ∀ t : Fin cfg0.N, win0_2.index t 0 = 0 ∧ win0_2.index t 1 = 0 :=
  (by decide +kernel : ∀ t : Fin grid0.N, win0_2.index t 0 = 0 ∧ win0_2.index t 1 = 0)

abbrev arg2 (c : Dev nD) : FVec Ideal S1x1024 .f32 := m ((c : Thread nD τ).loc main_arg2)

theorem block2 (c : Dev nD) (t : Fin cfg0.N) : iblk m c 2 t = arg2 m c := by
  refine funext fun (y : S1x1024.Idx) => congrArg (arg2 m c) (funext fun a => Fin.ext ((win0_2.rect_emb_val t y a).trans ?_))
  match a with
  | ⟨0, _⟩ => show win0_2.index t 0 * 1 + (y 0).val = (y 0).val; rw [(index2 t).1]; omega
  | ⟨1, _⟩ => show win0_2.index t 1 * 1024 + (y 1).val = (y 1).val; rw [(index2 t).2]; omega

theorem index3 : ∀ t : Fin cfg0.N, win0_3.index t 0 = 0 ∧ win0_3.index t 1 = 0 :=
  (by decide +kernel : ∀ t : Fin grid0.N, win0_3.index t 0 = 0 ∧ win0_3.index t 1 = 0)

abbrev arg3 (c : Dev nD) : FVec Ideal S1x1024 .f32 := m ((c : Thread nD τ).loc main_arg3)

theorem block3 (c : Dev nD) (t : Fin cfg0.N) : iblk m c 3 t = arg3 m c := by
  refine funext fun (y : S1x1024.Idx) => congrArg (arg3 m c) (funext fun a => Fin.ext ((win0_3.rect_emb_val t y a).trans ?_))
  match a with
  | ⟨0, _⟩ => show win0_3.index t 0 * 1 + (y 0).val = (y 0).val; rw [(index3 t).1]; omega
  | ⟨1, _⟩ => show win0_3.index t 1 * 1024 + (y 1).val = (y 1).val; rw [(index3 t).2]; omega

theorem index4 : ∀ t : Fin cfg0.N, win0_4.index t 0 = 0 ∧ win0_4.index t 1 = 0 :=
  (by decide +kernel : ∀ t : Fin grid0.N, win0_4.index t 0 = 0 ∧ win0_4.index t 1 = 0)

abbrev arg4 (c : Dev nD) : FVec Ideal S1024x2688 .bf16 := m ((c : Thread nD τ).loc main_arg4)

theorem block4 (c : Dev nD) (t : Fin cfg0.N) : iblk m c 4 t = arg4 m c := by
  refine funext fun (y : S1024x2688.Idx) => congrArg (arg4 m c) (funext fun a => Fin.ext ((win0_4.rect_emb_val t y a).trans ?_))
  match a with
  | ⟨0, _⟩ => show win0_4.index t 0 * 1024 + (y 0).val = (y 0).val; rw [(index4 t).1]; omega
  | ⟨1, _⟩ => show win0_4.index t 1 * 2688 + (y 1).val = (y 1).val; rw [(index4 t).2]; omega

theorem index5 : ∀ t : Fin cfg0.N, win0_5.index t 0 = t.val ∧ win0_5.index t 1 = 0 :=
  (by decide +kernel : ∀ t : Fin grid0.N, win0_5.index t 0 = t.val ∧ win0_5.index t 1 = 0)

theorem emb5 (t : Fin cfg0.N) (p : Fin 256) (q : Fin 1024) :
    (win0_5.rect t).emb (ix2 p q) = (ix2 ⟨t.val * 256 + p.val, by have := lt_points t; omega⟩ q : S256x1024.Idx) := by
  refine funext fun a => Fin.ext ((win0_5.rect_emb_val t (ix2 p q) a).trans ?_)
  match a with
  | ⟨0, _⟩ => show win0_5.index t 0 * 256 + p.val = t.val * 256 + p.val; rw [(index5 t).1]
  | ⟨1, _⟩ => show win0_5.index t 1 * 1024 + q.val = q.val; rw [(index5 t).2]; omega

theorem final5 (c : Dev nD) (G : FVec Ideal S256x1024 .f32)
    (h : ∀ (t : Fin cfg0.N) (p : Fin 256) (q : Fin 1024), ((outsAt0 m c t).1) (ix2 p q) = G (ix2 ⟨t.val * 256 + p.val, by have := lt_points t; omega⟩ q)) :
    (dats m 0 c).arrAt 5 cfg0.N = G := by
  refine (dats m 0 c).arrAt_eq_of_cover 5 G (fun t _ => ?_) fun (i : S256x1024.Idx) => ?_
  · rw [Value.flushed5]
    refine funext fun (y : S256x1024.Idx) => ?_
    obtain ⟨p, q, rfl⟩ : ∃ p q, y = ix2 p q := ⟨y 0, y 1, funext fun a => by fin_cases a <;> rfl⟩
    refine (h t p q).trans ?_
    show _ = G ((win0_5.rect t).emb (ix2 p q))
    rw [emb5]
  · have hN : cfg0.N = 1 := N_0
    have h0 : (i 0 : Nat) < 256 := (i 0).isLt
    have h1 : (i 1 : Nat) < 1024 := (i 1).isLt
    have ht : (i 0 : Nat) / 256 < cfg0.N := by omega
    refine ⟨⟨_, ht⟩, flush0_5 _, ?_⟩
    show i ∈ ((View.whole main_v0_0).slice (win0_5.rect ⟨_, ht⟩)).set
    rw [View.set_slice_whole, Rect.mem_set_unit]
    have e := index5 ⟨_, ht⟩
    intro a
    match a with
    | ⟨0, _⟩ =>
      show win0_5.index ⟨_, ht⟩ 0 * 256 ≤ (i 0 : Nat) ∧ (i 0 : Nat) < win0_5.index ⟨_, ht⟩ 0 * 256 + 256
      rw [e.1]; try dsimp only
      omega
    | ⟨1, _⟩ =>
      show win0_5.index ⟨_, ht⟩ 1 * 1024 ≤ (i 1 : Nat) ∧ (i 1 : Nat) < win0_5.index ⟨_, ht⟩ 1 * 1024 + 1024
      rw [e.2]; try dsimp only
      omega

theorem index6 : ∀ t : Fin cfg0.N, win0_6.index t 0 = 0 ∧ win0_6.index t 1 = 0 :=
  (by decide +kernel : ∀ t : Fin grid0.N, win0_6.index t 0 = 0 ∧ win0_6.index t 1 = 0)

theorem emb6 (t : Fin cfg0.N) (p : Fin 1) (q : Fin 1024) :
    (win0_6.rect t).emb (ix2 p q) = (ix2 p q : S1x1024.Idx) := by
  refine funext fun a => Fin.ext ((win0_6.rect_emb_val t (ix2 p q) a).trans ?_)
  match a with
  | ⟨0, _⟩ => show win0_6.index t 0 * 1 + p.val = p.val; rw [(index6 t).1]; omega
  | ⟨1, _⟩ => show win0_6.index t 1 * 1024 + q.val = q.val; rw [(index6 t).2]; omega

theorem final6 (c : Dev nD) (G : FVec Ideal S1x1024 .f32)
    (h : ∀ (t : Fin cfg0.N) (p : Fin 1) (q : Fin 1024), ((outsAt0 m c t).2.1) (ix2 p q) = G (ix2 p q)) :
    (dats m 0 c).arrAt 6 cfg0.N = G := by
  refine (dats m 0 c).arrAt_eq_of_cover 6 G (fun t _ => ?_) fun (i : S1x1024.Idx) => ?_
  · rw [Value.flushed6]
    refine funext fun (y : S1x1024.Idx) => ?_
    obtain ⟨p, q, rfl⟩ : ∃ p q, y = ix2 p q := ⟨y 0, y 1, funext fun a => by fin_cases a <;> rfl⟩
    refine (h t p q).trans ?_
    show _ = G ((win0_6.rect t).emb (ix2 p q))
    rw [emb6]
  · have hN : cfg0.N = 1 := N_0
    have h0 : (i 0 : Nat) < 1 := (i 0).isLt
    have h1 : (i 1 : Nat) < 1024 := (i 1).isLt
    have ht : (i 0 : Nat) / 1 < cfg0.N := by omega
    refine ⟨⟨_, ht⟩, flush0_6 _, ?_⟩
    show i ∈ ((View.whole main_v0_1).slice (win0_6.rect ⟨_, ht⟩)).set
    rw [View.set_slice_whole, Rect.mem_set_unit]
    have e := index6 ⟨_, ht⟩
    intro a
    match a with
    | ⟨0, _⟩ =>
      show win0_6.index ⟨_, ht⟩ 0 * 1 ≤ (i 0 : Nat) ∧ (i 0 : Nat) < win0_6.index ⟨_, ht⟩ 0 * 1 + 1
      rw [e.1]; try dsimp only
      omega
    | ⟨1, _⟩ =>
      show win0_6.index ⟨_, ht⟩ 1 * 1024 ≤ (i 1 : Nat) ∧ (i 1 : Nat) < win0_6.index ⟨_, ht⟩ 1 * 1024 + 1024
      rw [e.2]; try dsimp only
      omega

theorem index7 : ∀ t : Fin cfg0.N, win0_7.index t 0 = 0 ∧ win0_7.index t 1 = 0 :=
  (by decide +kernel : ∀ t : Fin grid0.N, win0_7.index t 0 = 0 ∧ win0_7.index t 1 = 0)

theorem emb7 (t : Fin cfg0.N) (p : Fin 1) (q : Fin 1024) :
    (win0_7.rect t).emb (ix2 p q) = (ix2 p q : S1x1024.Idx) := by
  refine funext fun a => Fin.ext ((win0_7.rect_emb_val t (ix2 p q) a).trans ?_)
  match a with
  | ⟨0, _⟩ => show win0_7.index t 0 * 1 + p.val = p.val; rw [(index7 t).1]; omega
  | ⟨1, _⟩ => show win0_7.index t 1 * 1024 + q.val = q.val; rw [(index7 t).2]; omega

theorem final7 (c : Dev nD) (G : FVec Ideal S1x1024 .f32)
    (h : ∀ (t : Fin cfg0.N) (p : Fin 1) (q : Fin 1024), ((outsAt0 m c t).2.2) (ix2 p q) = G (ix2 p q)) :
    (dats m 0 c).arrAt 7 cfg0.N = G := by
  refine (dats m 0 c).arrAt_eq_of_cover 7 G (fun t _ => ?_) fun (i : S1x1024.Idx) => ?_
  · rw [Value.flushed7]
    refine funext fun (y : S1x1024.Idx) => ?_
    obtain ⟨p, q, rfl⟩ : ∃ p q, y = ix2 p q := ⟨y 0, y 1, funext fun a => by fin_cases a <;> rfl⟩
    refine (h t p q).trans ?_
    show _ = G ((win0_7.rect t).emb (ix2 p q))
    rw [emb7]
  · have hN : cfg0.N = 1 := N_0
    have h0 : (i 0 : Nat) < 1 := (i 0).isLt
    have h1 : (i 1 : Nat) < 1024 := (i 1).isLt
    have ht : (i 0 : Nat) / 1 < cfg0.N := by omega
    refine ⟨⟨_, ht⟩, flush0_7 _, ?_⟩
    show i ∈ ((View.whole main_v0_2).slice (win0_7.rect ⟨_, ht⟩)).set
    rw [View.set_slice_whole, Rect.mem_set_unit]
    have e := index7 ⟨_, ht⟩
    intro a
    match a with
    | ⟨0, _⟩ =>
      show win0_7.index ⟨_, ht⟩ 0 * 1 ≤ (i 0 : Nat) ∧ (i 0 : Nat) < win0_7.index ⟨_, ht⟩ 0 * 1 + 1
      rw [e.1]; try dsimp only
      omega
    | ⟨1, _⟩ =>
      show win0_7.index ⟨_, ht⟩ 1 * 1024 ≤ (i 1 : Nat) ∧ (i 1 : Nat) < win0_7.index ⟨_, ht⟩ 1 * 1024 + 1024
      rw [e.2]; try dsimp only
      omega

end Cert.Kernel56Ideal.Blocks

end
-- ==== Proof.EvenInCtxBwd.lean ====
/-
  The gradient of the context's modulated input projection: what each grid point leaves, and the three arrays after the
  last point.
-/
module

public import proofs.«01_k».proof.Proof.EvenInCtxBwdBlocks
public import Idealize.ShloMosaic.Lib.Tactic

@[expose] public section

noncomputable section

namespace Cert.Kernel56Ideal.EvenInCtxBwd

open Cert.Kernel56Ideal Cert.Kernel56Ideal.Gen Cert.Kernel56Ideal.Blocks Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The values of one block -/

theorem pay1_apply (v0 : Vec Ideal S256x2688 .bf16) (v3 : Vec Ideal S1024x2688 .bf16) (r : Fin 256) (l : Fin 1024) :
    k0_pay1 v0 v3 (ix2 r l) = ∑ n : Fin 2688, v0 (ix2 r n) * v3 (ix2 l n) := by
  pointwise [k0_pay1]

theorem pay2_apply (v0 : Vec Ideal S256x2688 .bf16) (v3 : Vec Ideal S1024x2688 .bf16) (l : Fin 1024) :
    k0_pay2 v0 v3 (ix2 0 l) = ∑ r : Fin 256, k0_pay1 v0 v3 (ix2 r l) := by
  pointwise [k0_pay2]

theorem pay3_apply (v0 : Vec Ideal S256x2688 .bf16) (v1 : Vec Ideal S256x1024 .f32) (v3 : Vec Ideal S1024x2688 .bf16)
    (l : Fin 1024) :
    k0_pay3 v0 v1 v3 (ix2 0 l) = ∑ r : Fin 256, v1 (ix2 r l) * k0_pay1 v0 v3 (ix2 r l) := by
  pointwise [k0_pay3]

theorem pay4_apply (v0 : Vec Ideal S256x2688 .bf16) (v2 : Vec Ideal S1x1024 .f32) (v3 : Vec Ideal S1024x2688 .bf16)
    (r : Fin 256) (l : Fin 1024) :
    k0_pay4 v0 v2 v3 (ix2 r l) = k0_pay1 v0 v3 (ix2 r l) * (Ideal.ofBits .f32 0x3F800000#32 + v2 (ix2 0 l)) := by
  pointwise [k0_pay4]

variable (m : (ℓ : Loc nD τ sig) → Buf (Elt Ideal) ℓ)

/-! ## What the one point leaves in each output's block -/

theorem dx_at (c : Dev nD) (t : Fin cfg0.N) : (outsAt0 m c t).1 = k0_pay4 (iblk m c 0 t) (iblk m c 3 t) (iblk m c 4 t) := by
  unfold outsAt0
  dsimp only
  unfold out0_A_5
  rw [View.read_writes_eq_canon _ _ _ (fun y => cover0_A_5 ..)]
  unfold kernelRun0_A
  dsimp only
  sl_unfold_words
  rw [View.canon_unit_zero hz2]
  simp only [View.readAt_eq_ld, (hs0_0 t).read_unread, (hs0_3 t).read_unread, (hs0_4 t).read_unread, View.ld_unit_zero (S := S1x1024) hz2, View.ld_unit_zero (S := S256x2688) hz2, View.ld_unit_zero (S := S1024x2688) hz2]

theorem dsh_at (c : Dev nD) (t : Fin cfg0.N) : (outsAt0 m c t).2.1 = k0_pay2 (iblk m c 0 t) (iblk m c 4 t) := by
  unfold outsAt0
  dsimp only
  unfold out0_A_6
  rw [View.read_writes_eq_canon _ _ _ (fun y => cover0_A_6 ..)]
  unfold kernelRun0_A
  dsimp only
  sl_unfold_words
  rw [View.canon_unit_zero hz2]
  simp only [View.readAt_eq_ld, (hs0_0 t).read_unread, (hs0_4 t).read_unread, View.ld_unit_zero (S := S256x2688) hz2, View.ld_unit_zero (S := S1024x2688) hz2]

theorem dsc_at (c : Dev nD) (t : Fin cfg0.N) : (outsAt0 m c t).2.2 = k0_pay3 (iblk m c 0 t) (iblk m c 1 t) (iblk m c 4 t) := by
  unfold outsAt0
  dsimp only
  unfold out0_A_7
  rw [View.read_writes_eq_canon _ _ _ (fun y => cover0_A_7 ..)]
  unfold kernelRun0_A
  dsimp only
  sl_unfold_words
  rw [View.canon_unit_zero hz2]
  simp only [View.readAt_eq_ld, (hs0_0 t).read_unread, (hs0_1 t).read_unread, (hs0_4 t).read_unread, View.ld_unit_zero (S := S256x1024) hz2, View.ld_unit_zero (S := S256x2688) hz2, View.ld_unit_zero (S := S1024x2688) hz2]

/-! ## The three gradients over the whole arrays -/

/-- The gradient of the modulated input, at row `k` and column `l`. -/
def du (c : Dev nD) (k : Fin 256) (l : Fin 1024) : EReal :=
  ∑ n : Fin 2688, arg0 m c (ix2 k n) * arg4 m c (ix2 l n)

theorem pay1_block (c : Dev nD) (t : Fin cfg0.N) (r : Fin 256) (l : Fin 1024) :
    k0_pay1 (iblk m c 0 t) (iblk m c 4 t) (ix2 r l)
      = du m c ⟨t.val * 256 + r.val, by have := lt_points t; omega⟩ l := by
  rw [pay1_apply, block4]
  exact Finset.sum_congr rfl fun n _ => by rw [block0]

def dx (c : Dev nD) : FVec Ideal S256x1024 .f32 := fun i =>
  du m c (i 0) (i 1) * (Ideal.ofBits .f32 0x3F800000#32 + arg3 m c (ix2 0 (i 1)))

def dsh (c : Dev nD) : FVec Ideal S1x1024 .f32 := fun i => ∑ k : Fin 256, du m c k (i 1)

def dsc (c : Dev nD) : FVec Ideal S1x1024 .f32 := fun i => ∑ k : Fin 256, arg1 m c (ix2 k (i 1)) * du m c k (i 1)

theorem dx_final (c : Dev nD) : (dats m 0 c).arrAt 5 cfg0.N = dx m c :=
  final5 m c (dx m c) fun t r l => by
    rw [dx_at, pay4_apply, pay1_block, block3]
    rfl

/-- The one point's rows are all rows. -/
theorem row (t : Fin cfg0.N) (r : Fin 256) : (⟨t.val * 256 + r.val, by have := lt_points t; omega⟩ : Fin 256) = r :=
  Fin.ext (by have := lt_points t; show t.val * 256 + r.val = r.val; omega)

theorem dsh_final (c : Dev nD) : (dats m 0 c).arrAt 6 cfg0.N = dsh m c := by
  refine final6 m c (dsh m c) fun t p l => ?_
  obtain rfl : p = 0 := Subsingleton.elim _ _
  rw [dsh_at, pay2_apply]
  exact Finset.sum_congr rfl fun r _ => by rw [pay1_block, row]; rfl

theorem dsc_final (c : Dev nD) : (dats m 0 c).arrAt 7 cfg0.N = dsc m c := by
  refine final7 m c (dsc m c) fun t p l => ?_
  obtain rfl : p = 0 := Subsingleton.elim _ _
  rw [dsc_at, pay3_apply]
  exact Finset.sum_congr rfl fun r _ => by rw [pay1_block, block1, row]; rfl

end Cert.Kernel56Ideal.EvenInCtxBwd

end
-- ==== Proof.EvenInCtxBwdRef.lean ====
/-
  The reference's gradient of the context's modulated input projection, read at an index.
-/
module

public import proofs.«01_k».proof.Proof.Gen.Reference56Ideal.Run
public import Idealize.ShloMosaic.Lib.Pointwise

@[expose] public section

noncomputable section

namespace Cert.Reference56Ideal.EvenInCtxBwd

open Cert.Reference56Ideal Cert.Reference56Ideal.Gen Idealize.ShloMosaic Idealize.ShloMosaic.TcCoe Idealize.SL.Sem

/-- The product of the incoming gradient with the transposed weight, as the reference takes it. -/
def product (a0 : FVec Ideal S256x2688 .bf16) (a4 : FVec Ideal S1024x2688 .bf16) : FVec Ideal S256x1024 .f32 :=
  Host.dotGeneral dot_S256x2688_S1024x2688_S256x1024_1_1_0_0_n_n none (extf .f32 a0 bitsLt_bf16_f32) (extf .f32 a4 bitsLt_bf16_f32)

theorem product_apply (a0 : FVec Ideal S256x2688 .bf16) (a4 : FVec Ideal S1024x2688 .bf16) (k : Fin 256) (l : Fin 1024) :
    product a0 a4 (ix2 k l) = ∑ n : Fin 2688, a0 (ix2 k n) * a4 (ix2 l n) := by
  pointwise [product]

theorem dx_apply (a0 : FVec Ideal S256x2688 .bf16) (a3 : FVec Ideal S1x1024 .f32) (a4 : FVec Ideal S1024x2688 .bf16) (k : Fin 256) (l : Fin 1024) :
    (mulf (product a0 a4) (broadcastInDim S256x1024 ![0, 1] bcast_S1x1024_S256x1024_0_1 (addf (broadcastInDim S1x1024 ![] bcast_S_S1x1024 (constant S_ .f32 0x3F800000#32)) a3)) : FVec Ideal S256x1024 .f32) (ix2 k l)
      = product a0 a4 (ix2 k l) * (Ideal.ofBits .f32 0x3F800000#32 + a3 (ix2 0 l)) := by
  pointwise

theorem dsh_apply (a0 : FVec Ideal S256x2688 .bf16) (a4 : FVec Ideal S1024x2688 .bf16) (l : Fin 1024) :
    (shapeCast S1x1024 (Host.reduceAdd (product a0 a4) (constant S_ .f32 0x00000000#32) reducesTo_S256x1024_S1024_d0 h_S_) shapeCasts_S1024_S1x1024 : FVec Ideal S1x1024 .f32) (ix2 0 l)
      = ∑ k : Fin 256, product a0 a4 (ix2 k l) := by
  pointwise

theorem dsc_apply (a0 : FVec Ideal S256x2688 .bf16) (a1 : FVec Ideal S256x1024 .f32) (a4 : FVec Ideal S1024x2688 .bf16)
    (l : Fin 1024) :
    (shapeCast S1x1024 (Host.reduceAdd (mulf a1 (product a0 a4)) (constant S_ .f32 0x00000000#32) reducesTo_S256x1024_S1024_d0 h_S_) shapeCasts_S1024_S1x1024 : FVec Ideal S1x1024 .f32) (ix2 0 l)
      = ∑ k : Fin 256, a1 (ix2 k l) * product a0 a4 (ix2 k l) := by
  pointwise

end Cert.Reference56Ideal.EvenInCtxBwd

end
-- ==== Proof.EvenInCtxBwdClaim.lean ====
/-
  The gradient of the context's modulated input projection: kernel and reference compute the same three arrays.
-/
module

public import proofs.«01_k».proof.Defs
public import proofs.«01_k».proof.Proof.EvenInCtxBwd
public import proofs.«01_k».proof.Proof.EvenInCtxBwdRef

@[expose] public section

noncomputable section

open Idealize.ShloMosaic Idealize.ShloMosaic.TcCoe Idealize.SL.Sem

theorem Cert.EvenInCtxBwd.claim : Cert.algebraic_Kernel56Ideal_Reference56Ideal := by
  intro m g m' g' _ args
  refine ⟨Cert.Kernel56Ideal.EvenInCtxBwd.dx m, Cert.Kernel56Ideal.EvenInCtxBwd.dsh m, Cert.Kernel56Ideal.EvenInCtxBwd.dsc m,
    (θ_run _ _ _).mono (fun r h c => ?_) (Cert.Kernel56Ideal.Value.run_blocks m g),
    (θ_run _ _ _).mono (fun r h c => ?_) (Cert.Reference56Ideal.Value.run m' g')⟩
  · obtain ⟨h6, h7, h8, hrest⟩ := h c
    exact ⟨h6.trans (Cert.Kernel56Ideal.EvenInCtxBwd.dx_final m c), h7.trans (Cert.Kernel56Ideal.EvenInCtxBwd.dsh_final m c),
      h8.trans (Cert.Kernel56Ideal.EvenInCtxBwd.dsc_final m c), hrest⟩
  · obtain ⟨h0, h1, h2, hrest⟩ := h c
    obtain ⟨e0, e1, e2, e3, e4⟩ := args c
    refine ⟨h0.trans ?_, h1.trans ?_, h2.trans ?_, hrest⟩
    · rw [e0, e3, e4]
      refine funext fun (i : Cert.Reference56Ideal.S256x1024.Idx) => ?_
      obtain ⟨k, l, rfl⟩ : ∃ k l, i = ix2 k l := ⟨i 0, i 1, funext fun a => by fin_cases a <;> rfl⟩
      refine (Cert.Reference56Ideal.EvenInCtxBwd.dx_apply _ _ _ k l).trans ?_
      rw [Cert.Reference56Ideal.EvenInCtxBwd.product_apply]
      rfl
    · rw [e0, e4]
      refine funext fun (i : Cert.Reference56Ideal.S1x1024.Idx) => ?_
      obtain ⟨p, l, rfl⟩ : ∃ p l, i = ix2 p l := ⟨i 0, i 1, funext fun a => by fin_cases a <;> rfl⟩
      obtain rfl : p = 0 := Subsingleton.elim _ _
      refine (Cert.Reference56Ideal.EvenInCtxBwd.dsh_apply _ _ l).trans ?_
      exact Finset.sum_congr rfl fun k _ => Cert.Reference56Ideal.EvenInCtxBwd.product_apply _ _ k l
    · rw [e0, e1, e4]
      refine funext fun (i : Cert.Reference56Ideal.S1x1024.Idx) => ?_
      obtain ⟨p, l, rfl⟩ : ∃ p l, i = ix2 p l := ⟨i 0, i 1, funext fun a => by fin_cases a <;> rfl⟩
      obtain rfl : p = 0 := Subsingleton.elim _ _
      refine (Cert.Reference56Ideal.EvenInCtxBwd.dsc_apply _ _ _ l).trans ?_
      exact Finset.sum_congr rfl fun k _ => congrArg _ (Cert.Reference56Ideal.EvenInCtxBwd.product_apply _ _ k l)

end
-- ==== Proof.AdaGradsBlocks.lean ====
/-
  The modulation's gradients: where each grid point reads its blocks and where its results land.
-/
module

public import proofs.«01_k».proof.Proof.Gen.Kernel40Ideal.Value
public import proofs.«01_k».proof.Proof.Rows
public import Idealize.ShloMosaic.Lib.Pipeline.Value
public import Idealize.ShloMosaic.Lib.Pointwise

@[expose] public section

noncomputable section

namespace Cert.Kernel40Ideal.Blocks

open Cert.Kernel40Ideal Cert.Kernel40Ideal.Gen Idealize.ShloMosaic Idealize.ShloMosaic.TcCoe Idealize.SL.Sem
open Idealize.ShloMosaic.Pipeline (Dat)

variable (m : (ℓ : Loc nD τ sig) → Buf (Elt Ideal) ℓ)

theorem points : cfg0.N = 2 := N_0

theorem lt_points (t : Fin cfg0.N) : t.val < 2 := lt_of_lt_of_eq t.isLt N_0

theorem index0 : ∀ t : Fin cfg0.N, win0_0.index t 0 = 0 ∧ win0_0.index t 1 = 0 :=
  (by decide +kernel : ∀ t : Fin grid0.N, win0_0.index t 0 = 0 ∧ win0_0.index t 1 = 0)

abbrev arg0 (c : Dev nD) : FVec Ideal S16x1024 .f32 := m ((c : Thread nD τ).loc main_arg0)

theorem block0 (c : Dev nD) (t : Fin cfg0.N) : iblk m c 0 t = arg0 m c := by
  refine funext fun (y : S16x1024.Idx) => congrArg (arg0 m c) (funext fun a => Fin.ext ((win0_0.rect_emb_val t y a).trans ?_))
  match a with
  | ⟨0, _⟩ => show win0_0.index t 0 * 16 + (y 0).val = (y 0).val; rw [(index0 t).1]; omega
  | ⟨1, _⟩ => show win0_0.index t 1 * 1024 + (y 1).val = (y 1).val; rw [(index0 t).2]; omega

theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

abbrev arg1 (c : Dev nD) : FVec Ideal S2x16x1536 .f32 := m ((c : Thread nD τ).loc main_arg1)

theorem block1 (c : Dev nD) (t : Fin cfg0.N) (p : Fin 1) (q : Fin 16) (r : Fin 1536) :
    iblk m c 1 t (ix3 p q r) = arg1 m c (ix3 ⟨t.val * 1 + p.val, by have := lt_points t; omega⟩ q r) := by
  refine congrArg (arg1 m c) (funext fun a => Fin.ext ((win0_1.rect_emb_val t (ix3 p q r) a).trans ?_))
  match a with
  | ⟨0, _⟩ => show win0_1.index t 0 * 1 + p.val = t.val * 1 + p.val; rw [(index1 t).1]
  | ⟨1, _⟩ => show win0_1.index t 1 * 16 + q.val = q.val; rw [(index1 t).2.1]; omega
  | ⟨2, _⟩ => show win0_1.index t 2 * 1536 + r.val = r.val; rw [(index1 t).2.2]; omega

theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

abbrev arg2 (c : Dev nD) : FVec Ideal S2x1024x1536 .f32 := m ((c : Thread nD τ).loc main_arg2)

theorem block2 (c : Dev nD) (t : Fin cfg0.N) (p : Fin 1) (q : Fin 1024) (r : Fin 1536) :
    iblk m c 2 t (ix3 p q r) = arg2 m c (ix3 ⟨t.val * 1 + p.val, by have := lt_points t; omega⟩ q r) := by
  refine congrArg (arg2 m c) (funext fun a => Fin.ext ((win0_2.rect_emb_val t (ix3 p q r) a).trans ?_))
  match a with
  | ⟨0, _⟩ => show win0_2.index t 0 * 1 + p.val = t.val * 1 + p.val; rw [(index2 t).1]
  | ⟨1, _⟩ => show win0_2.index t 1 * 1024 + q.val = q.val; rw [(index2 t).2.1]; omega
  | ⟨2, _⟩ => show win0_2.index t 2 * 1536 + r.val = r.val; rw [(index2 t).2.2]; omega

theorem index3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

theorem emb3 (t : Fin cfg0.N) (p : Fin 1) (q : Fin 1024) (r : Fin 1536) :
    (win0_3.rect t).emb (ix3 p q r) = (ix3 ⟨t.val * 1 + p.val, by have := lt_points t; omega⟩ q r : S2x1024x1536.Idx) := by
  refine funext fun a => Fin.ext ((win0_3.rect_emb_val t (ix3 p q r) a).trans ?_)
  match a with
  | ⟨0, _⟩ => show win0_3.index t 0 * 1 + p.val = t.val * 1 + p.val; rw [(index3 t).1]
  | ⟨1, _⟩ => show win0_3.index t 1 * 1024 + q.val = q.val; rw [(index3 t).2.1]; omega
  | ⟨2, _⟩ => show win0_3.index t 2 * 1536 + r.val = r.val; rw [(index3 t).2.2]; omega

theorem final3 (c : Dev nD) (G : FVec Ideal S2x1024x1536 .f32)
    (h : ∀ (t : Fin cfg0.N) (p : Fin 1) (q : Fin 1024) (r : Fin 1536), (out0_3 (iblk m c 0 t) (iblk m c 1 t) (iblk m c 2 t)) (ix3 p q r) = G (ix3 ⟨t.val * 1 + p.val, by have := lt_points t; omega⟩ q r)) :
    (dats m 0 c).arrAt 3 cfg0.N = G := by
  refine (dats m 0 c).arrAt_eq_of_cover 3 G (fun t _ => ?_) fun (i : S2x1024x1536.Idx) => ?_
  · rw [Value.flushed3]
    refine funext fun (y : S1x1024x1536.Idx) => ?_
    obtain ⟨p, q, r, rfl⟩ : ∃ p q r, y = ix3 p q r := ⟨y 0, y 1, y 2, funext fun a => by fin_cases a <;> rfl⟩
    refine (h t p q r).trans ?_
    show _ = G ((win0_3.rect t).emb (ix3 p q r))
    rw [emb3]
  · have hN : cfg0.N = 2 := N_0
    have h0 : (i 0 : Nat) < 2 := (i 0).isLt
    have h1 : (i 1 : Nat) < 1024 := (i 1).isLt
    have h2 : (i 2 : Nat) < 1536 := (i 2).isLt
    have ht : (i 0 : Nat) / 1 < cfg0.N := by omega
    refine ⟨⟨_, ht⟩, flush0_3 _, ?_⟩
    show i ∈ ((View.whole main_v0_0).slice (win0_3.rect ⟨_, ht⟩)).set
    rw [View.set_slice_whole, Rect.mem_set_unit]
    have e := index3 ⟨_, ht⟩
    intro a
    match a with
    | ⟨0, _⟩ =>
      show win0_3.index ⟨_, ht⟩ 0 * 1 ≤ (i 0 : Nat) ∧ (i 0 : Nat) < win0_3.index ⟨_, ht⟩ 0 * 1 + 1
      rw [e.1]; try dsimp only
      omega
    | ⟨1, _⟩ =>
      show win0_3.index ⟨_, ht⟩ 1 * 1024 ≤ (i 1 : Nat) ∧ (i 1 : Nat) < win0_3.index ⟨_, ht⟩ 1 * 1024 + 1024
      rw [e.2.1]; try dsimp only
      omega
    | ⟨2, _⟩ =>
      show win0_3.index ⟨_, ht⟩ 2 * 1536 ≤ (i 2 : Nat) ∧ (i 2 : Nat) < win0_3.index ⟨_, ht⟩ 2 * 1536 + 1536
      rw [e.2.2]; try dsimp only
      omega

theorem index4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

theorem emb4 (t : Fin cfg0.N) (p : Fin 1) (q : Fin 16) (r : Fin 1024) :
    (win0_4.rect t).emb (ix3 p q r) = (ix3 ⟨t.val * 1 + p.val, by have := lt_points t; omega⟩ q r : S2x16x1024.Idx) := by
  refine funext fun a => Fin.ext ((win0_4.rect_emb_val t (ix3 p q r) a).trans ?_)
  match a with
  | ⟨0, _⟩ => show win0_4.index t 0 * 1 + p.val = t.val * 1 + p.val; rw [(index4 t).1]
  | ⟨1, _⟩ => show win0_4.index t 1 * 16 + q.val = q.val; rw [(index4 t).2.1]; omega
  | ⟨2, _⟩ => show win0_4.index t 2 * 1024 + r.val = r.val; rw [(index4 t).2.2]; omega

theorem final4 (c : Dev nD) (G : FVec Ideal S2x16x1024 .f32)
    (h : ∀ (t : Fin cfg0.N) (p : Fin 1) (q : Fin 16) (r : Fin 1024), (out0_4 (iblk m c 0 t) (iblk m c 1 t) (iblk m c 2 t)) (ix3 p q r) = G (ix3 ⟨t.val * 1 + p.val, by have := lt_points t; omega⟩ q r)) :
    (dats m 0 c).arrAt 4 cfg0.N = G := by
  refine (dats m 0 c).arrAt_eq_of_cover 4 G (fun t _ => ?_) fun (i : S2x16x1024.Idx) => ?_
  · rw [Value.flushed4]
    refine funext fun (y : S1x16x1024.Idx) => ?_
    obtain ⟨p, q, r, rfl⟩ : ∃ p q r, y = ix3 p q r := ⟨y 0, y 1, y 2, funext fun a => by fin_cases a <;> rfl⟩
    refine (h t p q r).trans ?_
    show _ = G ((win0_4.rect t).emb (ix3 p q r))
    rw [emb4]
  · have hN : cfg0.N = 2 := N_0
    have h0 : (i 0 : Nat) < 2 := (i 0).isLt
    have h1 : (i 1 : Nat) < 16 := (i 1).isLt
    have h2 : (i 2 : Nat) < 1024 := (i 2).isLt
    have ht : (i 0 : Nat) / 1 < cfg0.N := by omega
    refine ⟨⟨_, ht⟩, flush0_4 _, ?_⟩
    show i ∈ ((View.whole main_v0_1).slice (win0_4.rect ⟨_, ht⟩)).set
    rw [View.set_slice_whole, Rect.mem_set_unit]
    have e := index4 ⟨_, ht⟩
    intro a
    match a with
    | ⟨0, _⟩ =>
      show win0_4.index ⟨_, ht⟩ 0 * 1 ≤ (i 0 : Nat) ∧ (i 0 : Nat) < win0_4.index ⟨_, ht⟩ 0 * 1 + 1
      rw [e.1]; try dsimp only
      omega
    | ⟨1, _⟩ =>
      show win0_4.index ⟨_, ht⟩ 1 * 16 ≤ (i 1 : Nat) ∧ (i 1 : Nat) < win0_4.index ⟨_, ht⟩ 1 * 16 + 16
      rw [e.2.1]; try dsimp only
      omega
    | ⟨2, _⟩ =>
      show win0_4.index ⟨_, ht⟩ 2 * 1024 ≤ (i 2 : Nat) ∧ (i 2 : Nat) < win0_4.index ⟨_, ht⟩ 2 * 1024 + 1024
      rw [e.2.2]; try dsimp only
      omega

end Cert.Kernel40Ideal.Blocks

end
-- ==== Proof.AdaGrads.lean ====
/-
  The gradients of the modulation's product: for each layer `silu(c)ᵀ dm` for the weight, `dm wᵀ` for `silu(c)`.
-/
module

public import proofs.«01_k».proof.Defs
public import proofs.«01_k».proof.Proof.AdaGradsBlocks
public import proofs.«01_k».proof.Proof.Gen.Reference40Ideal.Run

@[expose] public section

noncomputable section

namespace Cert.Kernel40Ideal.AdaGrads

open Cert.Kernel40Ideal Cert.Kernel40Ideal.Gen Cert.Kernel40Ideal.Blocks Idealize.ShloMosaic Idealize.ShloMosaic.TcCoe Idealize.SL.Sem
open Idealize.ShloMosaic.Pipeline (Dat)

variable (m : (ℓ : Loc nD τ sig) → Buf (Elt Ideal) ℓ)

def dw (c : Dev nD) : FVec Ideal S2x1024x1536 .f32 := fun i =>
  ∑ r : Fin 16, arg0 m c (ix2 r (i 1)) * Ideal.logistic (arg0 m c (ix2 r (i 1))) * arg1 m c (ix3 (i 0) r (i 2))

def ds (c : Dev nD) : FVec Ideal S2x16x1024 .f32 := fun i =>
  ∑ n : Fin 1536, arg1 m c (ix3 (i 0) (i 1) n) * arg2 m c (ix3 (i 0) (i 2) n)

theorem pay2_apply (x : Vec Ideal S16x1024 .f32) (d : Vec Ideal S1x16x1536 .f32) (k : Fin 1024) (n : Fin 1536) :
    k0_pay2 x d (ix3 0 k n) = ∑ r : Fin 16, x (ix2 r k) * Ideal.logistic (x (ix2 r k)) * d (ix3 0 r n) := by
  pointwise [k0_pay2, k0_pay1]

theorem pay3_apply (d : Vec Ideal S1x16x1536 .f32) (w : Vec Ideal S1x1024x1536 .f32) (r : Fin 16) (k : Fin 1024) :
    k0_pay3 d w (ix3 0 r k) = ∑ n : Fin 1536, d (ix3 0 r n) * w (ix3 0 k n) := by
  pointwise [k0_pay3, k0_pay1]

theorem hz2 : (![0, 0] : Fin 2 → Nat) = fun _ => 0 := funext fun a => by fin_cases a <;> rfl
theorem hz3 : (![0, 0, 0] : Fin 3 → Nat) = fun _ => 0 := funext fun a => by fin_cases a <;> rfl

theorem dw_final (c : Dev nD) : (dats m 0 c).arrAt 3 cfg0.N = dw m c :=
  final3 m c (dw m c) fun t u k n => by
    obtain rfl : u = 0 := Subsingleton.elim _ _
    unfold out0_3
    rw [View.canon_unit_zero hz3, View.ld_unit_zero hz2, View.ld_unit_zero hz3, pay2_apply, block0]
    exact Finset.sum_congr rfl fun r _ => by rw [block1]; rfl

theorem ds_final (c : Dev nD) : (dats m 0 c).arrAt 4 cfg0.N = ds m c :=
  final4 m c (ds m c) fun t u r k => by
    obtain rfl : u = 0 := Subsingleton.elim _ _
    unfold out0_4
    rw [View.canon_unit_zero hz3, View.ld_unit_zero hz3, View.ld_unit_zero hz3, pay3_apply]
    exact Finset.sum_congr rfl fun n _ => by rw [block1, block2]; rfl

end Cert.Kernel40Ideal.AdaGrads

namespace Cert.Reference40Ideal.AdaGrads

open Cert.Reference40Ideal Cert.Reference40Ideal.Gen Idealize.ShloMosaic

/-- `silu(c)` as the reference writes it. -/
def silu (a : FVec Ideal S16x1024 .f32) : FVec Ideal S16x1024 .f32 :=
  mulf a (Host.divf (broadcastInDim S16x1024 ![] bcast_S_S16x1024 (constant S_ .f32 0x3F800000#32)) (addf (broadcastInDim S16x1024 ![] bcast_S_S16x1024 (constant S_ .f32 0x3F800000#32)) (Host.exp (Host.negf a))))

theorem silu_apply (a : FVec Ideal S16x1024 .f32) (r : Fin 16) (k : Fin 1024) :
    silu a (ix2 r k) = a (ix2 r k) * Ideal.logistic (a (ix2 r k)) := by
  pointwise [silu]
  rfl

theorem dw_apply (a0 : FVec Ideal S16x1024 .f32) (a1 : FVec Ideal S2x16x1536 .f32) (u : Fin 2) (k : Fin 1024) (n : Fin 1536) :
    (concatenate S2x1024x1536 0 [⟨S1x1024x1536, (broadcastInDim S1x1024x1536 ![1, 2] bcast_S1024x1536_S1x1024x1536_1_2 (transpose S1024x1536 [1, 0] (Host.dotGeneral dot_S16x1536_S16x1024_S1536x1024_0_0_1_1_n_n none (shapeCast _ (extractStridedSlice S1x16x1536 ![0, 0, 0] a1 slices_S2x16x1536_S1x16x1536_0_0_0) shapeCasts_S1x16x1536_S16x1536) a0) transposes_S1536x1024_S1024x1536_1_0))⟩, ⟨S1x1024x1536, (broadcastInDim S1x1024x1536 ![1, 2] bcast_S1024x1536_S1x1024x1536_1_2 (transpose S1024x1536 [1, 0] (Host.dotGeneral dot_S16x1536_S16x1024_S1536x1024_0_0_1_1_n_n none (shapeCast _ (extractStridedSlice S1x16x1536 ![1, 0, 0] a1 slices_S2x16x1536_S1x16x1536_1_0_0) shapeCasts_S1x16x1536_S16x1536) a0) transposes_S1536x1024_S1024x1536_1_0))⟩] concatenates_S1x1024x1536_S1x1024x1536_S2x1024x1536_d0 : FVec Ideal S2x1024x1536 .f32) (ix3 u k n)
      = ∑ r : Fin 16, a0 (ix2 r k) * a1 (ix3 u r n) := by
  match u with
  | ⟨0, _⟩ => pointwise; exact Finset.sum_congr rfl fun r _ => mul_comm _ _
  | ⟨1, _⟩ => pointwise; exact Finset.sum_congr rfl fun r _ => mul_comm _ _

theorem ds_apply (a1 : FVec Ideal S2x16x1536 .f32) (a2 : FVec Ideal S2x1024x1536 .f32) (u : Fin 2) (r : Fin 16) (k : Fin 1024) :
    (concatenate S2x16x1024 0 [⟨S1x16x1024, (broadcastInDim S1x16x1024 ![1, 2] bcast_S16x1024_S1x16x1024_1_2 (Host.dotGeneral dot_S16x1536_S1024x1536_S16x1024_1_1_0_0_n_n none (shapeCast _ (extractStridedSlice S1x16x1536 ![0, 0, 0] a1 slices_S2x16x1536_S1x16x1536_0_0_0) shapeCasts_S1x16x1536_S16x1536) (shapeCast _ (extractStridedSlice S1x1024x1536 ![0, 0, 0] a2 slices_S2x1024x1536_S1x1024x1536_0_0_0) shapeCasts_S1x1024x1536_S1024x1536)))⟩, ⟨S1x16x1024, (broadcastInDim S1x16x1024 ![1, 2] bcast_S16x1024_S1x16x1024_1_2 (Host.dotGeneral dot_S16x1536_S1024x1536_S16x1024_1_1_0_0_n_n none (shapeCast _ (extractStridedSlice S1x16x1536 ![1, 0, 0] a1 slices_S2x16x1536_S1x16x1536_1_0_0) shapeCasts_S1x16x1536_S16x1536) (shapeCast _ (extractStridedSlice S1x1024x1536 ![1, 0, 0] a2 slices_S2x1024x1536_S1x1024x1536_1_0_0) shapeCasts_S1x1024x1536_S1024x1536)))⟩] concatenates_S1x16x1024_S1x16x1024_S2x16x1024_d0 : FVec Ideal S2x16x1024 .f32) (ix3 u r k)
      = ∑ n : Fin 1536, a1 (ix3 u r n) * a2 (ix3 u k n) := by
  match u with
  | ⟨0, _⟩ => pointwise
  | ⟨1, _⟩ => pointwise

end Cert.Reference40Ideal.AdaGrads

open Idealize.ShloMosaic Idealize.ShloMosaic.TcCoe Idealize.SL.Sem

theorem Cert.AdaGrads.claim : Cert.algebraic_Kernel40Ideal_Reference40Ideal := by
  intro m g m' g' _ args
  refine ⟨Cert.Kernel40Ideal.AdaGrads.dw m, Cert.Kernel40Ideal.AdaGrads.ds m,
    (θ_run _ _ _).mono (fun r h c => ?_) (Cert.Kernel40Ideal.Value.run_blocks m g),
    (θ_run _ _ _).mono (fun r h c => ?_) (Cert.Reference40Ideal.Value.run m' g')⟩
  · obtain ⟨h0, h1, hrest⟩ := h c
    exact ⟨h0.trans (Cert.Kernel40Ideal.AdaGrads.dw_final m c), h1.trans (Cert.Kernel40Ideal.AdaGrads.ds_final m c), hrest⟩
  · obtain ⟨h0, h1, hrest⟩ := h c
    obtain ⟨e0, e1, e2⟩ := args c
    refine ⟨h0.trans ?_, h1.trans ?_, hrest⟩
    · rw [e0, e1]
      refine funext fun (i : Cert.Reference40Ideal.S2x1024x1536.Idx) => ?_
      obtain ⟨u, k, n, rfl⟩ : ∃ u k n, i = ix3 u k n := ⟨i 0, i 1, i 2, funext fun a => by fin_cases a <;> rfl⟩
      refine (Cert.Reference40Ideal.AdaGrads.dw_apply (Cert.Reference40Ideal.AdaGrads.silu _) _ u k n).trans ?_
      exact Finset.sum_congr rfl fun r _ => congrArg (· * _) (Cert.Reference40Ideal.AdaGrads.silu_apply _ r k)
    · rw [e1, e2]
      refine funext fun (i : Cert.Reference40Ideal.S2x16x1024.Idx) => ?_
      obtain ⟨u, r, k, rfl⟩ : ∃ u r k, i = ix3 u r k := ⟨i 0, i 1, i 2, funext fun a => by fin_cases a <;> rfl⟩
      exact Cert.Reference40Ideal.AdaGrads.ds_apply _ _ u r k

end
-- ==== Proof.ChipSumDown.lean ====
/-
  The sum of 4 devices' parts of a feed-forward block's second weight's gradient.
-/
module

public import proofs.«01_k».proof.Defs
public import proofs.«01_k».proof.Proof.Gen.Kernel45Ideal.Value
public import proofs.«01_k».proof.Proof.Gen.Reference45Ideal.Run
public import Idealize.ShloMosaic.Lib.Pipeline.Value
public import Idealize.ShloMosaic.Lib.Pointwise

@[expose] public section

noncomputable section

namespace Cert.Kernel45Ideal.ChipSumDown

open Cert.Kernel45Ideal Cert.Kernel45Ideal.Gen Idealize.ShloMosaic Idealize.ShloMosaic.TcCoe Idealize.SL.Sem
open Idealize.ShloMosaic.Pipeline (Dat)

variable (m : (ℓ : Loc nD τ sig) → Buf (Elt Ideal) ℓ)

abbrev parts (c : Dev nD) : FVec Ideal S1x4x704x1024 .bf16 := m ((c : Thread nD τ).loc main_arg0)

/-- The sum, as a function of the whole array of parts. -/
def total (c : Dev nD) : FVec Ideal S1x704x1024 .f32 := fun i => ∑ k : Fin 4, parts m c (ix4 (i 0) k (i 1) (i 2))

/-- One block of the sum. -/
theorem pay_apply (x : Vec Ideal S1x4x176x1024 .bf16) (p : Fin 176) (q : Fin 1024) :
    k0_pay1 x (ix3 0 p q) = ∑ k : Fin 4, x (ix4 0 k p q) := by
  rw [Fin.sum_univ_four]
  pointwise [k0_pay1]

/-- The blocks of the result are numbered by the point; the block of the parts read is the same one, of every part. -/
theorem index : ∀ t : Fin cfg0.N,
    (win0_1.index t 0 = t.val / 4 ∧ win0_1.index t 1 = t.val % 4 ∧ win0_1.index t 2 = 0)
    ∧ win0_0.index t 0 = t.val / 4 ∧ win0_0.index t 1 = 0 ∧ win0_0.index t 2 = t.val % 4 ∧ win0_0.index t 3 = 0 :=
  (by decide +kernel : ∀ t : Fin grid0.N,
    (win0_1.index t 0 = t.val / 4 ∧ win0_1.index t 1 = t.val % 4 ∧ win0_1.index t 2 = 0)
    ∧ win0_0.index t 0 = t.val / 4 ∧ win0_0.index t 1 = 0 ∧ win0_0.index t 2 = t.val % 4 ∧ win0_0.index t 3 = 0)

theorem block (c : Dev nD) (t : Fin cfg0.N) (k : Fin 4) (p : Fin 176) (q : Fin 1024) (i : S1x704x1024.Idx)
    (hi : (win0_1.rect t).emb (ix3 0 p q) = i) : iblk m c 0 t (ix4 0 k p q) = parts m c (ix4 (i 0) k (i 1) (i 2)) := by
  subst hi
  obtain ⟨⟨o0, o1, o2⟩, i0, i1, i2, i3⟩ := index t
  refine congrArg (parts m c) (funext fun a => Fin.ext ((win0_0.rect_emb_val t (ix4 0 k p q) a).trans ?_))
  match a with
  | ⟨0, _⟩ =>
    refine Eq.trans ?_ (win0_1.rect_emb_val t (ix3 0 p q) 0).symm
    show win0_0.index t 0 * 1 + 0 = win0_1.index t 0 * 1 + 0; rw [i0, o0]
  | ⟨1, _⟩ => show win0_0.index t 1 * 4 + k.val = k.val; rw [i1]; omega
  | ⟨2, _⟩ =>
    refine Eq.trans ?_ (win0_1.rect_emb_val t (ix3 0 p q) 1).symm
    show win0_0.index t 2 * 176 + p.val = win0_1.index t 1 * 176 + p.val; rw [i2, o1]
  | ⟨3, _⟩ =>
    refine Eq.trans ?_ (win0_1.rect_emb_val t (ix3 0 p q) 2).symm
    show win0_0.index t 3 * 1024 + q.val = win0_1.index t 2 * 1024 + q.val; rw [i3, o2]

/-- Every element is in the block of one point. -/
theorem cover (i : S1x704x1024.Idx) : ∃ t : Fin cfg0.N, i ∈ ((cfg0.win 1).blk t).view.set := by
  have h0 : (i 0 : Nat) < 1 := (i 0).isLt
  have h1 : (i 1 : Nat) < 704 := (i 1).isLt
  have h2 : (i 2 : Nat) < 1024 := (i 2).isLt
  have ht : (i 0 : Nat) * 4 + (i 1 : Nat) / 176 < cfg0.N := by have : cfg0.N = 4 := N_0; omega
  refine ⟨⟨_, ht⟩, ?_⟩
  show i ∈ ((View.whole main_v0).slice (win0_1.rect ⟨_, ht⟩)).set
  rw [View.set_slice_whole, Rect.mem_set_unit]
  obtain ⟨⟨o0, o1, o2⟩, -⟩ := index ⟨_, ht⟩
  dsimp only at o0 o1
  intro a
  match a with
  | ⟨0, _⟩ =>
    show win0_1.index ⟨_, ht⟩ 0 * 1 ≤ (i 0 : Nat) ∧ (i 0 : Nat) < win0_1.index ⟨_, ht⟩ 0 * 1 + 1
    omega
  | ⟨1, _⟩ =>
    show win0_1.index ⟨_, ht⟩ 1 * 176 ≤ (i 1 : Nat) ∧ (i 1 : Nat) < win0_1.index ⟨_, ht⟩ 1 * 176 + 176
    omega
  | ⟨2, _⟩ =>
    show win0_1.index ⟨_, ht⟩ 2 * 1024 ≤ (i 2 : Nat) ∧ (i 2 : Nat) < win0_1.index ⟨_, ht⟩ 2 * 1024 + 1024
    omega

theorem total_final (c : Dev nD) : (dats m 0 c).arrAt 1 cfg0.N = total m c := by
  refine (dats m 0 c).arrAt_eq_of_cover 1 (total m c) (fun t _ => ?_) fun i =>
    (cover i).imp fun t h => ⟨flush0_1 t, h⟩
  rw [Value.flushed1]
  refine funext fun (y : S1x176x1024.Idx) => ?_
  obtain ⟨u, p, q, rfl⟩ : ∃ u p q, y = ix3 u p q := ⟨y 0, y 1, y 2, funext fun a => by fin_cases a <;> rfl⟩
  obtain rfl : u = 0 := Subsingleton.elim _ _
  show out0_1 (iblk m c 0 t) (ix3 0 p q) = total m c ((win0_1.rect t).emb (ix3 0 p q))
  have z4 : (![0, 0, 0, 0] : Fin 4 → Nat) = fun _ => 0 := funext fun a => by fin_cases a <;> rfl
  have z3 : (![0, 0, 0] : Fin 3 → Nat) = fun _ => 0 := funext fun a => by fin_cases a <;> rfl
  unfold out0_1
  rw [View.canon_unit_zero z3, View.ld_unit_zero z4, pay_apply]
  exact Finset.sum_congr rfl fun k _ => block m c t k p q _ rfl

end Cert.Kernel45Ideal.ChipSumDown

namespace Cert.Reference45Ideal.ChipSumDown

open Cert.Reference45Ideal Cert.Reference45Ideal.Gen Idealize.ShloMosaic

theorem total_apply (a : FVec Ideal S1x4x704x1024 .bf16) (u : Fin 1) (p : Fin 704) (q : Fin 1024) :
    (Host.reduceAdd (extf .f32 a bitsLt_bf16_f32) (constant S_ .f32 0x00000000#32) reducesTo_S1x4x704x1024_S1x704x1024_d1 h_S_ : FVec Ideal S1x704x1024 .f32) (ix3 u p q)
      = ∑ k : Fin 4, a (ix4 u k p q) := by
  obtain rfl : u = 0 := Subsingleton.elim _ _
  pointwise!

end Cert.Reference45Ideal.ChipSumDown

open Idealize.ShloMosaic Idealize.ShloMosaic.TcCoe Idealize.SL.Sem

theorem Cert.ChipSumDown.claim : Cert.algebraic_Kernel45Ideal_Reference45Ideal := by
  intro m g m' g' _ args
  refine ⟨Cert.Kernel45Ideal.ChipSumDown.total m,
    (θ_run _ _ _).mono (fun r h c => ⟨(h c).1.trans (Cert.Kernel45Ideal.ChipSumDown.total_final m c), (h c).2⟩)
      (Cert.Kernel45Ideal.Value.run_blocks m g),
    (θ_run _ _ _).mono (fun r h c => ⟨(h c).1.trans ?_, (h c).2⟩) (Cert.Reference45Ideal.Value.run m' g')⟩
  rw [args c]
  refine funext fun (i : Cert.Reference45Ideal.S1x704x1024.Idx) => ?_
  obtain ⟨u, p, q, rfl⟩ : ∃ u p q, i = ix3 u p q := ⟨i 0, i 1, i 2, funext fun a => by fin_cases a <;> rfl⟩
  exact Cert.Reference45Ideal.ChipSumDown.total_apply _ u p q

end
-- ==== Proof.ChipSumFlat.lean ====
/-
  The sum of 4 devices' parts of the even layer's two weights' gradients, packed in rows of 128.
-/
module

public import proofs.«01_k».proof.Defs
public import proofs.«01_k».proof.Proof.Gen.Kernel46Ideal.Value
public import proofs.«01_k».proof.Proof.Gen.Reference46Ideal.Run
public import Idealize.ShloMosaic.Lib.Pipeline.Value
public import Idealize.ShloMosaic.Lib.Pointwise

@[expose] public section

noncomputable section

namespace Cert.Kernel46Ideal.ChipSumFlat

open Cert.Kernel46Ideal Cert.Kernel46Ideal.Gen Idealize.ShloMosaic Idealize.ShloMosaic.TcCoe Idealize.SL.Sem
open Idealize.ShloMosaic.Pipeline (Dat)

variable (m : (ℓ : Loc nD τ sig) → Buf (Elt Ideal) ℓ)

abbrev parts (c : Dev nD) : FVec Ideal S2x4x3600x128 .bf16 := m ((c : Thread nD τ).loc main_arg0)

/-- The sum, as a function of the whole array of parts. -/
def total (c : Dev nD) : FVec Ideal S2x3600x128 .f32 := fun i => ∑ k : Fin 4, parts m c (ix4 (i 0) k (i 1) (i 2))

/-- One block of the sum. -/
theorem pay_apply (x : Vec Ideal S1x4x1200x128 .bf16) (p : Fin 1200) (q : Fin 128) :
    k0_pay1 x (ix3 0 p q) = ∑ k : Fin 4, x (ix4 0 k p q) := by
  rw [Fin.sum_univ_four]
  pointwise [k0_pay1]

/-- The blocks of the result are numbered by the point; the block of the parts read is the same one, of every part. -/
theorem index : ∀ t : Fin cfg0.N,
    (win0_1.index t 0 = t.val / 3 ∧ win0_1.index t 1 = t.val % 3 ∧ win0_1.index t 2 = 0)
    ∧ win0_0.index t 0 = t.val / 3 ∧ win0_0.index t 1 = 0 ∧ win0_0.index t 2 = t.val % 3 ∧ win0_0.index t 3 = 0 :=
  (by decide +kernel : ∀ t : Fin grid0.N,
    (win0_1.index t 0 = t.val / 3 ∧ win0_1.index t 1 = t.val % 3 ∧ win0_1.index t 2 = 0)
    ∧ win0_0.index t 0 = t.val / 3 ∧ win0_0.index t 1 = 0 ∧ win0_0.index t 2 = t.val % 3 ∧ win0_0.index t 3 = 0)

theorem block (c : Dev nD) (t : Fin cfg0.N) (k : Fin 4) (p : Fin 1200) (q : Fin 128) (i : S2x3600x128.Idx)
    (hi : (win0_1.rect t).emb (ix3 0 p q) = i) : iblk m c 0 t (ix4 0 k p q) = parts m c (ix4 (i 0) k (i 1) (i 2)) := by
  subst hi
  obtain ⟨⟨o0, o1, o2⟩, i0, i1, i2, i3⟩ := index t
  refine congrArg (parts m c) (funext fun a => Fin.ext ((win0_0.rect_emb_val t (ix4 0 k p q) a).trans ?_))
  match a with
  | ⟨0, _⟩ =>
    refine Eq.trans ?_ (win0_1.rect_emb_val t (ix3 0 p q) 0).symm
    show win0_0.index t 0 * 1 + 0 = win0_1.index t 0 * 1 + 0; rw [i0, o0]
  | ⟨1, _⟩ => show win0_0.index t 1 * 4 + k.val = k.val; rw [i1]; omega
  | ⟨2, _⟩ =>
    refine Eq.trans ?_ (win0_1.rect_emb_val t (ix3 0 p q) 1).symm
    show win0_0.index t 2 * 1200 + p.val = win0_1.index t 1 * 1200 + p.val; rw [i2, o1]
  | ⟨3, _⟩ =>
    refine Eq.trans ?_ (win0_1.rect_emb_val t (ix3 0 p q) 2).symm
    show win0_0.index t 3 * 128 + q.val = win0_1.index t 2 * 128 + q.val; rw [i3, o2]

/-- Every element is in the block of one point. -/
theorem cover (i : S2x3600x128.Idx) : ∃ t : Fin cfg0.N, i ∈ ((cfg0.win 1).blk t).view.set := by
  have h0 : (i 0 : Nat) < 2 := (i 0).isLt
  have h1 : (i 1 : Nat) < 3600 := (i 1).isLt
  have h2 : (i 2 : Nat) < 128 := (i 2).isLt
  have ht : (i 0 : Nat) * 3 + (i 1 : Nat) / 1200 < cfg0.N := by have : cfg0.N = 6 := N_0; omega
  refine ⟨⟨_, ht⟩, ?_⟩
  show i ∈ ((View.whole main_v0).slice (win0_1.rect ⟨_, ht⟩)).set
  rw [View.set_slice_whole, Rect.mem_set_unit]
  obtain ⟨⟨o0, o1, o2⟩, -⟩ := index ⟨_, ht⟩
  dsimp only at o0 o1
  intro a
  match a with
  | ⟨0, _⟩ =>
    show win0_1.index ⟨_, ht⟩ 0 * 1 ≤ (i 0 : Nat) ∧ (i 0 : Nat) < win0_1.index ⟨_, ht⟩ 0 * 1 + 1
    omega
  | ⟨1, _⟩ =>
    show win0_1.index ⟨_, ht⟩ 1 * 1200 ≤ (i 1 : Nat) ∧ (i 1 : Nat) < win0_1.index ⟨_, ht⟩ 1 * 1200 + 1200
    omega
  | ⟨2, _⟩ =>
    show win0_1.index ⟨_, ht⟩ 2 * 128 ≤ (i 2 : Nat) ∧ (i 2 : Nat) < win0_1.index ⟨_, ht⟩ 2 * 128 + 128
    omega

theorem total_final (c : Dev nD) : (dats m 0 c).arrAt 1 cfg0.N = total m c := by
  refine (dats m 0 c).arrAt_eq_of_cover 1 (total m c) (fun t _ => ?_) fun i =>
    (cover i).imp fun t h => ⟨flush0_1 t, h⟩
  rw [Value.flushed1]
  refine funext fun (y : S1x1200x128.Idx) => ?_
  obtain ⟨u, p, q, rfl⟩ : ∃ u p q, y = ix3 u p q := ⟨y 0, y 1, y 2, funext fun a => by fin_cases a <;> rfl⟩
  obtain rfl : u = 0 := Subsingleton.elim _ _
  show out0_1 (iblk m c 0 t) (ix3 0 p q) = total m c ((win0_1.rect t).emb (ix3 0 p q))
  have z4 : (![0, 0, 0, 0] : Fin 4 → Nat) = fun _ => 0 := funext fun a => by fin_cases a <;> rfl
  have z3 : (![0, 0, 0] : Fin 3 → Nat) = fun _ => 0 := funext fun a => by fin_cases a <;> rfl
  unfold out0_1
  rw [View.canon_unit_zero z3, View.ld_unit_zero z4, pay_apply]
  exact Finset.sum_congr rfl fun k _ => block m c t k p q _ rfl

end Cert.Kernel46Ideal.ChipSumFlat

namespace Cert.Reference46Ideal.ChipSumFlat

open Cert.Reference46Ideal Cert.Reference46Ideal.Gen Idealize.ShloMosaic

theorem total_apply (a : FVec Ideal S2x4x3600x128 .bf16) (u : Fin 2) (p : Fin 3600) (q : Fin 128) :
    (Host.reduceAdd (extf .f32 a bitsLt_bf16_f32) (constant S_ .f32 0x00000000#32) reducesTo_S2x4x3600x128_S2x3600x128_d1 h_S_ : FVec Ideal S2x3600x128 .f32) (ix3 u p q)
      = ∑ k : Fin 4, a (ix4 u k p q) := by
  pointwise!

end Cert.Reference46Ideal.ChipSumFlat

open Idealize.ShloMosaic Idealize.ShloMosaic.TcCoe Idealize.SL.Sem

theorem Cert.ChipSumFlat.claim : Cert.algebraic_Kernel46Ideal_Reference46Ideal := by
  intro m g m' g' _ args
  refine ⟨Cert.Kernel46Ideal.ChipSumFlat.total m,
    (θ_run _ _ _).mono (fun r h c => ⟨(h c).1.trans (Cert.Kernel46Ideal.ChipSumFlat.total_final m c), (h c).2⟩)
      (Cert.Kernel46Ideal.Value.run_blocks m g),
    (θ_run _ _ _).mono (fun r h c => ⟨(h c).1.trans ?_, (h c).2⟩) (Cert.Reference46Ideal.Value.run m' g')⟩
  rw [args c]
  refine funext fun (i : Cert.Reference46Ideal.S2x3600x128.Idx) => ?_
  obtain ⟨u, p, q, rfl⟩ : ∃ u p q, i = ix3 u p q := ⟨i 0, i 1, i 2, funext fun a => by fin_cases a <;> rfl⟩
  exact Cert.Reference46Ideal.ChipSumFlat.total_apply _ u p q

end
-- ==== Proof.ChipSumOddIn.lean ====
/-
  The sum of 4 devices' parts of the odd layer's input projection's weight gradient.
-/
module

public import proofs.«01_k».proof.Defs
public import proofs.«01_k».proof.Proof.Gen.Kernel42Ideal.Value
public import proofs.«01_k».proof.Proof.Gen.Reference42Ideal.Run
public import Idealize.ShloMosaic.Lib.Pipeline.Value
public import Idealize.ShloMosaic.Lib.Pointwise

@[expose] public section

noncomputable section

namespace Cert.Kernel42Ideal.ChipSumOddIn

open Cert.Kernel42Ideal Cert.Kernel42Ideal.Gen Idealize.ShloMosaic Idealize.ShloMosaic.TcCoe Idealize.SL.Sem
open Idealize.ShloMosaic.Pipeline (Dat)

variable (m : (ℓ : Loc nD τ sig) → Buf (Elt Ideal) ℓ)

abbrev parts (c : Dev nD) : FVec Ideal S1x4x512x640 .bf16 := m ((c : Thread nD τ).loc main_arg0)

/-- The sum, as a function of the whole array of parts. -/
def total (c : Dev nD) : FVec Ideal S1x512x640 .f32 := fun i => ∑ k : Fin 4, parts m c (ix4 (i 0) k (i 1) (i 2))

/-- One block of the sum. -/
theorem pay_apply (x : Vec Ideal S1x4x256x640 .bf16) (p : Fin 256) (q : Fin 640) :
    k0_pay1 x (ix3 0 p q) = ∑ k : Fin 4, x (ix4 0 k p q) := by
  rw [Fin.sum_univ_four]
  pointwise [k0_pay1]

/-- The blocks of the result are numbered by the point; the block of the parts read is the same one, of every part. -/
theorem index : ∀ t : Fin cfg0.N,
    (win0_1.index t 0 = t.val / 2 ∧ win0_1.index t 1 = t.val % 2 ∧ win0_1.index t 2 = 0)
    ∧ win0_0.index t 0 = t.val / 2 ∧ win0_0.index t 1 = 0 ∧ win0_0.index t 2 = t.val % 2 ∧ win0_0.index t 3 = 0 :=
  (by decide +kernel : ∀ t : Fin grid0.N,
    (win0_1.index t 0 = t.val / 2 ∧ win0_1.index t 1 = t.val % 2 ∧ win0_1.index t 2 = 0)
    ∧ win0_0.index t 0 = t.val / 2 ∧ win0_0.index t 1 = 0 ∧ win0_0.index t 2 = t.val % 2 ∧ win0_0.index t 3 = 0)

theorem block (c : Dev nD) (t : Fin cfg0.N) (k : Fin 4) (p : Fin 256) (q : Fin 640) (i : S1x512x640.Idx)
    (hi : (win0_1.rect t).emb (ix3 0 p q) = i) : iblk m c 0 t (ix4 0 k p q) = parts m c (ix4 (i 0) k (i 1) (i 2)) := by
  subst hi
  obtain ⟨⟨o0, o1, o2⟩, i0, i1, i2, i3⟩ := index t
  refine congrArg (parts m c) (funext fun a => Fin.ext ((win0_0.rect_emb_val t (ix4 0 k p q) a).trans ?_))
  match a with
  | ⟨0, _⟩ =>
    refine Eq.trans ?_ (win0_1.rect_emb_val t (ix3 0 p q) 0).symm
    show win0_0.index t 0 * 1 + 0 = win0_1.index t 0 * 1 + 0; rw [i0, o0]
  | ⟨1, _⟩ => show win0_0.index t 1 * 4 + k.val = k.val; rw [i1]; omega
  | ⟨2, _⟩ =>
    refine Eq.trans ?_ (win0_1.rect_emb_val t (ix3 0 p q) 1).symm
    show win0_0.index t 2 * 256 + p.val = win0_1.index t 1 * 256 + p.val; rw [i2, o1]
  | ⟨3, _⟩ =>
    refine Eq.trans ?_ (win0_1.rect_emb_val t (ix3 0 p q) 2).symm
    show win0_0.index t 3 * 640 + q.val = win0_1.index t 2 * 640 + q.val; rw [i3, o2]

/-- Every element is in the block of one point. -/
theorem cover (i : S1x512x640.Idx) : ∃ t : Fin cfg0.N, i ∈ ((cfg0.win 1).blk t).view.set := by
  have h0 : (i 0 : Nat) < 1 := (i 0).isLt
  have h1 : (i 1 : Nat) < 512 := (i 1).isLt
  have h2 : (i 2 : Nat) < 640 := (i 2).isLt
  have ht : (i 0 : Nat) * 2 + (i 1 : Nat) / 256 < cfg0.N := by have : cfg0.N = 2 := N_0; omega
  refine ⟨⟨_, ht⟩, ?_⟩
  show i ∈ ((View.whole main_v0).slice (win0_1.rect ⟨_, ht⟩)).set
  rw [View.set_slice_whole, Rect.mem_set_unit]
  obtain ⟨⟨o0, o1, o2⟩, -⟩ := index ⟨_, ht⟩
  dsimp only at o0 o1
  intro a
  match a with
  | ⟨0, _⟩ =>
    show win0_1.index ⟨_, ht⟩ 0 * 1 ≤ (i 0 : Nat) ∧ (i 0 : Nat) < win0_1.index ⟨_, ht⟩ 0 * 1 + 1
    omega
  | ⟨1, _⟩ =>
    show win0_1.index ⟨_, ht⟩ 1 * 256 ≤ (i 1 : Nat) ∧ (i 1 : Nat) < win0_1.index ⟨_, ht⟩ 1 * 256 + 256
    omega
  | ⟨2, _⟩ =>
    show win0_1.index ⟨_, ht⟩ 2 * 640 ≤ (i 2 : Nat) ∧ (i 2 : Nat) < win0_1.index ⟨_, ht⟩ 2 * 640 + 640
    omega

theorem total_final (c : Dev nD) : (dats m 0 c).arrAt 1 cfg0.N = total m c := by
  refine (dats m 0 c).arrAt_eq_of_cover 1 (total m c) (fun t _ => ?_) fun i =>
    (cover i).imp fun t h => ⟨flush0_1 t, h⟩
  rw [Value.flushed1]
  refine funext fun (y : S1x256x640.Idx) => ?_
  obtain ⟨u, p, q, rfl⟩ : ∃ u p q, y = ix3 u p q := ⟨y 0, y 1, y 2, funext fun a => by fin_cases a <;> rfl⟩
  obtain rfl : u = 0 := Subsingleton.elim _ _
  show out0_1 (iblk m c 0 t) (ix3 0 p q) = total m c ((win0_1.rect t).emb (ix3 0 p q))
  have z4 : (![0, 0, 0, 0] : Fin 4 → Nat) = fun _ => 0 := funext fun a => by fin_cases a <;> rfl
  have z3 : (![0, 0, 0] : Fin 3 → Nat) = fun _ => 0 := funext fun a => by fin_cases a <;> rfl
  unfold out0_1
  rw [View.canon_unit_zero z3, View.ld_unit_zero z4, pay_apply]
  exact Finset.sum_congr rfl fun k _ => block m c t k p q _ rfl

end Cert.Kernel42Ideal.ChipSumOddIn

namespace Cert.Reference42Ideal.ChipSumOddIn

open Cert.Reference42Ideal Cert.Reference42Ideal.Gen Idealize.ShloMosaic

theorem total_apply (a : FVec Ideal S1x4x512x640 .bf16) (u : Fin 1) (p : Fin 512) (q : Fin 640) :
    (Host.reduceAdd (extf .f32 a bitsLt_bf16_f32) (constant S_ .f32 0x00000000#32) reducesTo_S1x4x512x640_S1x512x640_d1 h_S_ : FVec Ideal S1x512x640 .f32) (ix3 u p q)
      = ∑ k : Fin 4, a (ix4 u k p q) := by
  obtain rfl : u = 0 := Subsingleton.elim _ _
  pointwise!

end Cert.Reference42Ideal.ChipSumOddIn

open Idealize.ShloMosaic Idealize.ShloMosaic.TcCoe Idealize.SL.Sem

theorem Cert.ChipSumOddIn.claim : Cert.algebraic_Kernel42Ideal_Reference42Ideal := by
  intro m g m' g' _ args
  refine ⟨Cert.Kernel42Ideal.ChipSumOddIn.total m,
    (θ_run _ _ _).mono (fun r h c => ⟨(h c).1.trans (Cert.Kernel42Ideal.ChipSumOddIn.total_final m c), (h c).2⟩)
      (Cert.Kernel42Ideal.Value.run_blocks m g),
    (θ_run _ _ _).mono (fun r h c => ⟨(h c).1.trans ?_, (h c).2⟩) (Cert.Reference42Ideal.Value.run m' g')⟩
  rw [args c]
  refine funext fun (i : Cert.Reference42Ideal.S1x512x640.Idx) => ?_
  obtain ⟨u, p, q, rfl⟩ : ∃ u p q, i = ix3 u p q := ⟨i 0, i 1, i 2, funext fun a => by fin_cases a <;> rfl⟩
  exact Cert.Reference42Ideal.ChipSumOddIn.total_apply _ u p q

end
-- ==== Proof.ChipSumOddOut.lean ====
/-
  The sum of 4 devices' parts of the odd layer's output projection's weight gradient.
-/
module

public import proofs.«01_k».proof.Defs
public import proofs.«01_k».proof.Proof.Gen.Kernel43Ideal.Value
public import proofs.«01_k».proof.Proof.Gen.Reference43Ideal.Run
public import Idealize.ShloMosaic.Lib.Pipeline.Value
public import Idealize.ShloMosaic.Lib.Pointwise

@[expose] public section

noncomputable section

namespace Cert.Kernel43Ideal.ChipSumOddOut

open Cert.Kernel43Ideal Cert.Kernel43Ideal.Gen Idealize.ShloMosaic Idealize.ShloMosaic.TcCoe Idealize.SL.Sem
open Idealize.ShloMosaic.Pipeline (Dat)

variable (m : (ℓ : Loc nD τ sig) → Buf (Elt Ideal) ℓ)

abbrev parts (c : Dev nD) : FVec Ideal S1x4x128x1024 .bf16 := m ((c : Thread nD τ).loc main_arg0)

/-- The sum, as a function of the whole array of parts. -/
def total (c : Dev nD) : FVec Ideal S1x128x1024 .f32 := fun i => ∑ k : Fin 4, parts m c (ix4 (i 0) k (i 1) (i 2))

/-- One block of the sum. -/
theorem pay_apply (x : Vec Ideal S1x4x128x1024 .bf16) (p : Fin 128) (q : Fin 1024) :
    k0_pay1 x (ix3 0 p q) = ∑ k : Fin 4, x (ix4 0 k p q) := by
  rw [Fin.sum_univ_four]
  pointwise [k0_pay1]

/-- The blocks of the result are numbered by the point; the block of the parts read is the same one, of every part. -/
theorem index : ∀ t : Fin cfg0.N,
    (win0_1.index t 0 = t.val / 1 ∧ win0_1.index t 1 = t.val % 1 ∧ win0_1.index t 2 = 0)
    ∧ win0_0.index t 0 = t.val / 1 ∧ win0_0.index t 1 = 0 ∧ win0_0.index t 2 = t.val % 1 ∧ win0_0.index t 3 = 0 :=
  (by decide +kernel : ∀ t : Fin grid0.N,
    (win0_1.index t 0 = t.val / 1 ∧ win0_1.index t 1 = t.val % 1 ∧ win0_1.index t 2 = 0)
    ∧ win0_0.index t 0 = t.val / 1 ∧ win0_0.index t 1 = 0 ∧ win0_0.index t 2 = t.val % 1 ∧ win0_0.index t 3 = 0)

theorem block (c : Dev nD) (t : Fin cfg0.N) (k : Fin 4) (p : Fin 128) (q : Fin 1024) (i : S1x128x1024.Idx)
    (hi : (win0_1.rect t).emb (ix3 0 p q) = i) : iblk m c 0 t (ix4 0 k p q) = parts m c (ix4 (i 0) k (i 1) (i 2)) := by
  subst hi
  obtain ⟨⟨o0, o1, o2⟩, i0, i1, i2, i3⟩ := index t
  refine congrArg (parts m c) (funext fun a => Fin.ext ((win0_0.rect_emb_val t (ix4 0 k p q) a).trans ?_))
  match a with
  | ⟨0, _⟩ =>
    refine Eq.trans ?_ (win0_1.rect_emb_val t (ix3 0 p q) 0).symm
    show win0_0.index t 0 * 1 + 0 = win0_1.index t 0 * 1 + 0; rw [i0, o0]
  | ⟨1, _⟩ => show win0_0.index t 1 * 4 + k.val = k.val; rw [i1]; omega
  | ⟨2, _⟩ =>
    refine Eq.trans ?_ (win0_1.rect_emb_val t (ix3 0 p q) 1).symm
    show win0_0.index t 2 * 128 + p.val = win0_1.index t 1 * 128 + p.val; rw [i2, o1]
  | ⟨3, _⟩ =>
    refine Eq.trans ?_ (win0_1.rect_emb_val t (ix3 0 p q) 2).symm
    show win0_0.index t 3 * 1024 + q.val = win0_1.index t 2 * 1024 + q.val; rw [i3, o2]

/-- Every element is in the block of one point. -/
theorem cover (i : S1x128x1024.Idx) : ∃ t : Fin cfg0.N, i ∈ ((cfg0.win 1).blk t).view.set := by
  have h0 : (i 0 : Nat) < 1 := (i 0).isLt
  have h1 : (i 1 : Nat) < 128 := (i 1).isLt
  have h2 : (i 2 : Nat) < 1024 := (i 2).isLt
  have ht : (i 0 : Nat) * 1 + (i 1 : Nat) / 128 < cfg0.N := by have : cfg0.N = 1 := N_0; omega
  refine ⟨⟨_, ht⟩, ?_⟩
  show i ∈ ((View.whole main_v0).slice (win0_1.rect ⟨_, ht⟩)).set
  rw [View.set_slice_whole, Rect.mem_set_unit]
  obtain ⟨⟨o0, o1, o2⟩, -⟩ := index ⟨_, ht⟩
  dsimp only at o0 o1
  intro a
  match a with
  | ⟨0, _⟩ =>
    show win0_1.index ⟨_, ht⟩ 0 * 1 ≤ (i 0 : Nat) ∧ (i 0 : Nat) < win0_1.index ⟨_, ht⟩ 0 * 1 + 1
    omega
  | ⟨1, _⟩ =>
    show win0_1.index ⟨_, ht⟩ 1 * 128 ≤ (i 1 : Nat) ∧ (i 1 : Nat) < win0_1.index ⟨_, ht⟩ 1 * 128 + 128
    omega
  | ⟨2, _⟩ =>
    show win0_1.index ⟨_, ht⟩ 2 * 1024 ≤ (i 2 : Nat) ∧ (i 2 : Nat) < win0_1.index ⟨_, ht⟩ 2 * 1024 + 1024
    omega

theorem total_final (c : Dev nD) : (dats m 0 c).arrAt 1 cfg0.N = total m c := by
  refine (dats m 0 c).arrAt_eq_of_cover 1 (total m c) (fun t _ => ?_) fun i =>
    (cover i).imp fun t h => ⟨flush0_1 t, h⟩
  rw [Value.flushed1]
  refine funext fun (y : S1x128x1024.Idx) => ?_
  obtain ⟨u, p, q, rfl⟩ : ∃ u p q, y = ix3 u p q := ⟨y 0, y 1, y 2, funext fun a => by fin_cases a <;> rfl⟩
  obtain rfl : u = 0 := Subsingleton.elim _ _
  show out0_1 (iblk m c 0 t) (ix3 0 p q) = total m c ((win0_1.rect t).emb (ix3 0 p q))
  have z4 : (![0, 0, 0, 0] : Fin 4 → Nat) = fun _ => 0 := funext fun a => by fin_cases a <;> rfl
  have z3 : (![0, 0, 0] : Fin 3 → Nat) = fun _ => 0 := funext fun a => by fin_cases a <;> rfl
  unfold out0_1
  rw [View.canon_unit_zero z3, View.ld_unit_zero z4, pay_apply]
  exact Finset.sum_congr rfl fun k _ => block m c t k p q _ rfl

end Cert.Kernel43Ideal.ChipSumOddOut

namespace Cert.Reference43Ideal.ChipSumOddOut

open Cert.Reference43Ideal Cert.Reference43Ideal.Gen Idealize.ShloMosaic

theorem total_apply (a : FVec Ideal S1x4x128x1024 .bf16) (u : Fin 1) (p : Fin 128) (q : Fin 1024) :
    (Host.reduceAdd (extf .f32 a bitsLt_bf16_f32) (constant S_ .f32 0x00000000#32) reducesTo_S1x4x128x1024_S1x128x1024_d1 h_S_ : FVec Ideal S1x128x1024 .f32) (ix3 u p q)
      = ∑ k : Fin 4, a (ix4 u k p q) := by
  obtain rfl : u = 0 := Subsingleton.elim _ _
  pointwise!

end Cert.Reference43Ideal.ChipSumOddOut

open Idealize.ShloMosaic Idealize.ShloMosaic.TcCoe Idealize.SL.Sem

theorem Cert.ChipSumOddOut.claim : Cert.algebraic_Kernel43Ideal_Reference43Ideal := by
  intro m g m' g' _ args
  refine ⟨Cert.Kernel43Ideal.ChipSumOddOut.total m,
    (θ_run _ _ _).mono (fun r h c => ⟨(h c).1.trans (Cert.Kernel43Ideal.ChipSumOddOut.total_final m c), (h c).2⟩)
      (Cert.Kernel43Ideal.Value.run_blocks m g),
    (θ_run _ _ _).mono (fun r h c => ⟨(h c).1.trans ?_, (h c).2⟩) (Cert.Reference43Ideal.Value.run m' g')⟩
  rw [args c]
  refine funext fun (i : Cert.Reference43Ideal.S1x128x1024.Idx) => ?_
  obtain ⟨u, p, q, rfl⟩ : ∃ u p q, i = ix3 u p q := ⟨i 0, i 1, i 2, funext fun a => by fin_cases a <;> rfl⟩
  exact Cert.Reference43Ideal.ChipSumOddOut.total_apply _ u p q

end
-- ==== Proof.ChipSumUp.lean ====
/-
  The sum of 4 devices' parts of a feed-forward block's first weight's gradient.
-/
module

public import proofs.«01_k».proof.Defs
public import proofs.«01_k».proof.Proof.Gen.Kernel44Ideal.Value
public import proofs.«01_k».proof.Proof.Gen.Reference44Ideal.Run
public import Idealize.ShloMosaic.Lib.Pipeline.Value
public import Idealize.ShloMosaic.Lib.Pointwise

@[expose] public section

noncomputable section

namespace Cert.Kernel44Ideal.ChipSumUp

open Cert.Kernel44Ideal Cert.Kernel44Ideal.Gen Idealize.ShloMosaic Idealize.ShloMosaic.TcCoe Idealize.SL.Sem
open Idealize.ShloMosaic.Pipeline (Dat)

variable (m : (ℓ : Loc nD τ sig) → Buf (Elt Ideal) ℓ)

abbrev parts (c : Dev nD) : FVec Ideal S1x4x1024x1408 .bf16 := m ((c : Thread nD τ).loc main_arg0)

/-- The sum, as a function of the whole array of parts. -/
def total (c : Dev nD) : FVec Ideal S1x1024x1408 .f32 := fun i => ∑ k : Fin 4, parts m c (ix4 (i 0) k (i 1) (i 2))

/-- One block of the sum. -/
theorem pay_apply (x : Vec Ideal S1x4x128x1408 .bf16) (p : Fin 128) (q : Fin 1408) :
    k0_pay1 x (ix3 0 p q) = ∑ k : Fin 4, x (ix4 0 k p q) := by
  rw [Fin.sum_univ_four]
  pointwise [k0_pay1]

/-- The blocks of the result are numbered by the point; the block of the parts read is the same one, of every part. -/
theorem index : ∀ t : Fin cfg0.N,
    (win0_1.index t 0 = t.val / 8 ∧ win0_1.index t 1 = t.val % 8 ∧ win0_1.index t 2 = 0)
    ∧ win0_0.index t 0 = t.val / 8 ∧ win0_0.index t 1 = 0 ∧ win0_0.index t 2 = t.val % 8 ∧ win0_0.index t 3 = 0 :=
  (by decide +kernel : ∀ t : Fin grid0.N,
    (win0_1.index t 0 = t.val / 8 ∧ win0_1.index t 1 = t.val % 8 ∧ win0_1.index t 2 = 0)
    ∧ win0_0.index t 0 = t.val / 8 ∧ win0_0.index t 1 = 0 ∧ win0_0.index t 2 = t.val % 8 ∧ win0_0.index t 3 = 0)

theorem block (c : Dev nD) (t : Fin cfg0.N) (k : Fin 4) (p : Fin 128) (q : Fin 1408) (i : S1x1024x1408.Idx)
    (hi : (win0_1.rect t).emb (ix3 0 p q) = i) : iblk m c 0 t (ix4 0 k p q) = parts m c (ix4 (i 0) k (i 1) (i 2)) := by
  subst hi
  obtain ⟨⟨o0, o1, o2⟩, i0, i1, i2, i3⟩ := index t
  refine congrArg (parts m c) (funext fun a => Fin.ext ((win0_0.rect_emb_val t (ix4 0 k p q) a).trans ?_))
  match a with
  | ⟨0, _⟩ =>
    refine Eq.trans ?_ (win0_1.rect_emb_val t (ix3 0 p q) 0).symm
    show win0_0.index t 0 * 1 + 0 = win0_1.index t 0 * 1 + 0; rw [i0, o0]
  | ⟨1, _⟩ => show win0_0.index t 1 * 4 + k.val = k.val; rw [i1]; omega
  | ⟨2, _⟩ =>
    refine Eq.trans ?_ (win0_1.rect_emb_val t (ix3 0 p q) 1).symm
    show win0_0.index t 2 * 128 + p.val = win0_1.index t 1 * 128 + p.val; rw [i2, o1]
  | ⟨3, _⟩ =>
    refine Eq.trans ?_ (win0_1.rect_emb_val t (ix3 0 p q) 2).symm
    show win0_0.index t 3 * 1408 + q.val = win0_1.index t 2 * 1408 + q.val; rw [i3, o2]

/-- Every element is in the block of one point. -/
theorem cover (i : S1x1024x1408.Idx) : ∃ t : Fin cfg0.N, i ∈ ((cfg0.win 1).blk t).view.set := by
  have h0 : (i 0 : Nat) < 1 := (i 0).isLt
  have h1 : (i 1 : Nat) < 1024 := (i 1).isLt
  have h2 : (i 2 : Nat) < 1408 := (i 2).isLt
  have ht : (i 0 : Nat) * 8 + (i 1 : Nat) / 128 < cfg0.N := by have : cfg0.N = 8 := N_0; omega
  refine ⟨⟨_, ht⟩, ?_⟩
  show i ∈ ((View.whole main_v0).slice (win0_1.rect ⟨_, ht⟩)).set
  rw [View.set_slice_whole, Rect.mem_set_unit]
  obtain ⟨⟨o0, o1, o2⟩, -⟩ := index ⟨_, ht⟩
  dsimp only at o0 o1
  intro a
  match a with
  | ⟨0, _⟩ =>
    show win0_1.index ⟨_, ht⟩ 0 * 1 ≤ (i 0 : Nat) ∧ (i 0 : Nat) < win0_1.index ⟨_, ht⟩ 0 * 1 + 1
    omega
  | ⟨1, _⟩ =>
    show win0_1.index ⟨_, ht⟩ 1 * 128 ≤ (i 1 : Nat) ∧ (i 1 : Nat) < win0_1.index ⟨_, ht⟩ 1 * 128 + 128
    omega
  | ⟨2, _⟩ =>
    show win0_1.index ⟨_, ht⟩ 2 * 1408 ≤ (i 2 : Nat) ∧ (i 2 : Nat) < win0_1.index ⟨_, ht⟩ 2 * 1408 + 1408
    omega

theorem total_final (c : Dev nD) : (dats m 0 c).arrAt 1 cfg0.N = total m c := by
  refine (dats m 0 c).arrAt_eq_of_cover 1 (total m c) (fun t _ => ?_) fun i =>
    (cover i).imp fun t h => ⟨flush0_1 t, h⟩
  rw [Value.flushed1]
  refine funext fun (y : S1x128x1408.Idx) => ?_
  obtain ⟨u, p, q, rfl⟩ : ∃ u p q, y = ix3 u p q := ⟨y 0, y 1, y 2, funext fun a => by fin_cases a <;> rfl⟩
  obtain rfl : u = 0 := Subsingleton.elim _ _
  show out0_1 (iblk m c 0 t) (ix3 0 p q) = total m c ((win0_1.rect t).emb (ix3 0 p q))
  have z4 : (![0, 0, 0, 0] : Fin 4 → Nat) = fun _ => 0 := funext fun a => by fin_cases a <;> rfl
  have z3 : (![0, 0, 0] : Fin 3 → Nat) = fun _ => 0 := funext fun a => by fin_cases a <;> rfl
  unfold out0_1
  rw [View.canon_unit_zero z3, View.ld_unit_zero z4, pay_apply]
  exact Finset.sum_congr rfl fun k _ => block m c t k p q _ rfl

end Cert.Kernel44Ideal.ChipSumUp

namespace Cert.Reference44Ideal.ChipSumUp

open Cert.Reference44Ideal Cert.Reference44Ideal.Gen Idealize.ShloMosaic

theorem total_apply (a : FVec Ideal S1x4x1024x1408 .bf16) (u : Fin 1) (p : Fin 1024) (q : Fin 1408) :
    (Host.reduceAdd (extf .f32 a bitsLt_bf16_f32) (constant S_ .f32 0x00000000#32) reducesTo_S1x4x1024x1408_S1x1024x1408_d1 h_S_ : FVec Ideal S1x1024x1408 .f32) (ix3 u p q)
      = ∑ k : Fin 4, a (ix4 u k p q) := by
  obtain rfl : u = 0 := Subsingleton.elim _ _
  pointwise!

end Cert.Reference44Ideal.ChipSumUp

open Idealize.ShloMosaic Idealize.ShloMosaic.TcCoe Idealize.SL.Sem

theorem Cert.ChipSumUp.claim : Cert.algebraic_Kernel44Ideal_Reference44Ideal := by
  intro m g m' g' _ args
  refine ⟨Cert.Kernel44Ideal.ChipSumUp.total m,
    (θ_run _ _ _).mono (fun r h c => ⟨(h c).1.trans (Cert.Kernel44Ideal.ChipSumUp.total_final m c), (h c).2⟩)
      (Cert.Kernel44Ideal.Value.run_blocks m g),
    (θ_run _ _ _).mono (fun r h c => ⟨(h c).1.trans ?_, (h c).2⟩) (Cert.Reference44Ideal.Value.run m' g')⟩
  rw [args c]
  refine funext fun (i : Cert.Reference44Ideal.S1x1024x1408.Idx) => ?_
  obtain ⟨u, p, q, rfl⟩ : ∃ u p q, i = ix3 u p q := ⟨i 0, i 1, i 2, funext fun a => by fin_cases a <;> rfl⟩
  exact Cert.Reference44Ideal.ChipSumUp.total_apply _ u p q

end
-- ==== Proof.CtxGrad.lean ====
/-
  The gradient of the context vector: the sum of four devices' parts, through the derivative of `silu`.
-/
module

public import proofs.«01_k».proof.Defs
public import proofs.«01_k».proof.Proof.Gen.Kernel41Ideal.Value
public import proofs.«01_k».proof.Proof.Gen.Reference41Ideal.Run
public import Idealize.ShloMosaic.Lib.Pointwise

@[expose] public section

noncomputable section

open Idealize.ShloMosaic Idealize.ShloMosaic.TcCoe Idealize.SL.Sem

namespace Cert.CtxGrad

open Cert.Reference41Ideal Cert.Reference41Ideal.Gen in
/-- The reference's result, as a function of its two arguments. -/
def gradient (a0 : FVec Ideal S4x1x1024 .f32) (a1 : FVec Ideal S1x1024 .f32) : FVec Ideal S1x1024 .f32 :=
  let one : FVec Ideal S1x1024 .f32 := broadcastInDim S1x1024 ![] bcast_S_S1x1024 (constant S_ .f32 0x3F800000#32)
  let total : FVec Ideal S1x1024 .f32 := Host.reduceAdd a0 (constant S_ .f32 0x00000000#32) reducesTo_S4x1x1024_S1x1024_d0 h_S_
  let sigmoid : FVec Ideal S1x1024 .f32 := Host.divf one (addf one (Host.exp (Host.negf a1)))
  addf (mulf total sigmoid) (mulf (mulf a1 total) (mulf sigmoid (subf one sigmoid)))

/-- The kernel adds the four parts one after the other, the reference sums over them; the rest is the same. -/
theorem same (a0 : FVec Ideal Cert.Kernel41Ideal.S4x1x1024 .f32) (a1 : FVec Ideal Cert.Kernel41Ideal.S1x1024 .f32) (l : Fin 1024) :
    Cert.Kernel41Ideal.Gen.k0_pay1 a0 a1 (ix2 0 l) = gradient a0 a1 (ix2 0 l) := by
  pointwise [Cert.Kernel41Ideal.Gen.k0_pay1, gradient]
  rw [Fin.sum_univ_four]
  rfl

theorem claim : Cert.algebraic_Kernel41Ideal_Reference41Ideal := fun m g m' g' _ args =>
  ⟨_, Cert.Kernel41Ideal.Value.run m g, (θ_run _ _ _).mono (fun r h c => ⟨(h c).1.trans (by
    rw [(args c).1, (args c).2]
    refine funext fun (i : Cert.Reference41Ideal.S1x1024.Idx) => ?_
    obtain ⟨u, l, rfl⟩ : ∃ u l, i = ix2 u l := ⟨i 0, i 1, funext fun a => by fin_cases a <;> rfl⟩
    obtain rfl : u = 0 := Subsingleton.elim _ _
    exact (same _ _ l).symm), (h c).2⟩) (Cert.Reference41Ideal.Value.run m' g')⟩

end Cert.CtxGrad

end
-- ==== Proof.PairSum.lean ====
/-
  The sums of two devices' weight gradients, rounded to bf16: kernel and reference add the same two arrays.
-/
module

public import proofs.«01_k».proof.Defs
public import proofs.«01_k».proof.Proof.Gen.Kernel50Ideal.Value
public import proofs.«01_k».proof.Proof.Gen.Reference50Ideal.Run
public import proofs.«01_k».proof.Proof.Gen.Kernel51Ideal.Value
public import proofs.«01_k».proof.Proof.Gen.Reference51Ideal.Run
public import proofs.«01_k».proof.Proof.Gen.Kernel52Ideal.Value
public import proofs.«01_k».proof.Proof.Gen.Reference52Ideal.Run
public import proofs.«01_k».proof.Proof.Gen.Kernel53Ideal.Value
public import proofs.«01_k».proof.Proof.Gen.Reference53Ideal.Run
public import proofs.«01_k».proof.Proof.Gen.Kernel54Ideal.Value
public import proofs.«01_k».proof.Proof.Gen.Reference54Ideal.Run

@[expose] public section

noncomputable section

namespace Cert.PairSum

open Idealize.ShloMosaic Idealize.ShloMosaic.TcCoe Idealize.SL.Sem

/-- The sum of the odd layer's input projection's weight gradients. -/
theorem claim50 : Cert.algebraic_Kernel50Ideal_Reference50Ideal := fun m g m' g' _ args =>
  ⟨_, Cert.Kernel50Ideal.Value.run m g, (θ_run _ _ _).mono (fun r h c => by
    have hc := h c; simp only [args c] at hc ⊢; exact hc) (Cert.Reference50Ideal.Value.run m' g')⟩

/-- The sum of the odd layer's output projection's weight gradients. -/
theorem claim51 : Cert.algebraic_Kernel51Ideal_Reference51Ideal := fun m g m' g' _ args =>
  ⟨_, Cert.Kernel51Ideal.Value.run m g, (θ_run _ _ _).mono (fun r h c => by
    have hc := h c; simp only [args c] at hc ⊢; exact hc) (Cert.Reference51Ideal.Value.run m' g')⟩

/-- The sum of the feed-forward blocks' first weights' gradients. -/
theorem claim52 : Cert.algebraic_Kernel52Ideal_Reference52Ideal := fun m g m' g' _ args =>
  ⟨_, Cert.Kernel52Ideal.Value.run m g, (θ_run _ _ _).mono (fun r h c => by
    have hc := h c; simp only [args c] at hc ⊢; exact hc) (Cert.Reference52Ideal.Value.run m' g')⟩

/-- The sum of the feed-forward blocks' second weights' gradients. -/
theorem claim53 : Cert.algebraic_Kernel53Ideal_Reference53Ideal := fun m g m' g' _ args =>
  ⟨_, Cert.Kernel53Ideal.Value.run m g, (θ_run _ _ _).mono (fun r h c => by
    have hc := h c; simp only [args c] at hc ⊢; exact hc) (Cert.Reference53Ideal.Value.run m' g')⟩

/-- The sum of the even layer's two weights' gradients, packed. -/
theorem claim54 : Cert.algebraic_Kernel54Ideal_Reference54Ideal := fun m g m' g' _ args =>
  ⟨_, Cert.Kernel54Ideal.Value.run m g, (θ_run _ _ _).mono (fun r h c => by
    have hc := h c; simp only [args c] at hc ⊢; exact hc) (Cert.Reference54Ideal.Value.run m' g')⟩

end Cert.PairSum

end
-- ==== Proof.SmallSum.lean ====
/-
  The sum of 8 devices' parts of the small weights' gradients, packed in rows of 128.
-/
module

public import proofs.«01_k».proof.Defs
public import proofs.«01_k».proof.Proof.Gen.Kernel47Ideal.Value
public import proofs.«01_k».proof.Proof.Gen.Reference47Ideal.Run
public import Idealize.ShloMosaic.Lib.Pipeline.Value
public import Idealize.ShloMosaic.Lib.Pointwise

@[expose] public section

noncomputable section

namespace Cert.Kernel47Ideal.SmallSum

open Cert.Kernel47Ideal Cert.Kernel47Ideal.Gen Idealize.ShloMosaic Idealize.ShloMosaic.TcCoe Idealize.SL.Sem
open Idealize.ShloMosaic.Pipeline (Dat)

variable (m : (ℓ : Loc nD τ sig) → Buf (Elt Ideal) ℓ)

abbrev parts (c : Dev nD) : FVec Ideal S1x8x1424x128 .f32 := m ((c : Thread nD τ).loc main_arg0)

/-- The sum, as a function of the whole array of parts. -/
def total (c : Dev nD) : FVec Ideal S1x1424x128 .f32 := fun i => ∑ k : Fin 8, parts m c (ix4 (i 0) k (i 1) (i 2))

/-- One block of the sum. -/
theorem pay_apply (x : Vec Ideal S1x8x712x128 .f32) (p : Fin 712) (q : Fin 128) :
    k0_pay1 x (ix3 0 p q) = ∑ k : Fin 8, x (ix4 0 k p q) := by
  rw [Fin.sum_univ_eight]
  pointwise [k0_pay1]

/-- The blocks of the result are numbered by the point; the block of the parts read is the same one, of every part. -/
theorem index : ∀ t : Fin cfg0.N,
    (win0_1.index t 0 = t.val / 2 ∧ win0_1.index t 1 = t.val % 2 ∧ win0_1.index t 2 = 0)
    ∧ win0_0.index t 0 = t.val / 2 ∧ win0_0.index t 1 = 0 ∧ win0_0.index t 2 = t.val % 2 ∧ win0_0.index t 3 = 0 :=
  (by decide +kernel : ∀ t : Fin grid0.N,
    (win0_1.index t 0 = t.val / 2 ∧ win0_1.index t 1 = t.val % 2 ∧ win0_1.index t 2 = 0)
    ∧ win0_0.index t 0 = t.val / 2 ∧ win0_0.index t 1 = 0 ∧ win0_0.index t 2 = t.val % 2 ∧ win0_0.index t 3 = 0)

theorem block (c : Dev nD) (t : Fin cfg0.N) (k : Fin 8) (p : Fin 712) (q : Fin 128) (i : S1x1424x128.Idx)
    (hi : (win0_1.rect t).emb (ix3 0 p q) = i) : iblk m c 0 t (ix4 0 k p q) = parts m c (ix4 (i 0) k (i 1) (i 2)) := by
  subst hi
  obtain ⟨⟨o0, o1, o2⟩, i0, i1, i2, i3⟩ := index t
  refine congrArg (parts m c) (funext fun a => Fin.ext ((win0_0.rect_emb_val t (ix4 0 k p q) a).trans ?_))
  match a with
  | ⟨0, _⟩ =>
    refine Eq.trans ?_ (win0_1.rect_emb_val t (ix3 0 p q) 0).symm
    show win0_0.index t 0 * 1 + 0 = win0_1.index t 0 * 1 + 0; rw [i0, o0]
  | ⟨1, _⟩ => show win0_0.index t 1 * 8 + k.val = k.val; rw [i1]; omega
  | ⟨2, _⟩ =>
    refine Eq.trans ?_ (win0_1.rect_emb_val t (ix3 0 p q) 1).symm
    show win0_0.index t 2 * 712 + p.val = win0_1.index t 1 * 712 + p.val; rw [i2, o1]
  | ⟨3, _⟩ =>
    refine Eq.trans ?_ (win0_1.rect_emb_val t (ix3 0 p q) 2).symm
    show win0_0.index t 3 * 128 + q.val = win0_1.index t 2 * 128 + q.val; rw [i3, o2]

/-- Every element is in the block of one point. -/
theorem cover (i : S1x1424x128.Idx) : ∃ t : Fin cfg0.N, i ∈ ((cfg0.win 1).blk t).view.set := by
  have h0 : (i 0 : Nat) < 1 := (i 0).isLt
  have h1 : (i 1 : Nat) < 1424 := (i 1).isLt
  have h2 : (i 2 : Nat) < 128 := (i 2).isLt
  have ht : (i 0 : Nat) * 2 + (i 1 : Nat) / 712 < cfg0.N := by have : cfg0.N = 2 := N_0; omega
  refine ⟨⟨_, ht⟩, ?_⟩
  show i ∈ ((View.whole main_v0).slice (win0_1.rect ⟨_, ht⟩)).set
  rw [View.set_slice_whole, Rect.mem_set_unit]
  obtain ⟨⟨o0, o1, o2⟩, -⟩ := index ⟨_, ht⟩
  dsimp only at o0 o1
  intro a
  match a with
  | ⟨0, _⟩ =>
    show win0_1.index ⟨_, ht⟩ 0 * 1 ≤ (i 0 : Nat) ∧ (i 0 : Nat) < win0_1.index ⟨_, ht⟩ 0 * 1 + 1
    omega
  | ⟨1, _⟩ =>
    show win0_1.index ⟨_, ht⟩ 1 * 712 ≤ (i 1 : Nat) ∧ (i 1 : Nat) < win0_1.index ⟨_, ht⟩ 1 * 712 + 712
    omega
  | ⟨2, _⟩ =>
    show win0_1.index ⟨_, ht⟩ 2 * 128 ≤ (i 2 : Nat) ∧ (i 2 : Nat) < win0_1.index ⟨_, ht⟩ 2 * 128 + 128
    omega

theorem total_final (c : Dev nD) : (dats m 0 c).arrAt 1 cfg0.N = total m c := by
  refine (dats m 0 c).arrAt_eq_of_cover 1 (total m c) (fun t _ => ?_) fun i =>
    (cover i).imp fun t h => ⟨flush0_1 t, h⟩
  rw [Value.flushed1]
  refine funext fun (y : S1x712x128.Idx) => ?_
  obtain ⟨u, p, q, rfl⟩ : ∃ u p q, y = ix3 u p q := ⟨y 0, y 1, y 2, funext fun a => by fin_cases a <;> rfl⟩
  obtain rfl : u = 0 := Subsingleton.elim _ _
  show out0_1 (iblk m c 0 t) (ix3 0 p q) = total m c ((win0_1.rect t).emb (ix3 0 p q))
  have z4 : (![0, 0, 0, 0] : Fin 4 → Nat) = fun _ => 0 := funext fun a => by fin_cases a <;> rfl
  have z3 : (![0, 0, 0] : Fin 3 → Nat) = fun _ => 0 := funext fun a => by fin_cases a <;> rfl
  unfold out0_1
  rw [View.canon_unit_zero z3, View.ld_unit_zero z4, pay_apply]
  exact Finset.sum_congr rfl fun k _ => block m c t k p q _ rfl

end Cert.Kernel47Ideal.SmallSum

namespace Cert.Reference47Ideal.SmallSum

open Cert.Reference47Ideal Cert.Reference47Ideal.Gen Idealize.ShloMosaic

theorem total_apply (a : FVec Ideal S1x8x1424x128 .f32) (u : Fin 1) (p : Fin 1424) (q : Fin 128) :
    (Host.reduceAdd a (constant S_ .f32 0x00000000#32) reducesTo_S1x8x1424x128_S1x1424x128_d1 h_S_ : FVec Ideal S1x1424x128 .f32) (ix3 u p q)
      = ∑ k : Fin 8, a (ix4 u k p q) := by
  obtain rfl : u = 0 := Subsingleton.elim _ _
  pointwise!

end Cert.Reference47Ideal.SmallSum

open Idealize.ShloMosaic Idealize.ShloMosaic.TcCoe Idealize.SL.Sem

theorem Cert.SmallSum.claim : Cert.algebraic_Kernel47Ideal_Reference47Ideal := by
  intro m g m' g' _ args
  refine ⟨Cert.Kernel47Ideal.SmallSum.total m,
    (θ_run _ _ _).mono (fun r h c => ⟨(h c).1.trans (Cert.Kernel47Ideal.SmallSum.total_final m c), (h c).2⟩)
      (Cert.Kernel47Ideal.Value.run_blocks m g),
    (θ_run _ _ _).mono (fun r h c => ⟨(h c).1.trans ?_, (h c).2⟩) (Cert.Reference47Ideal.Value.run m' g')⟩
  rw [args c]
  refine funext fun (i : Cert.Reference47Ideal.S1x1424x128.Idx) => ?_
  obtain ⟨u, p, q, rfl⟩ : ∃ u p q, i = ix3 u p q := ⟨i 0, i 1, i 2, funext fun a => by fin_cases a <;> rfl⟩
  exact Cert.Reference47Ideal.SmallSum.total_apply _ u p q

end
-- ==== Proof.Adamw.lean ====
/-
  The optimiser's calls: each one applies the AdamW step to one weight. The call works block by block and the reference on
  the whole arrays, but both apply the same operations at every entry, so what each call returns is what the reference
  computes once the arguments agree.
-/
module

public import proofs.«01_k».proof.Defs
public import proofs.«01_k».proof.Proof.Gen.Kernel21Ideal.Value
public import proofs.«01_k».proof.Proof.Gen.Reference21Ideal.Run
public import proofs.«01_k».proof.Proof.Gen.Kernel22Ideal.Value
public import proofs.«01_k».proof.Proof.Gen.Reference22Ideal.Run
public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import proofs.«01_k».proof.Proof.Gen.Kernel27Ideal.Value
public import proofs.«01_k».proof.Proof.Gen.Reference27Ideal.Run
public import proofs.«01_k».proof.Proof.Gen.Kernel28Ideal.Value
public import proofs.«01_k».proof.Proof.Gen.Reference28Ideal.Run
public import proofs.«01_k».proof.Proof.Gen.Kernel29Ideal.Value
public import proofs.«01_k».proof.Proof.Gen.Reference29Ideal.Run
public import proofs.«01_k».proof.Proof.Gen.Kernel30Ideal.Value
public import proofs.«01_k».proof.Proof.Gen.Reference30Ideal.Run
public import proofs.«01_k».proof.Proof.Gen.Kernel31Ideal.Value
public import proofs.«01_k».proof.Proof.Gen.Reference31Ideal.Run
public import proofs.«01_k».proof.Proof.Gen.Kernel32Ideal.Value
public import proofs.«01_k».proof.Proof.Gen.Reference32Ideal.Run
public import proofs.«01_k».proof.Proof.Gen.Kernel33Ideal.Value
public import proofs.«01_k».proof.Proof.Gen.Reference33Ideal.Run
public import proofs.«01_k».proof.Proof.Gen.Kernel34Ideal.Value
public import proofs.«01_k».proof.Proof.Gen.Reference34Ideal.Run
public import proofs.«01_k».proof.Proof.Gen.Kernel35Ideal.Value
public import proofs.«01_k».proof.Proof.Gen.Reference35Ideal.Run
public import proofs.«01_k».proof.Proof.Gen.Kernel36Ideal.Value
public import proofs.«01_k».proof.Proof.Gen.Reference36Ideal.Run
public import proofs.«01_k».proof.Proof.Gen.Kernel37Ideal.Value
public import proofs.«01_k».proof.Proof.Gen.Reference37Ideal.Run

@[expose] public section

noncomputable section

namespace Cert.Adamw

open Idealize.ShloMosaic Idealize.ShloMosaic.TcCoe Idealize.SL.Sem

/-- The step of `even_w_in`. -/
theorem claim21 : Cert.algebraic_Kernel21Ideal_Reference21Ideal := fun m g m' g' _ args =>
  ⟨_, _, _, Cert.Kernel21Ideal.Value.run m g, (θ_run _ _ _).mono (fun r h c => by
    have hc := h c; simp only [args c] at hc ⊢; exact hc) (Cert.Reference21Ideal.Value.run m' g')⟩

/-- The step of `even_w_out` (and of `odd_w_out`, of the same shape). -/
theorem claim22 : Cert.algebraic_Kernel22Ideal_Reference22Ideal := fun m g m' g' _ args =>
  ⟨_, _, _, Cert.Kernel22Ideal.Value.run m g, (θ_run _ _ _).mono (fun r h c => by
    have hc := h c; simp only [args c] at hc ⊢; exact hc) (Cert.Reference22Ideal.Value.run m' g')⟩

/-- The step of `odd_w_in`. -/
theorem claim23 : Cert.algebraic_Kernel23Ideal_Reference23Ideal := fun m g m' g' _ args =>
  ⟨_, _, _, Cert.Kernel23Ideal.Value.run m g, (θ_run _ _ _).mono (fun r h c => by
    have hc := h c; simp only [args c] at hc ⊢; exact hc) (Cert.Reference23Ideal.Value.run m' g')⟩

/-- The step of `ffn_w_up`. -/
theorem claim24 : Cert.algebraic_Kernel24Ideal_Reference24Ideal := fun m g m' g' _ args =>
  ⟨_, _, _, Cert.Kernel24Ideal.Value.run m g, (θ_run _ _ _).mono (fun r h c => by
    have hc := h c; simp only [args c] at hc ⊢; exact hc) (Cert.Reference24Ideal.Value.run m' g')⟩

/-- The step of `ffn_w_down`. -/
theorem claim25 : Cert.algebraic_Kernel25Ideal_Reference25Ideal := fun m g m' g' _ args =>
  ⟨_, _, _, Cert.Kernel25Ideal.Value.run m g, (θ_run _ _ _).mono (fun r h c => by
    have hc := h c; simp only [args c] at hc ⊢; exact hc) (Cert.Reference25Ideal.Value.run m' g')⟩

/-- The step of `ada_w`. -/
theorem claim26 : Cert.algebraic_Kernel26Ideal_Reference26Ideal := fun m g m' g' _ args =>
  ⟨_, _, _, Cert.Kernel26Ideal.Value.run m g, (θ_run _ _ _).mono (fun r h c => by
    have hc := h c; simp only [args c] at hc ⊢; exact hc) (Cert.Reference26Ideal.Value.run m' g')⟩

/-- The step of `c_ctx`. -/
theorem claim27 : Cert.algebraic_Kernel27Ideal_Reference27Ideal := fun m g m' g' _ args =>
  ⟨_, _, _, Cert.Kernel27Ideal.Value.run m g, (θ_run _ _ _).mono (fun r h c => by
    have hc := h c; simp only [args c] at hc ⊢; exact hc) (Cert.Reference27Ideal.Value.run m' g')⟩

/-- The step of `ada_b`. -/
theorem claim28 : Cert.algebraic_Kernel28Ideal_Reference28Ideal := fun m g m' g' _ args =>
  ⟨_, _, _, Cert.Kernel28Ideal.Value.run m g, (θ_run _ _ _).mono (fun r h c => by
    have hc := h c; simp only [args c] at hc ⊢; exact hc) (Cert.Reference28Ideal.Value.run m' g')⟩

/-- The step of `ln_g`. -/
theorem claim29 : Cert.algebraic_Kernel29Ideal_Reference29Ideal := fun m g m' g' _ args =>
  ⟨_, _, _, Cert.Kernel29Ideal.Value.run m g, (θ_run _ _ _).mono (fun r h c => by
    have hc := h c; simp only [args c] at hc ⊢; exact hc) (Cert.Reference29Ideal.Value.run m' g')⟩

/-- The step of `gdn_conv_w`. -/
theorem claim30 : Cert.algebraic_Kernel30Ideal_Reference30Ideal := fun m g m' g' _ args =>
  ⟨_, _, _, Cert.Kernel30Ideal.Value.run m g, (θ_run _ _ _).mono (fun r h c => by
    have hc := h c; simp only [args c] at hc ⊢; exact hc) (Cert.Reference30Ideal.Value.run m' g')⟩

/-- The step of `gdn_a_log`. -/
theorem claim31 : Cert.algebraic_Kernel31Ideal_Reference31Ideal := fun m g m' g' _ args =>
  ⟨_, _, _, Cert.Kernel31Ideal.Value.run m g, (θ_run _ _ _).mono (fun r h c => by
    have hc := h c; simp only [args c] at hc ⊢; exact hc) (Cert.Reference31Ideal.Value.run m' g')⟩

/-- The step of `gdn_norm_w`. -/
theorem claim32 : Cert.algebraic_Kernel32Ideal_Reference32Ideal := fun m g m' g' _ args =>
  ⟨_, _, _, Cert.Kernel32Ideal.Value.run m g, (θ_run _ _ _).mono (fun r h c => by
    have hc := h c; simp only [args c] at hc ⊢; exact hc) (Cert.Reference32Ideal.Value.run m' g')⟩

/-- The step of `pool_w`. -/
theorem claim33 : Cert.algebraic_Kernel33Ideal_Reference33Ideal := fun m g m' g' _ args =>
  ⟨_, _, _, Cert.Kernel33Ideal.Value.run m g, (θ_run _ _ _).mono (fun r h c => by
    have hc := h c; simp only [args c] at hc ⊢; exact hc) (Cert.Reference33Ideal.Value.run m' g')⟩

/-- The step of `pool_scale`. -/
theorem claim34 : Cert.algebraic_Kernel34Ideal_Reference34Ideal := fun m g m' g' _ args =>
  ⟨_, _, _, Cert.Kernel34Ideal.Value.run m g, (θ_run _ _ _).mono (fun r h c => by
    have hc := h c; simp only [args c] at hc ⊢; exact hc) (Cert.Reference34Ideal.Value.run m' g')⟩

/-- The step of `sconv_w`. -/
theorem claim35 : Cert.algebraic_Kernel35Ideal_Reference35Ideal := fun m g m' g' _ args =>
  ⟨_, _, _, Cert.Kernel35Ideal.Value.run m g, (θ_run _ _ _).mono (fun r h c => by
    have hc := h c; simp only [args c] at hc ⊢; exact hc) (Cert.Reference35Ideal.Value.run m' g')⟩

/-- The step of `conf_conv_w`. -/
theorem claim36 : Cert.algebraic_Kernel36Ideal_Reference36Ideal := fun m g m' g' _ args =>
  ⟨_, _, _, Cert.Kernel36Ideal.Value.run m g, (θ_run _ _ _).mono (fun r h c => by
    have hc := h c; simp only [args c] at hc ⊢; exact hc) (Cert.Reference36Ideal.Value.run m' g')⟩

/-- The step of `ffn_conv_w`. -/
theorem claim37 : Cert.algebraic_Kernel37Ideal_Reference37Ideal := fun m g m' g' _ args =>
  ⟨_, _, _, Cert.Kernel37Ideal.Value.run m g, (θ_run _ _ _).mono (fun r h c => by
    have hc := h c; simp only [args c] at hc ⊢; exact hc) (Cert.Reference37Ideal.Value.run m' g')⟩

end Cert.Adamw

end
-- ==== Proof.Scan.lean ====
/-
  The backward scan (`scan_bwd`): the run of the whole call, and its frame, over any floats.  The call carries the
  gradient of the state from chunk to chunk in a scratch array.  Nothing is said of what the scratch or the outputs
  hold: they are owned at some contents before and after every grid point, and the inputs at their blocks.
-/
module

public import proofs.«01_k».proof.Defs
public import proofs.«01_k».proof.Proof.Gen.Kernel
public import proofs.«01_k».proof.Proof.Gen.KernelIdeal.Frame.RunB
public import Idealize.ShloMosaic.Lib.Claim

@[expose] public section

set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer written piece by piece is owned at some contents. -/
theorem some_contents {s : Shape} {e : EltTy} (c : Dev nD) (M : Memref sig .tc .vmem s e)
    (L : List (View.Piece (Elt F) s e)) :
    (iprop(∃ f, M.view.loc (c : Thread nD τ) ↦[M.view.set]{fullShare} M.view.writes (Elt F) f L) : sProp 𝕄)
      ⊢ iprop(∃ d, owns (c : Thread nD τ) M fullShare d) := by
  unfold owns
  iintro ⟨%f, H⟩
  iexists _, _; isplitr; swap; · iexact H
  ipureintro; rfl

/-- The outputs are the last six windows. -/
def isOut : Fin 16 → Bool := fun w => decide (10 ≤ w.val)

/-- What the proof follows on core `c`: the inputs hold their blocks, the outputs nothing that has a name, and the scratch
    something before every point. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨n + 10, h⟩ => Pipeline.Dat.unnamed (cfg := cfg0) ⟨n + 10, h⟩ t
  Φ _ := Pipeline.ΦA spec0 c
  q w := Pipeline.shareOf spec0 w
  owed _ := 0

/-- The inputs' buffers are left as they were. -/
theorem after_in (c : Dev nD) (t : Fin cfg0.N) :
    (dat m c).after 0 t = iblk m c 0 t
    ∧ (dat m c).after 1 t = iblk m c 1 t
    ∧ (dat m c).after 2 t = iblk m c 2 t
    ∧ (dat m c).after 3 t = iblk m c 3 t
    ∧ (dat m c).after 4 t = iblk m c 4 t
    ∧ (dat m c).after 5 t = iblk m c 5 t
    ∧ (dat m c).after 6 t = iblk m c 6 t
    ∧ (dat m c).after 7 t = iblk m c 7 t
    ∧ (dat m c).after 8 t = iblk m c 8 t
    ∧ (dat m c).after 9 t = iblk m c 9 t := by
  refine ⟨?_, ?_, ?_, ?_, ?_, ?_, ?_, ?_, ?_, ?_⟩ <;> dsimp only [dat]

/-- The arrays are the ones that the call finds. -/
theorem arrays (c : Dev nD) (w : Fin cfg0.W) : (dat m c).A w = V m c (Pipeline.arrRef spec0 w) := by
  dsimp only [dat]

/-- The body at any point: from the inputs at their blocks, and outputs and scratch at anything, to the same. At the first
    point it clears the scratch, at the others it reads it. -/
theorem body_any (c : Dev nD) (t : Fin cfg0.N) :
    iprop(Pipeline.ΦA spec0 c ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ d, owns (c : Thread nD τ) (ms0_4 t) fullShare ((dat m c).before 4 t d))
    ∗ (∃ d, owns (c : Thread nD τ) (ms0_5 t) fullShare ((dat m c).before 5 t d))
    ∗ (∃ d, owns (c : Thread nD τ) (ms0_6 t) fullShare ((dat m c).before 6 t d))
    ∗ (∃ d, owns (c : Thread nD τ) (ms0_7 t) fullShare ((dat m c).before 7 t d))
    ∗ (∃ d, owns (c : Thread nD τ) (ms0_8 t) fullShare ((dat m c).before 8 t d))
    ∗ (∃ d, owns (c : Thread nD τ) (ms0_9 t) fullShare ((dat m c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))
    ⊢ wp frame (wpE (defs₀ (F := F)) Variants.none c none) Set.univ (bodyAt0 t) (fun _ =>
      iprop(Pipeline.ΦA spec0 c ∗ (dat m c).owesAt () t.succ
    ∗ owns (c : Thread nD τ) (ms0_0 t) fullShare ((dat m c).after 0 t)
    ∗ owns (c : Thread nD τ) (ms0_1 t) fullShare ((dat m c).after 1 t)
    ∗ owns (c : Thread nD τ) (ms0_2 t) fullShare ((dat m c).after 2 t)
    ∗ owns (c : Thread nD τ) (ms0_3 t) fullShare ((dat m c).after 3 t)
    ∗ owns (c : Thread nD τ) (ms0_4 t) fullShare ((dat m c).after 4 t)
    ∗ owns (c : Thread nD τ) (ms0_5 t) fullShare ((dat m c).after 5 t)
    ∗ owns (c : Thread nD τ) (ms0_6 t) fullShare ((dat m c).after 6 t)
    ∗ owns (c : Thread nD τ) (ms0_7 t) fullShare ((dat m c).after 7 t)
    ∗ owns (c : Thread nD τ) (ms0_8 t) fullShare ((dat m c).after 8 t)
    ∗ owns (c : Thread nD τ) (ms0_9 t) fullShare ((dat m c).after 9 t)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))) := by
  unfold bodyAt0
  obtain ⟨a0, a1, a2, a3, a4, a5, a6, a7, a8, a9⟩ : _ := after_in m c t
  simp only [before0_0_of m (dat m c) (arrays m c 0) (fun t => (after_in m c t).1),
    before0_1_of m (dat m c) (arrays m c 1) (fun t => (after_in m c t).2.1),
    before0_2_of m (dat m c) (arrays m c 2) (fun t => (after_in m c t).2.2.1),
    before0_3_of m (dat m c) (arrays m c 3) (fun t => (after_in m c t).2.2.2.1),
    before0_4_of m (dat m c) (arrays m c 4) (fun t => (after_in m c t).2.2.2.2.1),
    before0_5_of m (dat m c) (arrays m c 5) (fun t => (after_in m c t).2.2.2.2.2.1),
    before0_6_of m (dat m c) (arrays m c 6) (fun t => (after_in m c t).2.2.2.2.2.2.1),
    before0_7_of m (dat m c) (arrays m c 7) (fun t => (after_in m c t).2.2.2.2.2.2.2.1),
    before0_8_of m (dat m c) (arrays m c 8) (fun t => (after_in m c t).2.2.2.2.2.2.2.2.1),
    before0_9_of m (dat m c) (arrays m c 9) (fun t => (after_in m c t).2.2.2.2.2.2.2.2.2)]
  rw [show (dat m c).owesAt () t.succ = (dat m c).owesAt () t.castSucc from rfl, PhiA0_eq, a0, a1, a2, a3, a4, a5, a6, a7, a8, a9]
  iintro ⟨⟨⟨%es, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  by_cases h0 : t.val % 64 = 0
  · iapply ((kernelRun0_A c (grid0.coords t) _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS]; · iexists _; iexact HS
    iintro ⟨H0, H1, H2, H3, H4, H5, H6, H7, H8, H9, H10, H11, H12, H13, H14, H15, HS⟩
    isplitl [HS Hg]
    · isplitl [HS]; · iapply (some_contents c _ _); iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (some_contents c _ _); iexact H10
    isplitl [H11]; · iapply (some_contents c _ _); iexact H11
    isplitl [H12]; · iapply (some_contents c _ _); iexact H12
    isplitl [H13]; · iapply (some_contents c _ _); iexact H13
    isplitl [H14]; · iapply (some_contents c _ _); iexact H14
    iapply (some_contents c _ _); iexact H15
  · iapply ((kernelRun0_B c (grid0.coords t) _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) es).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS]; · iexact HS
    iintro ⟨H0, H1, H2, H3, H4, H5, H6, H7, H8, H9, H10, H11, H12, H13, H14, H15, HS⟩
    isplitl [HS Hg]
    · isplitl [HS]; · iapply (some_contents c _ _); iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (some_contents c _ _); iexact H10
    isplitl [H11]; · iapply (some_contents c _ _); iexact H11
    isplitl [H12]; · iapply (some_contents c _ _); iexact H12
    isplitl [H13]; · iapply (some_contents c _ _); iexact H13
    isplitl [H14]; · iapply (some_contents c _ _); iexact H14
    iapply (some_contents c _ _); iexact H15

/-- The body's call is the body with the point's buffers. -/
theorem body_row (t : Fin cfg0.N) :
    defs₀ (F := F) .tc cfg0.body (cfg0.bodyArgs t (cfg0.slots t)) = bodyAt0 t := by
  unfold defs₀; rw [Defs.onTc_tc]

/-- What the pipeline asks of the body, with the outputs' contents forgotten. -/
theorem body_ok (c : Dev nD) : BodyObligation (dat (F := F) m c) (defs₀ (F := F)) Variants.none () Set.univ isOut := fun t => by
  rw [bigSep_W0, bigSep_W0, body_row]
  exact triple_restated (body_any m c t) rfl .rfl fun _ => .rfl

set_option backward.isDefEq.respectTransparency.types false in
/-- The run of the whole call: it ends, every input array is as it was, and every counter is at zero. -/
theorem run_call : θ_run defs (onTc (τ := τ) (main (F := F))) (s₀ m ρ) (fun r =>
    (Pipeline.RDat.FramePost (cfgs 0) (fun c => (dat m c).toRForget isOut) (V m)) r ∧ r.2.sem = fun _ => 0) :=
  Pipeline.θ_run_frame_track_forget_shared (Q' := _) cfgs (fun _ => dat m) (0 : Fin 1) launch₀0 defs₀ Variants.none isOut m ρ main
    (hbody := fun c => (body_ok m c).loose) (hq := fun _ _ _ => rfl) (howed := fun _ _ => rfl) (V := V m)
    (hmain := hmain m Variants.none) (hA := arrays m) (hin := fun _ => .rfl) (hout := fun _ => .rfl)

/-- The frame: the arguments are as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => by
    have same (w : Fin cfg0.W) (hw : isOut w = false) :=
      (Pipeline.RDat.FramePost.arr_in h.1 c w (by revert hw; revert w; decide)).trans (arrays m c w)
    exact ⟨same 1 rfl, same 3 rfl, same 4 rfl, same 5 rfl, same 6 rfl, same 7 rfl, same 8 rfl, same 9 rfl⟩, h.2⟩) (run_call m ρ)

set_option maxRecDepth 100000 in
/-- The program over the machine's floats has the text of the program over the extended reals, so its frame is a frame of
    that text. -/
theorem same_text : Cert.quiescent_Kernel
    = ∀ (m : (ℓ : Loc nD τ sig) → Buf (Elt Bits) ℓ) (ρ : Dev nD → PrngReg), Cert.Pre_Kernel m →
      θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  sl_kernel_rfl

/-- The frame of the program over the machine's floats. -/
theorem frame_bits : Cert.quiescent_Kernel := by
  rw [same_text]
  exact fun m ρ _ => frame (F := Bits) m ρ

end Cert.KernelIdeal.Scan

end
-- ==== Proof.lean ====
/- The claim: the facts of the programs, their frames, and the value claims of the modules beside this one. -/
module

public import proofs.«01_k».proof.Defs
public import proofs.«01_k».proof.Proof.Gen.Kernel
public import proofs.«01_k».proof.Proof.Gen.KernelIdeal
public import proofs.«01_k».proof.Proof.Gen.Kernel2Ideal.Value
public import proofs.«01_k».proof.Proof.Gen.Reference2Ideal.Run
public import proofs.«01_k».proof.Proof.Gen.Kernel2.Frame
public import proofs.«01_k».proof.Proof.Gen.Kernel3Ideal.Value
public import proofs.«01_k».proof.Proof.Gen.Reference3Ideal.Run
public import proofs.«01_k».proof.Proof.Gen.Kernel3.Frame
public import proofs.«01_k».proof.Proof.Gen.Kernel4Ideal.Value
public import proofs.«01_k».proof.Proof.Gen.Reference4Ideal.Run
public import proofs.«01_k».proof.Proof.Gen.Kernel4.Frame
public import proofs.«01_k».proof.Proof.Gen.Kernel5Ideal.Value
public import proofs.«01_k».proof.Proof.Gen.Reference5Ideal.Run
public import proofs.«01_k».proof.Proof.Gen.Kernel5.Frame
public import proofs.«01_k».proof.Proof.Gen.Kernel6Ideal.Value
public import proofs.«01_k».proof.Proof.Gen.Reference6Ideal.Run
public import proofs.«01_k».proof.Proof.Gen.Kernel6.Frame
public import proofs.«01_k».proof.Proof.Gen.Kernel7Ideal.Value
public import proofs.«01_k».proof.Proof.Gen.Reference7Ideal.Run
public import proofs.«01_k».proof.Proof.Gen.Kernel7.Frame
public import proofs.«01_k».proof.Proof.Gen.Kernel9Ideal.Value
public import proofs.«01_k».proof.Proof.Gen.Reference9Ideal.Run
public import proofs.«01_k».proof.Proof.Gen.Kernel9.Frame
public import proofs.«01_k».proof.Proof.Gen.Kernel10Ideal.Value
public import proofs.«01_k».proof.Proof.Gen.Reference10Ideal.Run
public import proofs.«01_k».proof.Proof.Gen.Kernel10.Frame
public import proofs.«01_k».proof.Proof.Gen.Kernel11Ideal.Value
public import proofs.«01_k».proof.Proof.Gen.Reference11Ideal.Run
public import proofs.«01_k».proof.Proof.Gen.Kernel11.Frame
public import proofs.«01_k».proof.Proof.Gen.Kernel12Ideal.Value
public import proofs.«01_k».proof.Proof.Gen.Reference12Ideal.Run
public import proofs.«01_k».proof.Proof.Gen.Kernel12.Frame
public import proofs.«01_k».proof.Proof.Gen.Kernel13Ideal.Value
public import proofs.«01_k».proof.Proof.Gen.Reference13Ideal.Run
public import proofs.«01_k».proof.Proof.Gen.Kernel13.Frame
public import proofs.«01_k».proof.Proof.Gen.Kernel14Ideal.Value
public import proofs.«01_k».proof.Proof.Gen.Reference14Ideal.Run
public import proofs.«01_k».proof.Proof.Gen.Kernel14.Frame
public import proofs.«01_k».proof.Proof.Gen.Kernel15Ideal.Value
public import proofs.«01_k».proof.Proof.Gen.Reference15Ideal.Run
public import proofs.«01_k».proof.Proof.Gen.Kernel15.Frame
public import proofs.«01_k».proof.Proof.Gen.Kernel16Ideal.Value
public import proofs.«01_k».proof.Proof.Gen.Reference16Ideal.Run
public import proofs.«01_k».proof.Proof.Gen.Kernel16.Frame
public import proofs.«01_k».proof.Proof.Gen.Kernel21Ideal.Value
public import proofs.«01_k».proof.Proof.Gen.Reference21Ideal.Run
public import proofs.«01_k».proof.Proof.Gen.Kernel21.Frame
public import proofs.«01_k».proof.Proof.Gen.Kernel22Ideal.Value
public import proofs.«01_k».proof.Proof.Gen.Reference22Ideal.Run
public import proofs.«01_k».proof.Proof.Gen.Kernel22.Frame
public import proofs.«01_k».proof.Proof.Gen.Kernel23Ideal.Value
public import proofs.«01_k».proof.Proof.Gen.Reference23Ideal.Run
public import proofs.«01_k».proof.Proof.Gen.Kernel23.Frame
public import proofs.«01_k».proof.Proof.Gen.Kernel24Ideal.Value
public import proofs.«01_k».proof.Proof.Gen.Reference24Ideal.Run
public import proofs.«01_k».proof.Proof.Gen.Kernel24.Frame
public import proofs.«01_k».proof.Proof.Gen.Kernel25Ideal.Value
public import proofs.«01_k».proof.Proof.Gen.Reference25Ideal.Run
public import proofs.«01_k».proof.Proof.Gen.Kernel25.Frame
public import proofs.«01_k».proof.Proof.Gen.Kernel26Ideal.Value
public import proofs.«01_k».proof.Proof.Gen.Reference26Ideal.Run
public import proofs.«01_k».proof.Proof.Gen.Kernel26.Frame
public import proofs.«01_k».proof.Proof.Gen.Kernel27Ideal.Value
public import proofs.«01_k».proof.Proof.Gen.Reference27Ideal.Run
public import proofs.«01_k».proof.Proof.Gen.Kernel27.Frame
public import proofs.«01_k».proof.Proof.Gen.Kernel28Ideal.Value
public import proofs.«01_k».proof.Proof.Gen.Reference28Ideal.Run
public import proofs.«01_k».proof.Proof.Gen.Kernel28.Frame
public import proofs.«01_k».proof.Proof.Gen.Kernel29Ideal.Value
public import proofs.«01_k».proof.Proof.Gen.Reference29Ideal.Run
public import proofs.«01_k».proof.Proof.Gen.Kernel29.Frame
public import proofs.«01_k».proof.Proof.Gen.Kernel30Ideal.Value
public import proofs.«01_k».proof.Proof.Gen.Reference30Ideal.Run
public import proofs.«01_k».proof.Proof.Gen.Kernel30.Frame
public import proofs.«01_k».proof.Proof.Gen.Kernel31Ideal.Value
public import proofs.«01_k».proof.Proof.Gen.Reference31Ideal.Run
public import proofs.«01_k».proof.Proof.Gen.Kernel31.Frame
public import proofs.«01_k».proof.Proof.Gen.Kernel32Ideal.Value
public import proofs.«01_k».proof.Proof.Gen.Reference32Ideal.Run
public import proofs.«01_k».proof.Proof.Gen.Kernel32.Frame
public import proofs.«01_k».proof.Proof.Gen.Kernel33Ideal.Value
public import proofs.«01_k».proof.Proof.Gen.Reference33Ideal.Run
public import proofs.«01_k».proof.Proof.Gen.Kernel33.Frame
public import proofs.«01_k».proof.Proof.Gen.Kernel34Ideal.Value
public import proofs.«01_k».proof.Proof.Gen.Reference34Ideal.Run
public import proofs.«01_k».proof.Proof.Gen.Kernel34.Frame
public import proofs.«01_k».proof.Proof.Gen.Kernel35Ideal.Value
public import proofs.«01_k».proof.Proof.Gen.Reference35Ideal.Run
public import proofs.«01_k».proof.Proof.Gen.Kernel35.Frame
public import proofs.«01_k».proof.Proof.Gen.Kernel36Ideal.Value
public import proofs.«01_k».proof.Proof.Gen.Reference36Ideal.Run
public import proofs.«01_k».proof.Proof.Gen.Kernel36.Frame
public import proofs.«01_k».proof.Proof.Gen.Kernel37Ideal.Value
public import proofs.«01_k».proof.Proof.Gen.Reference37Ideal.Run
public import proofs.«01_k».proof.Proof.Gen.Kernel37.Frame
public import proofs.«01_k».proof.Proof.Gen.Kernel40Ideal.Value
public import proofs.«01_k».proof.Proof.Gen.Reference40Ideal.Run
public import proofs.«01_k».proof.Proof.Gen.Kernel40.Frame
public import proofs.«01_k».proof.Proof.Gen.Kernel41Ideal.Value
public import proofs.«01_k».proof.Proof.Gen.Reference41Ideal.Run
public import proofs.«01_k».proof.Proof.Gen.Kernel41.Frame
public import proofs.«01_k».proof.Proof.Gen.Kernel42Ideal.Value
public import proofs.«01_k».proof.Proof.Gen.Reference42Ideal.Run
public import proofs.«01_k».proof.Proof.Gen.Kernel42.Frame
public import proofs.«01_k».proof.Proof.Gen.Kernel43Ideal.Value
public import proofs.«01_k».proof.Proof.Gen.Reference43Ideal.Run
public import proofs.«01_k».proof.Proof.Gen.Kernel43.Frame
public import proofs.«01_k».proof.Proof.Gen.Kernel44Ideal.Value
public import proofs.«01_k».proof.Proof.Gen.Reference44Ideal.Run
public import proofs.«01_k».proof.Proof.Gen.Kernel44.Frame
public import proofs.«01_k».proof.Proof.Gen.Kernel45Ideal.Value
public import proofs.«01_k».proof.Proof.Gen.Reference45Ideal.Run
public import proofs.«01_k».proof.Proof.Gen.Kernel45.Frame
public import proofs.«01_k».proof.Proof.Gen.Kernel46Ideal.Value
public import proofs.«01_k».proof.Proof.Gen.Reference46Ideal.Run
public import proofs.«01_k».proof.Proof.Gen.Kernel46.Frame
public import proofs.«01_k».proof.Proof.Gen.Kernel47Ideal.Value
public import proofs.«01_k».proof.Proof.Gen.Reference47Ideal.Run
public import proofs.«01_k».proof.Proof.Gen.Kernel47.Frame
public import proofs.«01_k».proof.Proof.Gen.Kernel50Ideal.Value
public import proofs.«01_k».proof.Proof.Gen.Reference50Ideal.Run
public import proofs.«01_k».proof.Proof.Gen.Kernel50.Frame
public import proofs.«01_k».proof.Proof.Gen.Kernel51Ideal.Value
public import proofs.«01_k».proof.Proof.Gen.Reference51Ideal.Run
public import proofs.«01_k».proof.Proof.Gen.Kernel51.Frame
public import proofs.«01_k».proof.Proof.Gen.Kernel52Ideal.Value
public import proofs.«01_k».proof.Proof.Gen.Reference52Ideal.Run
public import proofs.«01_k».proof.Proof.Gen.Kernel52.Frame
public import proofs.«01_k».proof.Proof.Gen.Kernel53Ideal.Value
public import proofs.«01_k».proof.Proof.Gen.Reference53Ideal.Run
public import proofs.«01_k».proof.Proof.Gen.Kernel53.Frame
public import proofs.«01_k».proof.Proof.Gen.Kernel54Ideal.Value
public import proofs.«01_k».proof.Proof.Gen.Reference54Ideal.Run
public import proofs.«01_k».proof.Proof.Gen.Kernel54.Frame
public import proofs.«01_k».proof.Proof.Gen.Kernel55Ideal.Value
public import proofs.«01_k».proof.Proof.Gen.Reference55Ideal.Run
public import proofs.«01_k».proof.Proof.Gen.Kernel55.Frame
public import proofs.«01_k».proof.Proof.Gen.Kernel56Ideal.Value
public import proofs.«01_k».proof.Proof.Gen.Reference56Ideal.Run
public import proofs.«01_k».proof.Proof.Gen.Kernel56.Frame
public import proofs.«01_k».proof.Proof.FfnDownBwdClaim
public import proofs.«01_k».proof.Proof.FfnUpBwdClaim
public import proofs.«01_k».proof.Proof.DwUpClaim
public import proofs.«01_k».proof.Proof.DwDownClaim
public import proofs.«01_k».proof.Proof.FfnUpClaim
public import proofs.«01_k».proof.Proof.FfnDownClaim
public import proofs.«01_k».proof.Proof.FfnDownLossClaim
public import proofs.«01_k».proof.Proof.OddInBwdClaim
public import proofs.«01_k».proof.Proof.DwOddInClaim
public import proofs.«01_k».proof.Proof.OddInClaim
public import proofs.«01_k».proof.Proof.EvenInBwdClaim
public import proofs.«01_k».proof.Proof.EvenInClaim
public import proofs.«01_k».proof.Proof.DwEvenInClaim
public import proofs.«01_k».proof.Proof.DwOutClaim
public import proofs.«01_k».proof.Proof.EvenInCtxClaim
public import proofs.«01_k».proof.Proof.EvenInCtxBwdClaim
public import proofs.«01_k».proof.Proof.AdaGrads
public import proofs.«01_k».proof.Proof.ChipSumDown
public import proofs.«01_k».proof.Proof.ChipSumFlat
public import proofs.«01_k».proof.Proof.ChipSumOddIn
public import proofs.«01_k».proof.Proof.ChipSumOddOut
public import proofs.«01_k».proof.Proof.ChipSumUp
public import proofs.«01_k».proof.Proof.CtxGrad
public import proofs.«01_k».proof.Proof.PairSum
public import proofs.«01_k».proof.Proof.SmallSum
public import proofs.«01_k».proof.Proof.Adamw
public import proofs.«01_k».proof.Proof.Scan
public import Idealize.ShloMosaic.Lib.Quiescent
public import Idealize.ShloMosaic.Adequacy
public import Idealize.ShloMosaic.Init

@[expose] public section

noncomputable section

namespace Cert.Proof

open Idealize.ShloMosaic Idealize.SL.Sem

/-- A program without semaphores that leaves each device as `B` says ends as anything `A` that `B` entails, every counter
    at zero. -/
theorem ends_quiet {nD : ℕ} {τ : Topo} {sig : RefSig} {Val : EltTy → Type} {Λ : Labels} {defs : Defs nD τ sig Val Λ}
    {p : (c : Thread nD τ) → Prog (TpuEff nD τ sig Val Λ c.2) PUnit} {s : MemSt nD τ sig Val}
    {A B : Dev nD → PUnit × MemSt nD τ sig Val → Prop} (hs : sig.nSem + sig.nDmaSem = 0)
    (run : θ_run defs p s fun r => ∀ c, B c r) (h : ∀ c r, B c r → A c r) :
    θ_run defs p s fun r => (∀ c, A c r) ∧ r.2.sem = fun _ => 0 :=
  (θ_run defs p s).mono (fun r hr => ⟨fun c => h c r (hr c), sem_eq_zero_of_no_sems hs r.2⟩) run

theorem claim : Cert.Claim := ⟨
  Cert.Kernel.Gen.facts, Cert.KernelIdeal.Gen.facts, Cert.Kernel2.Gen.facts, Cert.Kernel2Ideal.Gen.facts,
  Cert.Reference2Ideal.Gen.facts, Cert.Kernel3.Gen.facts, Cert.Kernel3Ideal.Gen.facts,
  Cert.Reference3Ideal.Gen.facts, Cert.Kernel4.Gen.facts, Cert.Kernel4Ideal.Gen.facts,
  Cert.Reference4Ideal.Gen.facts, Cert.Kernel5.Gen.facts, Cert.Kernel5Ideal.Gen.facts,
  Cert.Reference5Ideal.Gen.facts, Cert.Kernel6.Gen.facts, Cert.Kernel6Ideal.Gen.facts,
  Cert.Reference6Ideal.Gen.facts, Cert.Kernel7.Gen.facts, Cert.Kernel7Ideal.Gen.facts,
  Cert.Reference7Ideal.Gen.facts, Cert.Kernel9.Gen.facts, Cert.Kernel9Ideal.Gen.facts,
  Cert.Reference9Ideal.Gen.facts, Cert.Kernel10.Gen.facts, Cert.Kernel10Ideal.Gen.facts,
  Cert.Reference10Ideal.Gen.facts, Cert.Kernel11.Gen.facts, Cert.Kernel11Ideal.Gen.facts,
  Cert.Reference11Ideal.Gen.facts, Cert.Kernel12.Gen.facts, Cert.Kernel12Ideal.Gen.facts,
  Cert.Reference12Ideal.Gen.facts, Cert.Kernel13.Gen.facts, Cert.Kernel13Ideal.Gen.facts,
  Cert.Reference13Ideal.Gen.facts, Cert.Kernel14.Gen.facts, Cert.Kernel14Ideal.Gen.facts,
  Cert.Reference14Ideal.Gen.facts, Cert.Kernel15.Gen.facts, Cert.Kernel15Ideal.Gen.facts,
  Cert.Reference15Ideal.Gen.facts, Cert.Kernel16.Gen.facts, Cert.Kernel16Ideal.Gen.facts,
  Cert.Reference16Ideal.Gen.facts, Cert.Kernel21.Gen.facts, Cert.Kernel21Ideal.Gen.facts,
  Cert.Reference21Ideal.Gen.facts, Cert.Kernel22.Gen.facts, Cert.Kernel22Ideal.Gen.facts,
  Cert.Reference22Ideal.Gen.facts, Cert.Kernel23.Gen.facts, Cert.Kernel23Ideal.Gen.facts,
  Cert.Reference23Ideal.Gen.facts, Cert.Kernel24.Gen.facts, Cert.Kernel24Ideal.Gen.facts,
  Cert.Reference24Ideal.Gen.facts, Cert.Kernel25.Gen.facts, Cert.Kernel25Ideal.Gen.facts,
  Cert.Reference25Ideal.Gen.facts, Cert.Kernel26.Gen.facts, Cert.Kernel26Ideal.Gen.facts,
  Cert.Reference26Ideal.Gen.facts, Cert.Kernel27.Gen.facts, Cert.Kernel27Ideal.Gen.facts,
  Cert.Reference27Ideal.Gen.facts, Cert.Kernel28.Gen.facts, Cert.Kernel28Ideal.Gen.facts,
  Cert.Reference28Ideal.Gen.facts, Cert.Kernel29.Gen.facts, Cert.Kernel29Ideal.Gen.facts,
  Cert.Reference29Ideal.Gen.facts, Cert.Kernel30.Gen.facts, Cert.Kernel30Ideal.Gen.facts,
  Cert.Reference30Ideal.Gen.facts, Cert.Kernel31.Gen.facts, Cert.Kernel31Ideal.Gen.facts,
  Cert.Reference31Ideal.Gen.facts, Cert.Kernel32.Gen.facts, Cert.Kernel32Ideal.Gen.facts,
  Cert.Reference32Ideal.Gen.facts, Cert.Kernel33.Gen.facts, Cert.Kernel33Ideal.Gen.facts,
  Cert.Reference33Ideal.Gen.facts, Cert.Kernel34.Gen.facts, Cert.Kernel34Ideal.Gen.facts,
  Cert.Reference34Ideal.Gen.facts, Cert.Kernel35.Gen.facts, Cert.Kernel35Ideal.Gen.facts,
  Cert.Reference35Ideal.Gen.facts, Cert.Kernel36.Gen.facts, Cert.Kernel36Ideal.Gen.facts,
  Cert.Reference36Ideal.Gen.facts, Cert.Kernel37.Gen.facts, Cert.Kernel37Ideal.Gen.facts,
  Cert.Reference37Ideal.Gen.facts, Cert.Kernel40.Gen.facts, Cert.Kernel40Ideal.Gen.facts,
  Cert.Reference40Ideal.Gen.facts, Cert.Kernel41.Gen.facts, Cert.Kernel41Ideal.Gen.facts,
  Cert.Reference41Ideal.Gen.facts, Cert.Kernel42.Gen.facts, Cert.Kernel42Ideal.Gen.facts,
  Cert.Reference42Ideal.Gen.facts, Cert.Kernel43.Gen.facts, Cert.Kernel43Ideal.Gen.facts,
  Cert.Reference43Ideal.Gen.facts, Cert.Kernel44.Gen.facts, Cert.Kernel44Ideal.Gen.facts,
  Cert.Reference44Ideal.Gen.facts, Cert.Kernel45.Gen.facts, Cert.Kernel45Ideal.Gen.facts,
  Cert.Reference45Ideal.Gen.facts, Cert.Kernel46.Gen.facts, Cert.Kernel46Ideal.Gen.facts,
  Cert.Reference46Ideal.Gen.facts, Cert.Kernel47.Gen.facts, Cert.Kernel47Ideal.Gen.facts,
  Cert.Reference47Ideal.Gen.facts, Cert.Kernel50.Gen.facts, Cert.Kernel50Ideal.Gen.facts,
  Cert.Reference50Ideal.Gen.facts, Cert.Kernel51.Gen.facts, Cert.Kernel51Ideal.Gen.facts,
  Cert.Reference51Ideal.Gen.facts, Cert.Kernel52.Gen.facts, Cert.Kernel52Ideal.Gen.facts,
  Cert.Reference52Ideal.Gen.facts, Cert.Kernel53.Gen.facts, Cert.Kernel53Ideal.Gen.facts,
  Cert.Reference53Ideal.Gen.facts, Cert.Kernel54.Gen.facts, Cert.Kernel54Ideal.Gen.facts,
  Cert.Reference54Ideal.Gen.facts, Cert.Kernel55.Gen.facts, Cert.Kernel55Ideal.Gen.facts,
  Cert.Reference55Ideal.Gen.facts, Cert.Kernel56.Gen.facts, Cert.Kernel56Ideal.Gen.facts,
  Cert.Reference56Ideal.Gen.facts,
  Cert.KernelIdeal.Scan.frame_bits, fun m ρ _ => Cert.KernelIdeal.Scan.frame m ρ,
  fun m ρ _ => Cert.Kernel2.Gen.frame m ρ, fun m ρ _ => Cert.Kernel2Ideal.Gen.frame m ρ,
  fun m ρ _ => ends_quiet (by decide) (Cert.Reference2Ideal.Value.run m ρ) fun _ _ h => h.2.2.2.2.2.2,
  fun m ρ _ => Cert.Kernel3.Gen.frame m ρ, fun m ρ _ => Cert.Kernel3Ideal.Gen.frame m ρ,
  fun m ρ _ => ends_quiet (by decide) (Cert.Reference3Ideal.Value.run m ρ) fun _ _ h => h.2.2.2,
  fun m ρ _ => Cert.Kernel4.Gen.frame m ρ, fun m ρ _ => Cert.Kernel4Ideal.Gen.frame m ρ,
  fun m ρ _ => ends_quiet (by decide) (Cert.Reference4Ideal.Value.run m ρ) fun _ _ h => h.2,
  fun m ρ _ => Cert.Kernel5.Gen.frame m ρ, fun m ρ _ => Cert.Kernel5Ideal.Gen.frame m ρ,
  fun m ρ _ => ends_quiet (by decide) (Cert.Reference5Ideal.Value.run m ρ) fun _ _ h => h.2,
  fun m ρ _ => Cert.Kernel6.Gen.frame m ρ, fun m ρ _ => Cert.Kernel6Ideal.Gen.frame m ρ,
  fun m ρ _ => ends_quiet (by decide) (Cert.Reference6Ideal.Value.run m ρ) fun _ _ h => h.2.2,
  fun m ρ _ => Cert.Kernel7.Gen.frame m ρ, fun m ρ _ => Cert.Kernel7Ideal.Gen.frame m ρ,
  fun m ρ _ => ends_quiet (by decide) (Cert.Reference7Ideal.Value.run m ρ) fun _ _ h => h.2.2,
  fun m ρ _ => Cert.Kernel9.Gen.frame m ρ, fun m ρ _ => Cert.Kernel9Ideal.Gen.frame m ρ,
  fun m ρ _ => ends_quiet (by decide) (Cert.Reference9Ideal.Value.run m ρ) fun _ _ h => h.2.2.2,
  fun m ρ _ => Cert.Kernel10.Gen.frame m ρ, fun m ρ _ => Cert.Kernel10Ideal.Gen.frame m ρ,
  fun m ρ _ => ends_quiet (by decide) (Cert.Reference10Ideal.Value.run m ρ) fun _ _ h => h.2.2.2,
  fun m ρ _ => Cert.Kernel11.Gen.frame m ρ, fun m ρ _ => Cert.Kernel11Ideal.Gen.frame m ρ,
  fun m ρ _ => ends_quiet (by decide) (Cert.Reference11Ideal.Value.run m ρ) fun _ _ h => h.2,
  fun m ρ _ => Cert.Kernel12.Gen.frame m ρ, fun m ρ _ => Cert.Kernel12Ideal.Gen.frame m ρ,
  fun m ρ _ => ends_quiet (by decide) (Cert.Reference12Ideal.Value.run m ρ) fun _ _ h => h.2.2,
  fun m ρ _ => Cert.Kernel13.Gen.frame m ρ, fun m ρ _ => Cert.Kernel13Ideal.Gen.frame m ρ,
  fun m ρ _ => ends_quiet (by decide) (Cert.Reference13Ideal.Value.run m ρ) fun _ _ h => h.2.2.2,
  fun m ρ _ => Cert.Kernel14.Gen.frame m ρ, fun m ρ _ => Cert.Kernel14Ideal.Gen.frame m ρ,
  fun m ρ _ => ends_quiet (by decide) (Cert.Reference14Ideal.Value.run m ρ) fun _ _ h => h.2.2,
  fun m ρ _ => Cert.Kernel15.Gen.frame m ρ, fun m ρ _ => Cert.Kernel15Ideal.Gen.frame m ρ,
  fun m ρ _ => ends_quiet (by decide) (Cert.Reference15Ideal.Value.run m ρ) fun _ _ h => h.2,
  fun m ρ _ => Cert.Kernel16.Gen.frame m ρ, fun m ρ _ => Cert.Kernel16Ideal.Gen.frame m ρ,
  fun m ρ _ => ends_quiet (by decide) (Cert.Reference16Ideal.Value.run m ρ) fun _ _ h => h.2,
  fun m ρ _ => Cert.Kernel21.Gen.frame m ρ, fun m ρ _ => Cert.Kernel21Ideal.Gen.frame m ρ,
  fun m ρ _ => ends_quiet (by decide) (Cert.Reference21Ideal.Value.run m ρ) fun _ _ h => h.2.2.2,
  fun m ρ _ => Cert.Kernel22.Gen.frame m ρ, fun m ρ _ => Cert.Kernel22Ideal.Gen.frame m ρ,
  fun m ρ _ => ends_quiet (by decide) (Cert.Reference22Ideal.Value.run m ρ) fun _ _ h => h.2.2.2,
  fun m ρ _ => Cert.Kernel23.Gen.frame m ρ, fun m ρ _ => Cert.Kernel23Ideal.Gen.frame m ρ,
  fun m ρ _ => ends_quiet (by decide) (Cert.Reference23Ideal.Value.run m ρ) fun _ _ h => h.2.2.2,
  fun m ρ _ => Cert.Kernel24.Gen.frame m ρ, fun m ρ _ => Cert.Kernel24Ideal.Gen.frame m ρ,
  fun m ρ _ => ends_quiet (by decide) (Cert.Reference24Ideal.Value.run m ρ) fun _ _ h => h.2.2.2,
  fun m ρ _ => Cert.Kernel25.Gen.frame m ρ, fun m ρ _ => Cert.Kernel25Ideal.Gen.frame m ρ,
  fun m ρ _ => ends_quiet (by decide) (Cert.Reference25Ideal.Value.run m ρ) fun _ _ h => h.2.2.2,
  fun m ρ _ => Cert.Kernel26.Gen.frame m ρ, fun m ρ _ => Cert.Kernel26Ideal.Gen.frame m ρ,
  fun m ρ _ => ends_quiet (by decide) (Cert.Reference26Ideal.Value.run m ρ) fun _ _ h => h.2.2.2,
  fun m ρ _ => Cert.Kernel27.Gen.frame m ρ, fun m ρ _ => Cert.Kernel27Ideal.Gen.frame m ρ,
  fun m ρ _ => ends_quiet (by decide) (Cert.Reference27Ideal.Value.run m ρ) fun _ _ h => h.2.2.2,
  fun m ρ _ => Cert.Kernel28.Gen.frame m ρ, fun m ρ _ => Cert.Kernel28Ideal.Gen.frame m ρ,
  fun m ρ _ => ends_quiet (by decide) (Cert.Reference28Ideal.Value.run m ρ) fun _ _ h => h.2.2.2,
  fun m ρ _ => Cert.Kernel29.Gen.frame m ρ, fun m ρ _ => Cert.Kernel29Ideal.Gen.frame m ρ,
  fun m ρ _ => ends_quiet (by decide) (Cert.Reference29Ideal.Value.run m ρ) fun _ _ h => h.2.2.2,
  fun m ρ _ => Cert.Kernel30.Gen.frame m ρ, fun m ρ _ => Cert.Kernel30Ideal.Gen.frame m ρ,
  fun m ρ _ => ends_quiet (by decide) (Cert.Reference30Ideal.Value.run m ρ) fun _ _ h => h.2.2.2,
  fun m ρ _ => Cert.Kernel31.Gen.frame m ρ, fun m ρ _ => Cert.Kernel31Ideal.Gen.frame m ρ,
  fun m ρ _ => ends_quiet (by decide) (Cert.Reference31Ideal.Value.run m ρ) fun _ _ h => h.2.2.2,
  fun m ρ _ => Cert.Kernel32.Gen.frame m ρ, fun m ρ _ => Cert.Kernel32Ideal.Gen.frame m ρ,
  fun m ρ _ => ends_quiet (by decide) (Cert.Reference32Ideal.Value.run m ρ) fun _ _ h => h.2.2.2,
  fun m ρ _ => Cert.Kernel33.Gen.frame m ρ, fun m ρ _ => Cert.Kernel33Ideal.Gen.frame m ρ,
  fun m ρ _ => ends_quiet (by decide) (Cert.Reference33Ideal.Value.run m ρ) fun _ _ h => h.2.2.2,
  fun m ρ _ => Cert.Kernel34.Gen.frame m ρ, fun m ρ _ => Cert.Kernel34Ideal.Gen.frame m ρ,
  fun m ρ _ => ends_quiet (by decide) (Cert.Reference34Ideal.Value.run m ρ) fun _ _ h => h.2.2.2,
  fun m ρ _ => Cert.Kernel35.Gen.frame m ρ, fun m ρ _ => Cert.Kernel35Ideal.Gen.frame m ρ,
  fun m ρ _ => ends_quiet (by decide) (Cert.Reference35Ideal.Value.run m ρ) fun _ _ h => h.2.2.2,
  fun m ρ _ => Cert.Kernel36.Gen.frame m ρ, fun m ρ _ => Cert.Kernel36Ideal.Gen.frame m ρ,
  fun m ρ _ => ends_quiet (by decide) (Cert.Reference36Ideal.Value.run m ρ) fun _ _ h => h.2.2.2,
  fun m ρ _ => Cert.Kernel37.Gen.frame m ρ, fun m ρ _ => Cert.Kernel37Ideal.Gen.frame m ρ,
  fun m ρ _ => ends_quiet (by decide) (Cert.Reference37Ideal.Value.run m ρ) fun _ _ h => h.2.2.2,
  fun m ρ _ => Cert.Kernel40.Gen.frame m ρ, fun m ρ _ => Cert.Kernel40Ideal.Gen.frame m ρ,
  fun m ρ _ => ends_quiet (by decide) (Cert.Reference40Ideal.Value.run m ρ) fun _ _ h => h.2.2,
  fun m ρ _ => Cert.Kernel41.Gen.frame m ρ, fun m ρ _ => Cert.Kernel41Ideal.Gen.frame m ρ,
  fun m ρ _ => ends_quiet (by decide) (Cert.Reference41Ideal.Value.run m ρ) fun _ _ h => h.2,
  fun m ρ _ => Cert.Kernel42.Gen.frame m ρ, fun m ρ _ => Cert.Kernel42Ideal.Gen.frame m ρ,
  fun m ρ _ => ends_quiet (by decide) (Cert.Reference42Ideal.Value.run m ρ) fun _ _ h => h.2,
  fun m ρ _ => Cert.Kernel43.Gen.frame m ρ, fun m ρ _ => Cert.Kernel43Ideal.Gen.frame m ρ,
  fun m ρ _ => ends_quiet (by decide) (Cert.Reference43Ideal.Value.run m ρ) fun _ _ h => h.2,
  fun m ρ _ => Cert.Kernel44.Gen.frame m ρ, fun m ρ _ => Cert.Kernel44Ideal.Gen.frame m ρ,
  fun m ρ _ => ends_quiet (by decide) (Cert.Reference44Ideal.Value.run m ρ) fun _ _ h => h.2,
  fun m ρ _ => Cert.Kernel45.Gen.frame m ρ, fun m ρ _ => Cert.Kernel45Ideal.Gen.frame m ρ,
  fun m ρ _ => ends_quiet (by decide) (Cert.Reference45Ideal.Value.run m ρ) fun _ _ h => h.2,
  fun m ρ _ => Cert.Kernel46.Gen.frame m ρ, fun m ρ _ => Cert.Kernel46Ideal.Gen.frame m ρ,
  fun m ρ _ => ends_quiet (by decide) (Cert.Reference46Ideal.Value.run m ρ) fun _ _ h => h.2,
  fun m ρ _ => Cert.Kernel47.Gen.frame m ρ, fun m ρ _ => Cert.Kernel47Ideal.Gen.frame m ρ,
  fun m ρ _ => ends_quiet (by decide) (Cert.Reference47Ideal.Value.run m ρ) fun _ _ h => h.2,
  fun m ρ _ => Cert.Kernel50.Gen.frame m ρ, fun m ρ _ => Cert.Kernel50Ideal.Gen.frame m ρ,
  fun m ρ _ => ends_quiet (by decide) (Cert.Reference50Ideal.Value.run m ρ) fun _ _ h => h.2,
  fun m ρ _ => Cert.Kernel51.Gen.frame m ρ, fun m ρ _ => Cert.Kernel51Ideal.Gen.frame m ρ,
  fun m ρ _ => ends_quiet (by decide) (Cert.Reference51Ideal.Value.run m ρ) fun _ _ h => h.2,
  fun m ρ _ => Cert.Kernel52.Gen.frame m ρ, fun m ρ _ => Cert.Kernel52Ideal.Gen.frame m ρ,
  fun m ρ _ => ends_quiet (by decide) (Cert.Reference52Ideal.Value.run m ρ) fun _ _ h => h.2,
  fun m ρ _ => Cert.Kernel53.Gen.frame m ρ, fun m ρ _ => Cert.Kernel53Ideal.Gen.frame m ρ,
  fun m ρ _ => ends_quiet (by decide) (Cert.Reference53Ideal.Value.run m ρ) fun _ _ h => h.2,
  fun m ρ _ => Cert.Kernel54.Gen.frame m ρ, fun m ρ _ => Cert.Kernel54Ideal.Gen.frame m ρ,
  fun m ρ _ => ends_quiet (by decide) (Cert.Reference54Ideal.Value.run m ρ) fun _ _ h => h.2,
  fun m ρ _ => Cert.Kernel55.Gen.frame m ρ, fun m ρ _ => Cert.Kernel55Ideal.Gen.frame m ρ,
  fun m ρ _ => ends_quiet (by decide) (Cert.Reference55Ideal.Value.run m ρ) fun _ _ h => h.2.2,
  fun m ρ _ => Cert.Kernel56.Gen.frame m ρ, fun m ρ _ => Cert.Kernel56Ideal.Gen.frame m ρ,
  fun m ρ _ => ends_quiet (by decide) (Cert.Reference56Ideal.Value.run m ρ) fun _ _ h => h.2.2.2,
  trivial, trivial, Cert.FfnDownBwd.claim, trivial, Cert.FfnUpBwd.claim, trivial, Cert.DwUp.claim, trivial,
  Cert.DwDown.claim, trivial, Cert.FfnUp.claim, trivial, Cert.FfnDown.claim, trivial, Cert.FfnDownLoss.claim,
  trivial, Cert.OddInBwd.claim, trivial, Cert.DwOddIn.claim, trivial, Cert.OddIn.claim, trivial,
  Cert.EvenInBwd.claim, trivial, Cert.EvenIn.claim, trivial, Cert.DwEvenIn.claim, trivial, Cert.DwOut.claim, trivial,
  Cert.Adamw.claim21, trivial, Cert.Adamw.claim22, trivial, Cert.Adamw.claim23, trivial, Cert.Adamw.claim24, trivial,
  Cert.Adamw.claim25, trivial, Cert.Adamw.claim26, trivial, Cert.Adamw.claim27, trivial, Cert.Adamw.claim28, trivial,
  Cert.Adamw.claim29, trivial, Cert.Adamw.claim30, trivial, Cert.Adamw.claim31, trivial, Cert.Adamw.claim32, trivial,
  Cert.Adamw.claim33, trivial, Cert.Adamw.claim34, trivial, Cert.Adamw.claim35, trivial, Cert.Adamw.claim36, trivial,
  Cert.Adamw.claim37, trivial, Cert.AdaGrads.claim, trivial, Cert.CtxGrad.claim, trivial, Cert.ChipSumOddIn.claim,
  trivial, Cert.ChipSumOddOut.claim, trivial, Cert.ChipSumUp.claim, trivial, Cert.ChipSumDown.claim, trivial,
  Cert.ChipSumFlat.claim, trivial, Cert.SmallSum.claim, trivial, Cert.PairSum.claim50, trivial, Cert.PairSum.claim51,
  trivial, Cert.PairSum.claim52, trivial, Cert.PairSum.claim53, trivial, Cert.PairSum.claim54, trivial,
  Cert.EvenInCtx.claim, trivial, Cert.EvenInCtxBwd.claim⟩

end Cert.Proof

end
